-- ==== Defs.lean ====
def Pre_Kernel [hPre_layer_index : Cert.Pre_layer_index.Facts] (m : (ℓ : Loc Cert.Kernel.nD Cert.Kernel.τ Cert.Kernel.sig) → Buf (Elt Bits) ℓ) : Prop :=
  ∀ c : Dev Cert.Kernel.nD,
    (Cert.Pre_layer_index.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_layer_index : Cert.Pre_layer_index.Facts] (m : (ℓ : Loc Cert.KernelIdeal.nD Cert.KernelIdeal.τ Cert.KernelIdeal.sig) → Buf (Elt Ideal) ℓ) : Prop :=
  ∀ c : Dev Cert.KernelIdeal.nD,
    (Cert.Pre_layer_index.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_layer_index2 : Cert.Pre_layer_index2.Facts] (m : (ℓ : Loc Cert.Kernel2.nD Cert.Kernel2.τ Cert.Kernel2.sig) → Buf (Elt Bits) ℓ) : Prop :=
  ∀ c : Dev Cert.Kernel2.nD,
    (Cert.Pre_layer_index2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_layer_index2 : Cert.Pre_layer_index2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_layer_index2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_layer_index2 [hPre_layer_index2 : Cert.Pre_layer_index2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_layer_index2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_layer_index : Cert.Pre_layer_index.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_layer_index : Cert.Pre_layer_index.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_layer_index2 : Cert.Pre_layer_index2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_layer_index2 : Cert.Pre_layer_index2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_layer_index2 [hReference2Ideal : Cert.Reference2Ideal.Facts] [hPre_layer_index2 : Cert.Pre_layer_index2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_layer_index2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "q_scale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_layer_index2 : Cert.Pre_layer_index2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_layer_index : Cert.Pre_layer_index.Facts) (hPre_finite_scores : Cert.Pre_finite_scores.Facts) (hPre_layer_index2 : Cert.Pre_layer_index2.Facts),
    quiescent_Kernel (hKernel := hKernel) (hPre_layer_index := hPre_layer_index)
    ∧ quiescent_KernelIdeal (hKernelIdeal := hKernelIdeal) (hPre_layer_index := hPre_layer_index)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_layer_index2 := hPre_layer_index2)
    ∧ quiescent_Kernel2Ideal (hKernel2Ideal := hKernel2Ideal) (hPre_layer_index2 := hPre_layer_index2)
    ∧ quiescent_Reference2Ideal (hReference2Ideal := hReference2Ideal)
    ∧ quiescent_Reference2Ideal_pre_layer_index2 (hReference2Ideal := hReference2Ideal) (hPre_layer_index2 := hPre_layer_index2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_layer_index2 := hPre_layer_index2)
    ∧ preserves_Kernel3_Kernel3Ideal
    ∧ algebraic_Kernel3Ideal_Reference3Ideal (hKernel3Ideal := hKernel3Ideal) (hReference3Ideal := hReference3Ideal)
-- ==== Pre_finite_scores.lean ====
abbrev S2x8192x32x64 : Shape := ⟨4, ![2, 8192, 32, 64]⟩
abbrev S2x8192x4x64 : Shape := ⟨4, ![2, 8192, 4, 64]⟩
abbrev S4x32 : Shape := ⟨2, ![4, 32]⟩
abbrev S1 : Shape := ⟨1, ![1]⟩
abbrev S_ : Shape := ⟨0, ![]⟩

class Facts : Prop where
  bcast_S_S2x8192x32x64 : S_.BroadcastsInDim S2x8192x32x64 (![] : Fin 0 → Fin S2x8192x32x64.rank)
  reducesTo_S2x8192x32x64_S_d0_1_2_3 : S2x8192x32x64.ReducesTo [0, 1, 2, 3] S_
  h_S_ : 0 < S_.numel
  bcast_S_S2x8192x4x64 : S_.BroadcastsInDim S2x8192x4x64 (![] : Fin 0 → Fin S2x8192x4x64.rank)
  reducesTo_S2x8192x4x64_S_d0_1_2_3 : S2x8192x4x64.ReducesTo [0, 1, 2, 3] S_
  bcast_S_S4x32 : S_.BroadcastsInDim S4x32 (![] : Fin 0 → Fin S4x32.rank)
  reducesTo_S4x32_S_d0_1 : S4x32.ReducesTo [0, 1] S_
  shapeCasts_S1_S_ : S1.ShapeCasts S_

variable [Facts]

def fn_part1 {F : FTy → Type} [FloatOps F] (main_v3 : IVec S_ 1) (main_v7 : IVec S_ 1) (main_v10 : IVec S_ 1) (main_v15 : IVec S_ 1) : IVec S_ 1 :=
  let main_v16 : IVec S_ 1 := andi main_v15 main_v3
  let main_v17 : IVec S_ 1 := andi main_v16 main_v7
  let main_v18 : IVec S_ 1 := andi main_v17 main_v10
  main_v18

def fn {F : FTy → Type} [FloatOps F] (main_arg0 : FVec F S2x8192x32x64 .f32) (main_arg1 : FVec F S2x8192x4x64 .f32) (main_arg2 : FVec F S2x8192x4x64 .f32) (main_arg3 : FVec F S4x32 .f32) (main_arg4 : IVec S1 32) : IVec S_ 1 :=
  let main_v0 : FVec F S2x8192x32x64 .f32 := Host.absf main_arg0
  let main_cst : FVec F S_ .f32 := constant S_ .f32 0x7F800000#32
  let main_v1 : FVec F S2x8192x32x64 .f32 := broadcastInDim S2x8192x32x64 ![] bcast_S_S2x8192x32x64 main_cst
  let main_v2 : IVec S2x8192x32x64 1 := cmpf .olt main_v0 main_v1
  let main_c : IVec S_ 1 := constantI S_ 1 1#1
  let main_v3 : IVec S_ 1 := (fun x v => Host.reduce IntOp.andi x v reducesTo_S2x8192x32x64_S_d0_1_2_3 h_S_) main_v2 main_c
  let main_v4 : FVec F S2x8192x4x64 .f32 := Host.absf main_arg1
  let main_cst_0 : FVec F S_ .f32 := constant S_ .f32 0x7F800000#32
  let main_v5 : FVec F S2x8192x4x64 .f32 := broadcastInDim S2x8192x4x64 ![] bcast_S_S2x8192x4x64 main_cst_0
  let main_v6 : IVec S2x8192x4x64 1 := cmpf .olt main_v4 main_v5
  let main_c_1 : IVec S_ 1 := constantI S_ 1 1#1
  let main_v7 : IVec S_ 1 := (fun x v => Host.reduce IntOp.andi x v reducesTo_S2x8192x4x64_S_d0_1_2_3 h_S_) main_v6 main_c_1
  let main_cst_2 : FVec F S_ .f32 := constant S_ .f32 0x7F800000#32
  let main_v8 : FVec F S4x32 .f32 := broadcastInDim S4x32 ![] bcast_S_S4x32 main_cst_2
  let main_v9 : IVec S4x32 1 := cmpf .olt main_arg3 main_v8
  let main_c_3 : IVec S_ 1 := constantI S_ 1 1#1
  let main_v10 : IVec S_ 1 := (fun x v => Host.reduce IntOp.andi x v reducesTo_S4x32_S_d0_1 h_S_) main_v9 main_c_3
  let main_v11 : IVec S_ 32 := shapeCast S_ main_arg4 shapeCasts_S1_S_
  let main_c_4 : IVec S_ 32 := constantI S_ 32 0#32
  let main_v12 : IVec S_ 1 := cmpi .sge main_v11 main_c_4
  let main_v13 : IVec S_ 32 := shapeCast S_ main_arg4 shapeCasts_S1_S_
  let main_c_5 : IVec S_ 32 := constantI S_ 32 4#32
  let main_v14 : IVec S_ 1 := cmpi .slt main_v13 main_c_5
  let main_v15 : IVec S_ 1 := andi main_v12 main_v14
  fn_part1 (F := F) main_v3 main_v7 main_v10 main_v15
-- ==== Pre_layer_index.lean ====
abbrev S2x8192x32x64 : Shape := ⟨4, ![2, 8192, 32, 64]⟩
abbrev S2x8192x4x64 : Shape := ⟨4, ![2, 8192, 4, 64]⟩
abbrev S4x32 : Shape := ⟨2, ![4, 32]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x8192x32x64 .f32) (main_arg1 : FVec F S2x8192x4x64 .f32) (main_arg2 : FVec F S2x8192x4x64 .f32) (main_arg3 : FVec F S4x32 .f32) (main_arg4 : IVec S1 32) : IVec S_ 1 :=
  let main_v0 : IVec S_ 32 := shapeCast S_ main_arg4 shapeCasts_S1_S_
  let main_c : IVec S_ 32 := constantI S_ 32 0#32
  let main_v1 : IVec S_ 1 := cmpi .sge main_v0 main_c
  let main_v2 : IVec S_ 32 := shapeCast S_ main_arg4 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_layer_index2.lean ====
abbrev S2x8192x4096 : Shape := ⟨3, ![2, 8192, 4096]⟩
abbrev S2x8192x16384 : Shape := ⟨3, ![2, 8192, 16384]⟩
abbrev S4x16384x4096 : Shape := ⟨3, ![4, 16384, 4096]⟩
abbrev S4x4096 : Shape := ⟨2, ![4, 4096]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S2x8192x4096 .f32) (main_arg1 : FVec F S2x8192x16384 .f32) (main_arg2 : FVec F S4x16384x4096 .f32) (main_arg3 : FVec F S4x4096 .f32) (main_arg4 : FVec F S4x4096 .f32) (main_arg5 : IVec S1 32) : IVec S_ 1 :=
  let main_v0 : IVec S_ 32 := shapeCast S_ main_arg5 shapeCasts_S1_S_
  let main_c : IVec S_ 32 := constantI S_ 32 0#32
  let main_v1 : IVec S_ 1 := cmpi .sge main_v0 main_c
  let main_v2 : IVec S_ 32 := shapeCast S_ main_arg5 shapeCasts_S1_S_
  let main_c_0 : IVec S_ 32 := constantI S_ 32 4#32
  let main_v3 : IVec S_ 1 := cmpi .slt main_v2 main_c_0
  let main_v4 : IVec S_ 1 := andi main_v1 main_v3
  main_v4
-- ==== Kernel.lean ====
abbrev S2x8192x32x64 : Shape := ⟨4, ![2, 8192, 32, 64]⟩
abbrev S2x8192x4x64 : Shape := ⟨4, ![2, 8192, 4, 64]⟩
abbrev S4x32 : Shape := ⟨2, ![4, 32]⟩
abbrev S1 : Shape := ⟨1, ![1]⟩
abbrev S16384x2048 : Shape := ⟨2, ![16384, 2048]⟩
abbrev S16384x256 : Shape := ⟨2, ![16384, 256]⟩
abbrev S16384x2560 : Shape := ⟨2, ![16384, 2560]⟩
abbrev S128x2048 : Shape := ⟨2, ![128, 2048]⟩
abbrev S128x512 : Shape := ⟨2, ![128, 512]⟩
abbrev S256x512 : Shape := ⟨2, ![256, 512]⟩
abbrev S128x128 : Shape := ⟨2, ![128, 128]⟩
abbrev S256x128 : Shape := ⟨2, ![256, 128]⟩
abbrev S128x256 : Shape := ⟨2, ![128, 256]⟩
abbrev S1x1 : Shape := ⟨2, ![1, 1]⟩
abbrev S128 : Shape := ⟨1, ![128]⟩
abbrev S1x128 : Shape := ⟨2, ![1, 128]⟩

abbrev nBuf : Space → Nat
  | .hbm => 12
  | .vmem => 8
  | .smem => 2
  | _ => 0

abbrev bufTy : (tb : Table) → Fin (tcTables nBuf tb) → BufTy
  | .hbm, ⟨0, _⟩ => ⟨S2x8192x32x64, .f32⟩
  | .hbm, ⟨1, _⟩ => ⟨S2x8192x4x64, .f32⟩
  | .hbm, ⟨2, _⟩ => ⟨S2x8192x4x64, .f32⟩
  | .hbm, ⟨3, _⟩ => ⟨S4x32, .f32⟩
  | .hbm, ⟨4, _⟩ => ⟨S16384x2048, .f32⟩
  | .hbm, ⟨5, _⟩ => ⟨S16384x2048, .bf16⟩
  | .hbm, ⟨6, _⟩ => ⟨S16384x256, .f32⟩
  | .hbm, ⟨7, _⟩ => ⟨S16384x256, .bf16⟩
  | .hbm, ⟨8, _⟩ => ⟨S16384x256, .f32⟩
  | .hbm, ⟨9, _⟩ => ⟨S16384x256, .bf16⟩
  | .hbm, ⟨10, _⟩ => ⟨S16384x2560, .bf16⟩
  | .hbm, ⟨11, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x2048, .bf16⟩
  | .local _ .vmem, ⟨7, _⟩ => ⟨S128x2048, .bf16⟩
  | .local _ .smem, ⟨0, _⟩ => ⟨S1, .i32⟩
  | .local _ .smem, ⟨1, _⟩ => ⟨S4x32, .f32⟩
  | _, _ => ⟨S2x8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (v10 : BitVec 32) : Fin 2 → Nat :=
  let v53 : Index := Scalar.indexCast v10
  let c0_22 : Index := 0#32
  ![v53.toNat, 0]

def k0_off2 (v10 : BitVec 32) : Fin 2 → Nat :=
  let v86 : Index := Scalar.indexCast v10
  let c1 : Index := 1#32
  ![v86.toNat, 1]
def k0_off3 (v10 : BitVec 32) : Fin 2 → Nat :=
  let v129 : Index := Scalar.indexCast v10
  let c2 : Index := 2#32
  ![v129.toNat, 2]
def k0_off4 (v10 : BitVec 32) : Fin 2 → Nat :=
  let v162 : Index := Scalar.indexCast v10
  let c3 : Index := 3#32
  ![v162.toNat, 3]
def k0_off5 (v10 : BitVec 32) : Fin 2 → Nat :=
  let v205 : Index := Scalar.indexCast v10
  let c4 : Index := 4#32
  ![v205.toNat, 4]
def k0_off6 (v10 : BitVec 32) : Fin 2 → Nat :=
  let v238 : Index := Scalar.indexCast v10
  let c5 : Index := 5#32
  ![v238.toNat, 5]
def k0_off7 (v10 : BitVec 32) : Fin 2 → Nat :=
  let v281 : Index := Scalar.indexCast v10
  let c6 : Index := 6#32
  ![v281.toNat, 6]
def k0_off8 (v10 : BitVec 32) : Fin 2 → Nat :=
  let v314 : Index := Scalar.indexCast v10
  let c7 : Index := 7#32
  ![v314.toNat, 7]
def k0_off9 (v10 : BitVec 32) : Fin 2 → Nat :=
  let v376 : Index := Scalar.indexCast v10
  let c8 : Index := 8#32
  ![v376.toNat, 8]
def k0_off10 (v10 : BitVec 32) : Fin 2 → Nat :=
  let v409 : Index := Scalar.indexCast v10
  let c9 : Index := 9#32
  ![v409.toNat, 9]
def k0_off11 (v10 : BitVec 32) : Fin 2 → Nat :=
  let v452 : Index := Scalar.indexCast v10
  let c10 : Index := 10#32
  ![v452.toNat, 10]
def k0_off12 (v10 : BitVec 32) : Fin 2 → Nat :=
  let v485 : Index := Scalar.indexCast v10
  let c11 : Index := 11#32
  ![v485.toNat, 11]
def k0_off13 (v10 : BitVec 32) : Fin 2 → Nat :=
  let v528 : Index := Scalar.indexCast v10
  let c12 : Index := 12#32
  ![v528.toNat, 12]
def k0_off14 (v10 : BitVec 32) : Fin 2 → Nat :=
  let v561 : Index := Scalar.indexCast v10
  let c13 : Index := 13#32
  ![v561.toNat, 13]
def k0_off15 (v10 : BitVec 32) : Fin 2 → Nat :=
  let v604 : Index := Scalar.indexCast v10
  let c14 : Index := 14#32
  ![v604.toNat, 14]
def k0_off16 (v10 : BitVec 32) : Fin 2 → Nat :=
  let v637 : Index := Scalar.indexCast v10
  let c15 : Index := 15#32
  ![v637.toNat, 15]
def k0_off17 (v10 : BitVec 32) : Fin 2 → Nat :=
  let v699 : Index := Scalar.indexCast v10
  let c16 : Index := 16#32
  ![v699.toNat, 16]
def k0_off18 (v10 : BitVec 32) : Fin 2 → Nat :=
  let v732 : Index := Scalar.indexCast v10
  let c17 : Index := 17#32
  ![v732.toNat, 17]
def k0_off19 (v10 : BitVec 32) : Fin 2 → Nat :=
  let v775 : Index := Scalar.indexCast v10
  let c18 : Index := 18#32
  ![v775.toNat, 18]
def k0_off20 (v10 : BitVec 32) : Fin 2 → Nat :=
  let v808 : Index := Scalar.indexCast v10
  let c19 : Index := 19#32
  ![v808.toNat, 19]
def k0_off21 (v10 : BitVec 32) : Fin 2 → Nat :=
  let v851 : Index := Scalar.indexCast v10
  let c20 : Index := 20#32
  ![v851.toNat, 20]
def k0_off22 (v10 : BitVec 32) : Fin 2 → Nat :=
  let v884 : Index := Scalar.indexCast v10
  let c21 : Index := 21#32
  ![v884.toNat, 21]
def k0_off23 (v10 : BitVec 32) : Fin 2 → Nat :=
  let v927 : Index := Scalar.indexCast v10
  let c22 : Index := 22#32
  ![v927.toNat, 22]
def k0_off24 (v10 : BitVec 32) : Fin 2 → Nat :=
  let v960 : Index := Scalar.indexCast v10
  let c23 : Index := 23#32
  ![v960.toNat, 23]
def k0_off25 (v10 : BitVec 32) : Fin 2 → Nat :=
  let v1022 : Index := Scalar.indexCast v10
  let c24 : Index := 24#32
  ![v1022.toNat, 24]
def k0_off26 (v10 : BitVec 32) : Fin 2 → Nat :=
  let v1055 : Index := Scalar.indexCast v10
  let c25 : Index := 25#32
  ![v1055.toNat, 25]
def k0_off27 (v10 : BitVec 32) : Fin 2 → Nat :=
  let v1098 : Index := Scalar.indexCast v10
  let c26 : Index := 26#32
  ![v1098.toNat, 26]
def k0_off28 (v10 : BitVec 32) : Fin 2 → Nat :=
  let v1131 : Index := Scalar.indexCast v10
  let c27 : Index := 27#32
  ![v1131.toNat, 27]
def k0_off29 (v10 : BitVec 32) : Fin 2 → Nat :=
  let v1174 : Index := Scalar.indexCast v10
  let c28 : Index := 28#32
  ![v1174.toNat, 28]
def k0_off30 (v10 : BitVec 32) : Fin 2 → Nat :=
  let v1207 : Index := Scalar.indexCast v10
  let c29 : Index := 29#32
  ![v1207.toNat, 29]
def k0_off31 (v10 : BitVec 32) : Fin 2 → Nat :=
  let v1250 : Index := Scalar.indexCast v10
  let c30 : Index := 30#32
  ![v1250.toNat, 30]
def k0_off32 (v10 : BitVec 32) : Fin 2 → Nat :=
  let v1283 : Index := Scalar.indexCast v10
  let c31 : Index := 31#32
  ![v1283.toNat, 31]

def k0_chk1 (v10 : BitVec 32) : Prop :=
  (∀ a, (k0_off1 v10) a + S1x1.size a ≤ S4x32.size a) ∧
  (∀ a, (k0_off2 v10) a + S1x1.size a ≤ S4x32.size a) ∧
  (∀ a, (k0_off3 v10) a + S1x1.size a ≤ S4x32.size a) ∧
  (∀ a, (k0_off4 v10) a + S1x1.size a ≤ S4x32.size a) ∧
  (∀ a, (k0_off5 v10) a + S1x1.size a ≤ S4x32.size a) ∧
  (∀ a, (k0_off6 v10) a + S1x1.size a ≤ S4x32.size a) ∧
  (∀ a, (k0_off7 v10) a + S1x1.size a ≤ S4x32.size a) ∧
  (∀ a, (k0_off8 v10) a + S1x1.size a ≤ S4x32.size a) ∧
  (∀ a, (k0_off9 v10) a + S1x1.size a ≤ S4x32.size a) ∧
  (∀ a, (k0_off10 v10) a + S1x1.size a ≤ S4x32.size a) ∧
  (∀ a, (k0_off11 v10) a + S1x1.size a ≤ S4x32.size a) ∧
  (∀ a, (k0_off12 v10) a + S1x1.size a ≤ S4x32.size a) ∧
  (∀ a, (k0_off13 v10) a + S1x1.size a ≤ S4x32.size a) ∧
  (∀ a, (k0_off14 v10) a + S1x1.size a ≤ S4x32.size a) ∧
  (∀ a, (k0_off15 v10) a + S1x1.size a ≤ S4x32.size a) ∧
  (∀ a, (k0_off16 v10) a + S1x1.size a ≤ S4x32.size a) ∧
  (∀ a, (k0_off17 v10) a + S1x1.size a ≤ S4x32.size a) ∧
  (∀ a, (k0_off18 v10) a + S1x1.size a ≤ S4x32.size a) ∧
  (∀ a, (k0_off19 v10) a + S1x1.size a ≤ S4x32.size a) ∧
  (∀ a, (k0_off20 v10) a + S1x1.size a ≤ S4x32.size a) ∧
  (∀ a, (k0_off21 v10) a + S1x1.size a ≤ S4x32.size a) ∧
  (∀ a, (k0_off22 v10) a + S1x1.size a ≤ S4x32.size a) ∧
  (∀ a, (k0_off23 v10) a + S1x1.size a ≤ S4x32.size a) ∧
  (∀ a, (k0_off24 v10) a + S1x1.size a ≤ S4x32.size a) ∧
  (∀ a, (k0_off25 v10) a + S1x1.size a ≤ S4x32.size a) ∧
  (∀ a, (k0_off26 v10) a + S1x1.size a ≤ S4x32.size a) ∧
  (∀ a, (k0_off27 v10) a + S1x1.size a ≤ S4x32.size a) ∧
  (∀ a, (k0_off28 v10) a + S1x1.size a ≤ S4x32.size a) ∧
  (∀ a, (k0_off29 v10) a + S1x1.size a ≤ S4x32.size a) ∧
  (∀ a, (k0_off30 v10) a + S1x1.size a ≤ S4x32.size a) ∧
  (∀ a, (k0_off31 v10) a + S1x1.size a ≤ S4x32.size a) ∧
  (∀ a, (k0_off32 v10) a + S1x1.size a ≤ S4x32.size a)
theorem k0_off1_inb : ∀ (v10 : BitVec 32) (k0_hw1 : k0_chk1 v10), ∀ a, (k0_off1 v10) a + S1x1.size a ≤ S4x32.size a := fun v10 k0_hw1 => k0_hw1.1
theorem k0_off2_inb : ∀ (v10 : BitVec 32) (k0_hw1 : k0_chk1 v10), ∀ a, (k0_off2 v10) a + S1x1.size a ≤ S4x32.size a := fun v10 k0_hw1 => k0_hw1.2.1
theorem k0_off3_inb : ∀ (v10 : BitVec 32) (k0_hw1 : k0_chk1 v10), ∀ a, (k0_off3 v10) a + S1x1.size a ≤ S4x32.size a := fun v10 k0_hw1 => k0_hw1.2.2.1
theorem k0_off4_inb : ∀ (v10 : BitVec 32) (k0_hw1 : k0_chk1 v10), ∀ a, (k0_off4 v10) a + S1x1.size a ≤ S4x32.size a := fun v10 k0_hw1 => k0_hw1.2.2.2.1
theorem k0_off5_inb : ∀ (v10 : BitVec 32) (k0_hw1 : k0_chk1 v10), ∀ a, (k0_off5 v10) a + S1x1.size a ≤ S4x32.size a := fun v10 k0_hw1 => k0_hw1.2.2.2.2.1
theorem k0_off6_inb : ∀ (v10 : BitVec 32) (k0_hw1 : k0_chk1 v10), ∀ a, (k0_off6 v10) a + S1x1.size a ≤ S4x32.size a := fun v10 k0_hw1 => k0_hw1.2.2.2.2.2.1
theorem k0_off7_inb : ∀ (v10 : BitVec 32) (k0_hw1 : k0_chk1 v10), ∀ a, (k0_off7 v10) a + S1x1.size a ≤ S4x32.size a := fun v10 k0_hw1 => k0_hw1.2.2.2.2.2.2.1
theorem k0_off8_inb : ∀ (v10 : BitVec 32) (k0_hw1 : k0_chk1 v10), ∀ a, (k0_off8 v10) a + S1x1.size a ≤ S4x32.size a := fun v10 k0_hw1 => k0_hw1.2.2.2.2.2.2.2.1
theorem k0_off9_inb : ∀ (v10 : BitVec 32) (k0_hw1 : k0_chk1 v10), ∀ a, (k0_off9 v10) a + S1x1.size a ≤ S4x32.size a := fun v10 k0_hw1 => k0_hw1.2.2.2.2.2.2.2.2.1
theorem k0_off10_inb : ∀ (v10 : BitVec 32) (k0_hw1 : k0_chk1 v10), ∀ a, (k0_off10 v10) a + S1x1.size a ≤ S4x32.size a := fun v10 k0_hw1 => k0_hw1.2.2.2.2.2.2.2.2.2.1
theorem k0_off11_inb : ∀ (v10 : BitVec 32) (k0_hw1 : k0_chk1 v10), ∀ a, (k0_off11 v10) a + S1x1.size a ≤ S4x32.size a := fun v10 k0_hw1 => k0_hw1.2.2.2.2.2.2.2.2.2.2.1
theorem k0_off12_inb : ∀ (v10 : BitVec 32) (k0_hw1 : k0_chk1 v10), ∀ a, (k0_off12 v10) a + S1x1.size a ≤ S4x32.size a := fun v10 k0_hw1 => k0_hw1.2.2.2.2.2.2.2.2.2.2.2.1
theorem k0_off13_inb : ∀ (v10 : BitVec 32) (k0_hw1 : k0_chk1 v10), ∀ a, (k0_off13 v10) a + S1x1.size a ≤ S4x32.size a := fun v10 k0_hw1 => k0_hw1.2.2.2.2.2.2.2.2.2.2.2.2.1
theorem k0_off14_inb : ∀ (v10 : BitVec 32) (k0_hw1 : k0_chk1 v10), ∀ a, (k0_off14 v10) a + S1x1.size a ≤ S4x32.size a := fun v10 k0_hw1 => k0_hw1.2.2.2.2.2.2.2.2.2.2.2.2.2.1
theorem k0_off15_inb : ∀ (v10 : BitVec 32) (k0_hw1 : k0_chk1 v10), ∀ a, (k0_off15 v10) a + S1x1.size a ≤ S4x32.size a := fun v10 k0_hw1 => k0_hw1.2.2.2.2.2.2.2.2.2.2.2.2.2.2.1
theorem k0_off16_inb : ∀ (v10 : BitVec 32) (k0_hw1 : k0_chk1 v10), ∀ a, (k0_off16 v10) a + S1x1.size a ≤ S4x32.size a := fun v10 k0_hw1 => k0_hw1.2.2.2.2.2.2.2.2.2.2.2.2.2.2.2.1
theorem k0_off17_inb : ∀ (v10 : BitVec 32) (k0_hw1 : k0_chk1 v10), ∀ a, (k0_off17 v10) a + S1x1.size a ≤ S4x32.size a := fun v10 k0_hw1 => k0_hw1.2.2.2.2.2.2.2.2.2.2.2.2.2.2.2.2.1
theorem k0_off18_inb : ∀ (v10 : BitVec 32) (k0_hw1 : k0_chk1 v10), ∀ a, (k0_off18 v10) a + S1x1.size a ≤ S4x32.size a := fun v10 k0_hw1 => k0_hw1.2.2.2.2.2.2.2.2.2.2.2.2.2.2.2.2.2.1
theorem k0_off19_inb : ∀ (v10 : BitVec 32) (k0_hw1 : k0_chk1 v10), ∀ a, (k0_off19 v10) a + S1x1.size a ≤ S4x32.size a := fun v10 k0_hw1 => k0_hw1.2.2.2.2.2.2.2.2.2.2.2.2.2.2.2.2.2.2.1
theorem k0_off20_inb : ∀ (v10 : BitVec 32) (k0_hw1 : k0_chk1 v10), ∀ a, (k0_off20 v10) a + S1x1.size a ≤ S4x32.size a := fun v10 k0_hw1 => k0_hw1.2.2.2.2.2.2.2.2.2.2.2.2.2.2.2.2.2.2.2.1
theorem k0_off21_inb : ∀ (v10 : BitVec 32) (k0_hw1 : k0_chk1 v10), ∀ a, (k0_off21 v10) a + S1x1.size a ≤ S4x32.size a := fun v10 k0_hw1 => k0_hw1.2.2.2.2.2.2.2.2.2.2.2.2.2.2.2.2.2.2.2.2.1
theorem k0_off22_inb : ∀ (v10 : BitVec 32) (k0_hw1 : k0_chk1 v10), ∀ a, (k0_off22 v10) a + S1x1.size a ≤ S4x32.size a := fun v10 k0_hw1 => k0_hw1.2.2.2.2.2.2.2.2.2.2.2.2.2.2.2.2.2.2.2.2.2.1
theorem k0_off23_inb : ∀ (v10 : BitVec 32) (k0_hw1 : k0_chk1 v10), ∀ a, (k0_off23 v10) a + S1x1.size a ≤ S4x32.size a := fun v10 k0_hw1 => k0_hw1.2.2.2.2.2.2.2.2.2.2.2.2.2.2.2.2.2.2.2.2.2.2.1
theorem k0_off24_inb : ∀ (v10 : BitVec 32) (k0_hw1 : k0_chk1 v10), ∀ a, (k0_off24 v10) a + S1x1.size a ≤ S4x32.size a := fun v10 k0_hw1 => k0_hw1.2.2.2.2.2.2.2.2.2.2.2.2.2.2.2.2.2.2.2.2.2.2.2.1
theorem k0_off25_inb : ∀ (v10 : BitVec 32) (k0_hw1 : k0_chk1 v10), ∀ a, (k0_off25 v10) a + S1x1.size a ≤ S4x32.size a := fun v10 k0_hw1 => k0_hw1.2.2.2.2.2.2.2.2.2.2.2.2.2.2.2.2.2.2.2.2.2.2.2.2.1
theorem k0_off26_inb : ∀ (v10 : BitVec 32) (k0_hw1 : k0_chk1 v10), ∀ a, (k0_off26 v10) a + S1x1.size a ≤ S4x32.size a := fun v10 k0_hw1 => k0_hw1.2.2.2.2.2.2.2.2.2.2.2.2.2.2.2.2.2.2.2.2.2.2.2.2.2.1
theorem k0_off27_inb : ∀ (v10 : BitVec 32) (k0_hw1 : k0_chk1 v10), ∀ a, (k0_off27 v10) a + S1x1.size a ≤ S4x32.size a := fun v10 k0_hw1 => k0_hw1.2.2.2.2.2.2.2.2.2.2.2.2.2.2.2.2.2.2.2.2.2.2.2.2.2.2.1
theorem k0_off28_inb : ∀ (v10 : BitVec 32) (k0_hw1 : k0_chk1 v10), ∀ a, (k0_off28 v10) a + S1x1.size a ≤ S4x32.size a := fun v10 k0_hw1 => k0_hw1.2.2.2.2.2.2.2.2.2.2.2.2.2.2.2.2.2.2.2.2.2.2.2.2.2.2.2.1
theorem k0_off29_inb : ∀ (v10 : BitVec 32) (k0_hw1 : k0_chk1 v10), ∀ a, (k0_off29 v10) a + S1x1.size a ≤ S4x32.size a := fun v10 k0_hw1 => k0_hw1.2.2.2.2.2.2.2.2.2.2.2.2.2.2.2.2.2.2.2.2.2.2.2.2.2.2.2.2.1
theorem k0_off30_inb : ∀ (v10 : BitVec 32) (k0_hw1 : k0_chk1 v10), ∀ a, (k0_off30 v10) a + S1x1.size a ≤ S4x32.size a := fun v10 k0_hw1 => k0_hw1.2.2.2.2.2.2.2.2.2.2.2.2.2.2.2.2.2.2.2.2.2.2.2.2.2.2.2.2.2.1
theorem k0_off31_inb : ∀ (v10 : BitVec 32) (k0_hw1 : k0_chk1 v10), ∀ a, (k0_off31 v10) a + S1x1.size a ≤ S4x32.size a := fun v10 k0_hw1 => k0_hw1.2.2.2.2.2.2.2.2.2.2.2.2.2.2.2.2.2.2.2.2.2.2.2.2.2.2.2.2.2.2.1
theorem k0_off32_inb : ∀ (v10 : BitVec 32) (k0_hw1 : k0_chk1 v10), ∀ a, (k0_off32 v10) a + S1x1.size a ≤ S4x32.size a := fun v10 k0_hw1 => k0_hw1.2.2.2.2.2.2.2.2.2.2.2.2.2.2.2.2.2.2.2.2.2.2.2.2.2.2.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "q_scale" => some (((1 / 8) * (Real.log 2)⁻¹ : ℝ) : EReal)
  | _ => none
-- ==== ReferenceIdeal.lean ====
abbrev S2x8192x32x64 : Shape := ⟨4, ![2, 8192, 32, 64]⟩
abbrev S2x8192x4x64 : Shape := ⟨4, ![2, 8192, 4, 64]⟩
abbrev S4x32 : Shape := ⟨2, ![4, 32]⟩
abbrev S1 : Shape := ⟨1, ![1]⟩
abbrev S_ : Shape := ⟨0, ![]⟩
abbrev S1x32 : Shape := ⟨2, ![1, 32]⟩
abbrev S32 : Shape := ⟨1, ![32]⟩
abbrev S2x64x128x4x8x64 : Shape := ⟨6, ![2, 64, 128, 4, 8, 64]⟩
abbrev S2x64x128x4x64 : Shape := ⟨5, ![2, 64, 128, 4, 64]⟩
abbrev S2x65x128x4x64 : Shape := ⟨5, ![2, 65, 128, 4, 64]⟩
abbrev S2x64x256x4x64 : Shape := ⟨5, ![2, 64, 256, 4, 64]⟩
abbrev S2x64x4x256x128x8 : Shape := ⟨6, ![2, 64, 4, 256, 128, 8]⟩
abbrev S2x64x4x8x128x256 : Shape := ⟨6, ![2, 64, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S1x1x4x8x1x1 : Shape := ⟨6, ![1, 1, 4, 8, 1, 1]⟩
abbrev S2x64x4x8x128x1 : Shape := ⟨6, ![2, 64, 4, 8, 128, 1]⟩
abbrev S2x64x4x8x128x257 : Shape := ⟨6, ![2, 64, 4, 8, 128, 257]⟩
abbrev S2x64x4x8x128 : Shape := ⟨5, ![2, 64, 4, 8, 128]⟩
abbrev S2x64x4x64x8x128 : Shape := ⟨6, ![2, 64, 4, 64, 8, 128]⟩
abbrev S16384x2048 : Shape := ⟨2, ![16384, 2048]⟩

abbrev nBuf : Space → Nat
  | .hbm => 100
  | .vmem => 0
  | .smem => 0
  | _ => 0

abbrev bufTy : (tb : Table) → Fin (tcTables nBuf tb) → BufTy
  | .hbm, ⟨0, _⟩ => ⟨S2x8192x32x64, .f32⟩
  | .hbm, ⟨1, _⟩ => ⟨S2x8192x4x64, .f32⟩
  | .hbm, ⟨2, _⟩ => ⟨S2x8192x4x64, .f32⟩
  | .hbm, ⟨3, _⟩ => ⟨S4x32, .f32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1x32, .f32⟩
  | .hbm, ⟨20, _⟩ => ⟨S32, .f32⟩
  | .hbm, ⟨21, _⟩ => ⟨S2x64x128x4x8x64, .f32⟩
  | .hbm, ⟨22, _⟩ => ⟨S2x64x128x4x64, .f32⟩
  | .hbm, ⟨23, _⟩ => ⟨S_, .i32⟩
  | .hbm, ⟨24, _⟩ => ⟨S_, .f32⟩
  | .hbm, ⟨25, _⟩ => ⟨S2x65x128x4x64, .f32⟩
  | .hbm, ⟨26, _⟩ => ⟨S2x64x128x4x64, .f32⟩
  | .hbm, ⟨27, _⟩ => ⟨S2x64x256x4x64, .f32⟩
  | .hbm, ⟨28, _⟩ => ⟨S2x64x128x4x64, .f32⟩
  | .hbm, ⟨29, _⟩ => ⟨S_, .i32⟩
  | .hbm, ⟨30, _⟩ => ⟨S_, .f32⟩
  | .hbm, ⟨31, _⟩ => ⟨S2x65x128x4x64, .f32⟩
  | .hbm, ⟨32, _⟩ => ⟨S2x64x128x4x64, .f32⟩
  | .hbm, ⟨33, _⟩ => ⟨S2x64x256x4x64, .f32⟩
  | .hbm, ⟨34, _⟩ => ⟨S2x64x4x256x128x8, .f32⟩
  | .hbm, ⟨35, _⟩ => ⟨S2x64x4x8x128x256, .f32⟩
  | .hbm, ⟨36, _⟩ => ⟨S_, .f32⟩
  | .hbm, ⟨37, _⟩ => ⟨S2x64x4x8x128x256, .f32⟩
  | .hbm, ⟨38, _⟩ => ⟨S2x64x4x8x128x256, .f32⟩
  | .hbm, ⟨39, _⟩ => ⟨S128, .i32⟩
  | .hbm, ⟨40, _⟩ => ⟨S128x1, .i32⟩
  | .hbm, ⟨41, _⟩ => ⟨S256, .i32⟩
  | .hbm, ⟨42, _⟩ => ⟨S1x256, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S_, .i32⟩
  | .hbm, ⟨50, _⟩ => ⟨S128x256, .i32⟩
  | .hbm, ⟨51, _⟩ => ⟨S128x256, .i1⟩
  | .hbm, ⟨52, _⟩ => ⟨S_, .i32⟩
  | .hbm, ⟨53, _⟩ => ⟨S128x256, .i32⟩
  | .hbm, ⟨54, _⟩ => ⟨S128x256, .i1⟩
  | .hbm, ⟨55, _⟩ => ⟨S128x256, .i1⟩
  | .hbm, ⟨56, _⟩ => ⟨S64, .i32⟩
  | .hbm, ⟨57, _⟩ => ⟨S64x1, .i32⟩
  | .hbm, ⟨58, _⟩ => ⟨S_, .i32⟩
  | .hbm, ⟨59, _⟩ => ⟨S64x1, .i32⟩
  | .hbm, ⟨60, _⟩ => ⟨S64x1, .i1⟩
  | .hbm, ⟨61, _⟩ => ⟨S_, .i32⟩
  | .hbm, ⟨62, _⟩ => ⟨S1x256, .i32⟩
  | .hbm, ⟨63, _⟩ => ⟨S1x256, .i1⟩
  | .hbm, ⟨64, _⟩ => ⟨S64x256, .i1⟩
  | .hbm, ⟨65, _⟩ => ⟨S64x256, .i1⟩
  | .hbm, ⟨66, _⟩ => ⟨S64x256, .i1⟩
  | .hbm, ⟨67, _⟩ => ⟨S1x128x256, .i1⟩
  | .hbm, ⟨68, _⟩ => ⟨S64x1x256, .i1⟩
  | .hbm, ⟨69, _⟩ => ⟨S64x128x256, .i1⟩
  | .hbm, ⟨70, _⟩ => ⟨S64x128x256, .i1⟩
  | .hbm, ⟨71, _⟩ => ⟨S64x128x256, .i1⟩
  | .hbm, ⟨72, _⟩ => ⟨S1x64x1x1x128x256, .i1⟩
  | .hbm, ⟨73, _⟩ => ⟨S_, .f32⟩
  | .hbm, ⟨74, _⟩ => ⟨S_, .f32⟩
  | .hbm, ⟨75, _⟩ => ⟨S2x64x4x8x128x256, .i1⟩
  | .hbm, ⟨76, _⟩ => ⟨S2x64x4x8x128x256, .f32⟩
  | .hbm, ⟨77, _⟩ => ⟨S2x64x4x8x128x256, .f32⟩
  | .hbm, ⟨78, _⟩ => ⟨S1x1x4x8x1x1, .f32⟩
  | .hbm, ⟨79, _⟩ => ⟨S2x64x4x8x128x1, .f32⟩
  | .hbm, ⟨80, _⟩ => ⟨S2x64x4x8x128x257, .f32⟩
  | .hbm, ⟨81, _⟩ => ⟨S_, .f32⟩
  | .hbm, ⟨82, _⟩ => ⟨S2x64x4x8x128, .f32⟩
  | .hbm, ⟨83, _⟩ => ⟨S_, .f32⟩
  | .hbm, ⟨84, _⟩ => ⟨S2x64x4x8x128, .f32⟩
  | .hbm, ⟨85, _⟩ => ⟨S2x64x4x8x128, .f32⟩
  | .hbm, ⟨86, _⟩ => ⟨S2x64x4x8x128x1, .f32⟩
  | .hbm, ⟨87, _⟩ => ⟨S2x64x4x8x128x257, .f32⟩
  | .hbm, ⟨88, _⟩ => ⟨S2x64x4x8x128x257, .f32⟩
  | .hbm, ⟨89, _⟩ => ⟨S2x64x4x8x128x257, .f32⟩
  | .hbm, ⟨90, _⟩ => ⟨S_, .f32⟩
  | .hbm, ⟨91, _⟩ => ⟨S2x64x4x8x128, .f32⟩
  | .hbm, ⟨92, _⟩ => ⟨S2x64x4x8x128x1, .f32⟩
  | .hbm, ⟨93, _⟩ => ⟨S2x64x4x8x128x257, .f32⟩
  | .hbm, ⟨94, _⟩ => ⟨S2x64x4x8x128x257, .f32⟩
  | .hbm, ⟨95, _⟩ => ⟨S2x64x4x8x128x256, .f32⟩
  | .hbm, ⟨96, _⟩ => ⟨S2x64x4x64x8x128, .f32⟩
  | .hbm, ⟨97, _⟩ => ⟨S2x64x128x4x8x64, .f32⟩
  | .hbm, ⟨98, _⟩ => ⟨S16384x2048, .f32⟩
  | .hbm, ⟨99, _⟩ => ⟨S16384x2048, .bf16⟩
  | _, _ => ⟨S2x8192x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_c_2 : Ref sig .tc := ⟨.hbm, 12, rfl⟩
abbrev main_v4 : Ref sig .tc := ⟨.hbm, 13, rfl⟩
abbrev main_c_3 : Ref sig .tc := ⟨.hbm, 14, rfl⟩
abbrev main_c_4 : Ref sig .tc := ⟨.hbm, 15, rfl⟩
abbrev main_v5 : Ref sig .tc := ⟨.hbm, 16, rfl⟩
abbrev main_c_5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_6 : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_7 : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_9 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_11 : Ref sig .tc := ⟨.hbm, 58, rfl⟩
abbrev main_v38 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_14 : Ref sig .tc := ⟨.hbm, 81, rfl⟩
abbrev main_v55 : Ref sig .tc := ⟨.hbm, 82, rfl⟩
abbrev main_cst_15 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== Kernel2.lean ====
abbrev S2x8192x4096 : Shape := ⟨3, ![2, 8192, 4096]⟩
abbrev S2x8192x16384 : Shape := ⟨3, ![2, 8192, 16384]⟩
abbrev S4x16384x4096 : Shape := ⟨3, ![4, 16384, 4096]⟩
abbrev S4x4096 : Shape := ⟨2, ![4, 4096]⟩
abbrev S1 : Shape := ⟨1, ![1]⟩
abbrev S4x1x4096 : Shape := ⟨3, ![4, 1, 4096]⟩
abbrev S16384x16384 : Shape := ⟨2, ![16384, 16384]⟩
abbrev S_ : Shape := ⟨0, ![]⟩
abbrev S1x16384x4096 : Shape := ⟨3, ![1, 16384, 4096]⟩
abbrev S16384x4096 : Shape := ⟨2, ![16384, 4096]⟩
abbrev S512x1024 : Shape := ⟨2, ![512, 1024]⟩
abbrev S1024x4096 : Shape := ⟨2, ![1024, 4096]⟩
abbrev S512x4096 : Shape := ⟨2, ![512, 4096]⟩
abbrev S1x1x4096 : Shape := ⟨3, ![1, 1, 4096]⟩
abbrev S8x512x512 : Shape := ⟨3, ![8, 512, 512]⟩
abbrev S512x512 : Shape := ⟨2, ![512, 512]⟩
abbrev S1024x512 : Shape := ⟨2, ![1024, 512]⟩
abbrev S1x512x512 : Shape := ⟨3, ![1, 512, 512]⟩
abbrev S512 : Shape := ⟨1, ![512]⟩
abbrev S512x1 : Shape := ⟨2, ![512, 1]⟩
abbrev S1x1x512 : Shape := ⟨3, ![1, 1, 512]⟩
abbrev S1x512 : Shape := ⟨2, ![1, 512]⟩

abbrev nBuf : Space → Nat
  | .hbm => 37
  | .vmem => 11
  | .smem => 1
  | _ => 0

abbrev bufTy : (tb : Table) → Fin (tcTables nBuf tb) → BufTy
  | .hbm, ⟨0, _⟩ => ⟨S2x8192x4096, .f32⟩
  | .hbm, ⟨1, _⟩ => ⟨S2x8192x16384, .f32⟩
  | .hbm, ⟨2, _⟩ => ⟨S4x16384x4096, .f32⟩
  | .hbm, ⟨3, _⟩ => ⟨S4x4096, .f32⟩
  | .hbm, ⟨4, _⟩ => ⟨S4x4096, .f32⟩
  | .hbm, ⟨5, _⟩ => ⟨S4x1x4096, .f32⟩
  | .hbm, ⟨6, _⟩ => ⟨S4x1x4096, .f32⟩
  | .hbm, ⟨7, _⟩ => ⟨S16384x16384, .f32⟩
  | .hbm, ⟨8, _⟩ => ⟨S16384x16384, .bf16⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x16384x4096, .f32⟩
  | .hbm, ⟨32, _⟩ => ⟨S16384x4096, .f32⟩
  | .hbm, ⟨33, _⟩ => ⟨S16384x4096, .bf16⟩
  | .hbm, ⟨34, _⟩ => ⟨S16384x4096, .f32⟩
  | .hbm, ⟨35, _⟩ => ⟨S16384x4096, .bf16⟩
  | .hbm, ⟨36, _⟩ => ⟨S16384x4096, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S1024x4096, .bf16⟩
  | .local _ .vmem, ⟨4, _⟩ => ⟨S512x4096, .bf16⟩
  | .local _ .vmem, ⟨5, _⟩ => ⟨S512x4096, .bf16⟩
  | .local _ .vmem, ⟨6, _⟩ => ⟨S1x1x4096, .f32⟩
  | .local _ .vmem, ⟨7, _⟩ => ⟨S1x1x4096, .f32⟩
  | .local _ .vmem, ⟨8, _⟩ => ⟨S512x4096, .f32⟩
  | .local _ .vmem, ⟨9, _⟩ => ⟨S512x4096, .f32⟩
  | .local _ .vmem, ⟨10, _⟩ => ⟨S8x512x512, .f32⟩
  | .local _ .smem, ⟨0, _⟩ => ⟨S1, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_c_4 : Ref sig .tc := ⟨.hbm, 19, rfl⟩
abbrev main_v9 : Ref sig .tc := ⟨.hbm, 20, rfl⟩
abbrev main_c_5 : Ref sig .tc := ⟨.hbm, 21, rfl⟩
abbrev main_v10 : Ref sig .tc := ⟨.hbm, 22, rfl⟩
abbrev main_c_6 : Ref sig .tc := ⟨.hbm, 23, rfl⟩
abbrev main_c_7 : Ref sig .tc := ⟨.hbm, 24, rfl⟩
abbrev main_v11 : Ref sig .tc := ⟨.hbm, 25, rfl⟩
abbrev main_c_8 : Ref sig .tc := ⟨.hbm, 26, rfl⟩
abbrev main_c_9 : Ref sig .tc := ⟨.hbm, 27, rfl⟩
abbrev main_v12 : Ref sig .tc := ⟨.hbm, 28, rfl⟩
abbrev main_c_10 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 16], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S2x8192x4096 : Shape := ⟨3, ![2, 8192, 4096]⟩
abbrev S2x8192x16384 : Shape := ⟨3, ![2, 8192, 16384]⟩
abbrev S4x16384x4096 : Shape := ⟨3, ![4, 16384, 4096]⟩
abbrev S4x4096 : Shape := ⟨2, ![4, 4096]⟩
abbrev S1 : Shape := ⟨1, ![1]⟩
abbrev S_ : Shape := ⟨0, ![]⟩
abbrev S1x16384x4096 : Shape := ⟨3, ![1, 16384, 4096]⟩
abbrev S16384x4096 : Shape := ⟨2, ![16384, 4096]⟩
abbrev S1x4096 : Shape := ⟨2, ![1, 4096]⟩
abbrev S4096 : Shape := ⟨1, ![4096]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x16384, .f32⟩
  | .hbm, ⟨2, _⟩ => ⟨S4x16384x4096, .f32⟩
  | .hbm, ⟨3, _⟩ => ⟨S4x4096, .f32⟩
  | .hbm, ⟨4, _⟩ => ⟨S4x4096, .f32⟩
  | .hbm, ⟨5, _⟩ => ⟨S1, .i32⟩
  | .hbm, ⟨6, _⟩ => ⟨S_, .f32⟩
  | .hbm, ⟨7, _⟩ => ⟨S2x8192x4096, .f32⟩
  | .hbm, ⟨8, _⟩ => ⟨S2x8192x4096, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S1x16384x4096, .f32⟩
  | .hbm, ⟨32, _⟩ => ⟨S16384x4096, .f32⟩
  | .hbm, ⟨33, _⟩ => ⟨S2x8192x4096, .f32⟩
  | .hbm, ⟨34, _⟩ => ⟨S2x8192x4096, .f32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4096, .f32⟩
  | .hbm, ⟨50, _⟩ => ⟨S4096, .f32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x4096, .f32⟩
  | .hbm, ⟨66, _⟩ => ⟨S4096, .f32⟩
  | .hbm, ⟨67, _⟩ => ⟨S_, .f32⟩
  | .hbm, ⟨68, _⟩ => ⟨S2x8192, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x4096, .f32⟩
  | .hbm, ⟨74, _⟩ => ⟨S2x8192x4096, .f32⟩
  | .hbm, ⟨75, _⟩ => ⟨S2x8192x4096, .f32⟩
  | .hbm, ⟨76, _⟩ => ⟨S_, .f32⟩
  | .hbm, ⟨77, _⟩ => ⟨S2x8192, .f32⟩
  | .hbm, ⟨78, _⟩ => ⟨S2x8192x1, .f32⟩
  | .hbm, ⟨79, _⟩ => ⟨S_, .f32⟩
  | .hbm, ⟨80, _⟩ => ⟨S2x8192x1, .f32⟩
  | .hbm, ⟨81, _⟩ => ⟨S2x8192x1, .f32⟩
  | .hbm, ⟨82, _⟩ => ⟨S2x8192x4096, .f32⟩
  | .hbm, ⟨83, _⟩ => ⟨S2x8192x4096, .f32⟩
  | .hbm, ⟨84, _⟩ => ⟨S_, .f32⟩
  | .hbm, ⟨85, _⟩ => ⟨S2x8192x1, .f32⟩
  | .hbm, ⟨86, _⟩ => ⟨S2x8192x1, .f32⟩
  | .hbm, ⟨87, _⟩ => ⟨S2x8192x1, .f32⟩
  | .hbm, ⟨88, _⟩ => ⟨S2x8192x4096, .f32⟩
  | .hbm, ⟨89, _⟩ => ⟨S2x8192x4096, .f32⟩
  | .hbm, ⟨90, _⟩ => ⟨S1x1x4096, .f32⟩
  | .hbm, ⟨91, _⟩ => ⟨S2x8192x4096, .f32⟩
  | .hbm, ⟨92, _⟩ => ⟨S2x8192x4096, .f32⟩
  | .hbm, ⟨93, _⟩ => ⟨S1x1x4096, .f32⟩
  | .hbm, ⟨94, _⟩ => ⟨S2x8192x4096, .f32⟩
  | .hbm, ⟨95, _⟩ => ⟨S2x8192x4096, .f32⟩
  | .hbm, ⟨96, _⟩ => ⟨S16384x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_c_2 : Ref sig .tc := ⟨.hbm, 16, rfl⟩
abbrev main_v6 : Ref sig .tc := ⟨.hbm, 17, rfl⟩
abbrev main_c_3 : Ref sig .tc := ⟨.hbm, 18, rfl⟩
abbrev main_c_4 : Ref sig .tc := ⟨.hbm, 19, rfl⟩
abbrev main_v7 : Ref sig .tc := ⟨.hbm, 20, rfl⟩
abbrev main_c_5 : Ref sig .tc := ⟨.hbm, 21, rfl⟩
abbrev main_v8 : Ref sig .tc := ⟨.hbm, 22, rfl⟩
abbrev main_c_6 : Ref sig .tc := ⟨.hbm, 23, rfl⟩
abbrev main_c_7 : Ref sig .tc := ⟨.hbm, 24, rfl⟩
abbrev main_v9 : Ref sig .tc := ⟨.hbm, 25, rfl⟩
abbrev main_c_8 : Ref sig .tc := ⟨.hbm, 26, rfl⟩
abbrev main_c_9 : Ref sig .tc := ⟨.hbm, 27, rfl⟩
abbrev main_v10 : Ref sig .tc := ⟨.hbm, 28, rfl⟩
abbrev main_c_10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_11 : Ref sig .tc := ⟨.hbm, 36, rfl⟩
abbrev main_v17 : Ref sig .tc := ⟨.hbm, 37, rfl⟩
abbrev main_c_12 : Ref sig .tc := ⟨.hbm, 38, rfl⟩
abbrev main_v18 : Ref sig .tc := ⟨.hbm, 39, rfl⟩
abbrev main_v19 : Ref sig .tc := ⟨.hbm, 40, rfl⟩
abbrev main_c_13 : Ref sig .tc := ⟨.hbm, 41, rfl⟩
abbrev main_c_14 : Ref sig .tc := ⟨.hbm, 42, rfl⟩
abbrev main_v20 : Ref sig .tc := ⟨.hbm, 43, rfl⟩
abbrev main_c_15 : Ref sig .tc := ⟨.hbm, 44, rfl⟩
abbrev main_c_16 : Ref sig .tc := ⟨.hbm, 45, rfl⟩
abbrev main_v21 : Ref sig .tc := ⟨.hbm, 46, rfl⟩
abbrev main_c_17 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_18 : Ref sig .tc := ⟨.hbm, 52, rfl⟩
abbrev main_v26 : Ref sig .tc := ⟨.hbm, 53, rfl⟩
abbrev main_c_19 : Ref sig .tc := ⟨.hbm, 54, rfl⟩
abbrev main_v27 : Ref sig .tc := ⟨.hbm, 55, rfl⟩
abbrev main_v28 : Ref sig .tc := ⟨.hbm, 56, rfl⟩
abbrev main_c_20 : Ref sig .tc := ⟨.hbm, 57, rfl⟩
abbrev main_c_21 : Ref sig .tc := ⟨.hbm, 58, rfl⟩
abbrev main_v29 : Ref sig .tc := ⟨.hbm, 59, rfl⟩
abbrev main_c_22 : Ref sig .tc := ⟨.hbm, 60, rfl⟩
abbrev main_c_23 : Ref sig .tc := ⟨.hbm, 61, rfl⟩
abbrev main_v30 : Ref sig .tc := ⟨.hbm, 62, rfl⟩
abbrev main_c_24 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_25 : Ref sig .tc := ⟨.hbm, 67, rfl⟩
abbrev main_v34 : Ref sig .tc := ⟨.hbm, 68, rfl⟩
abbrev main_v35 : Ref sig .tc := ⟨.hbm, 69, rfl⟩
abbrev main_cst_26 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_27 : Ref sig .tc := ⟨.hbm, 76, rfl⟩
abbrev main_v41 : Ref sig .tc := ⟨.hbm, 77, rfl⟩
abbrev main_v42 : Ref sig .tc := ⟨.hbm, 78, rfl⟩
abbrev main_cst_28 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_29 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩

abbrev nD : Nat := 1
abbrev τ : Topo := Topo.v7x

variable {F : FTy → Type} [FloatOps F]
-- ==== Kernel3.lean ====
abbrev S2x8192x4096 : Shape := ⟨3, ![2, 8192, 4096]⟩
abbrev S4x4096x16384 : Shape := ⟨3, ![4, 4096, 16384]⟩
abbrev S1 : Shape := ⟨1, ![1]⟩
abbrev S16384x4096 : Shape := ⟨2, ![16384, 4096]⟩
abbrev S_ : Shape := ⟨0, ![]⟩
abbrev S1x4096x16384 : Shape := ⟨3, ![1, 4096, 16384]⟩
abbrev S4096x16384 : Shape := ⟨2, ![4096, 16384]⟩
abbrev S16384x16384 : Shape := ⟨2, ![16384, 16384]⟩
abbrev S1024x4096 : Shape := ⟨2, ![1024, 4096]⟩
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 30
  | .vmem => 6
  | .smem => 1
  | _ => 0

abbrev bufTy : (tb : Table) → Fin (tcTables nBuf tb) → BufTy
  | .hbm, ⟨0, _⟩ => ⟨S2x8192x4096, .f32⟩
  | .hbm, ⟨1, _⟩ => ⟨S4x4096x16384, .f32⟩
  | .hbm, ⟨2, _⟩ => ⟨S16384x4096, .f32⟩
  | .hbm, ⟨3, _⟩ => ⟨S16384x4096, .bf16⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x4096x16384, .f32⟩
  | .hbm, ⟨27, _⟩ => ⟨S4096x16384, .f32⟩
  | .hbm, ⟨28, _⟩ => ⟨S4096x16384, .bf16⟩
  | .hbm, ⟨29, _⟩ => ⟨S16384x16384, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .smem, ⟨0, _⟩ => ⟨S1, .i32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_c_2 : Ref sig .tc := ⟨.hbm, 11, rfl⟩
abbrev main_v6 : Ref sig .tc := ⟨.hbm, 12, rfl⟩
abbrev main_c_3 : Ref sig .tc := ⟨.hbm, 13, rfl⟩
abbrev main_c_4 : Ref sig .tc := ⟨.hbm, 14, rfl⟩
abbrev main_v7 : Ref sig .tc := ⟨.hbm, 15, rfl⟩
abbrev main_c_5 : Ref sig .tc := ⟨.hbm, 16, rfl⟩
abbrev main_v8 : Ref sig .tc := ⟨.hbm, 17, rfl⟩
abbrev main_c_6 : Ref sig .tc := ⟨.hbm, 18, rfl⟩
abbrev main_c_7 : Ref sig .tc := ⟨.hbm, 19, rfl⟩
abbrev main_v9 : Ref sig .tc := ⟨.hbm, 20, rfl⟩
abbrev main_c_8 : Ref sig .tc := ⟨.hbm, 21, rfl⟩
abbrev main_c_9 : Ref sig .tc := ⟨.hbm, 22, rfl⟩
abbrev main_v10 : Ref sig .tc := ⟨.hbm, 23, rfl⟩
abbrev main_c_10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x8192x4096 : Shape := ⟨3, ![2, 8192, 4096]⟩
abbrev S4x4096x16384 : Shape := ⟨3, ![4, 4096, 16384]⟩
abbrev S1 : Shape := ⟨1, ![1]⟩
abbrev S_ : Shape := ⟨0, ![]⟩
abbrev S1x4096x16384 : Shape := ⟨3, ![1, 4096, 16384]⟩
abbrev S4096x16384 : Shape := ⟨2, ![4096, 16384]⟩
abbrev S2x8192x16384 : Shape := ⟨3, ![2, 8192, 16384]⟩
abbrev S16384x16384 : Shape := ⟨2, ![16384, 16384]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4x4096x16384, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x4096x16384, .f32⟩
  | .hbm, ⟨26, _⟩ => ⟨S4096x16384, .f32⟩
  | .hbm, ⟨27, _⟩ => ⟨S2x8192x16384, .f32⟩
  | .hbm, ⟨28, _⟩ => ⟨S_, .f32⟩
  | .hbm, ⟨29, _⟩ => ⟨S2x8192x16384, .f32⟩
  | .hbm, ⟨30, _⟩ => ⟨S2x8192x16384, .f32⟩
  | .hbm, ⟨31, _⟩ => ⟨S2x8192x16384, .f32⟩
  | .hbm, ⟨32, _⟩ => ⟨S16384x16384, .f32⟩
  | .hbm, ⟨33, _⟩ => ⟨S16384x16384, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_c_2 : Ref sig .tc := ⟨.hbm, 10, rfl⟩
abbrev main_v4 : Ref sig .tc := ⟨.hbm, 11, rfl⟩
abbrev main_c_3 : Ref sig .tc := ⟨.hbm, 12, rfl⟩
abbrev main_c_4 : Ref sig .tc := ⟨.hbm, 13, rfl⟩
abbrev main_v5 : Ref sig .tc := ⟨.hbm, 14, rfl⟩
abbrev main_c_5 : Ref sig .tc := ⟨.hbm, 15, rfl⟩
abbrev main_v6 : Ref sig .tc := ⟨.hbm, 16, rfl⟩
abbrev main_c_6 : Ref sig .tc := ⟨.hbm, 17, rfl⟩
abbrev main_c_7 : Ref sig .tc := ⟨.hbm, 18, rfl⟩
abbrev main_v7 : Ref sig .tc := ⟨.hbm, 19, rfl⟩
abbrev main_c_8 : Ref sig .tc := ⟨.hbm, 20, rfl⟩
abbrev main_c_9 : Ref sig .tc := ⟨.hbm, 21, rfl⟩
abbrev main_v8 : Ref sig .tc := ⟨.hbm, 22, rfl⟩
abbrev main_c_10 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_cst : Ref sig .tc := ⟨.hbm, 28, rfl⟩
abbrev main_call0_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]
-- ==== Proof.Attn.KernelIdealRun.lean ====
/- The sliding-window attention of `KernelIdeal`: what the region finds in the arrays, the windows' blocks, the layer
   index read off the prefetched table, and the run of the body at one grid point. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents recurses once per coordinate of the long axes
set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffers when the region is entered: as launched, after the casts and the concatenation. -/
abbrev V (c : Dev nD) (b : Ref sig .tc) : Buf (Elt F) ((c : Thread nD τ).loc b) := StableHlo.after hostOps0 (fun b => m (c, b)) b

/-- The host operations need no fresh buffer. -/
theorem hostOps0_fresh : (hostOps0 : List (HloOp τ sig (Elt F))).Forall fun op => op.fresh = ∅ := by
  simp only [List.Forall]; repeat' constructor

set_option maxHeartbeats 800000 in
/-- `main` up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The buffers no host operation writes. -/
theorem V_kept (c : Dev nD) (b : Ref sig .tc) (h : b ∉ [main_v0, main_v1, main_v2, main_v3, main_v4, main_v5, main_v6]) :
    V m c b = m ((c : Thread nD τ).loc b) :=
  StableHlo.after_of_forall_not_mem (b := Proc.devRef .tc b) _ _ (List.forall_iff_forall_mem.mp (by
    simp only [List.mem_cons, not_or] at h
    simp only [hostOps0, List.Forall, StableHlo.unary_writes, StableHlo.reshape_writes, StableHlo.nary_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2.1,
      StableHlo.devRef_ne_of_ne h.2.2.2.2.2.2.1⟩))
theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)

/-! ## The prefetched layer index -/

/-- The table's contents when the region is entered. -/
def tbl : pre0.Contents (Elt F) := fun j => V m (0 : Dev nD) (pre0.ref j)
/-- On every device (there is one) the table holds them. -/
theorem V_pre (c : Dev nD) (j : Fin 1) : V m c (pre0.ref j) = tbl m j := by
  obtain rfl : c = 0 := Subsingleton.elim _ _; rfl
/-- No index map reads the table, so any contents are admissible. -/
abbrev adm : (pcfg0 (F := F)).Adm := ⟨tbl m, (trivial : ok0 (tbl m))⟩
/-- The pipeline at these contents. -/
abbrev cfgM : Pipeline.Cfg sig Λ₀ := cfg0 (adm m)
/-- The table as the body is handed it. -/
abbrev tbM : Memref sig .tc .smem S1 .i32 := Memref.whole main_arg4
abbrev htbM : tbM.IsWhole := Memref.isWhole_whole _
/-- A table memref's buffer, and half of it held. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
/-- What the region hands the body of the table. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The body at point `t`. -/
abbrev bodyAt (t : Fin (cfgM m).N) : Prog (TpuEff nD τ sig (Elt F) Λ₀ .tc) PUnit :=
  cc0_attn (grid0.coords t) (Memref.whole main_arg4) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4))

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))
/-- A default for the part of the query window's buffer a cut fetch would leave unfilled (there is none). -/
def dflt0 : ((cfgM m).win 0).block.Idx → Elt F ((cfgM m).win 0).elt := fun _ => Classical.choice inferInstance
/-- The query window's buffer at point `t`: its block filled over the default. -/
def X0 (c : Dev nD) (t : Fin (cfgM m).N) : ((cfgM m).win 0).block.Idx → Elt F ((cfgM m).win 0).elt :=
  ((cfgM m).win 0).fill ((cfgM m).grid.coords t) (dflt0 m) (iblk m c 0 t)
/-- No block of the query window overhangs its array. -/
theorem clip0_none : ∀ t : Fin grid0.N, ∀ a, (clip0_0 (grid0.coords t) a).extent (S128x2048.size a) = S128x2048.size a := by decide +kernel
theorem xsize0 (t : Fin (cfgM m).N) (a) : ((cfgM m).win 0).xsize ((cfgM m).grid.coords t) a = ((cfgM m).win 0).size a := clip0_none t a
/-- Every index of the query window's block is fetched. -/
theorem moved0 (t : Fin (cfgM m).N) (j : ((cfgM m).win 0).block.Idx) : ((cfgM m).win 0).moved ((cfgM m).grid.coords t) j = true :=
  (((cfgM m).win 0).moved_iff _ j).mpr fun a => by rw [xsize0 m t a]; exact (j a).isLt
/-- So a fetch fills its whole buffer, whatever it held. -/
theorem fill0 (t : Fin (cfgM m).N) (d d' : ((cfgM m).win 0).block.Idx → Elt F ((cfgM m).win 0).elt) (g) :
    ((cfgM m).win 0).fill ((cfgM m).grid.coords t) d g = ((cfgM m).win 0).fill ((cfgM m).grid.coords t) d' g := by
  funext j; unfold Pipeline.Window.fill; rw [dif_pos (moved0 m t j), dif_pos (moved0 m t j)]
/-- The query window's current buffer when the body runs. -/
theorem before0_of {c : Dev nD} (dat : Dat τ (Elt F) Unit ℕ (UR sig nD τ) ℕ (cfgM m) c) (hA : dat.A 0 = V m c (Pipeline.arrRef spec0 0))
    (hafter : ∀ t, dat.after 0 t = X0 m c t) (t : Fin (cfgM m).N) (d) : dat.before 0 t d = X0 m c t :=
  (dat.before_in_eq_fetched 0 rfl (fun _ => rfl)
      (fun t t' h => funext fun a => congrArg (fun n => Pipeline.Clip.of n (((cfgM m).win 0).size a) (S16384x2560.size a)) (congrFun h a))
      (fun t => by rw [hafter]; unfold X0; rw [Pipeline.Window.cut_fill]; unfold Dat.blockOf iblk; rw [hA]; try rfl) t d).trans
    (by unfold Dat.fetched X0; rw [fill0 m t d (dflt0 m)]; unfold Dat.blockOf iblk; rw [hA]; try rfl)
/-- The own keys' and values' window's current buffer when the body runs. -/
theorem before1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The previous keys' and values' window's current buffer when the body runs. -/
theorem before2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The sinks' window's current buffer when the body runs. -/
theorem before3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body on any staging memrefs -/

/-- The side condition the body assumes of the layer index: its row of sinks lies in the table of sinks. -/
abbrev LayerOk (c : Dev nD) (xt : TbBuf (F := F) c tbM) : Prop :=
  k0_chk1 (tbM.view.readAt (Elt F) (Rect.unit (s := S1) ![0] S1.size inb_S1_S1_0).toLoadRect xt (Shape.Idx.first (numel1_S1.symm ▸ Nat.one_pos)))

-- (the run's proof term is large: checking it walks past the default budget)
set_option maxHeartbeats 2000000 in
/-- What the body's stores leave in the output's staging memref, as pieces (last first), with the proof that the body,
    on whole memrefs, runs to the continuation holding the inputs as they were and the output with its pieces written. -/
noncomputable def bodyRun (c : Dev nD) (i : grid0.Coords) (arg2 : Memref sig .tc .vmem S128x2048 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .smem S4x32 .f32) (harg5 : arg5.IsWhole) (arg6 : Memref sig .tc .vmem S128x2048 .bf16) (harg6 : arg6.IsWhole)
    (x0 : Vec F S128x2048 .bf16) (x1 : Vec F S128x512 .bf16) (x2 : Vec F S128x512 .bf16) (x3 : Vec F S4x32 .f32) (xt : TbBuf (F := F) c tbM) (k0_hw1 : LayerOk c xt) :
    { L : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tbPt c tbM xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ tbPt c tbM xt) -∗ K ⟨⟩))
          ⊢ wp frame (wpE (defs₀ (F := F)) Variants.none c none) E (cc0_attn i tbM htbM arg2 harg2 arg3 harg3 arg4 harg4 arg5 harg5 arg6 harg6) K } := by
  refine ⟨?_, fun E K => ?run⟩
  case run =>
    simp only [cc0_attn_eq_skeleton]; unfold cc0_attn_skel
    simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%d4, %f4, -, H4⟩, HT0, Hk⟩
    obtain rfl := harg2.eq_unread hf0; obtain rfl := harg3.eq_unread hf1; obtain rfl := harg4.eq_unread hf2; obtain rfl := harg5.eq_unread hf3
    sl_exec (disch := first | sl_exact k0_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexact HT0

end Cert.KernelIdeal.Attn

end
-- ==== Proof.Attn.KernelIdealFrame.lean ====
/- The sliding-window attention of `KernelIdeal`: the output of every grid point named, the launch, the frame. -/
module

public import proofs.«01_k».proof.Proof.Attn.KernelIdealRun
public import Idealize.ShloMosaic.Lib.Claim

@[expose] public section

-- membership in a rectangle of production extents recurses once per coordinate of the long axes
set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of the output, through which its contents are stated. -/
abbrev VO : View sig .tc .vmem S128x2048 .bf16 := (Memref.whole cc0_stg4_0 : Memref sig .tc .vmem S128x2048 .bf16).view
abbrev ms0 (t : Fin (cfgM m).N) : Memref sig .tc .vmem S128x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S128x512 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S128x512 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .smem S4x32 .f32 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S128x2048 .bf16 := spec0_4.stage ((cfgM m).slots t 4)
abbrev hs4 (t : Fin (cfgM m).N) : (ms4 m t).IsWhole := hstage0_4 (((cfgM m).slots t 4).cast nbuf0_4)

/-- The sixteen stores tile the block. -/
theorem cover (c : Dev nD) (i : grid0.Coords) (arg2 : Memref sig .tc .vmem S128x2048 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .smem S4x32 .f32) (harg5 : arg5.IsWhole) (arg6 : Memref sig .tc .vmem S128x2048 .bf16) (harg6 : arg6.IsWhole)
    (x0 : Vec F S128x2048 .bf16) (x1 : Vec F S128x512 .bf16) (x2 : Vec F S128x512 .bf16) (x3 : Vec F S4x32 .f32) (xt : TbBuf (F := F) c tbM) (hw : LayerOk c xt) (y : S128x2048.Idx) :
    ∃ pc ∈ (bodyRun c i arg2 harg2 arg3 harg3 arg4 harg4 arg5 harg5 arg6 harg6 x0 x1 x2 x3 xt hw).1, y ∈ pc.1.set :=
  View.cover_of_tiledL (bodyRun c i arg2 harg2 arg3 harg3 arg4 harg4 arg5 harg5 arg6 harg6 x0 x1 x2 x3 xt hw).1 S128x128.size (by sl_kernel_rfl) y

/-- What the body leaves in the output's staging buffer. -/
def outBlk (c : Dev nD) (i : grid0.Coords) (arg2 : Memref sig .tc .vmem S128x2048 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .smem S4x32 .f32) (harg5 : arg5.IsWhole) (arg6 : Memref sig .tc .vmem S128x2048 .bf16) (harg6 : arg6.IsWhole)
    (x0 : Vec F S128x2048 .bf16) (x1 : Vec F S128x512 .bf16) (x2 : Vec F S128x512 .bf16) (x3 : Vec F S4x32 .f32) (xt : TbBuf (F := F) c tbM) (hw : LayerOk c xt) : Vec F S128x2048 .bf16 :=
  VO.read (Elt F) (VO.writes (Elt F) VO.junk (bodyRun c i arg2 harg2 arg3 harg3 arg4 harg4 arg5 harg5 arg6 harg6 x0 x1 x2 x3 xt hw).1)

/-- … at point `t`. -/
def outsAt (hL : ∀ c, LayerOk c (tbl m 0)) (c : Dev nD) (t : Fin (cfgM m).N) : Vec F S128x2048 .bf16 :=
  outBlk c (grid0.coords t) (ms0 m t) (hs0 m t) (ms1 m t) (hs1 m t) (ms2 m t) (hs2 m t) (ms3 m t) (hs3 m t) (ms4 m t) (hs4 m t) (X0 m c t) (iblk m c 1 t) (iblk m c 2 t) (iblk m c 3 t) (tbl m 0) (hL c)

/-- The proof data of the pipeline on core `c`: the arrays as found, each input's buffer at its block, the output's at
    `outsAt`, each input's share of the array it shares. -/
def dats (hL : ∀ c, LayerOk c (tbl m 0)) (_ : Fin 1) (c : Dev nD) : Dat τ (Elt F) Unit ℕ (UR sig nD τ) ℕ (cfgM m) c where
  A w := V m c (Pipeline.arrRef spec0 w)
  after w t := match w with
    | ⟨0, _⟩ => X0 m c t
    | ⟨1, _⟩ => iblk m c 1 t
    | ⟨2, _⟩ => iblk m c 2 t
    | ⟨3, _⟩ => iblk m c 3 t
    | ⟨4, _⟩ => outsAt m hL c t
  Φ _ := iprop(Pipeline.ΦA spec0 c ∗ Pipeline.ΦT pre0 (tbl m) c)
  q w := Pipeline.shareOf spec0 w
  owed _ := 0

/-- The proof data's arrays are the region's. -/
theorem A_eq (hL : ∀ c, LayerOk c (tbl m 0)) (c : Dev nD) (w : Fin (cfgM m).W) : (dats m hL 0 c).A w = V m c (Pipeline.arrRef spec0 w) := by
  dsimp only [dats]
theorem after0 (hL : ∀ c, LayerOk c (tbl m 0)) (c : Dev nD) (t : Fin (cfgM m).N) : (dats m hL 0 c).after 0 t = X0 m c t := by dsimp only [dats]; try rfl
theorem after1 (hL : ∀ c, LayerOk c (tbl m 0)) (c : Dev nD) (t : Fin (cfgM m).N) : (dats m hL 0 c).after 1 t = iblk m c 1 t := by dsimp only [dats]; try rfl
theorem after2 (hL : ∀ c, LayerOk c (tbl m 0)) (c : Dev nD) (t : Fin (cfgM m).N) : (dats m hL 0 c).after 2 t = iblk m c 2 t := by dsimp only [dats]; try rfl
theorem after3 (hL : ∀ c, LayerOk c (tbl m 0)) (c : Dev nD) (t : Fin (cfgM m).N) : (dats m hL 0 c).after 3 t = iblk m c 3 t := by dsimp only [dats]; try rfl
theorem after4 (hL : ∀ c, LayerOk c (tbl m 0)) (c : Dev nD) (t : Fin (cfgM m).N) : (dats m hL 0 c).after 4 t = outsAt m hL c t := by dsimp only [dats]; try rfl
theorem before0 (hL : ∀ c, LayerOk c (tbl m 0)) (c : Dev nD) (t : Fin (cfgM m).N) (d) : (dats m hL 0 c).before 0 t d = X0 m c t :=
  before0_of m (dats m hL 0 c) (A_eq m hL c 0) (after0 m hL c) t d
theorem before1 (hL : ∀ c, LayerOk c (tbl m 0)) (c : Dev nD) (t : Fin (cfgM m).N) (d) : (dats m hL 0 c).before 1 t d = iblk m c 1 t :=
  before1_of m (dats m hL 0 c) (A_eq m hL c 1) (after1 m hL c) t d
theorem before2 (hL : ∀ c, LayerOk c (tbl m 0)) (c : Dev nD) (t : Fin (cfgM m).N) (d) : (dats m hL 0 c).before 2 t d = iblk m c 2 t :=
  before2_of m (dats m hL 0 c) (A_eq m hL c 2) (after2 m hL c) t d
theorem before3 (hL : ∀ c, LayerOk c (tbl m 0)) (c : Dev nD) (t : Fin (cfgM m).N) (d) : (dats m hL 0 c).before 3 t d = iblk m c 3 t :=
  before3_of m (dats m hL 0 c) (A_eq m hL c 3) (after3 m hL c) t d

/-- What the body is called with at point `t`, -/
def bodyPre (hL : ∀ c, LayerOk c (tbl m 0)) (c : Dev nD) (t : Fin (cfgM m).N) : sProp 𝕄 :=
  iprop((dats m hL 0 c).Φ t.castSucc ∗ (dats m hL 0 c).owesAt () t.castSucc
    ∗ (∃ d, owns (c : Thread nD τ) (ms0 m t) fullShare ((dats m hL 0 c).before 0 t d))
    ∗ (∃ d, owns (c : Thread nD τ) (ms1 m t) fullShare ((dats m hL 0 c).before 1 t d))
    ∗ (∃ d, owns (c : Thread nD τ) (ms2 m t) fullShare ((dats m hL 0 c).before 2 t d))
    ∗ (∃ d, owns (c : Thread nD τ) (ms3 m t) fullShare ((dats m hL 0 c).before 3 t d))
    ∗ (∃ d, owns (c : Thread nD τ) (ms4 m t) fullShare ((dats m hL 0 c).before 4 t d)))
/-- and what it returns. -/
def bodyPost (hL : ∀ c, LayerOk c (tbl m 0)) (c : Dev nD) (t : Fin (cfgM m).N) : sProp 𝕄 :=
  iprop((dats m hL 0 c).Φ t.succ ∗ (dats m hL 0 c).owesAt () t.succ
    ∗ owns (c : Thread nD τ) (ms0 m t) fullShare ((dats m hL 0 c).after 0 t)
    ∗ owns (c : Thread nD τ) (ms1 m t) fullShare ((dats m hL 0 c).after 1 t)
    ∗ owns (c : Thread nD τ) (ms2 m t) fullShare ((dats m hL 0 c).after 2 t)
    ∗ owns (c : Thread nD τ) (ms3 m t) fullShare ((dats m hL 0 c).after 3 t)
    ∗ owns (c : Thread nD τ) (ms4 m t) fullShare ((dats m hL 0 c).after 4 t))

/-- The body at any point. -/
theorem sound_body (hL : ∀ c, LayerOk c (tbl m 0)) (c : Dev nD) (t : Fin (cfgM m).N) :
    bodyPre m hL c t ⊢ wp frame (wpE (defs₀ (F := F)) Variants.none c none) Set.univ (bodyAt m t) (fun _ => bodyPost m hL c t) := by
  unfold bodyPre bodyPost bodyAt
  simp only [before0, before1, before2, before3]
  rw [show (dats m hL 0 c).Φ t.succ = (dats m hL 0 c).Φ t.castSucc from rfl,
    show (dats m hL 0 c).owesAt () t.succ = (dats m hL 0 c).owesAt () t.castSucc from rfl,
    after0, after1, after2, after3, after4]
  rw [show (dats m hL 0 c).Φ t.castSucc = iprop(Pipeline.ΦA spec0 c ∗ Pipeline.ΦT pre0 (tbl m) c) from rfl, PhiT_eq]
  unfold outsAt
  unfold outBlk
  iintro ⟨⟨HΦ, HT0⟩, Ho, ⟨%d0, H0⟩, ⟨%d1, H1⟩, ⟨%d2, H2⟩, ⟨%d3, H3⟩, ⟨%d4, H4⟩⟩
  iapply ((bodyRun c (grid0.coords t) _ _ _ _ _ _ _ _ _ _ (X0 m c t) (iblk m c 1 t) (iblk m c 2 t) (iblk m c 3 t) (tbl m 0) (hL c)).2 Set.univ _)
  isplitl [H0]; · iexact H0
  isplitl [H1]; · iexact H1
  isplitl [H2]; · iexact H2
  isplitl [H3]; · iexact H3
  isplitl [H4]; · iexists _; iexact H4
  isplitl [HT0]; · iexact HT0
  iintro ⟨H0, H1, H2, H3, ⟨%e4, H4⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover c _ _ _ _ _ _ _ _ _ _ _ _ _ _ _ _ _)

/-- The body table's row at point `t` is the body. -/
theorem defs₀_row (t : Fin (cfgM m).N) :
    defs₀ (F := F) .tc (cfgM m).body ((cfgM m).bodyArgs t ((cfgM m).slots t)) = bodyAt m t := by
  unfold defs₀; rw [Defs.onTc_tc]

/-- The library's body obligation. -/
theorem body_obligation (hL : ∀ c, LayerOk c (tbl m 0)) (c : Dev nD) : BodyObligation (dats (F := F) m hL 0 c) (defs₀ (F := F)) Variants.none () Set.univ := fun t => by
  rw [bigSep_W0, bigSep_W0, defs₀_row m]
  exact triple_restated (sound_body m hL c t) rfl .rfl fun _ => .rfl

/-- Every array and buffer after the run. -/
abbrev Post (hL : ∀ c, LayerOk c (tbl m 0)) : PUnit × MemSt nD τ sig (Elt F) → Prop :=
  Pipeline.FramePost (Pipeline.pin pcfgs fun _ => adm m) (dats m hL) 0 (V m)

-- the launch theorem's implicit arguments are found by unifying its conclusion with this one
set_option backward.isDefEq.respectTransparency.types false in
/-- The launch: the arrays at what the pipeline computes, every semaphore counter at zero. -/
theorem run_main_quiescent (hL : ∀ c, LayerOk c (tbl m 0)) : θ_run defs (onTc (τ := τ) (main (F := F))) (s₀ m ρ) (fun r => Post m hL r ∧ r.2.sem = fun _ => 0) :=
  Pipeline.θ_run_frameP_shared (Q' := _) pcfgs (fun _ => adm m) (dats m hL) (0 : Fin 1) launch₀0 defs₀ Variants.none m ρ main
    (hbody := fun c => (body_obligation m hL c).loose) (hq := fun _ _ _ => rfl)
    (howed := fun _ _ => rfl) (V := V m) (hmain := hmain m Variants.none) (hA := A_eq m hL) (hpf := V_pre m) (hΦ := fun _ _ => rfl)

/-- After the run the arguments are as launched. -/
theorem kept (hL : ∀ c, LayerOk c (tbl m 0)) (r : PUnit × MemSt nD τ sig (Elt F)) (h : Post m hL r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).1 3).trans (((dats m hL 0 c).arrAt_in 3 rfl _).trans ((A_eq m hL c 3).trans (V_main_arg3 m c))),
    ((h c).2 main_arg4 (by decide : main_arg4 ∈ Pipeline.restRefs sig spec0)).trans (V_main_arg4 m c)⟩

/-- The frame: the arguments as launched, the machine quiescent. -/
theorem frame (hL : ∀ c, LayerOk c (tbl m 0)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨kept m hL r h.1, h.2⟩) (run_main_quiescent m ρ hL)

/-- The run with the result named and the arguments as launched. -/
theorem run_result (hL : ∀ c, LayerOk c (tbl m 0)) : θ_run defs (onTc (τ := τ) (main (F := F))) ⟨m, fun _ => 0, ρ⟩ (fun r => ∀ c : Dev nD,
      r.2.mem ((c.tc : Thread nD τ).loc main_v7) = (dats m hL 0 c).arrAt 4 (cfgM m).N) :=
  (θ_run defs _ _).mono (fun r h c => (h.1 c).1 4) (run_main_quiescent m ρ hL)

end Cert.KernelIdeal.Attn

end
-- ==== Proof.Attn.Layer.lean ====
/- The layer index the attention prefetches: under the precondition the word is below 4, so the sink row it names exists. -/
module

public import proofs.«01_k».proof.Defs
public import proofs.«01_k».proof.Proof.Attn.KernelRun
public import proofs.«01_k».proof.Proof.Attn.KernelIdealRun
public import proofs.«01_k».proof.Proof.Gen.Pre_layer_index

@[expose] public section

noncomputable section

namespace Cert.Attn

open Idealize.ShloMosaic Idealize.SL.Sem

/-- A word whose signed comparisons `0 ≤ v` and `v < 4` both hold is, unsigned, below 4. -/
theorem word_lt {v : BitVec 32} (e : IntOp.andi (IntOp.cmpi .sge v 0#32) (IntOp.cmpi .slt v 4#32) = 1#1) : v.toNat < 4 := by
  have and_bool (p q : Bool) : IntOp.andi (BitVec.ofBool p) (BitVec.ofBool q) = BitVec.ofBool (p && q) := by
    cases p <;> cases q <;> decide
  have bool_one (p : Bool) : (BitVec.ofBool p = 1#1) ↔ p = true := by cases p <;> decide
  simp only [IntOp.cmpi, and_bool, bool_one, Bool.and_eq_true, BitVec.sle_eq_decide, BitVec.slt_eq_decide,
    decide_eq_true_eq, BitVec.toInt_eq_toNat_cond, BitVec.toNat_ofNat, Nat.reducePow, Nat.reduceMod] at e
  omega

/-- The precondition bounds the array's one word. -/
theorem word_of_pre {F : FTy → Type} [FloatOps F] (x0 : FVec F Pre_layer_index.S2x8192x32x64 .f32) (x1 x2 : FVec F Pre_layer_index.S2x8192x4x64 .f32)
    (x3 : FVec F Pre_layer_index.S4x32 .f32) (x4 : IVec Pre_layer_index.S1 32)
    (h : Pre_layer_index.fn x0 x1 x2 x3 x4 = fun _ => 1#1) (i : Pre_layer_index.S1.Idx) : (x4 i).toNat < 4 := by
  have e := congrFun h (fun a => a.elim0)
  simp only [Pre_layer_index.fn, andi, cmpi, constantI] at e
  have e' := word_lt e
  have : i = Shape.reshapeEquiv (Pre_layer_index.Facts.shapeCasts_S1_S_) (fun a => a.elim0) := by
    funext a
    match a with
    | ⟨0, _⟩ => exact Subsingleton.elim (α := Fin 1) _ _
  rw [this]
  exact e'

end Cert.Attn

namespace Cert.Kernel.Attn

open Cert.Kernel Cert.Kernel.Gen Idealize.ShloMosaic Idealize.ShloMosaic.TcCoe Idealize.SL.Sem

/-- Every check the body makes on the layer word holds when the word is below 4. -/
theorem chk_of_lt {v : BitVec 32} (h : v.toNat < 4) : k0_chk1 v := by
  have row (k : ℕ) (hk : k < 32) : ∀ a, (![v.toNat, k] : Fin 2 → ℕ) a + S1x1.size a ≤ S4x32.size a := fun a => by
    match a with
    | ⟨0, _⟩ => show v.toNat + 1 ≤ 4; omega
    | ⟨1, _⟩ => show k + 1 ≤ 32; omega
  unfold k0_chk1
  iterate 31 refine ⟨row _ (by decide), ?_⟩
  exact row _ (by decide)

/-- The precondition gives every check of the body. -/
theorem layer_ok {m : (ℓ : Loc nD τ sig) → Buf (Elt Bits) ℓ} (h : Cert.Pre_Kernel m) (c : Dev nD) : LayerOk (F := Bits) c (tbl m 0) := by
  refine chk_of_lt ?_
  obtain rfl : c = 0 := Subsingleton.elim _ _
  exact Cert.Attn.word_of_pre _ _ _ _ _ (h 0) _

end Cert.Kernel.Attn

namespace Cert.KernelIdeal.Attn

open Cert.KernelIdeal Cert.KernelIdeal.Gen Idealize.ShloMosaic Idealize.ShloMosaic.TcCoe Idealize.SL.Sem

/-- Every check the body makes on the layer word holds when the word is below 4. -/
theorem chk_of_lt {v : BitVec 32} (h : v.toNat < 4) : k0_chk1 v := Cert.Kernel.Attn.chk_of_lt h

/-- The layer word the body reads, below 4 by the precondition. -/
theorem layer_ok {m : (ℓ : Loc nD τ sig) → Buf (Elt Ideal) ℓ} (h : Cert.Pre_KernelIdeal m) (c : Dev nD) : LayerOk (F := Ideal) c (tbl m 0) := by
  refine chk_of_lt ?_
  obtain rfl : c = 0 := Subsingleton.elim _ _
  exact Cert.Attn.word_of_pre _ _ _ _ _ (h 0) _

end Cert.KernelIdeal.Attn

end
-- ==== Proof.Attn.Slab.lean ====
/- The body's work on one slab of two heads, written once in the body's own operations, and the blocks the body stores
   as sixteen instances of it. -/
module

public import proofs.«01_k».proof.Proof.Attn.KernelIdealFrame

@[expose] public section

set_option maxRecDepth 16384

noncomputable section

namespace Cert.KernelIdeal.Attn

open Cert.KernelIdeal Cert.KernelIdeal.Gen Idealize.ShloMosaic Idealize.ShloMosaic.TcCoe Idealize.SL.Sem
variable {F : FTy → Type} [FloatOps F] [Named F]

/-! ## Keys and values placed in one half of a slab -/

/-- Lanes of the lower half. -/
abbrev lowLane : IVec S256x128 1 := cmpi .slt (iota .tc S256x128 32 [1] iota_S256x128_d1_w32) (broadcast S256x128 64#32)
/-- Rows of the lower half. -/
abbrev lowRow : IVec S128x256 1 := cmpi .slt (iota .tc S128x256 32 [0] iota_S128x256_d0_w32) (broadcast S128x256 64#32)
/-- Keys that lie behind their query: the key of this row is the previous block's. -/
abbrev fromPrev : IVec S128x128 1 := cmpi .sgt (iota .tc S128x128 32 [0] iota_S128x128_d0_w32) (iota .tc S128x128 32 [1] iota_S128x128_d1_w32)

/-- `t` in the lower half of the lanes, zero in the upper. -/
def lowKeys (t : FVec F S256x128 .f32) : FVec F S256x128 .bf16 :=
  truncf .bf16 (select lowLane t (broadcast S256x128 (Scalar.ofBits .f32 0x00000000#32))) bitsLt_bf16_f32
/-- `t` in the upper half of the lanes, zero in the lower. -/
def highKeys (t : FVec F S256x128 .f32) : FVec F S256x128 .bf16 :=
  truncf .bf16 (select (xori lowLane (constantI S256x128 1 1#1)) t (broadcast S256x128 (Scalar.ofBits .f32 0x00000000#32))) bitsLt_bf16_f32
/-- `t` with its halves of lanes exchanged. -/
def turnKeys (t : FVec F S256x128 .f32) : FVec F S256x128 .f32 := dynamicRotate 1 64#32 none t rotates_S256x128_d1
/-- `t` in the lower half of the rows, zero in the upper. -/
def lowVals (t : FVec F S128x256 .f32) : FVec F S128x256 .bf16 :=
  truncf .bf16 (select lowRow t (broadcast S128x256 (Scalar.ofBits .f32 0x00000000#32))) bitsLt_bf16_f32
/-- `t` in the upper half of the rows, zero in the lower. -/
def highVals (t : FVec F S128x256 .f32) : FVec F S128x256 .bf16 :=
  truncf .bf16 (select (xori lowRow (constantI S128x256 1 1#1)) t (broadcast S128x256 (Scalar.ofBits .f32 0x00000000#32))) bitsLt_bf16_f32
/-- `t` with its halves of rows exchanged. -/
def turnVals (t : FVec F S128x256 .f32) : FVec F S128x256 .f32 := dynamicRotate 0 64#32 none t rotates_S128x256_d0

/-- The keys of head pair `g` (columns `128 g` on). -/
def keyPair (kv : FVec F S256x512 .f32) : Fin 2 → FVec F S256x128 .f32
  | 0 => extractStridedSlice S256x128 ![0, 0] kv slices_S256x512_o0_0_S256x128
  | 1 => extractStridedSlice S256x128 ![0, 128] kv slices_S256x512_o0_128_S256x128
/-- The values of head pair `g` (columns `256 + 128 g` on), transposed. -/
def valPair (kv : FVec F S256x512 .f32) : Fin 2 → FVec F S128x256 .f32
  | 0 => transpose S128x256 [1, 0] (extractStridedSlice S256x128 ![0, 256] kv slices_S256x512_o0_256_S256x128) transposes_S256x128_p1_0_S128x256
  | 1 => transpose S128x256 [1, 0] (extractStridedSlice S256x128 ![0, 384] kv slices_S256x512_o0_384_S256x128) transposes_S256x128_p1_0_S128x256

/-- The keys of a pair's head `src` placed in half `p` of the lanes. -/
def placeKeys (t : FVec F S256x128 .f32) : Fin 2 → Fin 2 → FVec F S256x128 .bf16
  | 0, 0 => lowKeys t
  | 0, 1 => highKeys (turnKeys t)
  | 1, 0 => lowKeys (turnKeys t)
  | 1, 1 => highKeys t
/-- The values of a pair's head `src` placed in half `p` of the rows. -/
def placeVals (t : FVec F S128x256 .f32) : Fin 2 → Fin 2 → FVec F S128x256 .bf16
  | 0, 0 => lowVals t
  | 0, 1 => highVals (turnVals t)
  | 1, 0 => lowVals (turnVals t)
  | 1, 1 => highVals t

/-! ## One head of a slab -/

/-- The queries, scaled. -/
def scaled (q : Vec F S128x128 .bf16) : FVec F S128x128 .bf16 :=
  truncf .bf16 (mulf (extf .f32 (shapeCast S128x128 q shapeCasts_S128x128_S128x128) bitsLt_bf16_f32) (broadcast S128x128 (Named.named κ "q_scale" 0x3E38AA3B#32))) bitsLt_bf16_f32
/-- The scores of the window's keys, key by query: a row behind its query reads the previous block. -/
def band (bias : F .f32) (kz : FVec F S256x128 .bf16) (qs : FVec F S128x128 .bf16) : FVec F S128x128 .f32 :=
  select fromPrev
    (addf (extractStridedSlice S128x128 ![0, 0] (matmul dot_S256x128_S128x128_S256x128_1_1_0_0_n_n none kz qs (constant S256x128 .f32 0x00000000#32)) slices_S256x128_o0_0_S128x128) (broadcast S128x128 bias))
    (extractStridedSlice S128x128 ![128, 0] (matmul dot_S256x128_S128x128_S256x128_1_1_0_0_n_n none kz qs (constant S256x128 .f32 0x00000000#32)) slices_S256x128_o128_0_S128x128)
/-- The sink's score in base 2. -/
def sink2 (s : F .f32) : F .f32 := Scalar.mulf s (Named.named κ "log2e" 0x3FB8AA3B#32)
/-- The largest score of each query, the sink's among them. -/
def top (b : FVec F S128x128 .f32) (s : F .f32) : FVec F S1x128 .f32 :=
  maximumf (shapeCast S1x128 (multiReduction .maximumf [0] S128 b 0xFF800000#32 reduces_S128x128_S128 (.inl rfl) rfl) shapeCasts_S128_S1x128) (broadcast S1x128 (sink2 s))
/-- The exponentials of the scores over the largest. -/
def expo (b : FVec F S128x128 .f32) (s : F .f32) : FVec F S128x128 .f32 :=
  exp2 (subf b (broadcastTo S128x128 (top b s) broadcasts_S1x128_S128x128))
/-- The softmax's denominator: the exponentials' sum, the sink's added. -/
def denom (b : FVec F S128x128 .f32) (s : F .f32) : FVec F S1x128 .f32 :=
  addf (shapeCast S1x128 (multiReduction .add [0] S128 (expo b s) 0x00000000#32 reduces_S128x128_S128 (.inl rfl) rfl) shapeCasts_S128_S1x128)
    (exp2 (subf (broadcast S1x128 (sink2 s)) (top b s)))
/-- The exponentials spread over the two blocks' keys. -/
def spread (e : FVec F S128x128 .f32) : FVec F S256x128 .bf16 :=
  truncf .bf16 (concatenate S256x128 0 [⟨S128x128, select fromPrev e (broadcast S128x128 (Scalar.ofBits .f32 0x00000000#32))⟩,
    ⟨S128x128, select fromPrev (broadcast S128x128 (Scalar.ofBits .f32 0x00000000#32)) e⟩] concatenates_S128x128_S128x128_S256x128_d0) bitsLt_bf16_f32
/-- One head's output, transposed. -/
def headOut (bias : F .f32) (kz : FVec F S256x128 .bf16) (vz : FVec F S128x256 .bf16) (q : Vec F S128x128 .bf16) (s : F .f32) : FVec F S128x128 .f32 :=
  mulf (matmul dot_S128x256_S256x128_S128x128_1_0_0_1_n_n none vz (spread (expo (band bias kz (scaled q)) s)) (constant S128x128 .f32 0x00000000#32))
    (broadcastTo S128x128 (divf (broadcast S1x128 (Scalar.ofBits .f32 0x3F800000#32)) (denom (band bias kz (scaled q)) s)) broadcasts_S1x128_S128x128)
/-- A slab's output: its two heads' outputs added and turned. -/
def slabOut (bias : F .f32) (kv : FVec F S256x512 .f32) (g src : Fin 2) (q : Vec F S128x128 .bf16) (s0 s1 : F .f32) : FVec F S128x128 .bf16 :=
  truncf .bf16 (transpose S128x128 [1, 0]
    (addf (headOut bias (placeKeys (keyPair kv g) src 0) (placeVals (valPair kv g) src 0) q s0)
      (headOut bias (placeKeys (keyPair kv g) src 1) (placeVals (valPair kv g) src 1) q s1)) transposes_S128x128_p1_0_S128x128) bitsLt_bf16_f32

/-! ## The stores -/

/-- Slab `s` of a block lies inside it. -/
theorem slab_inb (s : Fin 16) : ∀ a, (![0, 128 * s.val] : Fin 2 → ℕ) a + S128x128.size a ≤ S128x2048.size a := fun a => by
  match a with
  | ⟨0, _⟩ => show 0 + 128 ≤ 128; omega
  | ⟨1, _⟩ => show 128 * s.val + 128 ≤ 2048; have := s.isLt; omega
/-- Head `h`'s sink lies in the table. -/
theorem sink_inb {v : BitVec 32} (hw : k0_chk1 v) (h : Fin 32) : ∀ a, (![(Scalar.indexCast v).toNat, h.val] : Fin 2 → ℕ) a + S1x1.size a ≤ S4x32.size a := fun a => by
  match a with
  | ⟨0, _⟩ => exact hw.1 0
  | ⟨1, _⟩ => show h.val + 1 ≤ 32; have := h.isLt; omega

section
variable (c : Dev nD) (i : grid0.Coords) (arg2 : Memref sig .tc .vmem S128x2048 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .smem S4x32 .f32) (harg5 : arg5.IsWhole) (arg6 : Memref sig .tc .vmem S128x2048 .bf16) (harg6 : arg6.IsWhole)
    (x0 : Vec F S128x2048 .bf16) (x1 : Vec F S128x512 .bf16) (x2 : Vec F S128x512 .bf16) (x3 : Vec F S4x32 .f32) (xt : TbBuf (F := F) c tbM) (hw : LayerOk c xt)

/-- The layer word as the body reads it. -/
abbrev layerWord (c : Dev nD) (xt : TbBuf (F := F) c tbM) : BitVec 32 :=
  tbM.view.readAt (Elt F) (Rect.unit (s := S1) ![0] S1.size inb_S1_S1_0).toLoadRect xt (Shape.Idx.first (numel1_S1.symm ▸ Nat.one_pos))

/-- The sink of head `h` as the body reads it. -/
abbrev sinkRead (h : Fin 32) : F .f32 :=
  arg5.view.readAt (Elt F) (Rect.unit (s := S4x32) ![(Scalar.indexCast (layerWord c xt)).toNat, h.val] S1x1.size (sink_inb hw h)).toLoadRect (harg5.unread x3)
    (Shape.Idx.first (numel1_S1x1.symm ▸ Nat.one_pos))

/-- The two blocks' keys and values as the body reads them: the previous block's rows, then its own. -/
abbrev kvRead : FVec F S256x512 .f32 :=
  k0_pay2 (arg4.view.readAt (Elt F) (Rect.unit (s := S128x512) ![0, 0] S128x512.size inb_S128x512_S128x512_0_0).toLoadRect (harg4.unread x2))
    (arg3.view.readAt (Elt F) (Rect.unit (s := S128x512) ![0, 0] S128x512.size inb_S128x512_S128x512_0_0).toLoadRect (harg3.unread x1))

/-- The store of slab `s`, of head pair `g`'s head `src`. -/
abbrev store (s : Fin 16) (g src : Fin 2) (h0 h1 : Fin 32) : View.Piece (Elt F) S128x2048 .bf16 :=
  ⟨Rect.unit ![0, 128 * s.val] S128x128.size (slab_inb s),
    slabOut (k0_pay4 i) (kvRead arg3 harg3 arg4 harg4 x1 x2) g src
      (arg2.view.readAt (Elt F) (Rect.unit (s := S128x2048) ![0, 128 * s.val] S128x128.size (slab_inb s)).toLoadRect (harg2.unread x0))
      (sinkRead c arg5 harg5 x3 xt hw h0) (sinkRead c arg5 harg5 x3 xt hw h1)⟩

set_option maxHeartbeats 4000000 in
/-- What the body stores: the sixteen slabs, last first. -/
theorem stores_eq : (bodyRun c i arg2 harg2 arg3 harg3 arg4 harg4 arg5 harg5 arg6 harg6 x0 x1 x2 x3 xt hw).1 =
    [store c i arg2 harg2 arg3 harg3 arg4 harg4 arg5 harg5 x0 x1 x2 x3 xt hw 15 1 1 30 31,
     store c i arg2 harg2 arg3 harg3 arg4 harg4 arg5 harg5 x0 x1 x2 x3 xt hw 14 1 1 28 29,
     store c i arg2 harg2 arg3 harg3 arg4 harg4 arg5 harg5 x0 x1 x2 x3 xt hw 13 1 1 26 27,
     store c i arg2 harg2 arg3 harg3 arg4 harg4 arg5 harg5 x0 x1 x2 x3 xt hw 12 1 1 24 25,
     store c i arg2 harg2 arg3 harg3 arg4 harg4 arg5 harg5 x0 x1 x2 x3 xt hw 11 1 0 22 23,
     store c i arg2 harg2 arg3 harg3 arg4 harg4 arg5 harg5 x0 x1 x2 x3 xt hw 10 1 0 20 21,
     store c i arg2 harg2 arg3 harg3 arg4 harg4 arg5 harg5 x0 x1 x2 x3 xt hw 9 1 0 18 19,
     store c i arg2 harg2 arg3 harg3 arg4 harg4 arg5 harg5 x0 x1 x2 x3 xt hw 8 1 0 16 17,
     store c i arg2 harg2 arg3 harg3 arg4 harg4 arg5 harg5 x0 x1 x2 x3 xt hw 7 0 1 14 15,
     store c i arg2 harg2 arg3 harg3 arg4 harg4 arg5 harg5 x0 x1 x2 x3 xt hw 6 0 1 12 13,
     store c i arg2 harg2 arg3 harg3 arg4 harg4 arg5 harg5 x0 x1 x2 x3 xt hw 5 0 1 10 11,
     store c i arg2 harg2 arg3 harg3 arg4 harg4 arg5 harg5 x0 x1 x2 x3 xt hw 4 0 1 8 9,
     store c i arg2 harg2 arg3 harg3 arg4 harg4 arg5 harg5 x0 x1 x2 x3 xt hw 3 0 0 6 7,
     store c i arg2 harg2 arg3 harg3 arg4 harg4 arg5 harg5 x0 x1 x2 x3 xt hw 2 0 0 4 5,
     store c i arg2 harg2 arg3 harg3 arg4 harg4 arg5 harg5 x0 x1 x2 x3 xt hw 1 0 0 2 3,
     store c i arg2 harg2 arg3 harg3 arg4 harg4 arg5 harg5 x0 x1 x2 x3 xt hw 0 0 0 0 1] := by
  unfold bodyRun
  dsimp only
  sl_unfold_words
  rfl

end

end Cert.KernelIdeal.Attn

end
-- ==== Proof.Attn.Softmax.lean ====
/- The arithmetic that makes a banded softmax in base 2 and a masked softmax over two blocks one function of the scores,
   on the extended reals. -/
module

public import Idealize.ShloMosaic.PureOps.Ideal

@[expose] public section

noncomputable section

namespace Cert.Attn

open Idealize.ShloMosaic

/-- A nonnegative real factor leaves a sum of extended reals. -/
theorem sum_mul_real {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- The maximum folded from `⊥` is the supremum. -/
theorem fold_max {ι : Type} (s : Finset ι) (f : ι → EReal) : s.fold max ⊥ f = s.sup f := rfl

/-- A positive real factor keeps a supremum. -/
theorem sup_mul_real {ι : Type} (s : Finset ι) (f : ι → EReal) {c : ℝ} (hc : 0 < c) :
    s.sup (fun i => f i * (c : EReal)) = s.sup f * (c : EReal) := by
  have hmono : Monotone fun x : EReal => x * (c : EReal) := fun x y h => mul_le_mul_of_nonneg_right h (by exact_mod_cast hc.le)
  exact (Finset.comp_sup_eq_sup_comp (fun x : EReal => x * (c : EReal)) (fun x y => hmono.map_max) (EReal.bot_mul_coe_of_pos hc)).symm

/-- `1 / log 2`. -/
abbrev invLog2 : ℝ := (Real.log 2)⁻¹

theorem invLog2_pos : 0 < invLog2 := inv_pos.mpr (Real.log_pos (by norm_num))

/-- The exponential in base 2 of the scaled difference is the exponential of the difference. -/
theorem exp2_scaled (a : EReal) (M : ℝ) (ha : a ≠ ⊤) :
    Ideal.exp2 (a * (invLog2 : EReal) - (M : EReal) * (invLog2 : EReal)) = Ideal.exp (a - (M : EReal)) := by
  induction a with
  | top => exact absurd rfl ha
  | bot => rw [EReal.bot_mul_coe_of_pos invLog2_pos, EReal.bot_sub, EReal.bot_sub, Ideal.exp2_bot, Ideal.exp_bot]
  | coe x =>
    rw [← EReal.coe_mul, ← EReal.coe_mul, ← EReal.coe_sub, ← EReal.coe_sub, Ideal.exp2_coe, Ideal.exp_coe]
    congr 1
    show (2 : ℝ) ^ (x * invLog2 - M * invLog2) = _
    have h2 : Real.log 2 ≠ 0 := (Real.log_pos (by norm_num)).ne'
    rw [Real.rpow_def_of_pos (by norm_num)]
    congr 1
    unfold invLog2
    field_simp

/-- The exponential of a difference with a real is a nonnegative real, when the argument is not `⊤`. -/
theorem exp_real (a : EReal) (M : ℝ) (ha : a ≠ ⊤) : ∃ e : ℝ, 0 ≤ e ∧ (a ≠ ⊥ → 0 < e) ∧ Ideal.exp (a - (M : EReal)) = (e : EReal) := by
  induction a with
  | top => exact absurd rfl ha
  | bot => exact ⟨0, le_refl _, fun h => absurd rfl h, by rw [EReal.bot_sub, Ideal.exp_bot, EReal.coe_zero]⟩
  | coe x => exact ⟨Real.exp (x - M), (Real.exp_pos _).le, fun _ => Real.exp_pos _, by rw [← EReal.coe_sub, Ideal.exp_coe]⟩

/-- The key a row of the band stands for: a row behind its query is the previous block's key, another the own block's. -/
def keyOf (r x : Fin 128) : Fin 256 := if r < x then ⟨x.val, by omega⟩ else ⟨128 + x.val, by omega⟩

/-- A sum over two blocks' keys whose terms vanish off the band is the sum over the band. -/
theorem sum_keys (r : Fin 128) (f : Fin 256 → EReal)
    (h0 : ∀ x : Fin 128, ¬ r < x → f ⟨x.val, by omega⟩ = 0) (h1 : ∀ x : Fin 128, r < x → f ⟨128 + x.val, by omega⟩ = 0) :
    ∑ κ, f κ = ∑ x, f (keyOf r x) := by
  rw [show ∑ κ, f κ = ∑ x : Fin 128, f ⟨x.val, by omega⟩ + ∑ x : Fin 128, f ⟨128 + x.val, by omega⟩ from Fin.sum_univ_add (a := 128) (b := 128) f, ← Finset.sum_add_distrib]
  refine Finset.sum_congr rfl fun x _ => ?_
  by_cases h : r < x
  · rw [h1 x h, add_zero, keyOf, if_pos h]
  · rw [h0 x h, zero_add, keyOf, if_neg h]

/-- A supremum over two blocks' keys that are `⊥` off the band is the supremum over the band. -/
theorem sup_keys (r : Fin 128) (f : Fin 256 → EReal)
    (h0 : ∀ x : Fin 128, ¬ r < x → f ⟨x.val, by omega⟩ = ⊥) (h1 : ∀ x : Fin 128, r < x → f ⟨128 + x.val, by omega⟩ = ⊥) :
    Finset.univ.sup f = Finset.univ.sup fun x => f (keyOf r x) := by
  refine le_antisymm (Finset.sup_le fun κ _ => ?_) (Finset.sup_le fun x _ => Finset.le_sup (Finset.mem_univ _))
  rcases lt_or_ge κ.val 128 with h | h
  · by_cases hx : r < (⟨κ.val, h⟩ : Fin 128)
    · refine le_trans (le_of_eq ?_) (Finset.le_sup (f := fun x => f (keyOf r x)) (Finset.mem_univ (⟨κ.val, h⟩ : Fin 128)))
      show f κ = f (keyOf r ⟨κ.val, h⟩)
      rw [keyOf, if_pos hx]
    · rw [show f κ = ⊥ from h0 ⟨κ.val, h⟩ hx]
      exact bot_le
  · have hκ : κ = ⟨128 + (κ.val - 128), by omega⟩ := Fin.ext (by simp; omega)
    by_cases hx : r < (⟨κ.val - 128, by omega⟩ : Fin 128)
    · rw [hκ, show f ⟨128 + (κ.val - 128), _⟩ = ⊥ from h1 ⟨κ.val - 128, by omega⟩ hx]
      exact bot_le
    · refine le_trans (le_of_eq ?_) (Finset.le_sup (f := fun x => f (keyOf r x)) (Finset.mem_univ (⟨κ.val - 128, by omega⟩ : Fin 128)))
      show f κ = f (keyOf r ⟨κ.val - 128, _⟩)
      rw [keyOf, if_neg hx, ← hκ]

/-- One query's output by the banded softmax in base 2: scores `b`, the sink's score `t`, values `v` of the two blocks' keys. -/
def bandOut (r : Fin 128) (b : Fin 128 → EReal) (t : EReal) (v : Fin 256 → EReal) : EReal :=
  (∑ x, v (keyOf r x) * Ideal.exp2 (b x - max (Finset.univ.fold max ⊥ b) t))
    * Ideal.div 1 (∑ x, Ideal.exp2 (b x - max (Finset.univ.fold max ⊥ b) t) + Ideal.exp2 (t - max (Finset.univ.fold max ⊥ b) t))

/-- One query's output by the softmax over two blocks' keys and a sink. -/
def windowOut (m : Fin 256 → EReal) (σ : EReal) (v : Fin 256 → EReal) : EReal :=
  ∑ κ, Ideal.div (Ideal.exp (m κ - max (Finset.univ.sup m) σ))
    (∑ κ', Ideal.exp (m κ' - max (Finset.univ.sup m) σ) + Ideal.exp (σ - max (Finset.univ.sup m) σ)) * v κ

/-- The two are one when the scores off the band are `⊥`, none is `⊤`, and one of them is real. -/
theorem bandOut_eq (r : Fin 128) (m : Fin 256 → EReal) (σ : EReal) (v : Fin 256 → EReal)
    (hm : ∀ κ, m κ ≠ ⊤) (hσ : σ ≠ ⊤) (κ₀ : Fin 256) (hκ₀ : m κ₀ ≠ ⊥)
    (h0 : ∀ x : Fin 128, ¬ r < x → m ⟨x.val, by omega⟩ = ⊥) (h1 : ∀ x : Fin 128, r < x → m ⟨128 + x.val, by omega⟩ = ⊥) :
    bandOut r (fun x => m (keyOf r x) * (invLog2 : EReal)) (σ * (invLog2 : EReal)) v = windowOut m σ v := by
  obtain ⟨M, hM⟩ : ∃ M : ℝ, max (Finset.univ.sup m) σ = (M : EReal) := by
    have htop : max (Finset.univ.sup m) σ < ⊤ :=
      max_lt ((Finset.sup_lt_iff (bot_lt_top)).mpr fun κ _ => lt_top_iff_ne_top.mpr (hm κ)) (lt_top_iff_ne_top.mpr hσ)
    have hbot : ⊥ < max (Finset.univ.sup m) σ :=
      lt_of_lt_of_le (bot_lt_iff_ne_bot.mpr hκ₀) (le_trans (Finset.le_sup (Finset.mem_univ κ₀)) (le_max_left _ _))
    exact ⟨_, (EReal.coe_toReal htop.ne hbot.ne').symm⟩
  have hmx : max (Finset.univ.fold max ⊥ fun x => m (keyOf r x) * (invLog2 : EReal)) (σ * (invLog2 : EReal)) = (M : EReal) * (invLog2 : EReal) := by
    rw [fold_max, sup_mul_real _ _ invLog2_pos, ← sup_keys r m h0 h1, ← hM]
    exact (Monotone.map_max (f := fun x : EReal => x * (invLog2 : EReal)) fun x y h => mul_le_mul_of_nonneg_right h (by exact_mod_cast invLog2_pos.le)).symm
  unfold bandOut windowOut
  simp only [hmx, hM, exp2_scaled _ _ (hm _), exp2_scaled _ _ hσ]
  choose e he0 hepos he using fun κ => exp_real (m κ) M (hm κ)
  obtain ⟨eσ, heσ0, -, heσ⟩ := exp_real σ M hσ
  have hoff0 : ∀ x : Fin 128, ¬ r < x → e ⟨x.val, by omega⟩ = 0 := fun x hx => by
    have := he ⟨x.val, by omega⟩
    rw [h0 x hx, EReal.bot_sub, Ideal.exp_bot] at this
    exact_mod_cast this.symm
  have hoff1 : ∀ x : Fin 128, r < x → e ⟨128 + x.val, by omega⟩ = 0 := fun x hx => by
    have := he ⟨128 + x.val, by omega⟩
    rw [h1 x hx, EReal.bot_sub, Ideal.exp_bot] at this
    exact_mod_cast this.symm
  simp only [he, heσ]
  have hden : ∑ κ, (e κ : EReal) + (eσ : EReal) = ((∑ κ, e κ + eσ : ℝ) : EReal) := by push_cast; rfl
  have hpos : 0 < ∑ κ, e κ + eσ :=
    add_pos_of_pos_of_nonneg (Finset.sum_pos' (fun κ _ => he0 κ) ⟨κ₀, Finset.mem_univ _, hepos κ₀ hκ₀⟩) heσ0
  rw [← sum_keys r (fun κ => (e κ : EReal)) (fun x hx => by rw [hoff0 x hx]; rfl) (fun x hx => by rw [hoff1 x hx]; rfl),
    ← sum_keys r (fun κ => v κ * (e κ : EReal)) (fun x hx => by rw [hoff0 x hx, EReal.coe_zero, mul_zero]) (fun x hx => by rw [hoff1 x hx, EReal.coe_zero, mul_zero]),
    hden, Ideal.div_coe hpos.ne', one_mul, sum_mul_real _ _ (one_div_pos.mpr hpos).le]
  refine Finset.sum_congr rfl fun κ _ => ?_
  rw [Ideal.div_coe hpos.ne', mul_assoc, mul_comm (v κ)]

end Cert.Attn

end
-- ==== Proof.Attn.HeadAt.lean ====
/- One slab of the body read at an index, at the ideal values. -/
module

public import proofs.«01_k».proof.Proof.Attn.Slab
public import proofs.«01_k».proof.Proof.Attn.Softmax
public import Idealize.ShloMosaic.Lib.Pointwise
public import Idealize.ShloMosaic.Lib.WordCmp

@[expose] public section

set_option maxRecDepth 16384

noncomputable section

namespace Cert.KernelIdeal.Attn

open Cert.KernelIdeal Cert.KernelIdeal.Gen Idealize.ShloMosaic Idealize.ShloMosaic.TcCoe Idealize.SL.Sem Cert.Attn

/-- A selection by a comparison of two small numbers' words. -/
theorem select_sgt {α : Type} (a b : ℕ) (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat ha hb]
  by_cases h : b < a <;> simp [h, Scalar.select]

/-- A selection by a comparison of two small numbers' words. -/
theorem select_slt {α : Type} (a b : ℕ) (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb]
  by_cases h : a < b <;> simp [h, Scalar.select]

/-- A selection by a negated bit. -/
theorem select_not {α : Type} (c : BitVec 1) (x y : α) : Scalar.select (IntOp.xori c 1#1) x y = Scalar.select c y x := by
  have h : ∀ c : BitVec 1, c = 0#1 ∨ c = 1#1 := by decide
  rcases h c with rfl | rfl <;> rfl

/-- The keys kept in the lower half of the lanes. -/
theorem lowKeys_apply (t : FVec Ideal S256x128 .f32) (k : Fin 256) (d : Fin 128) :
    lowKeys t (ix2 k d) = if d.val < 64 then t (ix2 k d) else 0 := by
  pointwise [lowKeys]
  exact select_slt _ _ (by omega) (by omega) _ _

/-- The keys kept in the upper half of the lanes. -/
theorem highKeys_apply (t : FVec Ideal S256x128 .f32) (k : Fin 256) (d : Fin 128) :
    highKeys t (ix2 k d) = if d.val < 64 then 0 else t (ix2 k d) := by
  pointwise [highKeys]
  rw [select_not]
  exact select_slt _ _ (by omega) (by omega) _ _

/-- The values kept in the lower half of the rows. -/
theorem lowVals_apply (t : FVec Ideal S128x256 .f32) (d : Fin 128) (k : Fin 256) :
    lowVals t (ix2 d k) = if d.val < 64 then t (ix2 d k) else 0 := by
  pointwise [lowVals]
  exact select_slt _ _ (by omega) (by omega) _ _

/-- The values kept in the upper half of the rows. -/
theorem highVals_apply (t : FVec Ideal S128x256 .f32) (d : Fin 128) (k : Fin 256) :
    highVals t (ix2 d k) = if d.val < 64 then 0 else t (ix2 d k) := by
  pointwise [highVals]
  rw [select_not]
  exact select_slt _ _ (by omega) (by omega) _ _

/-- The keys with their halves exchanged. -/
theorem turnKeys_apply (t : FVec Ideal S256x128 .f32) (k : Fin 256) (d : Fin 128) :
    turnKeys t (ix2 k d) = t (ix2 k ⟨(d.val + 64) % 128, Nat.mod_lt _ (by omega)⟩) := by
  pointwise [turnKeys]
  exact congrArg (fun j => t (ix2 k j)) (Fin.ext (by show (d.val + 128 - 64) % 128 = (d.val + 64) % 128; omega))

/-- The values with their halves exchanged. -/
theorem turnVals_apply (t : FVec Ideal S128x256 .f32) (d : Fin 128) (k : Fin 256) :
    turnVals t (ix2 d k) = t (ix2 ⟨(d.val + 64) % 128, Nat.mod_lt _ (by omega)⟩ k) := by
  pointwise [turnVals]
  exact congrArg (fun j => t (ix2 j k)) (Fin.ext (by show (d.val + 128 - 64) % 128 = (d.val + 64) % 128; omega))

/-- The keys of a head pair. -/
theorem keyPair_apply (kv : FVec Ideal S256x512 .f32) (g : Fin 2) (k : Fin 256) (d : Fin 128) :
    keyPair kv g (ix2 k d) = kv (ix2 k ⟨128 * g.val + d.val, by omega⟩) := by
  match g with
  | 0 => pointwise [keyPair]
  | 1 => pointwise [keyPair]

/-- The values of a head pair. -/
theorem valPair_apply (kv : FVec Ideal S256x512 .f32) (g : Fin 2) (d : Fin 128) (k : Fin 256) :
    valPair kv g (ix2 d k) = kv (ix2 k ⟨256 + 128 * g.val + d.val, by omega⟩) := by
  match g with
  | 0 => pointwise [valPair]
  | 1 => pointwise [valPair]

/-- Lane `e` of half `p`. -/
abbrev lane (p : Fin 2) (e : Fin 64) : Fin 128 := ⟨64 * p.val + e.val, by omega⟩

/-- A head's keys placed in one half: themselves there, zero in the other. -/
theorem placeKeys_apply (kv : FVec Ideal S256x512 .f32) (g src p p' : Fin 2) (k : Fin 256) (e : Fin 64) :
    placeKeys (keyPair kv g) src p (ix2 k (lane p' e)) = if p' = p then kv (ix2 k ⟨64 * (2 * g.val + src.val) + e.val, by omega⟩) else 0 := by
  have hlow : (lane 0 e).val < 64 := by show 64 * 0 + e.val < 64; omega
  have hhigh : ¬ (lane 1 e).val < 64 := by show ¬ 64 * 1 + e.val < 64; omega
  have tlow : ((lane 0 e).val + 64) % 128 = 64 + e.val := by show (64 * 0 + e.val + 64) % 128 = _; omega
  have thigh : ((lane 1 e).val + 64) % 128 = e.val := by show (64 * 1 + e.val + 64) % 128 = _; omega
  fin_cases src <;> fin_cases p <;> fin_cases p' <;>
    simp [placeKeys, lowKeys_apply, highKeys_apply, turnKeys_apply, keyPair_apply, hlow, hhigh, tlow, thigh] <;>
    congr 2 <;> apply Fin.ext <;> simp <;> omega

/-- A head's values placed in one half: themselves there, zero in the other. -/
theorem placeVals_apply (kv : FVec Ideal S256x512 .f32) (g src p p' : Fin 2) (k : Fin 256) (e : Fin 64) :
    placeVals (valPair kv g) src p (ix2 (lane p' e) k) = if p' = p then kv (ix2 k ⟨256 + 64 * (2 * g.val + src.val) + e.val, by omega⟩) else 0 := by
  have hlow : (lane 0 e).val < 64 := by show 64 * 0 + e.val < 64; omega
  have hhigh : ¬ (lane 1 e).val < 64 := by show ¬ 64 * 1 + e.val < 64; omega
  have tlow : ((lane 0 e).val + 64) % 128 = 64 + e.val := by show (64 * 0 + e.val + 64) % 128 = _; omega
  have thigh : ((lane 1 e).val + 64) % 128 = e.val := by show (64 * 1 + e.val + 64) % 128 = _; omega
  fin_cases src <;> fin_cases p <;> fin_cases p' <;>
    simp [placeVals, lowVals_apply, highVals_apply, turnVals_apply, valPair_apply, hlow, hhigh, tlow, thigh] <;>
    congr 2 <;> apply Fin.ext <;> simp <;> omega

/-- The scaled queries. -/
theorem scaled_apply (q : Vec Ideal S128x128 .bf16) (r d : Fin 128) : scaled q (ix2 r d) = q (ix2 r d) * (((1 / 8) * (Real.log 2)⁻¹ : ℝ) : EReal) := by
  pointwise [scaled]
  rw [IdealRules.named_const.ideal_named_scalar _ _ _ _ rfl]

/-- The sink's score in base 2. -/
theorem sink2_eq (s : Ideal .f32) : sink2 s = s * (invLog2 : EReal) := by
  pointwise [sink2]
  rw [IdealRules.named_const.ideal_named_scalar _ _ _ _ rfl]

/-- A band of scores: key by query. -/
theorem band_apply (bias : Ideal .f32) (kz : FVec Ideal S256x128 .bf16) (qs : FVec Ideal S128x128 .bf16) (x r : Fin 128) :
    band bias kz qs (ix2 x r) = if r < x then (∑ d, kz (ix2 ⟨x.val, by omega⟩ d) * qs (ix2 r d)) + bias
      else ∑ d, kz (ix2 ⟨128 + x.val, by omega⟩ d) * qs (ix2 r d) := by
  pointwise [band]
  exact select_sgt _ _ (by omega) (by omega) _ _

/-- One head's output, the values off the band counted as zero. -/
theorem headOut_apply (bias : Ideal .f32) (kz : FVec Ideal S256x128 .bf16) (vz : FVec Ideal S128x256 .bf16) (q : Vec Ideal S128x128 .bf16) (s : Ideal .f32) (d r : Fin 128) :
    headOut bias kz vz q s (ix2 d r)
      = bandOut r (fun x => band bias kz (scaled q) (ix2 x r)) (s * (invLog2 : EReal)) (fun κ => vz (ix2 d κ)) := by
  pointwise [headOut, expo, denom, top, spread]
  rw [sink2_eq, bandOut, ← Finset.sum_add_distrib]
  congr 1
  refine Finset.sum_congr rfl fun x _ => ?_
  rw [select_sgt _ _ (by omega) (by omega), select_sgt _ _ (by omega) (by omega)]
  by_cases h : r < x
  · have h' : r.val < x.val := h
    rw [if_pos h', if_pos h', add_zero, keyOf, if_pos h]
    rfl
  · have h' : ¬ r.val < x.val := h
    rw [if_neg h', if_neg h', zero_add, keyOf, if_neg h]
    rfl

/-- A sum over the lanes whose terms vanish off one half. -/
theorem sum_lanes (p : Fin 2) (f : Fin 128 → EReal) (h : ∀ p' e, p' ≠ p → f (lane p' e) = 0) : ∑ d, f d = ∑ e, f (lane p e) := by
  rw [show ∑ d, f d = ∑ e, f (lane 0 e) + ∑ e, f (lane 1 e) from ?_]
  · match p with
    | 0 => rw [Finset.sum_eq_zero (f := fun e => f (lane 1 e)) fun e _ => h 1 e (by decide), add_zero]
    | 1 => rw [Finset.sum_eq_zero (f := fun e => f (lane 0 e)) fun e _ => h 0 e (by decide), zero_add]
  · refine (Fin.sum_univ_add (a := 64) (b := 64) f).trans ?_
    congr 1

/-- The scores of a head's band: query `r` of head `p` of the slab against the keys of head `2 g + src`. -/
def scoreAt (kv : FVec Ideal S256x512 .f32) (g src p : Fin 2) (q : Vec Ideal S128x128 .bf16) (r : Fin 128) (κ : Fin 256) : EReal :=
  ∑ e : Fin 64, kv (ix2 κ ⟨64 * (2 * g.val + src.val) + e.val, by omega⟩) * (q (ix2 r (lane p e)) * (((1 / 8) * (Real.log 2)⁻¹ : ℝ) : EReal))

/-- The scores with the keys placed in one half. -/
theorem score_eq (kv : FVec Ideal S256x512 .f32) (g src p : Fin 2) (q : Vec Ideal S128x128 .bf16) (r : Fin 128) (κ : Fin 256) :
    ∑ d, placeKeys (keyPair kv g) src p (ix2 κ d) * scaled q (ix2 r d) = scoreAt kv g src p q r κ := by
  rw [sum_lanes p _ fun p' e h => by rw [placeKeys_apply, if_neg h, zero_mul]]
  exact Finset.sum_congr rfl fun e _ => by rw [placeKeys_apply, if_pos rfl, scaled_apply]

/-- One slab's output at a query and a lane: that head's banded softmax. -/
theorem slabOut_apply (bias : Ideal .f32) (kv : FVec Ideal S256x512 .f32) (g src : Fin 2) (q : Vec Ideal S128x128 .bf16) (s : Fin 2 → Ideal .f32) (r : Fin 128) (p : Fin 2) (e : Fin 64) :
    slabOut bias kv g src q (s 0) (s 1) (ix2 r (lane p e))
      = bandOut r (fun x => if r < x then scoreAt kv g src p q r ⟨x.val, by omega⟩ + bias else scoreAt kv g src p q r ⟨128 + x.val, by omega⟩)
          (s p * (invLog2 : EReal)) (fun κ => kv (ix2 κ ⟨256 + 64 * (2 * g.val + src.val) + e.val, by omega⟩)) := by
  have hzero (b : Fin 128 → EReal) (t : EReal) : bandOut r b t (fun _ => 0) = 0 := by
    rw [bandOut, Finset.sum_eq_zero fun x _ => zero_mul _, zero_mul]
  pointwise [slabOut]
  simp only [headOut_apply, band_apply, score_eq, placeVals_apply]
  fin_cases p
  · simp [hzero]
  · simp [hzero]

end Cert.KernelIdeal.Attn

end
-- ==== Proof.Attn.BlockAt.lean ====
/- What the body leaves in a block of the output, read at an index, at the ideal values. -/
module

public import proofs.«01_k».proof.Proof.Attn.HeadAt
public import Idealize.ShloMosaic.Lib.Pipeline.Value

@[expose] public section

set_option maxRecDepth 16384

noncomputable section

namespace Cert.KernelIdeal.Attn

open Cert.KernelIdeal Cert.KernelIdeal.Gen Idealize.ShloMosaic Idealize.ShloMosaic.TcCoe Idealize.SL.Sem Cert.Attn

/-- The word the previous block's bias is selected by … -/
def innerWord (n : ℕ) : BitVec 1 :=
  let v1 : BitVec 32 := Scalar.select (Scalar.cmpi .eq 64#32 0#32) 1#32 64#32
  let v2 : BitVec 32 := Scalar.remsi (BitVec.ofNat 32 n) v1
  Scalar.cmpi .sgt (Scalar.select (Scalar.andi (Scalar.xori (Scalar.cmpi .slt v2 0#32) (Scalar.cmpi .slt v1 0#32)) (Scalar.cmpi .ne v2 0#32)) (Scalar.addi v2 v1) v2) 0#32

/-- … set unless the block is the first of its sequence. -/
theorem innerWord_eq : ∀ n : Fin 128, innerWord n.val = if 0 < n.val % 64 then 1#1 else 0#1 := by decide +kernel

/-- The bias on the previous block's scores: `⊥` in a sequence's first block. -/
theorem bias_eq (i : grid0.Coords) : k0_pay4 (F := Ideal) i = if 0 < (i 0).val % 64 then (0 : EReal) else ⊥ := by
  have hm : Named.named (F := Ideal) (φ := .f32) κ "mask" 0xF149F2CA#32 = (⊥ : EReal) := IdealRules.named_const.ideal_named_scalar _ _ _ _ rfl
  refine (show k0_pay4 (F := Ideal) i = Scalar.select (innerWord (i 0).val) (Scalar.ofBits .f32 0x00000000#32) (Named.named κ "mask" 0xF149F2CA#32) from rfl).trans ?_
  rw [innerWord_eq (i 0), hm]
  split_ifs
  · exact Ideal.ofBits_zero .f32
  · rfl

/-- The two blocks' keys and values, as rows of one table. -/
def kvOf (x1 x2 : Vec Ideal S128x512 .bf16) (κ : Fin 256) (j : Fin 512) : EReal :=
  if h : κ.val < 128 then x2 (ix2 ⟨κ.val, h⟩ j) else x1 (ix2 ⟨κ.val - 128, by omega⟩ j)

section
variable (c : Dev nD) (i : grid0.Coords) (arg2 : Memref sig .tc .vmem S128x2048 .bf16) (harg2 : arg2.IsWhole) (arg3 : Memref sig .tc .vmem S128x512 .bf16) (harg3 : arg3.IsWhole) (arg4 : Memref sig .tc .vmem S128x512 .bf16) (harg4 : arg4.IsWhole) (arg5 : Memref sig .tc .smem S4x32 .f32) (harg5 : arg5.IsWhole) (arg6 : Memref sig .tc .vmem S128x2048 .bf16) (harg6 : arg6.IsWhole)
    (x0 : Vec Ideal S128x2048 .bf16) (x1 : Vec Ideal S128x512 .bf16) (x2 : Vec Ideal S128x512 .bf16) (x3 : Vec Ideal S4x32 .f32) (xt : TbBuf (F := Ideal) c tbM) (hw : LayerOk c xt)

/-- The keys and values the body reads. -/
theorem kvRead_apply (κ : Fin 256) (j : Fin 512) : kvRead arg3 harg3 arg4 harg4 x1 x2 (ix2 κ j) = kvOf x1 x2 κ j := by
  unfold kvRead
  simp only [View.readAt_eq_ld, harg3.read_unread, harg4.read_unread]
  pointwise [k0_pay2]
  rfl

/-- The sink the body reads. -/
theorem sinkRead_apply (h : Fin 32) : sinkRead c arg5 harg5 x3 xt hw h = x3 (ix2 ⟨(layerWord c xt).toNat, by have := hw.1 0; exact this⟩ h) := by
  unfold sinkRead
  simp only [View.readAt_eq_ld, harg5.read_unread]
  pointwise
  rfl

/-- The slab of queries the body reads. -/
theorem slabRead_apply (s : Fin 16) (r d : Fin 128) :
    arg2.view.readAt (Elt Ideal) (Rect.unit (s := S128x2048) ![0, 128 * s.val] S128x128.size (slab_inb s)).toLoadRect (harg2.unread x0) (ix2 r d)
      = x0 (ix2 r ⟨128 * s.val + d.val, by omega⟩) := by
  simp only [View.readAt_eq_ld, harg2.read_unread]
  pointwise

/-- The score of query row `r` of head `h` against key row `κ` of the two blocks. -/
def scoreOf (kv : Fin 256 → Fin 512 → EReal) (x0 : S128x2048.Idx → EReal) (h : Fin 32) (r : Fin 128) (κ : Fin 256) : EReal :=
  ∑ e : Fin 64, kv κ ⟨64 * (h.val / 8) + e.val, by omega⟩ * (x0 (ix2 r ⟨64 * h.val + e.val, by omega⟩) * (((1 / 8) * (Real.log 2)⁻¹ : ℝ) : EReal))

/-- Head `h`'s output at query row `r` and lane `e`. -/
def headAt (bias : EReal) (kv : Fin 256 → Fin 512 → EReal) (x0 : S128x2048.Idx → EReal) (σ : Fin 32 → EReal) (r : Fin 128) (h : Fin 32) (e : Fin 64) : EReal :=
  bandOut r (fun x => if r < x then scoreOf kv x0 h r ⟨x.val, by omega⟩ + bias else scoreOf kv x0 h r ⟨128 + x.val, by omega⟩)
    (σ h * (invLog2 : EReal)) (fun κ => kv κ ⟨256 + 64 * (h.val / 8) + e.val, by omega⟩)

/-- The sinks of the layer's row. -/
abbrev sinkOf (h : Fin 32) : EReal := x3 (ix2 ⟨(layerWord c xt).toNat, by have := hw.1 0; exact this⟩ h)

/-- A block of the output as one function of its index. -/
def blockAt (y : S128x2048.Idx) : EReal :=
  headAt (k0_pay4 (F := Ideal) i) (kvOf x1 x2) x0 (sinkOf c x3 xt hw) (y 0) ⟨(y 1).val / 64, by have : (y 1).val < 2048 := (y 1).isLt; omega⟩ ⟨(y 1).val % 64, Nat.mod_lt _ (by omega)⟩

/-- A slab's store writes that function. -/
theorem store_value (s : Fin 16) (g src : Fin 2) (h0 h1 : Fin 32) (hg : 2 * g.val + src.val = s.val / 4) (hh0 : h0.val = 2 * s.val) (hh1 : h1.val = 2 * s.val + 1)
    (z : S128x128.Idx) :
    (store c i arg2 harg2 arg3 harg3 arg4 harg4 arg5 harg5 x0 x1 x2 x3 xt hw s g src h0 h1).2 z
      = blockAt c i x0 x1 x2 x3 xt hw ((store c i arg2 harg2 arg3 harg3 arg4 harg4 arg5 harg5 x0 x1 x2 x3 xt hw s g src h0 h1).1.emb z) := by
  obtain ⟨r, d, rfl⟩ : ∃ r d : Fin 128, z = ix2 r d := ⟨z 0, z 1, eq_ix2 z⟩
  obtain ⟨p, e, rfl⟩ : ∃ (p : Fin 2) (e : Fin 64), d = lane p e :=
    ⟨⟨d.val / 64, by omega⟩, ⟨d.val % 64, by omega⟩, Fin.ext (by show d.val = 64 * (d.val / 64) + d.val % 64; omega)⟩
  have hemb : (Rect.unit (s := S128x2048) ![0, 128 * s.val] S128x128.size (slab_inb s)).emb (ix2 r (lane p e)) = ix2 r ⟨128 * s.val + (64 * p.val + e.val), by omega⟩ := by
    funext a
    match a with
    | ⟨0, _⟩ => exact Fin.ext (by show 0 + 1 * r.val = r.val; omega)
    | ⟨1, _⟩ => exact Fin.ext (by show 128 * s.val + 1 * (64 * p.val + e.val) = 128 * s.val + (64 * p.val + e.val); omega)
  show slabOut _ _ g src _ (![sinkRead c arg5 harg5 x3 xt hw h0, sinkRead c arg5 harg5 x3 xt hw h1] 0) (![sinkRead c arg5 harg5 x3 xt hw h0, sinkRead c arg5 harg5 x3 xt hw h1] 1) _
    = blockAt c i x0 x1 x2 x3 xt hw ((Rect.unit (s := S128x2048) ![0, 128 * s.val] S128x128.size (slab_inb s)).emb (ix2 r (lane p e)))
  rw [slabOut_apply, hemb]
  have hcol : (128 * s.val + (64 * p.val + e.val)) / 64 = 2 * s.val + p.val := by omega
  have hmod : (128 * s.val + (64 * p.val + e.val)) % 64 = e.val := by omega
  have hdiv : (2 * s.val + p.val) / 8 = s.val / 4 := by omega
  have hscore (κ : Fin 256) : scoreAt (kvRead arg3 harg3 arg4 harg4 x1 x2) g src p (arg2.view.readAt (Elt Ideal) (Rect.unit (s := S128x2048) ![0, 128 * s.val] S128x128.size (slab_inb s)).toLoadRect (harg2.unread x0)) r κ
      = scoreOf (kvOf x1 x2) x0 ⟨2 * s.val + p.val, by omega⟩ r κ := by
    refine Finset.sum_congr rfl fun e _ => ?_
    rw [kvRead_apply, slabRead_apply]
    exact congrArg₂ (fun a b => kvOf x1 x2 κ a * (x0 (ix2 r b) * (((1 / 8) * (Real.log 2)⁻¹ : ℝ) : EReal)))
      (Fin.ext (by show 64 * (2 * g.val + src.val) + e.val = 64 * ((2 * s.val + p.val) / 8) + e.val; omega))
      (Fin.ext (by show 128 * s.val + (64 * p.val + e.val) = 64 * (2 * s.val + p.val) + e.val; omega))
  have hsink : ∀ p : Fin 2, (![sinkRead c arg5 harg5 x3 xt hw h0, sinkRead c arg5 harg5 x3 xt hw h1] p : EReal) = sinkOf c x3 xt hw ⟨2 * s.val + p.val, by omega⟩ := fun p => by
    match p with
    | 0 => exact (sinkRead_apply c arg5 harg5 x3 xt hw h0).trans (congrArg (sinkOf c x3 xt hw) (Fin.ext hh0))
    | 1 => exact (sinkRead_apply c arg5 harg5 x3 xt hw h1).trans (congrArg (sinkOf c x3 xt hw) (Fin.ext hh1))
  have hhead : (⟨(128 * s.val + (64 * p.val + e.val)) / 64, by omega⟩ : Fin 32) = ⟨2 * s.val + p.val, by omega⟩ := Fin.ext hcol
  have hlane : (⟨(128 * s.val + (64 * p.val + e.val)) % 64, by omega⟩ : Fin 64) = e := Fin.ext hmod
  show _ = headAt (k0_pay4 (F := Ideal) i) (kvOf x1 x2) x0 (sinkOf c x3 xt hw) r ⟨(128 * s.val + (64 * p.val + e.val)) / 64, _⟩ ⟨(128 * s.val + (64 * p.val + e.val)) % 64, _⟩
  rw [hhead, hlane]
  unfold headAt
  simp only [hscore, hsink, kvRead_apply]
  refine congrArg (bandOut r _ _) (funext fun κ => congrArg (kvOf x1 x2 κ) (Fin.ext ?_))
  show 256 + 64 * (2 * g.val + src.val) + e.val = 256 + 64 * ((2 * s.val + p.val) / 8) + e.val
  omega

set_option maxHeartbeats 1000000 in
/-- What the body leaves in the output's block. -/
theorem outBlk_apply (y : S128x2048.Idx) :
    outBlk c i arg2 harg2 arg3 harg3 arg4 harg4 arg5 harg5 arg6 harg6 x0 x1 x2 x3 xt hw y = blockAt c i x0 x1 x2 x3 xt hw y := by
  unfold outBlk
  rw [View.read_writes_eq_canon _ _ _ (cover c i arg2 harg2 arg3 harg3 arg4 harg4 arg5 harg5 arg6 harg6 x0 x1 x2 x3 xt hw)]
  refine View.canon_apply_of_pieces (blockAt c i x0 x1 x2 x3 xt hw) _ ?_ y (cover c i arg2 harg2 arg3 harg3 arg4 harg4 arg5 harg5 arg6 harg6 x0 x1 x2 x3 xt hw y)
  rw [stores_eq]
  simp only [List.mem_cons, List.not_mem_nil, or_false, forall_eq_or_imp, forall_eq]
  refine ⟨?_, ?_, ?_, ?_, ?_, ?_, ?_, ?_, ?_, ?_, ?_, ?_, ?_, ?_, ?_, ?_⟩ <;> exact store_value _ _ _ _ _ _ _ _ _ _ _ _ _ _ _ _ _ _ _ _ _ rfl rfl rfl

end

end Cert.KernelIdeal.Attn

end
-- ==== Proof.Attn.ArrayAt.lean ====
/- The attention's result array, read at an index: which block an element lies in, and what the windows' blocks hold. -/
module

public import proofs.«01_k».proof.Proof.Attn.BlockAt
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.SL.Sem Cert.Attn
open Idealize.ShloMosaic.Pipeline (Dat)

section
variable {F : FTy → Type} [FloatOps F] [Named F]
variable (m : (ℓ : Loc nD τ sig) → Buf (Elt F) ℓ)

/-- The index maps in closed form. -/
theorem ix_closed : ∀ t : Fin grid0.N, (grid0.coords t 0).val = t.val ∧ cc0_transform_0 (grid0.coords t) = ![t.val, 0] ∧ cc0_transform_1 (grid0.coords t) = ![t.val, 4]
    ∧ cc0_transform_2 (grid0.coords t) = ![t.val - 1, 4] ∧ cc0_transform_3 (grid0.coords t) = ![0, 0] ∧ cc0_transform_4 (grid0.coords t) = ![t.val, 0] := by decide +kernel

/-- There are 128 grid points. -/
theorem point_lt (t : Fin (cfgM m).N) : t.val < 128 := lt_of_lt_of_eq t.isLt (by decide : grid0.N = 128)

/-- Distinct points write distinct blocks. -/
theorem disjoint4 : ∀ t t' : Fin (cfgM m).N, ((cfgM m).win 4).flush t = true → ((cfgM m).win 4).flush t' = true → t ≠ t' →
    Disjoint (((cfgM m).win 4).blk t).view.set (((cfgM m).win 4).blk t').view.set :=
  fun t t' _ _ hne => ((cfgM m).win 4).disjoint_blk fun h => hne (Fin.ext (by
    have e : cc0_transform_4 (grid0.coords t) = cc0_transform_4 (grid0.coords t') := h
    rw [(ix_closed t).2.2.2.2.2, (ix_closed t').2.2.2.2.2] at e
    exact congrFun e 0))

/-- Every point writes its block back. -/
theorem flush4 (t : Fin (cfgM m).N) : ((cfgM m).win 4).flush t = true :=
  (by decide +kernel : ∀ t : Fin grid0.N, Pipeline.Window.flushOf grid0 true cc0_transform_4 t = true) t

/-- What point `t` writes back. -/
theorem flushed4 (hL : ∀ c, LayerOk c (tbl m 0)) (c : Dev nD) (t : Fin (cfgM m).N) (y) :
    (dats m hL 0 c).flushed 4 t y = outsAt m hL c t y := by
  show ((cfgM m).win 4).cut ((cfgM m).grid.coords t) ((dats m hL 0 c).after 4 t) y = _
  rw [after4]
  rfl

/-- Row `r` of point `t`'s block, in the array. -/
abbrev rowOf (t : Fin (cfgM m).N) (r : Fin 128) : Fin 16384 := ⟨128 * t.val + r.val, by have := point_lt m t; omega⟩
/-- Row `r` of the block before point `t`'s (the first's own, at the first). -/
abbrev rowBefore (t : Fin (cfgM m).N) (r : Fin 128) : Fin 16384 := ⟨128 * (t.val - 1) + r.val, by have := point_lt m t; omega⟩

/-- An element of the result is its block's. -/
theorem arr_apply (hL : ∀ c, LayerOk c (tbl m 0)) (c : Dev nD) (t : Fin (cfgM m).N) (r : Fin 128) (j : Fin 2048) :
    (dats m hL 0 c).arrAt 4 (cfgM m).N (ix2 (rowOf m t r) j) = outsAt m hL c t (ix2 r j) := by
  have hidx : (((cfgM m).win 4).blk t).view.emb (ix2 r j) = (ix2 (rowOf m t r) j : S16384x2048.Idx) := by
    have h := (ix_closed t).2.2.2.2.2
    funext a
    match a with
    | ⟨0, _⟩ => exact Fin.ext ((Pipeline.Window.rect_emb_val ((cfgM m).win 4) t (ix2 r j) (0 : Fin 2)).trans (by
        show cc0_transform_4 (grid0.coords t) 0 * 128 + r.val = 128 * t.val + r.val
        rw [h]; show t.val * 128 + r.val = _; omega))
    | ⟨1, _⟩ => exact Fin.ext ((Pipeline.Window.rect_emb_val ((cfgM m).win 4) t (ix2 r j) (1 : Fin 2)).trans (by
        show cc0_transform_4 (grid0.coords t) 1 * 2048 + j.val = j.val
        rw [h]; show 0 * 2048 + j.val = _; omega))
  have h := (dats m hL 0 c).arrAt_emb_eq_flushed 4 (disjoint4 m) t (flush4 m t) (ix2 r j)
  refine (congrArg ((dats m hL 0 c).arrAt 4 (cfgM m).N) hidx.symm).trans (h.trans ?_)
  exact flushed4 m hL c t _

/-- The queries' block. -/
theorem X0_apply (c : Dev nD) (t : Fin (cfgM m).N) (r : Fin 128) (j : Fin 2048) :
    X0 m c t (ix2 r j) = V m c main_v6 (ix2 (rowOf m t r) (⟨j.val, by omega⟩ : Fin 2560)) := by
  have h := (ix_closed t).2.1
  refine (dif_pos (moved0 m t (ix2 r j))).trans ?_
  refine congrArg (V m c main_v6) (funext fun a => ?_)
  match a with
  | ⟨0, _⟩ => exact Fin.ext ((Pipeline.Window.rect_emb_val ((cfgM m).win 0) t _ (0 : Fin 2)).trans (by
      show cc0_transform_0 (grid0.coords t) 0 * 128 + r.val = 128 * t.val + r.val
      rw [h]; show t.val * 128 + r.val = _; omega))
  | ⟨1, _⟩ => exact Fin.ext ((Pipeline.Window.rect_emb_val ((cfgM m).win 0) t _ (1 : Fin 2)).trans (by
      show cc0_transform_0 (grid0.coords t) 1 * 2048 + j.val = j.val
      rw [h]; show 0 * 2048 + j.val = _; omega))

/-- The own keys' and values' block. -/
theorem own_apply (c : Dev nD) (t : Fin (cfgM m).N) (r : Fin 128) (j : Fin 512) :
    iblk m c 1 t (ix2 r j) = V m c main_v6 (ix2 (rowOf m t r) (⟨2048 + j.val, by omega⟩ : Fin 2560)) := by
  have h := (ix_closed t).2.2.1
  refine congrArg (V m c main_v6) (funext fun a => ?_)
  match a with
  | ⟨0, _⟩ => exact Fin.ext ((Pipeline.Window.rect_emb_val ((cfgM m).win 1) t (ix2 r j) (0 : Fin 2)).trans (by
      show cc0_transform_1 (grid0.coords t) 0 * 128 + r.val = 128 * t.val + r.val
      rw [h]; show t.val * 128 + r.val = _; omega))
  | ⟨1, _⟩ => exact Fin.ext ((Pipeline.Window.rect_emb_val ((cfgM m).win 1) t (ix2 r j) (1 : Fin 2)).trans (by
      show cc0_transform_1 (grid0.coords t) 1 * 512 + j.val = 2048 + j.val
      rw [h]; show 4 * 512 + j.val = _; omega))

/-- The previous keys' and values' block. -/
theorem prev_apply (c : Dev nD) (t : Fin (cfgM m).N) (r : Fin 128) (j : Fin 512) :
    iblk m c 2 t (ix2 r j) = V m c main_v6 (ix2 (rowBefore m t r) (⟨2048 + j.val, by omega⟩ : Fin 2560)) := by
  have h := (ix_closed t).2.2.2.1
  refine congrArg (V m c main_v6) (funext fun a => ?_)
  match a with
  | ⟨0, _⟩ => exact Fin.ext ((Pipeline.Window.rect_emb_val ((cfgM m).win 2) t (ix2 r j) (0 : Fin 2)).trans (by
      show cc0_transform_2 (grid0.coords t) 0 * 128 + r.val = 128 * (t.val - 1) + r.val
      rw [h]; show (t.val - 1) * 128 + r.val = _; omega))
  | ⟨1, _⟩ => exact Fin.ext ((Pipeline.Window.rect_emb_val ((cfgM m).win 2) t (ix2 r j) (1 : Fin 2)).trans (by
      show cc0_transform_2 (grid0.coords t) 1 * 512 + j.val = 2048 + j.val
      rw [h]; show 4 * 512 + j.val = _; omega))

/-- The sinks' block is the sinks. -/
theorem sinks_apply (c : Dev nD) (t : Fin (cfgM m).N) (l : Fin 4) (h : Fin 32) :
    iblk m c 3 t (ix2 l h) = m ((c : Thread nD τ).loc main_arg3) (ix2 l h) := by
  have hx := (ix_closed t).2.2.2.2.1
  refine Eq.trans ?_ (congrFun (V_main_arg3 m c) (ix2 l h))
  refine congrArg (V m c main_arg3) (funext fun a => ?_)
  match a with
  | ⟨0, _⟩ => exact Fin.ext ((Pipeline.Window.rect_emb_val ((cfgM m).win 3) t (ix2 l h) (0 : Fin 2)).trans (by
      show cc0_transform_3 (grid0.coords t) 0 * 4 + l.val = l.val
      rw [hx]; show 0 * 4 + l.val = _; omega))
  | ⟨1, _⟩ => exact Fin.ext ((Pipeline.Window.rect_emb_val ((cfgM m).win 3) t (ix2 l h) (1 : Fin 2)).trans (by
      show cc0_transform_3 (grid0.coords t) 1 * 32 + h.val = h.val
      rw [hx]; show 0 * 32 + h.val = _; omega))

/-- A concatenation of equal pieces. -/
theorem cat_congr {a a' : FVec F S16384x2048 .bf16} {b b' d d' : FVec F S16384x256 .bf16} (ha : a = a') (hb : b = b') (hd : d = d') :
    (concatenate S16384x2560 1 [⟨S16384x2048, a⟩, ⟨S16384x256, b⟩, ⟨S16384x256, d⟩] concatenates_S16384x2048_S16384x256_S16384x256_S16384x2560_d1 : FVec F S16384x2560 .bf16)
      = concatenate S16384x2560 1 [⟨S16384x2048, a'⟩, ⟨S16384x256, b'⟩, ⟨S16384x256, d'⟩] concatenates_S16384x2048_S16384x256_S16384x256_S16384x2560_d1 := by
  subst ha; subst hb; subst hd; rfl
/-- The array the windows read: the queries, the keys and the values, side by side. -/
theorem entry_eq (c : Dev nD) : V m c main_v6 = (concatenate S16384x2560 1 [⟨S16384x2048, (truncf .bf16 (shapeCast S16384x2048 (m ((c : Thread nD τ).loc main_arg0)) shapeCasts_S2x8192x32x64_S16384x2048) bitsLt_bf16_f32 : FVec F S16384x2048 .bf16)⟩,
   ⟨S16384x256, truncf .bf16 (shapeCast S16384x256 (m ((c : Thread nD τ).loc main_arg1)) shapeCasts_S2x8192x4x64_S16384x256) bitsLt_bf16_f32⟩, ⟨S16384x256, truncf .bf16 (shapeCast S16384x256 (m ((c : Thread nD τ).loc main_arg2)) shapeCasts_S2x8192x4x64_S16384x256) bitsLt_bf16_f32⟩] concatenates_S16384x2048_S16384x256_S16384x256_S16384x2560_d1 : FVec F S16384x2560 .bf16) := by
  unfold V hostOps0
  after_results
  dsimp only [Matrix.cons_val]
  refine cat_congr ?_ ?_ ?_ <;> after_results_simp <;> rfl

end

section
variable (m : (ℓ : Loc nD τ sig) → Buf (Elt Ideal) ℓ)

/-- A row of the joined array: sequence `b`, position `s`. -/
abbrev seqRow (b : Fin 2) (s : Fin 8192) : Fin 16384 := ⟨8192 * b.val + s.val, by omega⟩

/-- The joined array, read at an index: a query, a key or a value, by the column. -/
theorem joined_apply (q : FVec Ideal S2x8192x32x64 .f32) (k v : FVec Ideal S2x8192x4x64 .f32) (i : Fin 16384) (j : Fin 2560) :
  concatenate S16384x2560 1 [⟨S16384x2048, truncf .bf16 (shapeCast S16384x2048 q shapeCasts_S2x8192x32x64_S16384x2048) bitsLt_bf16_f32⟩, ⟨S16384x256, truncf .bf16 (shapeCast S16384x256 k shapeCasts_S2x8192x4x64_S16384x256) bitsLt_bf16_f32⟩, ⟨S16384x256, truncf .bf16 (shapeCast S16384x256 v shapeCasts_S2x8192x4x64_S16384x256) bitsLt_bf16_f32⟩] concatenates_S16384x2048_S16384x256_S16384x256_S16384x2560_d1 (ix2 i j)
    = (if h : j.val < 2048 then q (ix4 (⟨i.val / 8192, by omega⟩ : Fin 2) (⟨i.val % 8192, by omega⟩ : Fin 8192) (⟨j.val / 64, by omega⟩ : Fin 32) (⟨j.val % 64, by omega⟩ : Fin 64))
      else if h : j.val - 2048 < 256 then k (ix4 (⟨i.val / 8192, by omega⟩ : Fin 2) (⟨i.val % 8192, by omega⟩ : Fin 8192) (⟨(j.val - 2048) / 64, by omega⟩ : Fin 4) (⟨(j.val - 2048) % 64, by omega⟩ : Fin 64))
      else v (ix4 (⟨i.val / 8192, by omega⟩ : Fin 2) (⟨i.val % 8192, by omega⟩ : Fin 8192) (⟨(j.val - 2048 - 256) / 64, by omega⟩ : Fin 4) (⟨(j.val - 2048 - 256) % 64, by omega⟩ : Fin 64))) := by
  pointwise

/-- The joined array's queries: sequence `b`, position `s`, head `h`, lane `e`. -/
theorem entry_q (c : Dev nD) (b : Fin 2) (s : Fin 8192) (h : Fin 32) (e : Fin 64) :
    V m c main_v6 (ix2 (seqRow b s) (⟨64 * h.val + e.val, by omega⟩ : Fin 2560)) = m ((c : Thread nD τ).loc main_arg0) (ix4 b s h e) := by
  rw [entry_eq, joined_apply, dif_pos (show 64 * h.val + e.val < 2048 by omega)]
  refine congrArg (m ((c : Thread nD τ).loc main_arg0)) ?_
  congr 1 <;> refine Fin.ext ?_ <;> dsimp only <;> omega

/-- The joined array's keys: key head `g`. -/
theorem entry_k (c : Dev nD) (b : Fin 2) (s : Fin 8192) (g : Fin 4) (e : Fin 64) :
    V m c main_v6 (ix2 (seqRow b s) (⟨2048 + (64 * g.val + e.val), by omega⟩ : Fin 2560)) = m ((c : Thread nD τ).loc main_arg1) (ix4 b s g e) := by
  rw [entry_eq, joined_apply, dif_neg (show ¬ 2048 + (64 * g.val + e.val) < 2048 by omega), dif_pos (show 2048 + (64 * g.val + e.val) - 2048 < 256 by omega)]
  refine congrArg (m ((c : Thread nD τ).loc main_arg1)) ?_
  congr 1 <;> refine Fin.ext ?_ <;> dsimp only <;> omega

/-- The joined array's values. -/
theorem entry_v (c : Dev nD) (b : Fin 2) (s : Fin 8192) (g : Fin 4) (e : Fin 64) :
    V m c main_v6 (ix2 (seqRow b s) (⟨2048 + (256 + 64 * g.val + e.val), by omega⟩ : Fin 2560)) = m ((c : Thread nD τ).loc main_arg2) (ix4 b s g e) := by
  rw [entry_eq, joined_apply, dif_neg (show ¬ 2048 + (256 + 64 * g.val + e.val) < 2048 by omega), dif_neg (show ¬ 2048 + (256 + 64 * g.val + e.val) - 2048 < 256 by omega)]
  refine congrArg (m ((c : Thread nD τ).loc main_arg2)) ?_
  congr 1 <;> refine Fin.ext ?_ <;> dsimp only <;> omega

end

end Cert.KernelIdeal.Attn

end
-- ==== Proof.Attn.Finite.lean ====
/- What the second precondition says: the layer word is below 4, the queries and the keys are real numbers, no sink is `⊤`. -/
module

public import proofs.«01_k».proof.Proof.Attn.Layer
public import Idealize.ShloMosaic.Lib.ReduceAll
public import Idealize.ShloMosaic.Lib.Pointwise

@[expose] public section

set_option maxRecDepth 16384

noncomputable section

namespace Cert.Pre_finite_scores.Attn

open Idealize.ShloMosaic Idealize.SL.Sem

/-- The side conditions of the precondition's operations. -/
instance facts : Cert.Pre_finite_scores.Facts where
  bcast_S_S2x8192x32x64 := by decide
  reducesTo_S2x8192x32x64_S_d0_1_2_3 := by decide
  h_S_ := by decide
  bcast_S_S2x8192x4x64 := by decide
  reducesTo_S2x8192x4x64_S_d0_1_2_3 := by decide
  bcast_S_S4x32 := by decide
  reducesTo_S4x32_S_d0_1 := by decide
  shapeCasts_S1_S_ := by decide

end Cert.Pre_finite_scores.Attn

namespace Cert.Attn

open Idealize.ShloMosaic Idealize.SL.Sem

/-- Both bits of a conjunction that is 1 are 1. -/
theorem and_one : ∀ {a b : BitVec 1}, IntOp.andi a b = 1#1 → a = 1#1 ∧ b = 1#1 := by decide

/-- The word of positive infinity. -/
theorem inf_eq : Ideal.ofBits .f32 0x7F800000#32 = ⊤ := rfl

/-- A comparison below infinity that holds. -/
theorem lt_top_of_cmp {x : EReal} (h : FloatOps.cmpf (F := Ideal) (φ := .f32) .olt x (Ideal.ofBits .f32 0x7F800000#32) = 1#1) : x < ⊤ := by
  rw [inf_eq] at h
  by_contra hx
  revert h
  show ¬ (BitVec.ofBool (decide (x < ⊤)) = 1#1)
  simp [hx]

/-- A value whose absolute value is below infinity is a real number. -/
theorem real_of_abs {x : EReal} (h : FloatOps.hostAbsf (F := Ideal) (φ := .f32) x < (⊤ : EReal)) : ∃ a : ℝ, x = (a : EReal) := by
  induction x with
  | bot => exact absurd h (by decide)
  | top => exact absurd h (by decide)
  | coe a => exact ⟨a, rfl⟩

open Cert.Pre_finite_scores in
/-- The precondition's four facts. -/
theorem facts_of_pre (q : FVec Ideal S2x8192x32x64 .f32) (k v : FVec Ideal S2x8192x4x64 .f32) (σ : FVec Ideal S4x32 .f32) (l : IVec S1 32)
    (h : Cert.Pre_finite_scores.fn (F := Ideal) q k v σ l = fun _ => 1#1) :
    (∀ i, (l i).toNat < 4) ∧ (∀ i, ∃ a : ℝ, q i = (a : EReal)) ∧ (∀ i, ∃ a : ℝ, k i = (a : EReal)) ∧ (∀ i, σ i < (⊤ : EReal)) := by
  have e := congrFun h (fun a => a.elim0)
  simp only [fn, fn_part1] at e
  obtain ⟨e, hσ⟩ := and_one e
  obtain ⟨e, hk⟩ := and_one e
  obtain ⟨hl, hq⟩ := and_one e
  haveI : Subsingleton S_.Idx := ⟨fun a b => funext fun x => x.elim0⟩
  refine ⟨fun i => ?_, fun i => ?_, fun i => ?_, fun i => ?_⟩
  · have e' := word_lt hl
    have : i = Shape.reshapeEquiv (Facts.shapeCasts_S1_S_) (fun a => a.elim0) := by
      funext a
      match a with
      | ⟨0, _⟩ => exact Subsingleton.elim (α := Fin 1) _ _
    rw [this]
    exact e'
  · exact real_of_abs (lt_top_of_cmp (Host.reduce_andi_all _ _ _ _ _ hq i))
  · exact real_of_abs (lt_top_of_cmp (Host.reduce_andi_all _ _ _ _ _ hk i))
  · exact lt_top_of_cmp (Host.reduce_andi_all _ _ _ _ _ hσ i)

end Cert.Attn

namespace Cert.KernelIdeal.Attn

open Cert.KernelIdeal Cert.KernelIdeal.Gen Idealize.ShloMosaic Idealize.ShloMosaic.TcCoe Idealize.SL.Sem

/-- The layer word the body reads, below 4 by the second precondition. -/
theorem layer_ok_finite {m : (ℓ : Loc nD τ sig) → Buf (Elt Ideal) ℓ} (h : Cert.Pre_KernelIdeal_finite_scores m) (c : Dev nD) : LayerOk (F := Ideal) c (tbl m 0) := by
  refine chk_of_lt ?_
  obtain rfl : c = 0 := Subsingleton.elim _ _
  exact (Cert.Attn.facts_of_pre _ _ _ _ _ (h 0)).1 _

end Cert.KernelIdeal.Attn

end
-- ==== Proof.Attn.Window.lean ====
module
public import proofs.«01_k».proof.Proof.Attn.Softmax
public import Idealize.ShloMosaic.Lib.Pointwise
@[expose] public section
/-! The sliding window attention, entry by entry. -/
noncomputable section
namespace Cert.Attn
open Idealize.ShloMosaic

/-- Queries: two sequences, 32 heads. -/
abbrev QShape : Shape := ⟨4, ![2, 8192, 32, 64]⟩
/-- Keys or values: two sequences, 4 heads. -/
abbrev KShape : Shape := ⟨4, ![2, 8192, 4, 64]⟩
/-- The sinks: four layers, 32 heads. -/
abbrev SinkShape : Shape := ⟨2, ![4, 32]⟩

/-- Row `κ` of the 256 rows that block `n` of sequence `b` sees: the previous block's rows, zero in front of a sequence's
first, then its own. -/
def padAt (t : KShape.Idx → EReal) (b : Fin 2) (n : Fin 64) (κ : Fin 256) (h : Fin 4) (e : Fin 64) : EReal :=
  if hκ : κ.val < 128 then (if 1 ≤ n.val then t (ix4 b (⟨(n.val - 1) * 128 + κ.val, by omega⟩ : Fin 8192) h e) else 0)
  else t (ix4 b (⟨n.val * 128 + (κ.val - 128), by omega⟩ : Fin 8192) h e)

/-- Whether query `r` of block `n` sees row `κ`: at most 127 positions back, and not in front of the sequence. -/
abbrev Seen (n : Fin 64) (r : Fin 128) (κ : Fin 256) : Prop :=
  (r.val < κ.val ∧ κ.val ≤ r.val + 128) ∧ (0 < n.val ∨ 128 ≤ κ.val)

/-- The scaled score of query `r` against row `κ`, `⊥` where it does not see it. -/
def scoreAt (q : QShape.Idx → EReal) (k : KShape.Idx → EReal) (b : Fin 2) (n : Fin 64) (h : Fin 4) (g : Fin 8) (r : Fin 128)
    (κ : Fin 256) : EReal :=
  if Seen n r κ then
    (∑ e : Fin 64, padAt k b n κ h e * q (ix4 b (⟨n.val * 128 + r.val, by omega⟩ : Fin 8192) (⟨h.val * 8 + g.val, by omega⟩ : Fin 32) e))
      * ((1 / 8 : ℝ) : EReal)
  else ⊥

/-- The attention's entry: query `r` of block `n` of sequence `b`, head `g` of the group `h`, lane `e`. -/
def attnAt (q : QShape.Idx → EReal) (k v : KShape.Idx → EReal) (σ : SinkShape.Idx → EReal) (l : Fin 4) (b : Fin 2) (n : Fin 64)
    (r : Fin 128) (h : Fin 4) (g : Fin 8) (e : Fin 64) : EReal :=
  windowOut (scoreAt q k b n h g r) (σ (ix2 l (⟨h.val * 8 + g.val, by omega⟩ : Fin 32))) (fun κ => padAt v b n κ h e)

end Cert.Attn
end
-- ==== Proof.Attn.Link.lean ====
module
public import proofs.«01_k».proof.Proof.Attn.BlockAt
public import proofs.«01_k».proof.Proof.Attn.Window
@[expose] public section
/-! The kernel's head is the sliding window attention, once its blocks hold the tables' rows. -/
noncomputable section
namespace Cert.Attn
open Idealize.ShloMosaic

/-- Rows whose score is `⊥` have no weight, whatever their values. -/
theorem bandOut_congr (r : Fin 128) (b : Fin 128 → EReal) (t : EReal) (v v' : Fin 256 → EReal)
    (h : ∀ x, b x ≠ ⊥ → v (keyOf r x) = v' (keyOf r x)) : bandOut r b t v = bandOut r b t v' := by
  unfold bandOut
  refine congrArg (· * _) (Finset.sum_congr rfl fun x _ => ?_)
  by_cases hx : b x = ⊥
  · rw [hx, EReal.bot_sub, Ideal.exp2_bot, mul_zero, mul_zero]
  · rw [h x hx]

/-- A finite sum of products of reals is a real. -/
theorem real_sum {ι : Type} (s : Finset ι) (f g : ι → EReal) (hf : ∀ i, ∃ a : ℝ, f i = a) (hg : ∀ i, ∃ a : ℝ, g i = a) :
    ∃ a : ℝ, ∑ i ∈ s, f i * g i = (a : EReal) := by
  refine Finset.sum_induction (fun i => f i * g i) (fun x : EReal => ∃ a : ℝ, x = a) ?_ ⟨0, rfl⟩ ?_
  · rintro _ _ ⟨a, rfl⟩ ⟨b, rfl⟩
    exact ⟨a + b, (EReal.coe_add a b).symm⟩
  · intro i _
    obtain ⟨a, ha⟩ := hf i
    obtain ⟨b, hb⟩ := hg i
    exact ⟨a * b, by rw [ha, hb, EReal.coe_mul]⟩

/-- A row of real keys or of the padding is real. -/
theorem padAt_real (t : KShape.Idx → EReal) (ht : ∀ i, ∃ a : ℝ, t i = a) (b : Fin 2) (n : Fin 64) (κ : Fin 256) (h : Fin 4) (e : Fin 64) :
    ∃ a : ℝ, padAt t b n κ h e = a := by
  unfold padAt
  split_ifs
  · exact ht _
  · exact ⟨0, rfl⟩
  · exact ht _

section
variable (q : QShape.Idx → EReal) (k v : KShape.Idx → EReal) (hq : ∀ i, ∃ a : ℝ, q i = a) (hk : ∀ i, ∃ a : ℝ, k i = a)
  (b : Fin 2) (n : Fin 64) (h : Fin 4) (g : Fin 8) (r : Fin 128)
include hq hk

/-- The score of a row that the query sees is real. -/
theorem scoreAt_seen (κ : Fin 256) (hs : Seen n r κ) : ∃ a : ℝ, scoreAt q k b n h g r κ = a := by
  obtain ⟨a, ha⟩ := real_sum Finset.univ (fun e : Fin 64 => padAt k b n κ h e)
    (fun e => q (ix4 b (⟨n.val * 128 + r.val, by omega⟩ : Fin 8192) (⟨h.val * 8 + g.val, by omega⟩ : Fin 32) e))
    (fun e => padAt_real k hk b n κ h e) (fun e => hq _)
  exact ⟨a * (1 / 8), by rw [scoreAt, if_pos hs, ha, EReal.coe_mul]⟩

/-- No score is `⊤`. -/
theorem scoreAt_ne_top (κ : Fin 256) : scoreAt q k b n h g r κ ≠ ⊤ := by
  by_cases hs : Seen n r κ
  · obtain ⟨a, ha⟩ := scoreAt_seen q k hq hk b n h g r κ hs
    rw [ha]
    exact EReal.coe_ne_top a
  · rw [scoreAt, if_neg hs]
    exact bot_ne_top

end

/-- A sum of products with a scale in each is the scaled sum. -/
theorem sum_scaled {ι : Type} (s : Finset ι) (f g : ι → EReal) :
    ∑ i ∈ s, f i * (g i * (((1 / 8) * (Real.log 2)⁻¹ : ℝ) : EReal)) = (∑ i ∈ s, f i * g i) * ((1 / 8 : ℝ) : EReal) * (invLog2 : EReal) := by
  have hc : (0 : ℝ) ≤ 1 / 8 * invLog2 := mul_nonneg (by norm_num) invLog2_pos.le
  rw [mul_assoc, ← EReal.coe_mul, sum_mul_real s _ hc]
  exact Finset.sum_congr rfl fun i _ => (mul_assoc _ _ _).symm

section
open Cert.KernelIdeal (S128x2048)
open Cert.KernelIdeal.Attn (headAt scoreOf)

/-- The kernel's head is the attention, from blocks that hold the queries, and the keys and values of the rows in reach. -/
theorem headAt_eq (q : QShape.Idx → EReal) (k v : KShape.Idx → EReal) (hq : ∀ i, ∃ a : ℝ, q i = a) (hk : ∀ i, ∃ a : ℝ, k i = a)
    (b : Fin 2) (n : Fin 64) (h : Fin 4) (g : Fin 8) (r : Fin 128) (e : Fin 64)
    (bias : EReal) (kv : Fin 256 → Fin 512 → EReal) (x0 : S128x2048.Idx → EReal) (σ : Fin 32 → EReal) (hh : Fin 32)
    (hhh : hh = ⟨h.val * 8 + g.val, by omega⟩) (hσ : σ hh ≠ ⊤)
    (hbias : bias = if 0 < n.val then 0 else ⊥)
    (hx0 : ∀ d : Fin 64, x0 (ix2 r (⟨64 * hh.val + d.val, by omega⟩ : Fin 2048)) = q (ix4 b (⟨n.val * 128 + r.val, by omega⟩ : Fin 8192) hh d))
    (hkey : ∀ κ : Fin 256, (0 < n.val ∨ 128 ≤ κ.val) → ∀ d : Fin 64, kv κ ⟨64 * (hh.val / 8) + d.val, by omega⟩ = padAt k b n κ h d)
    (hval : ∀ κ : Fin 256, (0 < n.val ∨ 128 ≤ κ.val) → kv κ ⟨256 + 64 * (hh.val / 8) + e.val, by omega⟩ = padAt v b n κ h e) :
    headAt bias kv x0 σ r hh e = windowOut (scoreAt q k b n h g r) (σ hh) (fun κ => padAt v b n κ h e) := by
  have hscore : ∀ κ : Fin 256, (0 < n.val ∨ 128 ≤ κ.val) → Seen n r κ → scoreOf kv x0 hh r κ = scoreAt q k b n h g r κ * (invLog2 : EReal) := by
    intro κ hκ hs
    rw [scoreAt, if_pos hs, ← sum_scaled]
    unfold scoreOf
    refine Finset.sum_congr rfl fun d _ => ?_
    rw [hkey κ hκ d, hx0 d]
    subst hhh
    rfl
  have hband : (fun x : Fin 128 => if r < x then scoreOf kv x0 hh r ⟨x.val, by omega⟩ + bias else scoreOf kv x0 hh r ⟨128 + x.val, by omega⟩)
      = fun x => scoreAt q k b n h g r (keyOf r x) * (invLog2 : EReal) := by
    funext x
    by_cases hx : r < x
    · have hx' : r.val < x.val := hx
      rw [if_pos hx, keyOf, if_pos hx]
      by_cases hn : 0 < n.val
      · rw [hbias, if_pos hn, add_zero]
        exact hscore _ (Or.inl hn) ⟨⟨hx', by show x.val ≤ _; omega⟩, Or.inl hn⟩
      · rw [hbias, if_neg hn, EReal.add_bot, scoreAt, if_neg, EReal.bot_mul_coe_of_pos invLog2_pos]
        rintro ⟨_, h1 | h1⟩
        · exact hn h1
        · exact absurd h1 (by show ¬ 128 ≤ x.val; omega)
    · have hx' : ¬ r.val < x.val := hx
      rw [if_neg hx, keyOf, if_neg hx]
      have h1 : 128 ≤ 128 + x.val := by omega
      exact hscore _ (Or.inr h1) ⟨⟨by show _ < 128 + x.val; omega, by show 128 + x.val ≤ _; omega⟩, Or.inr h1⟩
  unfold headAt
  rw [hband]
  refine (bandOut_congr r _ _ _ (fun κ => padAt v b n κ h e) fun x hx => ?_).trans ?_
  · refine hval (keyOf r x) ?_
    by_contra hno
    refine hx ?_
    show scoreAt q k b n h g r (keyOf r x) * (invLog2 : EReal) = ⊥
    rw [scoreAt, if_neg (fun hs => hno hs.2), EReal.bot_mul_coe_of_pos invLog2_pos]
  · refine bandOut_eq r (scoreAt q k b n h g r) (σ hh) _ (scoreAt_ne_top q k hq hk b n h g r) hσ (⟨128 + r.val, by omega⟩ : Fin 256) ?_ ?_ ?_
    · obtain ⟨a, ha⟩ := scoreAt_seen q k hq hk b n h g r (⟨128 + r.val, by omega⟩ : Fin 256)
        ⟨⟨by show r.val < 128 + r.val; omega, by show 128 + r.val ≤ _; omega⟩, Or.inr (by show 128 ≤ 128 + r.val; omega)⟩
      rw [ha]
      exact EReal.coe_ne_bot a
    · intro x hx
      have hx' : ¬ r.val < x.val := hx
      rw [scoreAt, if_neg]
      rintro ⟨⟨h1, _⟩, _⟩
      exact hx' h1
    · intro x hx
      have hx' : r.val < x.val := hx
      rw [scoreAt, if_neg]
      rintro ⟨⟨_, h1⟩, _⟩
      have h2 : 128 + x.val ≤ r.val + 128 := h1
      omega

end
end Cert.Attn
end
-- ==== Proof.Attn.RefRun.lean ====
/- The reference run, in ten stretches of its operations: each stretch's results are the named stages of its computation.
   The operations and the stages are those of the printed program. -/
module

public import proofs.«01_k».proof.Proof.Gen.ReferenceIdeal
public import Idealize.ShloMosaic.Lib.StableHlo.Run
public import Idealize.ShloMosaic.Lib.StableHlo.RunClose
public import Idealize.ShloMosaic.Lib.Pipeline.Frame

@[expose] public section

noncomputable section

namespace Cert.ReferenceIdeal.Attn

open Cert.ReferenceIdeal Cert.ReferenceIdeal.Gen Idealize.ShloMosaic Idealize.ShloMosaic.TcCoe Idealize.SL.Sem Idealize.ShloMosaic.StableHlo

variable {F : FTy → Type} [FloatOps F]

/-! ## The operations -/

/-- The concatenation that `main_v13` holds. -/
def fn_main_v13 : (⟨S2x64x128x4x64, .f32⟩ : BufTy).Contents (Elt F) → (⟨S2x64x128x4x64, .f32⟩ : BufTy).Contents (Elt F) → (⟨S2x64x256x4x64, .f32⟩ : BufTy).Contents (Elt F) :=
  (fun a b => concatenate S2x64x256x4x64 2 [⟨S2x64x128x4x64, a⟩, ⟨S2x64x128x4x64, b⟩] concatenates_S2x64x128x4x64_S2x64x128x4x64_S2x64x256x4x64_d2)

/-- The concatenation that `main_v17` holds. -/
def fn_main_v17 : (⟨S2x64x128x4x64, .f32⟩ : BufTy).Contents (Elt F) → (⟨S2x64x128x4x64, .f32⟩ : BufTy).Contents (Elt F) → (⟨S2x64x256x4x64, .f32⟩ : BufTy).Contents (Elt F) :=
  (fun a b => concatenate S2x64x256x4x64 2 [⟨S2x64x128x4x64, a⟩, ⟨S2x64x128x4x64, b⟩] concatenates_S2x64x128x4x64_S2x64x128x4x64_S2x64x256x4x64_d2)

/-- The concatenation that `main_v54` holds. -/
def fn_main_v54 : (⟨S2x64x4x8x128x256, .f32⟩ : BufTy).Contents (Elt F) → (⟨S2x64x4x8x128x1, .f32⟩ : BufTy).Contents (Elt F) → (⟨S2x64x4x8x128x257, .f32⟩ : BufTy).Contents (Elt F) :=
  (fun a b => concatenate S2x64x4x8x128x257 5 [⟨S2x64x4x8x128x256, a⟩, ⟨S2x64x4x8x128x1, b⟩] concatenates_S2x64x4x8x128x256_S2x64x4x8x128x1_S2x64x4x8x128x257_d5)

/-- Stretch 0 of the operations. -/
abbrev ops0 : List (HloOp τ sig (Elt F)) :=
  [ reshape main_arg4 main_v0 (rfl : (.i32 : EltTy) = .i32) shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 32#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- Stretch 1 of the operations. -/
abbrev ops1 : List (HloOp τ sig (Elt F)) :=
  [ unaryIndexed main_arg3 ![main_v3, main_v6] ⟨S_, .i32⟩ main_v7 ((fun x i => Host.dynamicSlice S1x32 x (fun k => (i k (Shape.Idx.first h_S_)).toInt) sliceFits_S4x32_S1x32) : (⟨S4x32, .f32⟩ : BufTy).Contents (Elt F) → (Fin 2 → (⟨S_, .i32⟩ : BufTy).Contents (Elt F)) → (⟨S1x32, .f32⟩ : BufTy).Contents (Elt F)),
    reshape main_v7 main_v8 (rfl : (.f32 : EltTy) = .f32) shapeCasts_S1x32_S32 ]

/-- Stretch 2 of the operations. -/
abbrev ops2 : List (HloOp τ sig (Elt F)) :=
  [ reshape main_arg0 main_v9 (rfl : (.f32 : EltTy) = .f32) shapeCasts_S2x8192x32x64_S2x64x128x4x8x64,
    reshape main_arg1 main_v10 (rfl : (.f32 : EltTy) = .f32) shapeCasts_S2x8192x4x64_S2x64x128x4x64,
    nullary main_c_6 (constantI S_ 32 0#32),
    TRef.unary (TRef.of (T := ⟨S_, .i32⟩) main_c_6) (TRef.of (T := ⟨S_, .f32⟩) main_call0_v0) (sitofp .f32),
    TRef.binary (TRef.of (T := ⟨S2x64x128x4x64, .f32⟩) main_v10) (TRef.of (T := ⟨S_, .f32⟩) main_call0_v0) (TRef.of (T := ⟨S2x65x128x4x64, .f32⟩) main_v11) (fun x v => pad S2x65x128x4x64 ![0, 1, 0, 0, 0] ![0, 0, 0, 0, 0] ![0, 0, 0, 0, 0] x v pads_S2x64x128x4x64_S2x65x128x4x64_000_100_000_000_000 h_S_),
    unary main_v11 main_v12 ((extractStridedSlice S2x64x128x4x64 ![0, 0, 0, 0, 0] · slices_S2x65x128x4x64_S2x64x128x4x64_0_0_0_0_0) : (⟨S2x65x128x4x64, .f32⟩ : BufTy).Contents (Elt F) → (⟨S2x64x128x4x64, .f32⟩ : BufTy).Contents (Elt F)),
    binary main_v12 main_v10 main_v13 (fn_main_v13 (F := F)),
    reshape main_arg2 main_v14 (rfl : (.f32 : EltTy) = .f32) shapeCasts_S2x8192x4x64_S2x64x128x4x64,
    nullary main_c_7 (constantI S_ 32 0#32),
    TRef.unary (TRef.of (T := ⟨S_, .i32⟩) main_c_7) (TRef.of (T := ⟨S_, .f32⟩) main_call1_v0) (sitofp .f32),
    TRef.binary (TRef.of (T := ⟨S2x64x128x4x64, .f32⟩) main_v14) (TRef.of (T := ⟨S_, .f32⟩) main_call1_v0) (TRef.of (T := ⟨S2x65x128x4x64, .f32⟩) main_v15) (fun x v => pad S2x65x128x4x64 ![0, 1, 0, 0, 0] ![0, 0, 0, 0, 0] ![0, 0, 0, 0, 0] x v pads_S2x64x128x4x64_S2x65x128x4x64_000_100_000_000_000 h_S_),
    unary main_v15 main_v16 ((extractStridedSlice S2x64x128x4x64 ![0, 0, 0, 0, 0] · slices_S2x65x128x4x64_S2x64x128x4x64_0_0_0_0_0) : (⟨S2x65x128x4x64, .f32⟩ : BufTy).Contents (Elt F) → (⟨S2x64x128x4x64, .f32⟩ : BufTy).Contents (Elt F)),
    binary main_v16 main_v14 main_v17 (fn_main_v17 (F := F)) ]

/-- Stretch 3 of the operations. -/
abbrev ops3 : List (HloOp τ sig (Elt F)) :=
  [ binary main_v13 main_v9 main_v18 ((fun l r => Host.dotGeneral dot_S2x64x256x4x64_S2x64x128x4x8x64_S2x64x4x256x128x8_4_5_2_24_013_013 none l r) : (⟨S2x64x256x4x64, .f32⟩ : BufTy).Contents (Elt F) → (⟨S2x64x128x4x8x64, .f32⟩ : BufTy).Contents (Elt F) → (⟨S2x64x4x256x128x8, .f32⟩ : BufTy).Contents (Elt F)),
    unary main_v18 main_v19 ((transpose S2x64x4x8x128x256 [0, 1, 2, 5, 4, 3] · transposes_S2x64x4x256x128x8_S2x64x4x8x128x256_0_1_2_5_4_3) : (⟨S2x64x4x256x128x8, .f32⟩ : BufTy).Contents (Elt F) → (⟨S2x64x4x8x128x256, .f32⟩ : BufTy).Contents (Elt F)),
    nullary main_cst (constant S_ .f32 0x3E000000#32),
    unary main_cst main_v20 (broadcastInDim S2x64x4x8x128x256 ![] bcast_S_S2x64x4x8x128x256 : (⟨S_, .f32⟩ : BufTy).Contents (Elt F) → (⟨S2x64x4x8x128x256, .f32⟩ : BufTy).Contents (Elt F)),
    binary main_v19 main_v20 main_v21 (mulf : (⟨S2x64x4x8x128x256, .f32⟩ : BufTy).Contents (Elt F) → (⟨S2x64x4x8x128x256, .f32⟩ : BufTy).Contents (Elt F) → (⟨S2x64x4x8x128x256, .f32⟩ : BufTy).Contents (Elt F)) ]

/-- Stretch 4 of the operations. -/
abbrev ops4 : List (HloOp τ sig (Elt F)) :=
  [ nullary main_v22 (iotaInDim S128 32 0),
    unary main_v22 main_v23 (broadcastInDim S128x1 ![0] bcast_S128_S128x1_0 : (⟨S128, .i32⟩ : BufTy).Contents (Elt F) → (⟨S128x1, .i32⟩ : BufTy).Contents (Elt F)),
    nullary main_v24 (iotaInDim S256 32 0),
    unary main_v24 main_v25 (broadcastInDim S1x256 ![1] bcast_S256_S1x256_1 : (⟨S256, .i32⟩ : BufTy).Contents (Elt F) → (⟨S1x256, .i32⟩ : BufTy).Contents (Elt F)),
    nullary main_c_8 (constantI S_ 32 128#32),
    unary main_c_8 main_v26 (broadcastInDim S128x1 ![] bcast_S_S128x1 : (⟨S_, .i32⟩ : BufTy).Contents (Elt F) → (⟨S128x1, .i32⟩ : BufTy).Contents (Elt F)),
    binary main_v23 main_v26 main_v27 (addi : (⟨S128x1, .i32⟩ : BufTy).Contents (Elt F) → (⟨S128x1, .i32⟩ : BufTy).Contents (Elt F) → (⟨S128x1, .i32⟩ : BufTy).Contents (Elt F)),
    unary main_v27 main_v28 (broadcastInDim S128x256 ![0, 1] bcast_S128x1_S128x256_0_1 : (⟨S128x1, .i32⟩ : BufTy).Contents (Elt F) → (⟨S128x256, .i32⟩ : BufTy).Contents (Elt F)),
    unary main_v25 main_v29 (broadcastInDim S128x256 ![0, 1] bcast_S1x256_S128x256_0_1 : (⟨S1x256, .i32⟩ : BufTy).Contents (Elt F) → (⟨S128x256, .i32⟩ : BufTy).Contents (Elt F)),
    binary main_v28 main_v29 main_v30 (subi : (⟨S128x256, .i32⟩ : BufTy).Contents (Elt F) → (⟨S128x256, .i32⟩ : BufTy).Contents (Elt F) → (⟨S128x256, .i32⟩ : BufTy).Contents (Elt F)),
    nullary main_c_9 (constantI S_ 32 0#32),
    unary main_c_9 main_v31 (broadcastInDim S128x256 ![] bcast_S_S128x256 : (⟨S_, .i32⟩ : BufTy).Contents (Elt F) → (⟨S128x256, .i32⟩ : BufTy).Contents (Elt F)),
    binary main_v30 main_v31 main_v32 (cmpi .sge : (⟨S128x256, .i32⟩ : BufTy).Contents (Elt F) → (⟨S128x256, .i32⟩ : BufTy).Contents (Elt F) → (⟨S128x256, .i1⟩ : BufTy).Contents (Elt F)),
    nullary main_c_10 (constantI S_ 32 128#32),
    unary main_c_10 main_v33 (broadcastInDim S128x256 ![] bcast_S_S128x256 : (⟨S_, .i32⟩ : BufTy).Contents (Elt F) → (⟨S128x256, .i32⟩ : BufTy).Contents (Elt F)),
    binary main_v30 main_v33 main_v34 (cmpi .slt : (⟨S128x256, .i32⟩ : BufTy).Contents (Elt F) → (⟨S128x256, .i32⟩ : BufTy).Contents (Elt F) → (⟨S128x256, .i1⟩ : BufTy).Contents (Elt F)),
    binary main_v32 main_v34 main_v35 (andi : (⟨S128x256, .i1⟩ : BufTy).Contents (Elt F) → (⟨S128x256, .i1⟩ : BufTy).Contents (Elt F) → (⟨S128x256, .i1⟩ : BufTy).Contents (Elt F)) ]

/-- Stretch 5 of the operations. -/
abbrev ops5 : List (HloOp τ sig (Elt F)) :=
  [ nullary main_v36 (iotaInDim S64 32 0),
    unary main_v36 main_v37 (broadcastInDim S64x1 ![0] bcast_S64_S64x1_0 : (⟨S64, .i32⟩ : BufTy).Contents (Elt F) → (⟨S64x1, .i32⟩ : BufTy).Contents (Elt F)),
    nullary main_c_11 (constantI S_ 32 0#32),
    unary main_c_11 main_v38 (broadcastInDim S64x1 ![] bcast_S_S64x1 : (⟨S_, .i32⟩ : BufTy).Contents (Elt F) → (⟨S64x1, .i32⟩ : BufTy).Contents (Elt F)),
    binary main_v37 main_v38 main_v39 (cmpi .sgt : (⟨S64x1, .i32⟩ : BufTy).Contents (Elt F) → (⟨S64x1, .i32⟩ : BufTy).Contents (Elt F) → (⟨S64x1, .i1⟩ : BufTy).Contents (Elt F)),
    nullary main_c_12 (constantI S_ 32 128#32),
    unary main_c_12 main_v40 (broadcastInDim S1x256 ![] bcast_S_S1x256 : (⟨S_, .i32⟩ : BufTy).Contents (Elt F) → (⟨S1x256, .i32⟩ : BufTy).Contents (Elt F)),
    binary main_v25 main_v40 main_v41 (cmpi .sge : (⟨S1x256, .i32⟩ : BufTy).Contents (Elt F) → (⟨S1x256, .i32⟩ : BufTy).Contents (Elt F) → (⟨S1x256, .i1⟩ : BufTy).Contents (Elt F)),
    unary main_v39 main_v42 (broadcastInDim S64x256 ![0, 1] bcast_S64x1_S64x256_0_1 : (⟨S64x1, .i1⟩ : BufTy).Contents (Elt F) → (⟨S64x256, .i1⟩ : BufTy).Contents (Elt F)),
    unary main_v41 main_v43 (broadcastInDim S64x256 ![0, 1] bcast_S1x256_S64x256_0_1 : (⟨S1x256, .i1⟩ : BufTy).Contents (Elt F) → (⟨S64x256, .i1⟩ : BufTy).Contents (Elt F)),
    binary main_v42 main_v43 main_v44 (ori : (⟨S64x256, .i1⟩ : BufTy).Contents (Elt F) → (⟨S64x256, .i1⟩ : BufTy).Contents (Elt F) → (⟨S64x256, .i1⟩ : BufTy).Contents (Elt F)),
    unary main_v35 main_v45 (broadcastInDim S1x128x256 ![1, 2] bcast_S128x256_S1x128x256_1_2 : (⟨S128x256, .i1⟩ : BufTy).Contents (Elt F) → (⟨S1x128x256, .i1⟩ : BufTy).Contents (Elt F)),
    unary main_v44 main_v46 (broadcastInDim S64x1x256 ![0, 2] bcast_S64x256_S64x1x256_0_2 : (⟨S64x256, .i1⟩ : BufTy).Contents (Elt F) → (⟨S64x1x256, .i1⟩ : BufTy).Contents (Elt F)),
    unary main_v45 main_v47 (broadcastInDim S64x128x256 ![0, 1, 2] bcast_S1x128x256_S64x128x256_0_1_2 : (⟨S1x128x256, .i1⟩ : BufTy).Contents (Elt F) → (⟨S64x128x256, .i1⟩ : BufTy).Contents (Elt F)),
    unary main_v46 main_v48 (broadcastInDim S64x128x256 ![0, 1, 2] bcast_S64x1x256_S64x128x256_0_1_2 : (⟨S64x1x256, .i1⟩ : BufTy).Contents (Elt F) → (⟨S64x128x256, .i1⟩ : BufTy).Contents (Elt F)),
    binary main_v47 main_v48 main_v49 (andi : (⟨S64x128x256, .i1⟩ : BufTy).Contents (Elt F) → (⟨S64x128x256, .i1⟩ : BufTy).Contents (Elt F) → (⟨S64x128x256, .i1⟩ : BufTy).Contents (Elt F)),
    unary main_v49 main_v50 (broadcastInDim S1x64x1x1x128x256 ![1, 4, 5] bcast_S64x128x256_S1x64x1x1x128x256_1_4_5 : (⟨S64x128x256, .i1⟩ : BufTy).Contents (Elt F) → (⟨S1x64x1x1x128x256, .i1⟩ : BufTy).Contents (Elt F)) ]

/-- Stretch 6 of the operations. -/
abbrev ops6 : List (HloOp τ sig (Elt F)) :=
  [ nullary main_cst_13 (constant S_ .f32 0xFF800000#32),
    TRef.unary (TRef.of (T := ⟨S_, .f32⟩) main_cst_13) (TRef.of (T := ⟨S_, .f32⟩) main_call2_v0) id,
    TRef.unary (TRef.of (T := ⟨S1x64x1x1x128x256, .i1⟩) main_v50) (TRef.of (T := ⟨S2x64x4x8x128x256, .i1⟩) main_call2_v1) (broadcastInDim S2x64x4x8x128x256 ![0, 1, 2, 3, 4, 5] bcast_S1x64x1x1x128x256_S2x64x4x8x128x256_0_1_2_3_4_5),
    TRef.unary (TRef.of (T := ⟨S_, .f32⟩) main_call2_v0) (TRef.of (T := ⟨S2x64x4x8x128x256, .f32⟩) main_call2_v2) (broadcastInDim S2x64x4x8x128x256 ![] bcast_S_S2x64x4x8x128x256),
    TRef.ternary (TRef.of (T := ⟨S2x64x4x8x128x256, .i1⟩) main_call2_v1) (TRef.of (T := ⟨S2x64x4x8x128x256, .f32⟩) main_v21) (TRef.of (T := ⟨S2x64x4x8x128x256, .f32⟩) main_call2_v2) (TRef.of (T := ⟨S2x64x4x8x128x256, .f32⟩) main_v51) select,
    reshape main_v8 main_v52 (rfl : (.f32 : EltTy) = .f32) shapeCasts_S32_S1x1x4x8x1x1,
    unary main_v52 main_v53 (broadcastInDim S2x64x4x8x128x1 ![0, 1, 2, 3, 4, 5] bcast_S1x1x4x8x1x1_S2x64x4x8x128x1_0_1_2_3_4_5 : (⟨S1x1x4x8x1x1, .f32⟩ : BufTy).Contents (Elt F) → (⟨S2x64x4x8x128x1, .f32⟩ : BufTy).Contents (Elt F)),
    binary main_v51 main_v53 main_v54 (fn_main_v54 (F := F)) ]

/-- Stretch 7 of the operations. -/
abbrev ops7 : List (HloOp τ sig (Elt F)) :=
  [ nullary main_cst_14 (constant S_ .f32 0xFF800000#32),
    binary main_v54 main_cst_14 main_v55 ((fun x v => Host.reduce FloatOps.maximumf x v reducesTo_S2x64x4x8x128x257_S2x64x4x8x128_d5 h_S_) : (⟨S2x64x4x8x128x257, .f32⟩ : BufTy).Contents (Elt F) → (⟨S_, .f32⟩ : BufTy).Contents (Elt F) → (⟨S2x64x4x8x128, .f32⟩ : BufTy).Contents (Elt F)),
    nullary main_cst_15 (constant S_ .f32 0xFF800000#32),
    unary main_cst_15 main_v56 (broadcastInDim S2x64x4x8x128 ![] bcast_S_S2x64x4x8x128 : (⟨S_, .f32⟩ : BufTy).Contents (Elt F) → (⟨S2x64x4x8x128, .f32⟩ : BufTy).Contents (Elt F)),
    binary main_v56 main_v55 main_v57 (maximumf : (⟨S2x64x4x8x128, .f32⟩ : BufTy).Contents (Elt F) → (⟨S2x64x4x8x128, .f32⟩ : BufTy).Contents (Elt F) → (⟨S2x64x4x8x128, .f32⟩ : BufTy).Contents (Elt F)),
    unary main_v57 main_v58 (broadcastInDim S2x64x4x8x128x1 ![0, 1, 2, 3, 4] bcast_S2x64x4x8x128_S2x64x4x8x128x1_0_1_2_3_4 : (⟨S2x64x4x8x128, .f32⟩ : BufTy).Contents (Elt F) → (⟨S2x64x4x8x128x1, .f32⟩ : BufTy).Contents (Elt F)),
    unary main_v58 main_v59 (broadcastInDim S2x64x4x8x128x257 ![0, 1, 2, 3, 4, 5] bcast_S2x64x4x8x128x1_S2x64x4x8x128x257_0_1_2_3_4_5 : (⟨S2x64x4x8x128x1, .f32⟩ : BufTy).Contents (Elt F) → (⟨S2x64x4x8x128x257, .f32⟩ : BufTy).Contents (Elt F)),
    binary main_v54 main_v59 main_v60 (subf : (⟨S2x64x4x8x128x257, .f32⟩ : BufTy).Contents (Elt F) → (⟨S2x64x4x8x128x257, .f32⟩ : BufTy).Contents (Elt F) → (⟨S2x64x4x8x128x257, .f32⟩ : BufTy).Contents (Elt F)),
    unary main_v60 main_v61 (Host.exp : (⟨S2x64x4x8x128x257, .f32⟩ : BufTy).Contents (Elt F) → (⟨S2x64x4x8x128x257, .f32⟩ : BufTy).Contents (Elt F)) ]

/-- Stretch 8 of the operations. -/
abbrev ops8 : List (HloOp τ sig (Elt F)) :=
  [ nullary main_cst_16 (constant S_ .f32 0x00000000#32),
    binary main_v61 main_cst_16 main_v62 ((fun x v => Host.reduceAdd x v reducesTo_S2x64x4x8x128x257_S2x64x4x8x128_d5 h_S_) : (⟨S2x64x4x8x128x257, .f32⟩ : BufTy).Contents (Elt F) → (⟨S_, .f32⟩ : BufTy).Contents (Elt F) → (⟨S2x64x4x8x128, .f32⟩ : BufTy).Contents (Elt F)),
    unary main_v62 main_v63 (broadcastInDim S2x64x4x8x128x1 ![0, 1, 2, 3, 4] bcast_S2x64x4x8x128_S2x64x4x8x128x1_0_1_2_3_4 : (⟨S2x64x4x8x128, .f32⟩ : BufTy).Contents (Elt F) → (⟨S2x64x4x8x128x1, .f32⟩ : BufTy).Contents (Elt F)),
    unary main_v63 main_v64 (broadcastInDim S2x64x4x8x128x257 ![0, 1, 2, 3, 4, 5] bcast_S2x64x4x8x128x1_S2x64x4x8x128x257_0_1_2_3_4_5 : (⟨S2x64x4x8x128x1, .f32⟩ : BufTy).Contents (Elt F) → (⟨S2x64x4x8x128x257, .f32⟩ : BufTy).Contents (Elt F)),
    binary main_v61 main_v64 main_v65 (Host.divf : (⟨S2x64x4x8x128x257, .f32⟩ : BufTy).Contents (Elt F) → (⟨S2x64x4x8x128x257, .f32⟩ : BufTy).Contents (Elt F) → (⟨S2x64x4x8x128x257, .f32⟩ : BufTy).Contents (Elt F)) ]

/-- Stretch 9 of the operations. -/
abbrev ops9 : List (HloOp τ sig (Elt F)) :=
  [ unary main_v65 main_v66 ((extractStridedSlice S2x64x4x8x128x256 ![0, 0, 0, 0, 0, 0] · slices_S2x64x4x8x128x257_S2x64x4x8x128x256_0_0_0_0_0_0) : (⟨S2x64x4x8x128x257, .f32⟩ : BufTy).Contents (Elt F) → (⟨S2x64x4x8x128x256, .f32⟩ : BufTy).Contents (Elt F)),
    binary main_v17 main_v66 main_v67 ((fun l r => Host.dotGeneral dot_S2x64x256x4x64_S2x64x4x8x128x256_S2x64x4x64x8x128_2_5_4_34_013_012 none l r) : (⟨S2x64x256x4x64, .f32⟩ : BufTy).Contents (Elt F) → (⟨S2x64x4x8x128x256, .f32⟩ : BufTy).Contents (Elt F) → (⟨S2x64x4x64x8x128, .f32⟩ : BufTy).Contents (Elt F)),
    unary main_v67 main_v68 ((transpose S2x64x128x4x8x64 [0, 1, 5, 2, 4, 3] · transposes_S2x64x4x64x8x128_S2x64x128x4x8x64_0_1_5_2_4_3) : (⟨S2x64x4x64x8x128, .f32⟩ : BufTy).Contents (Elt F) → (⟨S2x64x128x4x8x64, .f32⟩ : BufTy).Contents (Elt F)),
    reshape main_v68 main_v69 (rfl : (.f32 : EltTy) = .f32) shapeCasts_S2x64x128x4x8x64_S16384x2048,
    unary main_v69 main_v70 ((truncf .bf16 · bitsLt_bf16_f32) : (⟨S16384x2048, .f32⟩ : BufTy).Contents (Elt F) → (⟨S16384x2048, .bf16⟩ : BufTy).Contents (Elt F)) ]

/-- All the operations. -/
abbrev ops : List (HloOp τ sig (Elt F)) := ops0 ++ (ops1 ++ (ops2 ++ (ops3 ++ (ops4 ++ (ops5 ++ (ops6 ++ (ops7 ++ (ops8 ++ (ops9)))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., reshape_bufs_sub .., reshape_bufs_sub .., nullary_bufs_sub .., unary_bufs_sub .., binary_bufs_sub .., unary_bufs_sub .., binary_bufs_sub .., reshape_bufs_sub .., nullary_bufs_sub .., unary_bufs_sub .., binary_bufs_sub .., unary_bufs_sub .., binary_bufs_sub .., binary_bufs_sub .., unary_bufs_sub .., nullary_bufs_sub .., unary_bufs_sub .., binary_bufs_sub .., nullary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., reshape_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., binary_bufs_sub .., unary_bufs_sub .., reshape_bufs_sub .., unary_bufs_sub ..⟩

/-! ## The stages -/

/-- What `main_v0` holds. -/
def val_main_v0 (x4 : (⟨S1, .i32⟩ : BufTy).Contents (Elt F)) : (⟨S_, .i32⟩ : BufTy).Contents (Elt F) :=
  shapeCast _ (x4) shapeCasts_S1_S_
/-- What `main_c` holds. -/
def val_main_c : (⟨S_, .i32⟩ : BufTy).Contents (Elt F) :=
  constantI S_ 32 0#32
/-- What `main_v1` holds. -/
def val_main_v1 (x4 : (⟨S1, .i32⟩ : BufTy).Contents (Elt F)) : (⟨S_, .i1⟩ : BufTy).Contents (Elt F) :=
  cmpi .slt (val_main_v0 (F := F) x4) (val_main_c (F := F))
/-- What `main_c_0` holds. -/
def val_main_c_0 : (⟨S_, .i32⟩ : BufTy).Contents (Elt F) :=
  constantI S_ 32 4#32
/-- What `main_v2` holds. -/
def val_main_v2 (x4 : (⟨S1, .i32⟩ : BufTy).Contents (Elt F)) : (⟨S_, .i32⟩ : BufTy).Contents (Elt F) :=
  addi (val_main_v0 (F := F) x4) (val_main_c_0 (F := F))
/-- What `main_v3` holds. -/
def val_main_v3 (x4 : (⟨S1, .i32⟩ : BufTy).Contents (Elt F)) : (⟨S_, .i32⟩ : BufTy).Contents (Elt F) :=
  select (val_main_v1 (F := F) x4) (val_main_v2 (F := F) x4) (val_main_v0 (F := F) x4)
/-- What `main_c_1` holds. -/
def val_main_c_1 : (⟨S_, .i32⟩ : BufTy).Contents (Elt F) :=
  constantI S_ 32 0#32
/-- What `main_c_2` holds. -/
def val_main_c_2 : (⟨S_, .i32⟩ : BufTy).Contents (Elt F) :=
  constantI S_ 32 0#32
/-- What `main_v4` holds. -/
def val_main_v4 : (⟨S_, .i1⟩ : BufTy).Contents (Elt F) :=
  cmpi .slt (val_main_c_1 (F := F)) (val_main_c_2 (F := F))
/-- What `main_c_3` holds. -/
def val_main_c_3 : (⟨S_, .i32⟩ : BufTy).Contents (Elt F) :=
  constantI S_ 32 0#32
/-- What `main_c_4` holds. -/
def val_main_c_4 : (⟨S_, .i32⟩ : BufTy).Contents (Elt F) :=
  constantI S_ 32 32#32
/-- What `main_v5` holds. -/
def val_main_v5 : (⟨S_, .i32⟩ : BufTy).Contents (Elt F) :=
  addi (val_main_c_3 (F := F)) (val_main_c_4 (F := F))
/-- What `main_c_5` holds. -/
def val_main_c_5 : (⟨S_, .i32⟩ : BufTy).Contents (Elt F) :=
  constantI S_ 32 0#32
/-- What `main_v6` holds. -/
def val_main_v6 : (⟨S_, .i32⟩ : BufTy).Contents (Elt F) :=
  select (val_main_v4 (F := F)) (val_main_v5 (F := F)) (val_main_c_5 (F := F))
/-- What `main_v7` holds. -/
def val_main_v7 (x3 : (⟨S4x32, .f32⟩ : BufTy).Contents (Elt F)) (x4 : (⟨S1, .i32⟩ : BufTy).Contents (Elt F)) : (⟨S1x32, .f32⟩ : BufTy).Contents (Elt F) :=
  Host.dynamicSlice S1x32 (x3) (fun k => (((![val_main_v3 (F := F) x4, val_main_v6 (F := F)] : Fin 2 → (⟨S_, .i32⟩ : BufTy).Contents (Elt F))) k (Shape.Idx.first h_S_)).toInt) sliceFits_S4x32_S1x32
/-- What `main_v8` holds. -/
def val_main_v8 (x3 : (⟨S4x32, .f32⟩ : BufTy).Contents (Elt F)) (x4 : (⟨S1, .i32⟩ : BufTy).Contents (Elt F)) : (⟨S32, .f32⟩ : BufTy).Contents (Elt F) :=
  shapeCast _ (val_main_v7 (F := F) x3 x4) shapeCasts_S1x32_S32
/-- What `main_v9` holds. -/
def val_main_v9 (x0 : (⟨S2x8192x32x64, .f32⟩ : BufTy).Contents (Elt F)) : (⟨S2x64x128x4x8x64, .f32⟩ : BufTy).Contents (Elt F) :=
  shapeCast _ (x0) shapeCasts_S2x8192x32x64_S2x64x128x4x8x64
/-- What `main_v10` holds. -/
def val_main_v10 (x1 : (⟨S2x8192x4x64, .f32⟩ : BufTy).Contents (Elt F)) : (⟨S2x64x128x4x64, .f32⟩ : BufTy).Contents (Elt F) :=
  shapeCast _ (x1) shapeCasts_S2x8192x4x64_S2x64x128x4x64
/-- What `main_c_6` holds. -/
def val_main_c_6 : (⟨S_, .i32⟩ : BufTy).Contents (Elt F) :=
  constantI S_ 32 0#32
/-- What `main_call0_v0` holds. -/
def val_main_call0_v0 : (⟨S_, .f32⟩ : BufTy).Contents (Elt F) :=
  sitofp .f32 (val_main_c_6 (F := F))
/-- What `main_v11` holds. -/
def val_main_v11 (x1 : (⟨S2x8192x4x64, .f32⟩ : BufTy).Contents (Elt F)) : (⟨S2x65x128x4x64, .f32⟩ : BufTy).Contents (Elt F) :=
  pad S2x65x128x4x64 ![0, 1, 0, 0, 0] ![0, 0, 0, 0, 0] ![0, 0, 0, 0, 0] (val_main_v10 (F := F) x1) (val_main_call0_v0 (F := F)) pads_S2x64x128x4x64_S2x65x128x4x64_000_100_000_000_000 h_S_
/-- What `main_v12` holds. -/
def val_main_v12 (x1 : (⟨S2x8192x4x64, .f32⟩ : BufTy).Contents (Elt F)) : (⟨S2x64x128x4x64, .f32⟩ : BufTy).Contents (Elt F) :=
  extractStridedSlice S2x64x128x4x64 ![0, 0, 0, 0, 0] (val_main_v11 (F := F) x1) slices_S2x65x128x4x64_S2x64x128x4x64_0_0_0_0_0
/-- What `main_v13` holds. -/
def val_main_v13 (x1 : (⟨S2x8192x4x64, .f32⟩ : BufTy).Contents (Elt F)) : (⟨S2x64x256x4x64, .f32⟩ : BufTy).Contents (Elt F) :=
  concatenate S2x64x256x4x64 2 [⟨S2x64x128x4x64, (val_main_v12 (F := F) x1)⟩, ⟨S2x64x128x4x64, (val_main_v10 (F := F) x1)⟩] concatenates_S2x64x128x4x64_S2x64x128x4x64_S2x64x256x4x64_d2
/-- What `main_v14` holds. -/
def val_main_v14 (x2 : (⟨S2x8192x4x64, .f32⟩ : BufTy).Contents (Elt F)) : (⟨S2x64x128x4x64, .f32⟩ : BufTy).Contents (Elt F) :=
  shapeCast _ (x2) shapeCasts_S2x8192x4x64_S2x64x128x4x64
/-- What `main_c_7` holds. -/
def val_main_c_7 : (⟨S_, .i32⟩ : BufTy).Contents (Elt F) :=
  constantI S_ 32 0#32
/-- What `main_call1_v0` holds. -/
def val_main_call1_v0 : (⟨S_, .f32⟩ : BufTy).Contents (Elt F) :=
  sitofp .f32 (val_main_c_7 (F := F))
/-- What `main_v15` holds. -/
def val_main_v15 (x2 : (⟨S2x8192x4x64, .f32⟩ : BufTy).Contents (Elt F)) : (⟨S2x65x128x4x64, .f32⟩ : BufTy).Contents (Elt F) :=
  pad S2x65x128x4x64 ![0, 1, 0, 0, 0] ![0, 0, 0, 0, 0] ![0, 0, 0, 0, 0] (val_main_v14 (F := F) x2) (val_main_call1_v0 (F := F)) pads_S2x64x128x4x64_S2x65x128x4x64_000_100_000_000_000 h_S_
/-- What `main_v16` holds. -/
def val_main_v16 (x2 : (⟨S2x8192x4x64, .f32⟩ : BufTy).Contents (Elt F)) : (⟨S2x64x128x4x64, .f32⟩ : BufTy).Contents (Elt F) :=
  extractStridedSlice S2x64x128x4x64 ![0, 0, 0, 0, 0] (val_main_v15 (F := F) x2) slices_S2x65x128x4x64_S2x64x128x4x64_0_0_0_0_0
/-- What `main_v17` holds. -/
def val_main_v17 (x2 : (⟨S2x8192x4x64, .f32⟩ : BufTy).Contents (Elt F)) : (⟨S2x64x256x4x64, .f32⟩ : BufTy).Contents (Elt F) :=
  concatenate S2x64x256x4x64 2 [⟨S2x64x128x4x64, (val_main_v16 (F := F) x2)⟩, ⟨S2x64x128x4x64, (val_main_v14 (F := F) x2)⟩] concatenates_S2x64x128x4x64_S2x64x128x4x64_S2x64x256x4x64_d2
/-- What `main_v18` holds. -/
def val_main_v18 (x0 : (⟨S2x8192x32x64, .f32⟩ : BufTy).Contents (Elt F)) (x1 : (⟨S2x8192x4x64, .f32⟩ : BufTy).Contents (Elt F)) : (⟨S2x64x4x256x128x8, .f32⟩ : BufTy).Contents (Elt F) :=
  Host.dotGeneral dot_S2x64x256x4x64_S2x64x128x4x8x64_S2x64x4x256x128x8_4_5_2_24_013_013 none (val_main_v13 (F := F) x1) (val_main_v9 (F := F) x0)
/-- What `main_v19` holds. -/
def val_main_v19 (x0 : (⟨S2x8192x32x64, .f32⟩ : BufTy).Contents (Elt F)) (x1 : (⟨S2x8192x4x64, .f32⟩ : BufTy).Contents (Elt F)) : (⟨S2x64x4x8x128x256, .f32⟩ : BufTy).Contents (Elt F) :=
  transpose S2x64x4x8x128x256 [0, 1, 2, 5, 4, 3] (val_main_v18 (F := F) x0 x1) transposes_S2x64x4x256x128x8_S2x64x4x8x128x256_0_1_2_5_4_3
/-- What `main_cst` holds. -/
def val_main_cst : (⟨S_, .f32⟩ : BufTy).Contents (Elt F) :=
  constant S_ .f32 0x3E000000#32
/-- What `main_v20` holds. -/
def val_main_v20 : (⟨S2x64x4x8x128x256, .f32⟩ : BufTy).Contents (Elt F) :=
  broadcastInDim S2x64x4x8x128x256 ![] bcast_S_S2x64x4x8x128x256 (val_main_cst (F := F))
/-- What `main_v21` holds. -/
def val_main_v21 (x0 : (⟨S2x8192x32x64, .f32⟩ : BufTy).Contents (Elt F)) (x1 : (⟨S2x8192x4x64, .f32⟩ : BufTy).Contents (Elt F)) : (⟨S2x64x4x8x128x256, .f32⟩ : BufTy).Contents (Elt F) :=
  mulf (val_main_v19 (F := F) x0 x1) (val_main_v20 (F := F))
/-- What `main_v22` holds. -/
def val_main_v22 : (⟨S128, .i32⟩ : BufTy).Contents (Elt F) :=
  iotaInDim S128 32 0
/-- What `main_v23` holds. -/
def val_main_v23 : (⟨S128x1, .i32⟩ : BufTy).Contents (Elt F) :=
  broadcastInDim S128x1 ![0] bcast_S128_S128x1_0 (val_main_v22 (F := F))
/-- What `main_v24` holds. -/
def val_main_v24 : (⟨S256, .i32⟩ : BufTy).Contents (Elt F) :=
  iotaInDim S256 32 0
/-- What `main_v25` holds. -/
def val_main_v25 : (⟨S1x256, .i32⟩ : BufTy).Contents (Elt F) :=
  broadcastInDim S1x256 ![1] bcast_S256_S1x256_1 (val_main_v24 (F := F))
/-- What `main_c_8` holds. -/
def val_main_c_8 : (⟨S_, .i32⟩ : BufTy).Contents (Elt F) :=
  constantI S_ 32 128#32
/-- What `main_v26` holds. -/
def val_main_v26 : (⟨S128x1, .i32⟩ : BufTy).Contents (Elt F) :=
  broadcastInDim S128x1 ![] bcast_S_S128x1 (val_main_c_8 (F := F))
/-- What `main_v27` holds. -/
def val_main_v27 : (⟨S128x1, .i32⟩ : BufTy).Contents (Elt F) :=
  addi (val_main_v23 (F := F)) (val_main_v26 (F := F))
/-- What `main_v28` holds. -/
def val_main_v28 : (⟨S128x256, .i32⟩ : BufTy).Contents (Elt F) :=
  broadcastInDim S128x256 ![0, 1] bcast_S128x1_S128x256_0_1 (val_main_v27 (F := F))
/-- What `main_v29` holds. -/
def val_main_v29 : (⟨S128x256, .i32⟩ : BufTy).Contents (Elt F) :=
  broadcastInDim S128x256 ![0, 1] bcast_S1x256_S128x256_0_1 (val_main_v25 (F := F))
/-- What `main_v30` holds. -/
def val_main_v30 : (⟨S128x256, .i32⟩ : BufTy).Contents (Elt F) :=
  subi (val_main_v28 (F := F)) (val_main_v29 (F := F))
/-- What `main_c_9` holds. -/
def val_main_c_9 : (⟨S_, .i32⟩ : BufTy).Contents (Elt F) :=
  constantI S_ 32 0#32
/-- What `main_v31` holds. -/
def val_main_v31 : (⟨S128x256, .i32⟩ : BufTy).Contents (Elt F) :=
  broadcastInDim S128x256 ![] bcast_S_S128x256 (val_main_c_9 (F := F))
/-- What `main_v32` holds. -/
def val_main_v32 : (⟨S128x256, .i1⟩ : BufTy).Contents (Elt F) :=
  cmpi .sge (val_main_v30 (F := F)) (val_main_v31 (F := F))
/-- What `main_c_10` holds. -/
def val_main_c_10 : (⟨S_, .i32⟩ : BufTy).Contents (Elt F) :=
  constantI S_ 32 128#32
/-- What `main_v33` holds. -/
def val_main_v33 : (⟨S128x256, .i32⟩ : BufTy).Contents (Elt F) :=
  broadcastInDim S128x256 ![] bcast_S_S128x256 (val_main_c_10 (F := F))
/-- What `main_v34` holds. -/
def val_main_v34 : (⟨S128x256, .i1⟩ : BufTy).Contents (Elt F) :=
  cmpi .slt (val_main_v30 (F := F)) (val_main_v33 (F := F))
/-- What `main_v35` holds. -/
def val_main_v35 : (⟨S128x256, .i1⟩ : BufTy).Contents (Elt F) :=
  andi (val_main_v32 (F := F)) (val_main_v34 (F := F))
/-- What `main_v36` holds. -/
def val_main_v36 : (⟨S64, .i32⟩ : BufTy).Contents (Elt F) :=
  iotaInDim S64 32 0
/-- What `main_v37` holds. -/
def val_main_v37 : (⟨S64x1, .i32⟩ : BufTy).Contents (Elt F) :=
  broadcastInDim S64x1 ![0] bcast_S64_S64x1_0 (val_main_v36 (F := F))
/-- What `main_c_11` holds. -/
def val_main_c_11 : (⟨S_, .i32⟩ : BufTy).Contents (Elt F) :=
  constantI S_ 32 0#32
/-- What `main_v38` holds. -/
def val_main_v38 : (⟨S64x1, .i32⟩ : BufTy).Contents (Elt F) :=
  broadcastInDim S64x1 ![] bcast_S_S64x1 (val_main_c_11 (F := F))
/-- What `main_v39` holds. -/
def val_main_v39 : (⟨S64x1, .i1⟩ : BufTy).Contents (Elt F) :=
  cmpi .sgt (val_main_v37 (F := F)) (val_main_v38 (F := F))
/-- What `main_c_12` holds. -/
def val_main_c_12 : (⟨S_, .i32⟩ : BufTy).Contents (Elt F) :=
  constantI S_ 32 128#32
/-- What `main_v40` holds. -/
def val_main_v40 : (⟨S1x256, .i32⟩ : BufTy).Contents (Elt F) :=
  broadcastInDim S1x256 ![] bcast_S_S1x256 (val_main_c_12 (F := F))
/-- What `main_v41` holds. -/
def val_main_v41 : (⟨S1x256, .i1⟩ : BufTy).Contents (Elt F) :=
  cmpi .sge (val_main_v25 (F := F)) (val_main_v40 (F := F))
/-- What `main_v42` holds. -/
def val_main_v42 : (⟨S64x256, .i1⟩ : BufTy).Contents (Elt F) :=
  broadcastInDim S64x256 ![0, 1] bcast_S64x1_S64x256_0_1 (val_main_v39 (F := F))
/-- What `main_v43` holds. -/
def val_main_v43 : (⟨S64x256, .i1⟩ : BufTy).Contents (Elt F) :=
  broadcastInDim S64x256 ![0, 1] bcast_S1x256_S64x256_0_1 (val_main_v41 (F := F))
/-- What `main_v44` holds. -/
def val_main_v44 : (⟨S64x256, .i1⟩ : BufTy).Contents (Elt F) :=
  ori (val_main_v42 (F := F)) (val_main_v43 (F := F))
/-- What `main_v45` holds. -/
def val_main_v45 : (⟨S1x128x256, .i1⟩ : BufTy).Contents (Elt F) :=
  broadcastInDim S1x128x256 ![1, 2] bcast_S128x256_S1x128x256_1_2 (val_main_v35 (F := F))
/-- What `main_v46` holds. -/
def val_main_v46 : (⟨S64x1x256, .i1⟩ : BufTy).Contents (Elt F) :=
  broadcastInDim S64x1x256 ![0, 2] bcast_S64x256_S64x1x256_0_2 (val_main_v44 (F := F))
/-- What `main_v47` holds. -/
def val_main_v47 : (⟨S64x128x256, .i1⟩ : BufTy).Contents (Elt F) :=
  broadcastInDim S64x128x256 ![0, 1, 2] bcast_S1x128x256_S64x128x256_0_1_2 (val_main_v45 (F := F))
/-- What `main_v48` holds. -/
def val_main_v48 : (⟨S64x128x256, .i1⟩ : BufTy).Contents (Elt F) :=
  broadcastInDim S64x128x256 ![0, 1, 2] bcast_S64x1x256_S64x128x256_0_1_2 (val_main_v46 (F := F))
/-- What `main_v49` holds. -/
def val_main_v49 : (⟨S64x128x256, .i1⟩ : BufTy).Contents (Elt F) :=
  andi (val_main_v47 (F := F)) (val_main_v48 (F := F))
/-- What `main_v50` holds. -/
def val_main_v50 : (⟨S1x64x1x1x128x256, .i1⟩ : BufTy).Contents (Elt F) :=
  broadcastInDim S1x64x1x1x128x256 ![1, 4, 5] bcast_S64x128x256_S1x64x1x1x128x256_1_4_5 (val_main_v49 (F := F))
/-- What `main_cst_13` holds. -/
def val_main_cst_13 : (⟨S_, .f32⟩ : BufTy).Contents (Elt F) :=
  constant S_ .f32 0xFF800000#32
/-- What `main_call2_v0` holds. -/
def val_main_call2_v0 : (⟨S_, .f32⟩ : BufTy).Contents (Elt F) :=
  id (val_main_cst_13 (F := F))
/-- What `main_call2_v1` holds. -/
def val_main_call2_v1 : (⟨S2x64x4x8x128x256, .i1⟩ : BufTy).Contents (Elt F) :=
  broadcastInDim S2x64x4x8x128x256 ![0, 1, 2, 3, 4, 5] bcast_S1x64x1x1x128x256_S2x64x4x8x128x256_0_1_2_3_4_5 (val_main_v50 (F := F))
/-- What `main_call2_v2` holds. -/
def val_main_call2_v2 : (⟨S2x64x4x8x128x256, .f32⟩ : BufTy).Contents (Elt F) :=
  broadcastInDim S2x64x4x8x128x256 ![] bcast_S_S2x64x4x8x128x256 (val_main_call2_v0 (F := F))
/-- What `main_v51` holds. -/
def val_main_v51 (x0 : (⟨S2x8192x32x64, .f32⟩ : BufTy).Contents (Elt F)) (x1 : (⟨S2x8192x4x64, .f32⟩ : BufTy).Contents (Elt F)) : (⟨S2x64x4x8x128x256, .f32⟩ : BufTy).Contents (Elt F) :=
  select (val_main_call2_v1 (F := F)) (val_main_v21 (F := F) x0 x1) (val_main_call2_v2 (F := F))
/-- What `main_v52` holds. -/
def val_main_v52 (x3 : (⟨S4x32, .f32⟩ : BufTy).Contents (Elt F)) (x4 : (⟨S1, .i32⟩ : BufTy).Contents (Elt F)) : (⟨S1x1x4x8x1x1, .f32⟩ : BufTy).Contents (Elt F) :=
  shapeCast _ (val_main_v8 (F := F) x3 x4) shapeCasts_S32_S1x1x4x8x1x1
/-- What `main_v53` holds. -/
def val_main_v53 (x3 : (⟨S4x32, .f32⟩ : BufTy).Contents (Elt F)) (x4 : (⟨S1, .i32⟩ : BufTy).Contents (Elt F)) : (⟨S2x64x4x8x128x1, .f32⟩ : BufTy).Contents (Elt F) :=
  broadcastInDim S2x64x4x8x128x1 ![0, 1, 2, 3, 4, 5] bcast_S1x1x4x8x1x1_S2x64x4x8x128x1_0_1_2_3_4_5 (val_main_v52 (F := F) x3 x4)
/-- What `main_v54` holds. -/
def val_main_v54 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x257, .f32⟩ : BufTy).Contents (Elt F) :=
  concatenate S2x64x4x8x128x257 5 [⟨S2x64x4x8x128x256, (val_main_v51 (F := F) x0 x1)⟩, ⟨S2x64x4x8x128x1, (val_main_v53 (F := F) x3 x4)⟩] concatenates_S2x64x4x8x128x256_S2x64x4x8x128x1_S2x64x4x8x128x257_d5
/-- What `main_cst_14` holds. -/
def val_main_cst_14 : (⟨S_, .f32⟩ : BufTy).Contents (Elt F) :=
  constant S_ .f32 0xFF800000#32
/-- What `main_v55` holds. -/
def val_main_v55 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128, .f32⟩ : BufTy).Contents (Elt F) :=
  Host.reduce FloatOps.maximumf (val_main_v54 (F := F) x0 x1 x3 x4) (val_main_cst_14 (F := F)) reducesTo_S2x64x4x8x128x257_S2x64x4x8x128_d5 h_S_
/-- What `main_cst_15` holds. -/
def val_main_cst_15 : (⟨S_, .f32⟩ : BufTy).Contents (Elt F) :=
  constant S_ .f32 0xFF800000#32
/-- What `main_v56` holds. -/
def val_main_v56 : (⟨S2x64x4x8x128, .f32⟩ : BufTy).Contents (Elt F) :=
  broadcastInDim S2x64x4x8x128 ![] bcast_S_S2x64x4x8x128 (val_main_cst_15 (F := F))
/-- What `main_v57` holds. -/
def val_main_v57 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128, .f32⟩ : BufTy).Contents (Elt F) :=
  maximumf (val_main_v56 (F := F)) (val_main_v55 (F := F) x0 x1 x3 x4)
/-- What `main_v58` holds. -/
def val_main_v58 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x1, .f32⟩ : BufTy).Contents (Elt F) :=
  broadcastInDim S2x64x4x8x128x1 ![0, 1, 2, 3, 4] bcast_S2x64x4x8x128_S2x64x4x8x128x1_0_1_2_3_4 (val_main_v57 (F := F) x0 x1 x3 x4)
/-- What `main_v59` holds. -/
def val_main_v59 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x257, .f32⟩ : BufTy).Contents (Elt F) :=
  broadcastInDim S2x64x4x8x128x257 ![0, 1, 2, 3, 4, 5] bcast_S2x64x4x8x128x1_S2x64x4x8x128x257_0_1_2_3_4_5 (val_main_v58 (F := F) x0 x1 x3 x4)
/-- What `main_v60` holds. -/
def val_main_v60 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x257, .f32⟩ : BufTy).Contents (Elt F) :=
  subf (val_main_v54 (F := F) x0 x1 x3 x4) (val_main_v59 (F := F) x0 x1 x3 x4)
/-- What `main_v61` holds. -/
def val_main_v61 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x257, .f32⟩ : BufTy).Contents (Elt F) :=
  Host.exp (val_main_v60 (F := F) x0 x1 x3 x4)
/-- What `main_cst_16` holds. -/
def val_main_cst_16 : (⟨S_, .f32⟩ : BufTy).Contents (Elt F) :=
  constant S_ .f32 0x00000000#32
/-- What `main_v62` holds. -/
def val_main_v62 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128, .f32⟩ : BufTy).Contents (Elt F) :=
  Host.reduceAdd (val_main_v61 (F := F) x0 x1 x3 x4) (val_main_cst_16 (F := F)) reducesTo_S2x64x4x8x128x257_S2x64x4x8x128_d5 h_S_
/-- What `main_v63` holds. -/
def val_main_v63 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x1, .f32⟩ : BufTy).Contents (Elt F) :=
  broadcastInDim S2x64x4x8x128x1 ![0, 1, 2, 3, 4] bcast_S2x64x4x8x128_S2x64x4x8x128x1_0_1_2_3_4 (val_main_v62 (F := F) x0 x1 x3 x4)
/-- What `main_v64` holds. -/
def val_main_v64 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x257, .f32⟩ : BufTy).Contents (Elt F) :=
  broadcastInDim S2x64x4x8x128x257 ![0, 1, 2, 3, 4, 5] bcast_S2x64x4x8x128x1_S2x64x4x8x128x257_0_1_2_3_4_5 (val_main_v63 (F := F) x0 x1 x3 x4)
/-- What `main_v65` holds. -/
def val_main_v65 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x257, .f32⟩ : BufTy).Contents (Elt F) :=
  Host.divf (val_main_v61 (F := F) x0 x1 x3 x4) (val_main_v64 (F := F) x0 x1 x3 x4)
/-- What `main_v66` holds. -/
def val_main_v66 (x0 : (⟨S2x8192x32x64, .f32⟩ : BufTy).Contents (Elt F)) (x1 : (⟨S2x8192x4x64, .f32⟩ : BufTy).Contents (Elt F)) (x3 : (⟨S4x32, .f32⟩ : BufTy).Contents (Elt F)) (x4 : (⟨S1, .i32⟩ : BufTy).Contents (Elt F)) : (⟨S2x64x4x8x128x256, .f32⟩ : BufTy).Contents (Elt F) :=
  extractStridedSlice S2x64x4x8x128x256 ![0, 0, 0, 0, 0, 0] (val_main_v65 (F := F) x0 x1 x3 x4) slices_S2x64x4x8x128x257_S2x64x4x8x128x256_0_0_0_0_0_0
/-- What `main_v67` holds. -/
def val_main_v67 (x0 : (⟨S2x8192x32x64, .f32⟩ : BufTy).Contents (Elt F)) (x1 x2 : (⟨S2x8192x4x64, .f32⟩ : BufTy).Contents (Elt F)) (x3 : (⟨S4x32, .f32⟩ : BufTy).Contents (Elt F)) (x4 : (⟨S1, .i32⟩ : BufTy).Contents (Elt F)) : (⟨S2x64x4x64x8x128, .f32⟩ : BufTy).Contents (Elt F) :=
  Host.dotGeneral dot_S2x64x256x4x64_S2x64x4x8x128x256_S2x64x4x64x8x128_2_5_4_34_013_012 none (val_main_v17 (F := F) x2) (val_main_v66 (F := F) x0 x1 x3 x4)
/-- What `main_v68` holds. -/
def val_main_v68 (x0 : (⟨S2x8192x32x64, .f32⟩ : BufTy).Contents (Elt F)) (x1 x2 : (⟨S2x8192x4x64, .f32⟩ : BufTy).Contents (Elt F)) (x3 : (⟨S4x32, .f32⟩ : BufTy).Contents (Elt F)) (x4 : (⟨S1, .i32⟩ : BufTy).Contents (Elt F)) : (⟨S2x64x128x4x8x64, .f32⟩ : BufTy).Contents (Elt F) :=
  transpose S2x64x128x4x8x64 [0, 1, 5, 2, 4, 3] (val_main_v67 (F := F) x0 x1 x2 x3 x4) transposes_S2x64x4x64x8x128_S2x64x128x4x8x64_0_1_5_2_4_3
/-- What `main_v69` holds. -/
def val_main_v69 (x0 : (⟨S2x8192x32x64, .f32⟩ : BufTy).Contents (Elt F)) (x1 x2 : (⟨S2x8192x4x64, .f32⟩ : BufTy).Contents (Elt F)) (x3 : (⟨S4x32, .f32⟩ : BufTy).Contents (Elt F)) (x4 : (⟨S1, .i32⟩ : BufTy).Contents (Elt F)) : (⟨S16384x2048, .f32⟩ : BufTy).Contents (Elt F) :=
  shapeCast _ (val_main_v68 (F := F) x0 x1 x2 x3 x4) shapeCasts_S2x64x128x4x8x64_S16384x2048
/-- What `main_v70` holds. -/
def val_main_v70 (x0 : (⟨S2x8192x32x64, .f32⟩ : BufTy).Contents (Elt F)) (x1 x2 : (⟨S2x8192x4x64, .f32⟩ : BufTy).Contents (Elt F)) (x3 : (⟨S4x32, .f32⟩ : BufTy).Contents (Elt F)) (x4 : (⟨S1, .i32⟩ : BufTy).Contents (Elt F)) : (⟨S16384x2048, .bf16⟩ : BufTy).Contents (Elt F) :=
  truncf .bf16 (val_main_v69 (F := F) x0 x1 x2 x3 x4) bitsLt_bf16_f32

/-! ## Each stretch -/

section
variable (V : Valuation τ sig (Elt F))
  (x0 : (⟨S2x8192x32x64, .f32⟩ : BufTy).Contents (Elt F)) (x1 x2 : (⟨S2x8192x4x64, .f32⟩ : BufTy).Contents (Elt F)) (x3 : (⟨S4x32, .f32⟩ : BufTy).Contents (Elt F)) (x4 : (⟨S1, .i32⟩ : BufTy).Contents (Elt F))

set_option maxRecDepth 8192 in
/-- Stretch 0 computes `main_v3`. -/
theorem st0_main_v3 (h_main_arg4 : V (Proc.devRef .tc main_arg4) = x4) : after ops0 V (Proc.devRef .tc main_v3) = (val_main_v3 (F := F) x4) := by
  simp only [ops0, TRef.binary, TRef.ternary, TRef.unary, TRef.toBuf, TRef.ofBuf, cast_eq]
  after_results_simp_entrywise
  simp only [h_main_arg4]
  rfl

set_option maxRecDepth 8192 in
/-- Stretch 0 computes `main_v6`. -/
theorem st0_main_v6 (h_main_arg4 : V (Proc.devRef .tc main_arg4) = x4) : after ops0 V (Proc.devRef .tc main_v6) = (val_main_v6 (F := F)) := by
  simp only [ops0, TRef.binary, TRef.ternary, TRef.unary, TRef.toBuf, TRef.ofBuf, cast_eq]
  after_results_simp_entrywise
  rfl

/-- Stretch 0 leaves `main_arg0`. -/
theorem keep0_main_arg0 : after ops0 V (Proc.devRef .tc main_arg0) = V (Proc.devRef .tc main_arg0) := by
  simp only [ops0, TRef.binary, TRef.ternary, TRef.unary, TRef.toBuf, TRef.ofBuf, cast_eq]
  after_results_simp

/-- Stretch 0 leaves `main_arg1`. -/
theorem keep0_main_arg1 : after ops0 V (Proc.devRef .tc main_arg1) = V (Proc.devRef .tc main_arg1) := by
  simp only [ops0, TRef.binary, TRef.ternary, TRef.unary, TRef.toBuf, TRef.ofBuf, cast_eq]
  after_results_simp

/-- Stretch 0 leaves `main_arg2`. -/
theorem keep0_main_arg2 : after ops0 V (Proc.devRef .tc main_arg2) = V (Proc.devRef .tc main_arg2) := by
  simp only [ops0, TRef.binary, TRef.ternary, TRef.unary, TRef.toBuf, TRef.ofBuf, cast_eq]
  after_results_simp

/-- Stretch 0 leaves `main_arg3`. -/
theorem keep0_main_arg3 : after ops0 V (Proc.devRef .tc main_arg3) = V (Proc.devRef .tc main_arg3) := by
  simp only [ops0, TRef.binary, TRef.ternary, TRef.unary, TRef.toBuf, TRef.ofBuf, cast_eq]
  after_results_simp

/-- Stretch 0 leaves `main_arg4`. -/
theorem keep0_main_arg4 : after ops0 V (Proc.devRef .tc main_arg4) = V (Proc.devRef .tc main_arg4) := by
  simp only [ops0, TRef.binary, TRef.ternary, TRef.unary, TRef.toBuf, TRef.ofBuf, cast_eq]
  after_results_simp

set_option maxRecDepth 8192 in
/-- Stretch 1 computes `main_v8`. -/
theorem st1_main_v8 (h_main_arg3 : V (Proc.devRef .tc main_arg3) = x3) (h_main_v3 : V (Proc.devRef .tc main_v3) = (val_main_v3 (F := F) x4)) (h_main_v6 : V (Proc.devRef .tc main_v6) = (val_main_v6 (F := F))) : after ops1 V (Proc.devRef .tc main_v8) = (val_main_v8 (F := F) x3 x4) := by
  simp only [ops1, TRef.binary, TRef.ternary, TRef.unary, TRef.toBuf, TRef.ofBuf, cast_eq]
  after_results_simp_entrywise
  simp only [h_main_arg3, h_main_v3, h_main_v6]
  rfl

/-- Stretch 1 leaves `main_arg0`. -/
theorem keep1_main_arg0 : after ops1 V (Proc.devRef .tc main_arg0) = V (Proc.devRef .tc main_arg0) := by
  simp only [ops1, TRef.binary, TRef.ternary, TRef.unary, TRef.toBuf, TRef.ofBuf, cast_eq]
  after_results_simp

/-- Stretch 1 leaves `main_arg1`. -/
theorem keep1_main_arg1 : after ops1 V (Proc.devRef .tc main_arg1) = V (Proc.devRef .tc main_arg1) := by
  simp only [ops1, TRef.binary, TRef.ternary, TRef.unary, TRef.toBuf, TRef.ofBuf, cast_eq]
  after_results_simp

/-- Stretch 1 leaves `main_arg2`. -/
theorem keep1_main_arg2 : after ops1 V (Proc.devRef .tc main_arg2) = V (Proc.devRef .tc main_arg2) := by
  simp only [ops1, TRef.binary, TRef.ternary, TRef.unary, TRef.toBuf, TRef.ofBuf, cast_eq]
  after_results_simp

/-- Stretch 1 leaves `main_arg3`. -/
theorem keep1_main_arg3 : after ops1 V (Proc.devRef .tc main_arg3) = V (Proc.devRef .tc main_arg3) := by
  simp only [ops1, TRef.binary, TRef.ternary, TRef.unary, TRef.toBuf, TRef.ofBuf, cast_eq]
  after_results_simp

/-- Stretch 1 leaves `main_arg4`. -/
theorem keep1_main_arg4 : after ops1 V (Proc.devRef .tc main_arg4) = V (Proc.devRef .tc main_arg4) := by
  simp only [ops1, TRef.binary, TRef.ternary, TRef.unary, TRef.toBuf, TRef.ofBuf, cast_eq]
  after_results_simp

set_option maxRecDepth 8192 in
/-- Stretch 2 computes `main_v9`. -/
theorem st2_main_v9 (h_main_arg0 : V (Proc.devRef .tc main_arg0) = x0) (h_main_arg1 : V (Proc.devRef .tc main_arg1) = x1) (h_main_arg2 : V (Proc.devRef .tc main_arg2) = x2) : after ops2 V (Proc.devRef .tc main_v9) = (val_main_v9 (F := F) x0) := by
  simp only [ops2, TRef.binary, TRef.ternary, TRef.unary, TRef.toBuf, TRef.ofBuf, cast_eq]
  after_results_simp_entrywise
  simp only [h_main_arg0, h_main_arg1, h_main_arg2]
  rfl

set_option maxRecDepth 8192 in
/-- Stretch 2 computes `main_v13`. -/
theorem st2_main_v13 (h_main_arg0 : V (Proc.devRef .tc main_arg0) = x0) (h_main_arg1 : V (Proc.devRef .tc main_arg1) = x1) (h_main_arg2 : V (Proc.devRef .tc main_arg2) = x2) : after ops2 V (Proc.devRef .tc main_v13) = (val_main_v13 (F := F) x1) := by
  simp only [ops2, TRef.binary, TRef.ternary, TRef.unary, TRef.toBuf, TRef.ofBuf, cast_eq]
  after_results_simp_entrywise
  simp only [h_main_arg0, h_main_arg1, h_main_arg2]
  rfl

set_option maxRecDepth 8192 in
/-- Stretch 2 computes `main_v17`. -/
theorem st2_main_v17 (h_main_arg0 : V (Proc.devRef .tc main_arg0) = x0) (h_main_arg1 : V (Proc.devRef .tc main_arg1) = x1) (h_main_arg2 : V (Proc.devRef .tc main_arg2) = x2) : after ops2 V (Proc.devRef .tc main_v17) = (val_main_v17 (F := F) x2) := by
  simp only [ops2, TRef.binary, TRef.ternary, TRef.unary, TRef.toBuf, TRef.ofBuf, cast_eq]
  after_results_simp_entrywise
  simp only [h_main_arg0, h_main_arg1, h_main_arg2]
  rfl

/-- Stretch 2 leaves `main_arg0`. -/
theorem keep2_main_arg0 : after ops2 V (Proc.devRef .tc main_arg0) = V (Proc.devRef .tc main_arg0) := by
  simp only [ops2, TRef.binary, TRef.ternary, TRef.unary, TRef.toBuf, TRef.ofBuf, cast_eq]
  after_results_simp

/-- Stretch 2 leaves `main_arg1`. -/
theorem keep2_main_arg1 : after ops2 V (Proc.devRef .tc main_arg1) = V (Proc.devRef .tc main_arg1) := by
  simp only [ops2, TRef.binary, TRef.ternary, TRef.unary, TRef.toBuf, TRef.ofBuf, cast_eq]
  after_results_simp

/-- Stretch 2 leaves `main_arg2`. -/
theorem keep2_main_arg2 : after ops2 V (Proc.devRef .tc main_arg2) = V (Proc.devRef .tc main_arg2) := by
  simp only [ops2, TRef.binary, TRef.ternary, TRef.unary, TRef.toBuf, TRef.ofBuf, cast_eq]
  after_results_simp

/-- Stretch 2 leaves `main_arg3`. -/
theorem keep2_main_arg3 : after ops2 V (Proc.devRef .tc main_arg3) = V (Proc.devRef .tc main_arg3) := by
  simp only [ops2, TRef.binary, TRef.ternary, TRef.unary, TRef.toBuf, TRef.ofBuf, cast_eq]
  after_results_simp

/-- Stretch 2 leaves `main_arg4`. -/
theorem keep2_main_arg4 : after ops2 V (Proc.devRef .tc main_arg4) = V (Proc.devRef .tc main_arg4) := by
  simp only [ops2, TRef.binary, TRef.ternary, TRef.unary, TRef.toBuf, TRef.ofBuf, cast_eq]
  after_results_simp

/-- Stretch 2 leaves `main_v8`. -/
theorem keep2_main_v8 : after ops2 V (Proc.devRef .tc main_v8) = V (Proc.devRef .tc main_v8) := by
  simp only [ops2, TRef.binary, TRef.ternary, TRef.unary, TRef.toBuf, TRef.ofBuf, cast_eq]
  after_results_simp

set_option maxRecDepth 8192 in
/-- Stretch 3 computes `main_v21`. -/
theorem st3_main_v21 (h_main_v13 : V (Proc.devRef .tc main_v13) = (val_main_v13 (F := F) x1)) (h_main_v9 : V (Proc.devRef .tc main_v9) = (val_main_v9 (F := F) x0)) : after ops3 V (Proc.devRef .tc main_v21) = (val_main_v21 (F := F) x0 x1) := by
  simp only [ops3, TRef.binary, TRef.ternary, TRef.unary, TRef.toBuf, TRef.ofBuf, cast_eq]
  after_results_simp_entrywise
  simp only [h_main_v13, h_main_v9]
  rfl

/-- Stretch 3 leaves `main_arg0`. -/
theorem keep3_main_arg0 : after ops3 V (Proc.devRef .tc main_arg0) = V (Proc.devRef .tc main_arg0) := by
  simp only [ops3, TRef.binary, TRef.ternary, TRef.unary, TRef.toBuf, TRef.ofBuf, cast_eq]
  after_results_simp

/-- Stretch 3 leaves `main_arg1`. -/
theorem keep3_main_arg1 : after ops3 V (Proc.devRef .tc main_arg1) = V (Proc.devRef .tc main_arg1) := by
  simp only [ops3, TRef.binary, TRef.ternary, TRef.unary, TRef.toBuf, TRef.ofBuf, cast_eq]
  after_results_simp

/-- Stretch 3 leaves `main_arg2`. -/
theorem keep3_main_arg2 : after ops3 V (Proc.devRef .tc main_arg2) = V (Proc.devRef .tc main_arg2) := by
  simp only [ops3, TRef.binary, TRef.ternary, TRef.unary, TRef.toBuf, TRef.ofBuf, cast_eq]
  after_results_simp

/-- Stretch 3 leaves `main_arg3`. -/
theorem keep3_main_arg3 : after ops3 V (Proc.devRef .tc main_arg3) = V (Proc.devRef .tc main_arg3) := by
  simp only [ops3, TRef.binary, TRef.ternary, TRef.unary, TRef.toBuf, TRef.ofBuf, cast_eq]
  after_results_simp

/-- Stretch 3 leaves `main_arg4`. -/
theorem keep3_main_arg4 : after ops3 V (Proc.devRef .tc main_arg4) = V (Proc.devRef .tc main_arg4) := by
  simp only [ops3, TRef.binary, TRef.ternary, TRef.unary, TRef.toBuf, TRef.ofBuf, cast_eq]
  after_results_simp

/-- Stretch 3 leaves `main_v17`. -/
theorem keep3_main_v17 : after ops3 V (Proc.devRef .tc main_v17) = V (Proc.devRef .tc main_v17) := by
  simp only [ops3, TRef.binary, TRef.ternary, TRef.unary, TRef.toBuf, TRef.ofBuf, cast_eq]
  after_results_simp

/-- Stretch 3 leaves `main_v8`. -/
theorem keep3_main_v8 : after ops3 V (Proc.devRef .tc main_v8) = V (Proc.devRef .tc main_v8) := by
  simp only [ops3, TRef.binary, TRef.ternary, TRef.unary, TRef.toBuf, TRef.ofBuf, cast_eq]
  after_results_simp

set_option maxRecDepth 8192 in
/-- Stretch 4 computes `main_v25`. -/
theorem st4_main_v25  : after ops4 V (Proc.devRef .tc main_v25) = (val_main_v25 (F := F)) := by
  simp only [ops4, TRef.binary, TRef.ternary, TRef.unary, TRef.toBuf, TRef.ofBuf, cast_eq]
  after_results_simp_entrywise
  rfl

set_option maxRecDepth 8192 in
/-- Stretch 4 computes `main_v35`. -/
theorem st4_main_v35  : after ops4 V (Proc.devRef .tc main_v35) = (val_main_v35 (F := F)) := by
  simp only [ops4, TRef.binary, TRef.ternary, TRef.unary, TRef.toBuf, TRef.ofBuf, cast_eq]
  after_results_simp_entrywise
  rfl

/-- Stretch 4 leaves `main_arg0`. -/
theorem keep4_main_arg0 : after ops4 V (Proc.devRef .tc main_arg0) = V (Proc.devRef .tc main_arg0) := by
  simp only [ops4, TRef.binary, TRef.ternary, TRef.unary, TRef.toBuf, TRef.ofBuf, cast_eq]
  after_results_simp

/-- Stretch 4 leaves `main_arg1`. -/
theorem keep4_main_arg1 : after ops4 V (Proc.devRef .tc main_arg1) = V (Proc.devRef .tc main_arg1) := by
  simp only [ops4, TRef.binary, TRef.ternary, TRef.unary, TRef.toBuf, TRef.ofBuf, cast_eq]
  after_results_simp

/-- Stretch 4 leaves `main_arg2`. -/
theorem keep4_main_arg2 : after ops4 V (Proc.devRef .tc main_arg2) = V (Proc.devRef .tc main_arg2) := by
  simp only [ops4, TRef.binary, TRef.ternary, TRef.unary, TRef.toBuf, TRef.ofBuf, cast_eq]
  after_results_simp

/-- Stretch 4 leaves `main_arg3`. -/
theorem keep4_main_arg3 : after ops4 V (Proc.devRef .tc main_arg3) = V (Proc.devRef .tc main_arg3) := by
  simp only [ops4, TRef.binary, TRef.ternary, TRef.unary, TRef.toBuf, TRef.ofBuf, cast_eq]
  after_results_simp

/-- Stretch 4 leaves `main_arg4`. -/
theorem keep4_main_arg4 : after ops4 V (Proc.devRef .tc main_arg4) = V (Proc.devRef .tc main_arg4) := by
  simp only [ops4, TRef.binary, TRef.ternary, TRef.unary, TRef.toBuf, TRef.ofBuf, cast_eq]
  after_results_simp

/-- Stretch 4 leaves `main_v17`. -/
theorem keep4_main_v17 : after ops4 V (Proc.devRef .tc main_v17) = V (Proc.devRef .tc main_v17) := by
  simp only [ops4, TRef.binary, TRef.ternary, TRef.unary, TRef.toBuf, TRef.ofBuf, cast_eq]
  after_results_simp

/-- Stretch 4 leaves `main_v21`. -/
theorem keep4_main_v21 : after ops4 V (Proc.devRef .tc main_v21) = V (Proc.devRef .tc main_v21) := by
  simp only [ops4, TRef.binary, TRef.ternary, TRef.unary, TRef.toBuf, TRef.ofBuf, cast_eq]
  after_results_simp

/-- Stretch 4 leaves `main_v8`. -/
theorem keep4_main_v8 : after ops4 V (Proc.devRef .tc main_v8) = V (Proc.devRef .tc main_v8) := by
  simp only [ops4, TRef.binary, TRef.ternary, TRef.unary, TRef.toBuf, TRef.ofBuf, cast_eq]
  after_results_simp

set_option maxRecDepth 8192 in
/-- Stretch 5 computes `main_v50`. -/
theorem st5_main_v50 (h_main_v25 : V (Proc.devRef .tc main_v25) = (val_main_v25 (F := F))) (h_main_v35 : V (Proc.devRef .tc main_v35) = (val_main_v35 (F := F))) : after ops5 V (Proc.devRef .tc main_v50) = (val_main_v50 (F := F)) := by
  simp only [ops5, TRef.binary, TRef.ternary, TRef.unary, TRef.toBuf, TRef.ofBuf, cast_eq]
  after_results_simp_entrywise
  simp only [h_main_v25, h_main_v35]
  rfl

/-- Stretch 5 leaves `main_arg0`. -/
theorem keep5_main_arg0 : after ops5 V (Proc.devRef .tc main_arg0) = V (Proc.devRef .tc main_arg0) := by
  simp only [ops5, TRef.binary, TRef.ternary, TRef.unary, TRef.toBuf, TRef.ofBuf, cast_eq]
  after_results_simp

/-- Stretch 5 leaves `main_arg1`. -/
theorem keep5_main_arg1 : after ops5 V (Proc.devRef .tc main_arg1) = V (Proc.devRef .tc main_arg1) := by
  simp only [ops5, TRef.binary, TRef.ternary, TRef.unary, TRef.toBuf, TRef.ofBuf, cast_eq]
  after_results_simp

/-- Stretch 5 leaves `main_arg2`. -/
theorem keep5_main_arg2 : after ops5 V (Proc.devRef .tc main_arg2) = V (Proc.devRef .tc main_arg2) := by
  simp only [ops5, TRef.binary, TRef.ternary, TRef.unary, TRef.toBuf, TRef.ofBuf, cast_eq]
  after_results_simp

/-- Stretch 5 leaves `main_arg3`. -/
theorem keep5_main_arg3 : after ops5 V (Proc.devRef .tc main_arg3) = V (Proc.devRef .tc main_arg3) := by
  simp only [ops5, TRef.binary, TRef.ternary, TRef.unary, TRef.toBuf, TRef.ofBuf, cast_eq]
  after_results_simp

/-- Stretch 5 leaves `main_arg4`. -/
theorem keep5_main_arg4 : after ops5 V (Proc.devRef .tc main_arg4) = V (Proc.devRef .tc main_arg4) := by
  simp only [ops5, TRef.binary, TRef.ternary, TRef.unary, TRef.toBuf, TRef.ofBuf, cast_eq]
  after_results_simp

/-- Stretch 5 leaves `main_v17`. -/
theorem keep5_main_v17 : after ops5 V (Proc.devRef .tc main_v17) = V (Proc.devRef .tc main_v17) := by
  simp only [ops5, TRef.binary, TRef.ternary, TRef.unary, TRef.toBuf, TRef.ofBuf, cast_eq]
  after_results_simp

/-- Stretch 5 leaves `main_v21`. -/
theorem keep5_main_v21 : after ops5 V (Proc.devRef .tc main_v21) = V (Proc.devRef .tc main_v21) := by
  simp only [ops5, TRef.binary, TRef.ternary, TRef.unary, TRef.toBuf, TRef.ofBuf, cast_eq]
  after_results_simp

/-- Stretch 5 leaves `main_v8`. -/
theorem keep5_main_v8 : after ops5 V (Proc.devRef .tc main_v8) = V (Proc.devRef .tc main_v8) := by
  simp only [ops5, TRef.binary, TRef.ternary, TRef.unary, TRef.toBuf, TRef.ofBuf, cast_eq]
  after_results_simp

set_option maxRecDepth 8192 in
/-- Stretch 6 computes `main_v54`. -/
theorem st6_main_v54 (h_main_v50 : V (Proc.devRef .tc main_v50) = (val_main_v50 (F := F))) (h_main_v21 : V (Proc.devRef .tc main_v21) = (val_main_v21 (F := F) x0 x1)) (h_main_v8 : V (Proc.devRef .tc main_v8) = (val_main_v8 (F := F) x3 x4)) : after ops6 V (Proc.devRef .tc main_v54) = (val_main_v54 (F := F) x0 x1 x3 x4) := by
  simp only [ops6, TRef.binary, TRef.ternary, TRef.unary, TRef.toBuf, TRef.ofBuf, cast_eq]
  after_results_simp_entrywise
  simp only [h_main_v50, h_main_v21, h_main_v8]
  rfl

/-- Stretch 6 leaves `main_arg0`. -/
theorem keep6_main_arg0 : after ops6 V (Proc.devRef .tc main_arg0) = V (Proc.devRef .tc main_arg0) := by
  simp only [ops6, TRef.binary, TRef.ternary, TRef.unary, TRef.toBuf, TRef.ofBuf, cast_eq]
  after_results_simp

/-- Stretch 6 leaves `main_arg1`. -/
theorem keep6_main_arg1 : after ops6 V (Proc.devRef .tc main_arg1) = V (Proc.devRef .tc main_arg1) := by
  simp only [ops6, TRef.binary, TRef.ternary, TRef.unary, TRef.toBuf, TRef.ofBuf, cast_eq]
  after_results_simp

/-- Stretch 6 leaves `main_arg2`. -/
theorem keep6_main_arg2 : after ops6 V (Proc.devRef .tc main_arg2) = V (Proc.devRef .tc main_arg2) := by
  simp only [ops6, TRef.binary, TRef.ternary, TRef.unary, TRef.toBuf, TRef.ofBuf, cast_eq]
  after_results_simp

/-- Stretch 6 leaves `main_arg3`. -/
theorem keep6_main_arg3 : after ops6 V (Proc.devRef .tc main_arg3) = V (Proc.devRef .tc main_arg3) := by
  simp only [ops6, TRef.binary, TRef.ternary, TRef.unary, TRef.toBuf, TRef.ofBuf, cast_eq]
  after_results_simp

/-- Stretch 6 leaves `main_arg4`. -/
theorem keep6_main_arg4 : after ops6 V (Proc.devRef .tc main_arg4) = V (Proc.devRef .tc main_arg4) := by
  simp only [ops6, TRef.binary, TRef.ternary, TRef.unary, TRef.toBuf, TRef.ofBuf, cast_eq]
  after_results_simp

/-- Stretch 6 leaves `main_v17`. -/
theorem keep6_main_v17 : after ops6 V (Proc.devRef .tc main_v17) = V (Proc.devRef .tc main_v17) := by
  simp only [ops6, TRef.binary, TRef.ternary, TRef.unary, TRef.toBuf, TRef.ofBuf, cast_eq]
  after_results_simp

set_option maxRecDepth 8192 in
/-- Stretch 7 computes `main_v61`. -/
theorem st7_main_v61 (h_main_v54 : V (Proc.devRef .tc main_v54) = (val_main_v54 (F := F) x0 x1 x3 x4)) : after ops7 V (Proc.devRef .tc main_v61) = (val_main_v61 (F := F) x0 x1 x3 x4) := by
  simp only [ops7, TRef.binary, TRef.ternary, TRef.unary, TRef.toBuf, TRef.ofBuf, cast_eq]
  after_results_simp_entrywise
  simp only [h_main_v54]
  rfl

/-- Stretch 7 leaves `main_arg0`. -/
theorem keep7_main_arg0 : after ops7 V (Proc.devRef .tc main_arg0) = V (Proc.devRef .tc main_arg0) := by
  simp only [ops7, TRef.binary, TRef.ternary, TRef.unary, TRef.toBuf, TRef.ofBuf, cast_eq]
  after_results_simp

/-- Stretch 7 leaves `main_arg1`. -/
theorem keep7_main_arg1 : after ops7 V (Proc.devRef .tc main_arg1) = V (Proc.devRef .tc main_arg1) := by
  simp only [ops7, TRef.binary, TRef.ternary, TRef.unary, TRef.toBuf, TRef.ofBuf, cast_eq]
  after_results_simp

/-- Stretch 7 leaves `main_arg2`. -/
theorem keep7_main_arg2 : after ops7 V (Proc.devRef .tc main_arg2) = V (Proc.devRef .tc main_arg2) := by
  simp only [ops7, TRef.binary, TRef.ternary, TRef.unary, TRef.toBuf, TRef.ofBuf, cast_eq]
  after_results_simp

/-- Stretch 7 leaves `main_arg3`. -/
theorem keep7_main_arg3 : after ops7 V (Proc.devRef .tc main_arg3) = V (Proc.devRef .tc main_arg3) := by
  simp only [ops7, TRef.binary, TRef.ternary, TRef.unary, TRef.toBuf, TRef.ofBuf, cast_eq]
  after_results_simp

/-- Stretch 7 leaves `main_arg4`. -/
theorem keep7_main_arg4 : after ops7 V (Proc.devRef .tc main_arg4) = V (Proc.devRef .tc main_arg4) := by
  simp only [ops7, TRef.binary, TRef.ternary, TRef.unary, TRef.toBuf, TRef.ofBuf, cast_eq]
  after_results_simp

/-- Stretch 7 leaves `main_v17`. -/
theorem keep7_main_v17 : after ops7 V (Proc.devRef .tc main_v17) = V (Proc.devRef .tc main_v17) := by
  simp only [ops7, TRef.binary, TRef.ternary, TRef.unary, TRef.toBuf, TRef.ofBuf, cast_eq]
  after_results_simp

set_option maxRecDepth 8192 in
/-- Stretch 8 computes `main_v65`. -/
theorem st8_main_v65 (h_main_v61 : V (Proc.devRef .tc main_v61) = (val_main_v61 (F := F) x0 x1 x3 x4)) : after ops8 V (Proc.devRef .tc main_v65) = (val_main_v65 (F := F) x0 x1 x3 x4) := by
  simp only [ops8, TRef.binary, TRef.ternary, TRef.unary, TRef.toBuf, TRef.ofBuf, cast_eq]
  after_results_simp_entrywise
  simp only [h_main_v61]
  rfl

/-- Stretch 8 leaves `main_arg0`. -/
theorem keep8_main_arg0 : after ops8 V (Proc.devRef .tc main_arg0) = V (Proc.devRef .tc main_arg0) := by
  simp only [ops8, TRef.binary, TRef.ternary, TRef.unary, TRef.toBuf, TRef.ofBuf, cast_eq]
  after_results_simp

/-- Stretch 8 leaves `main_arg1`. -/
theorem keep8_main_arg1 : after ops8 V (Proc.devRef .tc main_arg1) = V (Proc.devRef .tc main_arg1) := by
  simp only [ops8, TRef.binary, TRef.ternary, TRef.unary, TRef.toBuf, TRef.ofBuf, cast_eq]
  after_results_simp

/-- Stretch 8 leaves `main_arg2`. -/
theorem keep8_main_arg2 : after ops8 V (Proc.devRef .tc main_arg2) = V (Proc.devRef .tc main_arg2) := by
  simp only [ops8, TRef.binary, TRef.ternary, TRef.unary, TRef.toBuf, TRef.ofBuf, cast_eq]
  after_results_simp

/-- Stretch 8 leaves `main_arg3`. -/
theorem keep8_main_arg3 : after ops8 V (Proc.devRef .tc main_arg3) = V (Proc.devRef .tc main_arg3) := by
  simp only [ops8, TRef.binary, TRef.ternary, TRef.unary, TRef.toBuf, TRef.ofBuf, cast_eq]
  after_results_simp

/-- Stretch 8 leaves `main_arg4`. -/
theorem keep8_main_arg4 : after ops8 V (Proc.devRef .tc main_arg4) = V (Proc.devRef .tc main_arg4) := by
  simp only [ops8, TRef.binary, TRef.ternary, TRef.unary, TRef.toBuf, TRef.ofBuf, cast_eq]
  after_results_simp

/-- Stretch 8 leaves `main_v17`. -/
theorem keep8_main_v17 : after ops8 V (Proc.devRef .tc main_v17) = V (Proc.devRef .tc main_v17) := by
  simp only [ops8, TRef.binary, TRef.ternary, TRef.unary, TRef.toBuf, TRef.ofBuf, cast_eq]
  after_results_simp

set_option maxRecDepth 8192 in
/-- Stretch 9 computes `main_v70`. -/
theorem st9_main_v70 (h_main_v65 : V (Proc.devRef .tc main_v65) = (val_main_v65 (F := F) x0 x1 x3 x4)) (h_main_v17 : V (Proc.devRef .tc main_v17) = (val_main_v17 (F := F) x2)) : after ops9 V (Proc.devRef .tc main_v70) = (val_main_v70 (F := F) x0 x1 x2 x3 x4) := by
  simp only [ops9, TRef.binary, TRef.ternary, TRef.unary, TRef.toBuf, TRef.ofBuf, cast_eq]
  after_results_simp_entrywise
  simp only [h_main_v65, h_main_v17]
  rfl

/-- Stretch 9 leaves `main_arg0`. -/
theorem keep9_main_arg0 : after ops9 V (Proc.devRef .tc main_arg0) = V (Proc.devRef .tc main_arg0) := by
  simp only [ops9, TRef.binary, TRef.ternary, TRef.unary, TRef.toBuf, TRef.ofBuf, cast_eq]
  after_results_simp

/-- Stretch 9 leaves `main_arg1`. -/
theorem keep9_main_arg1 : after ops9 V (Proc.devRef .tc main_arg1) = V (Proc.devRef .tc main_arg1) := by
  simp only [ops9, TRef.binary, TRef.ternary, TRef.unary, TRef.toBuf, TRef.ofBuf, cast_eq]
  after_results_simp

/-- Stretch 9 leaves `main_arg2`. -/
theorem keep9_main_arg2 : after ops9 V (Proc.devRef .tc main_arg2) = V (Proc.devRef .tc main_arg2) := by
  simp only [ops9, TRef.binary, TRef.ternary, TRef.unary, TRef.toBuf, TRef.ofBuf, cast_eq]
  after_results_simp

/-- Stretch 9 leaves `main_arg3`. -/
theorem keep9_main_arg3 : after ops9 V (Proc.devRef .tc main_arg3) = V (Proc.devRef .tc main_arg3) := by
  simp only [ops9, TRef.binary, TRef.ternary, TRef.unary, TRef.toBuf, TRef.ofBuf, cast_eq]
  after_results_simp

/-- Stretch 9 leaves `main_arg4`. -/
theorem keep9_main_arg4 : after ops9 V (Proc.devRef .tc main_arg4) = V (Proc.devRef .tc main_arg4) := by
  simp only [ops9, TRef.binary, TRef.ternary, TRef.unary, TRef.toBuf, TRef.ofBuf, cast_eq]
  after_results_simp

end

section
variable (V : Valuation τ sig (Elt F))

/-- The contents after stretch 0. -/
def V0 : Valuation τ sig (Elt F) := after ops0 V
/-- The contents after stretch 1. -/
def V1 : Valuation τ sig (Elt F) := after ops1 (V0 V)
/-- The contents after stretch 2. -/
def V2 : Valuation τ sig (Elt F) := after ops2 (V1 V)
/-- The contents after stretch 3. -/
def V3 : Valuation τ sig (Elt F) := after ops3 (V2 V)
/-- The contents after stretch 4. -/
def V4 : Valuation τ sig (Elt F) := after ops4 (V3 V)
/-- The contents after stretch 5. -/
def V5 : Valuation τ sig (Elt F) := after ops5 (V4 V)
/-- The contents after stretch 6. -/
def V6 : Valuation τ sig (Elt F) := after ops6 (V5 V)
/-- The contents after stretch 7. -/
def V7 : Valuation τ sig (Elt F) := after ops7 (V6 V)
/-- The contents after stretch 8. -/
def V8 : Valuation τ sig (Elt F) := after ops8 (V7 V)
/-- The contents after stretch 9. -/
def V9 : Valuation τ sig (Elt F) := after ops9 (V8 V)

theorem V0_main_arg0 : V0 V (Proc.devRef .tc main_arg0) = V (Proc.devRef .tc main_arg0) := keep0_main_arg0 V
theorem V0_main_arg1 : V0 V (Proc.devRef .tc main_arg1) = V (Proc.devRef .tc main_arg1) := keep0_main_arg1 V
theorem V0_main_arg2 : V0 V (Proc.devRef .tc main_arg2) = V (Proc.devRef .tc main_arg2) := keep0_main_arg2 V
theorem V0_main_arg3 : V0 V (Proc.devRef .tc main_arg3) = V (Proc.devRef .tc main_arg3) := keep0_main_arg3 V
theorem V0_main_arg4 : V0 V (Proc.devRef .tc main_arg4) = V (Proc.devRef .tc main_arg4) := keep0_main_arg4 V
theorem V0_main_v3 : V0 V (Proc.devRef .tc main_v3) = (val_main_v3 (F := F) (V (Proc.devRef .tc main_arg4))) := st0_main_v3 V (V (Proc.devRef .tc main_arg4)) rfl
theorem V0_main_v6 : V0 V (Proc.devRef .tc main_v6) = (val_main_v6 (F := F)) := st0_main_v6 V (V (Proc.devRef .tc main_arg4)) rfl
theorem V1_main_arg0 : V1 V (Proc.devRef .tc main_arg0) = V (Proc.devRef .tc main_arg0) := (keep1_main_arg0 (V0 V)).trans (V0_main_arg0 V)
theorem V1_main_arg1 : V1 V (Proc.devRef .tc main_arg1) = V (Proc.devRef .tc main_arg1) := (keep1_main_arg1 (V0 V)).trans (V0_main_arg1 V)
theorem V1_main_arg2 : V1 V (Proc.devRef .tc main_arg2) = V (Proc.devRef .tc main_arg2) := (keep1_main_arg2 (V0 V)).trans (V0_main_arg2 V)
theorem V1_main_arg3 : V1 V (Proc.devRef .tc main_arg3) = V (Proc.devRef .tc main_arg3) := (keep1_main_arg3 (V0 V)).trans (V0_main_arg3 V)
theorem V1_main_arg4 : V1 V (Proc.devRef .tc main_arg4) = V (Proc.devRef .tc main_arg4) := (keep1_main_arg4 (V0 V)).trans (V0_main_arg4 V)
theorem V1_main_v8 : V1 V (Proc.devRef .tc main_v8) = (val_main_v8 (F := F) (V (Proc.devRef .tc main_arg3)) (V (Proc.devRef .tc main_arg4))) := st1_main_v8 (V0 V) (V (Proc.devRef .tc main_arg3)) (V (Proc.devRef .tc main_arg4)) (V0_main_arg3 V) (V0_main_v3 V) (V0_main_v6 V)
theorem V2_main_arg0 : V2 V (Proc.devRef .tc main_arg0) = V (Proc.devRef .tc main_arg0) := (keep2_main_arg0 (V1 V)).trans (V1_main_arg0 V)
theorem V2_main_arg1 : V2 V (Proc.devRef .tc main_arg1) = V (Proc.devRef .tc main_arg1) := (keep2_main_arg1 (V1 V)).trans (V1_main_arg1 V)
theorem V2_main_arg2 : V2 V (Proc.devRef .tc main_arg2) = V (Proc.devRef .tc main_arg2) := (keep2_main_arg2 (V1 V)).trans (V1_main_arg2 V)
theorem V2_main_arg3 : V2 V (Proc.devRef .tc main_arg3) = V (Proc.devRef .tc main_arg3) := (keep2_main_arg3 (V1 V)).trans (V1_main_arg3 V)
theorem V2_main_arg4 : V2 V (Proc.devRef .tc main_arg4) = V (Proc.devRef .tc main_arg4) := (keep2_main_arg4 (V1 V)).trans (V1_main_arg4 V)
theorem V2_main_v8 : V2 V (Proc.devRef .tc main_v8) = (val_main_v8 (F := F) (V (Proc.devRef .tc main_arg3)) (V (Proc.devRef .tc main_arg4))) := (keep2_main_v8 (V1 V)).trans (V1_main_v8 V)
theorem V2_main_v9 : V2 V (Proc.devRef .tc main_v9) = (val_main_v9 (F := F) (V (Proc.devRef .tc main_arg0))) := st2_main_v9 (V1 V) (V (Proc.devRef .tc main_arg0)) (V (Proc.devRef .tc main_arg1)) (V (Proc.devRef .tc main_arg2)) (V1_main_arg0 V) (V1_main_arg1 V) (V1_main_arg2 V)
theorem V2_main_v13 : V2 V (Proc.devRef .tc main_v13) = (val_main_v13 (F := F) (V (Proc.devRef .tc main_arg1))) := st2_main_v13 (V1 V) (V (Proc.devRef .tc main_arg0)) (V (Proc.devRef .tc main_arg1)) (V (Proc.devRef .tc main_arg2)) (V1_main_arg0 V) (V1_main_arg1 V) (V1_main_arg2 V)
theorem V2_main_v17 : V2 V (Proc.devRef .tc main_v17) = (val_main_v17 (F := F) (V (Proc.devRef .tc main_arg2))) := st2_main_v17 (V1 V) (V (Proc.devRef .tc main_arg0)) (V (Proc.devRef .tc main_arg1)) (V (Proc.devRef .tc main_arg2)) (V1_main_arg0 V) (V1_main_arg1 V) (V1_main_arg2 V)
theorem V3_main_arg0 : V3 V (Proc.devRef .tc main_arg0) = V (Proc.devRef .tc main_arg0) := (keep3_main_arg0 (V2 V)).trans (V2_main_arg0 V)
theorem V3_main_arg1 : V3 V (Proc.devRef .tc main_arg1) = V (Proc.devRef .tc main_arg1) := (keep3_main_arg1 (V2 V)).trans (V2_main_arg1 V)
theorem V3_main_arg2 : V3 V (Proc.devRef .tc main_arg2) = V (Proc.devRef .tc main_arg2) := (keep3_main_arg2 (V2 V)).trans (V2_main_arg2 V)
theorem V3_main_arg3 : V3 V (Proc.devRef .tc main_arg3) = V (Proc.devRef .tc main_arg3) := (keep3_main_arg3 (V2 V)).trans (V2_main_arg3 V)
theorem V3_main_arg4 : V3 V (Proc.devRef .tc main_arg4) = V (Proc.devRef .tc main_arg4) := (keep3_main_arg4 (V2 V)).trans (V2_main_arg4 V)
theorem V3_main_v8 : V3 V (Proc.devRef .tc main_v8) = (val_main_v8 (F := F) (V (Proc.devRef .tc main_arg3)) (V (Proc.devRef .tc main_arg4))) := (keep3_main_v8 (V2 V)).trans (V2_main_v8 V)
theorem V3_main_v17 : V3 V (Proc.devRef .tc main_v17) = (val_main_v17 (F := F) (V (Proc.devRef .tc main_arg2))) := (keep3_main_v17 (V2 V)).trans (V2_main_v17 V)
theorem V3_main_v21 : V3 V (Proc.devRef .tc main_v21) = (val_main_v21 (F := F) (V (Proc.devRef .tc main_arg0)) (V (Proc.devRef .tc main_arg1))) := st3_main_v21 (V2 V) (V (Proc.devRef .tc main_arg0)) (V (Proc.devRef .tc main_arg1)) (V2_main_v13 V) (V2_main_v9 V)
theorem V4_main_arg0 : V4 V (Proc.devRef .tc main_arg0) = V (Proc.devRef .tc main_arg0) := (keep4_main_arg0 (V3 V)).trans (V3_main_arg0 V)
theorem V4_main_arg1 : V4 V (Proc.devRef .tc main_arg1) = V (Proc.devRef .tc main_arg1) := (keep4_main_arg1 (V3 V)).trans (V3_main_arg1 V)
theorem V4_main_arg2 : V4 V (Proc.devRef .tc main_arg2) = V (Proc.devRef .tc main_arg2) := (keep4_main_arg2 (V3 V)).trans (V3_main_arg2 V)
theorem V4_main_arg3 : V4 V (Proc.devRef .tc main_arg3) = V (Proc.devRef .tc main_arg3) := (keep4_main_arg3 (V3 V)).trans (V3_main_arg3 V)
theorem V4_main_arg4 : V4 V (Proc.devRef .tc main_arg4) = V (Proc.devRef .tc main_arg4) := (keep4_main_arg4 (V3 V)).trans (V3_main_arg4 V)
theorem V4_main_v8 : V4 V (Proc.devRef .tc main_v8) = (val_main_v8 (F := F) (V (Proc.devRef .tc main_arg3)) (V (Proc.devRef .tc main_arg4))) := (keep4_main_v8 (V3 V)).trans (V3_main_v8 V)
theorem V4_main_v17 : V4 V (Proc.devRef .tc main_v17) = (val_main_v17 (F := F) (V (Proc.devRef .tc main_arg2))) := (keep4_main_v17 (V3 V)).trans (V3_main_v17 V)
theorem V4_main_v21 : V4 V (Proc.devRef .tc main_v21) = (val_main_v21 (F := F) (V (Proc.devRef .tc main_arg0)) (V (Proc.devRef .tc main_arg1))) := (keep4_main_v21 (V3 V)).trans (V3_main_v21 V)
theorem V4_main_v25 : V4 V (Proc.devRef .tc main_v25) = (val_main_v25 (F := F)) := st4_main_v25 (V3 V)
theorem V4_main_v35 : V4 V (Proc.devRef .tc main_v35) = (val_main_v35 (F := F)) := st4_main_v35 (V3 V)
theorem V5_main_arg0 : V5 V (Proc.devRef .tc main_arg0) = V (Proc.devRef .tc main_arg0) := (keep5_main_arg0 (V4 V)).trans (V4_main_arg0 V)
theorem V5_main_arg1 : V5 V (Proc.devRef .tc main_arg1) = V (Proc.devRef .tc main_arg1) := (keep5_main_arg1 (V4 V)).trans (V4_main_arg1 V)
theorem V5_main_arg2 : V5 V (Proc.devRef .tc main_arg2) = V (Proc.devRef .tc main_arg2) := (keep5_main_arg2 (V4 V)).trans (V4_main_arg2 V)
theorem V5_main_arg3 : V5 V (Proc.devRef .tc main_arg3) = V (Proc.devRef .tc main_arg3) := (keep5_main_arg3 (V4 V)).trans (V4_main_arg3 V)
theorem V5_main_arg4 : V5 V (Proc.devRef .tc main_arg4) = V (Proc.devRef .tc main_arg4) := (keep5_main_arg4 (V4 V)).trans (V4_main_arg4 V)
theorem V5_main_v8 : V5 V (Proc.devRef .tc main_v8) = (val_main_v8 (F := F) (V (Proc.devRef .tc main_arg3)) (V (Proc.devRef .tc main_arg4))) := (keep5_main_v8 (V4 V)).trans (V4_main_v8 V)
theorem V5_main_v17 : V5 V (Proc.devRef .tc main_v17) = (val_main_v17 (F := F) (V (Proc.devRef .tc main_arg2))) := (keep5_main_v17 (V4 V)).trans (V4_main_v17 V)
theorem V5_main_v21 : V5 V (Proc.devRef .tc main_v21) = (val_main_v21 (F := F) (V (Proc.devRef .tc main_arg0)) (V (Proc.devRef .tc main_arg1))) := (keep5_main_v21 (V4 V)).trans (V4_main_v21 V)
theorem V5_main_v50 : V5 V (Proc.devRef .tc main_v50) = (val_main_v50 (F := F)) := st5_main_v50 (V4 V)  (V4_main_v25 V) (V4_main_v35 V)
theorem V6_main_arg0 : V6 V (Proc.devRef .tc main_arg0) = V (Proc.devRef .tc main_arg0) := (keep6_main_arg0 (V5 V)).trans (V5_main_arg0 V)
theorem V6_main_arg1 : V6 V (Proc.devRef .tc main_arg1) = V (Proc.devRef .tc main_arg1) := (keep6_main_arg1 (V5 V)).trans (V5_main_arg1 V)
theorem V6_main_arg2 : V6 V (Proc.devRef .tc main_arg2) = V (Proc.devRef .tc main_arg2) := (keep6_main_arg2 (V5 V)).trans (V5_main_arg2 V)
theorem V6_main_arg3 : V6 V (Proc.devRef .tc main_arg3) = V (Proc.devRef .tc main_arg3) := (keep6_main_arg3 (V5 V)).trans (V5_main_arg3 V)
theorem V6_main_arg4 : V6 V (Proc.devRef .tc main_arg4) = V (Proc.devRef .tc main_arg4) := (keep6_main_arg4 (V5 V)).trans (V5_main_arg4 V)
theorem V6_main_v17 : V6 V (Proc.devRef .tc main_v17) = (val_main_v17 (F := F) (V (Proc.devRef .tc main_arg2))) := (keep6_main_v17 (V5 V)).trans (V5_main_v17 V)
theorem V6_main_v54 : V6 V (Proc.devRef .tc main_v54) = (val_main_v54 (F := F) (V (Proc.devRef .tc main_arg0)) (V (Proc.devRef .tc main_arg1)) (V (Proc.devRef .tc main_arg3)) (V (Proc.devRef .tc main_arg4))) := st6_main_v54 (V5 V) (V (Proc.devRef .tc main_arg0)) (V (Proc.devRef .tc main_arg1)) (V (Proc.devRef .tc main_arg3)) (V (Proc.devRef .tc main_arg4)) (V5_main_v50 V) (V5_main_v21 V) (V5_main_v8 V)
theorem V7_main_arg0 : V7 V (Proc.devRef .tc main_arg0) = V (Proc.devRef .tc main_arg0) := (keep7_main_arg0 (V6 V)).trans (V6_main_arg0 V)
theorem V7_main_arg1 : V7 V (Proc.devRef .tc main_arg1) = V (Proc.devRef .tc main_arg1) := (keep7_main_arg1 (V6 V)).trans (V6_main_arg1 V)
theorem V7_main_arg2 : V7 V (Proc.devRef .tc main_arg2) = V (Proc.devRef .tc main_arg2) := (keep7_main_arg2 (V6 V)).trans (V6_main_arg2 V)
theorem V7_main_arg3 : V7 V (Proc.devRef .tc main_arg3) = V (Proc.devRef .tc main_arg3) := (keep7_main_arg3 (V6 V)).trans (V6_main_arg3 V)
theorem V7_main_arg4 : V7 V (Proc.devRef .tc main_arg4) = V (Proc.devRef .tc main_arg4) := (keep7_main_arg4 (V6 V)).trans (V6_main_arg4 V)
theorem V7_main_v17 : V7 V (Proc.devRef .tc main_v17) = (val_main_v17 (F := F) (V (Proc.devRef .tc main_arg2))) := (keep7_main_v17 (V6 V)).trans (V6_main_v17 V)
theorem V7_main_v61 : V7 V (Proc.devRef .tc main_v61) = (val_main_v61 (F := F) (V (Proc.devRef .tc main_arg0)) (V (Proc.devRef .tc main_arg1)) (V (Proc.devRef .tc main_arg3)) (V (Proc.devRef .tc main_arg4))) := st7_main_v61 (V6 V) (V (Proc.devRef .tc main_arg0)) (V (Proc.devRef .tc main_arg1)) (V (Proc.devRef .tc main_arg3)) (V (Proc.devRef .tc main_arg4)) (V6_main_v54 V)
theorem V8_main_arg0 : V8 V (Proc.devRef .tc main_arg0) = V (Proc.devRef .tc main_arg0) := (keep8_main_arg0 (V7 V)).trans (V7_main_arg0 V)
theorem V8_main_arg1 : V8 V (Proc.devRef .tc main_arg1) = V (Proc.devRef .tc main_arg1) := (keep8_main_arg1 (V7 V)).trans (V7_main_arg1 V)
theorem V8_main_arg2 : V8 V (Proc.devRef .tc main_arg2) = V (Proc.devRef .tc main_arg2) := (keep8_main_arg2 (V7 V)).trans (V7_main_arg2 V)
theorem V8_main_arg3 : V8 V (Proc.devRef .tc main_arg3) = V (Proc.devRef .tc main_arg3) := (keep8_main_arg3 (V7 V)).trans (V7_main_arg3 V)
theorem V8_main_arg4 : V8 V (Proc.devRef .tc main_arg4) = V (Proc.devRef .tc main_arg4) := (keep8_main_arg4 (V7 V)).trans (V7_main_arg4 V)
theorem V8_main_v17 : V8 V (Proc.devRef .tc main_v17) = (val_main_v17 (F := F) (V (Proc.devRef .tc main_arg2))) := (keep8_main_v17 (V7 V)).trans (V7_main_v17 V)
theorem V8_main_v65 : V8 V (Proc.devRef .tc main_v65) = (val_main_v65 (F := F) (V (Proc.devRef .tc main_arg0)) (V (Proc.devRef .tc main_arg1)) (V (Proc.devRef .tc main_arg3)) (V (Proc.devRef .tc main_arg4))) := st8_main_v65 (V7 V) (V (Proc.devRef .tc main_arg0)) (V (Proc.devRef .tc main_arg1)) (V (Proc.devRef .tc main_arg3)) (V (Proc.devRef .tc main_arg4)) (V7_main_v61 V)
theorem V9_main_arg0 : V9 V (Proc.devRef .tc main_arg0) = V (Proc.devRef .tc main_arg0) := (keep9_main_arg0 (V8 V)).trans (V8_main_arg0 V)
theorem V9_main_arg1 : V9 V (Proc.devRef .tc main_arg1) = V (Proc.devRef .tc main_arg1) := (keep9_main_arg1 (V8 V)).trans (V8_main_arg1 V)
theorem V9_main_arg2 : V9 V (Proc.devRef .tc main_arg2) = V (Proc.devRef .tc main_arg2) := (keep9_main_arg2 (V8 V)).trans (V8_main_arg2 V)
theorem V9_main_arg3 : V9 V (Proc.devRef .tc main_arg3) = V (Proc.devRef .tc main_arg3) := (keep9_main_arg3 (V8 V)).trans (V8_main_arg3 V)
theorem V9_main_arg4 : V9 V (Proc.devRef .tc main_arg4) = V (Proc.devRef .tc main_arg4) := (keep9_main_arg4 (V8 V)).trans (V8_main_arg4 V)
theorem V9_main_v70 : V9 V (Proc.devRef .tc main_v70) = (val_main_v70 (F := F) (V (Proc.devRef .tc main_arg0)) (V (Proc.devRef .tc main_arg1)) (V (Proc.devRef .tc main_arg2)) (V (Proc.devRef .tc main_arg3)) (V (Proc.devRef .tc main_arg4))) := st9_main_v70 (V8 V) (V (Proc.devRef .tc main_arg0)) (V (Proc.devRef .tc main_arg1)) (V (Proc.devRef .tc main_arg2)) (V (Proc.devRef .tc main_arg3)) (V (Proc.devRef .tc main_arg4)) (V8_main_v65 V) (V8_main_v17 V)

theorem after_ops : after ops V = V9 V := by
  simp only [StableHlo.after_append]
  rfl

end

/-- The reference run: the last stage in its result, every argument kept. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v70).trans ((congrFun (after_ops _) _).trans (V9_main_v70 _)),
      (h c main_arg0).trans ((congrFun (after_ops _) _).trans (V9_main_arg0 _)), (h c main_arg1).trans ((congrFun (after_ops _) _).trans (V9_main_arg1 _)), (h c main_arg2).trans ((congrFun (after_ops _) _).trans (V9_main_arg2 _)), (h c main_arg3).trans ((congrFun (after_ops _) _).trans (V9_main_arg3 _)), (h c main_arg4).trans ((congrFun (after_ops _) _).trans (V9_main_arg4 _))⟩)
    (run_seq scopedRefs_eq scopedSems_eq defs main (fun _ => ops) main_eq (fun _ => ops_sub) m ρ)

end Cert.ReferenceIdeal.Attn

end
-- ==== Proof.Attn.RefScores.lean ====
module
public import proofs.«01_k».proof.Proof.Attn.RefRun
public import proofs.«01_k».proof.Proof.Attn.Window
@[expose] public section
set_option maxRecDepth 16384
/-! The reference's scores and mask, entry by entry. -/
noncomputable section
namespace Cert.ReferenceIdeal.Attn
open Cert.ReferenceIdeal Cert.ReferenceIdeal.Gen Idealize.ShloMosaic Idealize.ShloMosaic.TcCoe Idealize.SL.Sem Cert.Attn
variable (q : FVec Ideal S2x8192x32x64 .f32) (k v : FVec Ideal S2x8192x4x64 .f32) (σ : FVec Ideal S4x32 .f32) (l : IVec S1 32)

/-- A maximum over one axis from `⊥` is the supremum over that axis. -/
theorem hostMax {s t u : Shape} {a : Fin s.rank} (x : s.Idx → EReal) (init : u.Idx → EReal) (h' : s.ReducesTo [a] t)
    (h : s.Reduces [a] t) (hu : 0 < u.numel) (j : t.Idx) (hi : init (Shape.Idx.first hu) = ⊥) :
    Host.reduce (max : EReal → EReal → EReal) x init h' hu j = Finset.univ.sup fun k => x (h.lift j k) := by
  rw [Host.reduce_eq_fold_single max x init h' h hu, hi]
  rfl

/-- A sum over one axis from zero is the sum over that axis. -/
theorem hostSum {s t u : Shape} {φ : FTy} {a : Fin s.rank} (x : FVec Ideal s φ) (init : u.Idx → Ideal φ) (h' : s.ReducesTo [a] t)
    (h : s.Reduces [a] t) (hu : 0 < u.numel) (j : t.Idx) (hi : init (Shape.Idx.first hu) = (0 : EReal)) :
    Host.reduceAdd x init h' hu j = ∑ k : Fin (s.size a), (x (h.lift j k) : EReal) := by
  refine (Ideal.hostReduceAdd_single h' h x _ j).trans ?_
  rw [hi, zero_add]

/-- The softmax's axis is dropped. -/
theorem dropsLast : S2x64x4x8x128x257.Reduces [5] S2x64x4x8x128 := by decide

/-- Putting the dropped coordinate back. -/
theorem lift_ix5 (b : Fin 2) (n : Fin 64) (h : Fin 4) (g : Fin 8) (r : Fin 128) (κ : Fin 257)
    (H : S2x64x4x8x128x257.Reduces [5] S2x64x4x8x128) : H.lift (ix5 b n h g r) κ = ix6 b n h g r κ := by
  funext a
  match a with
  | 0 => rfl
  | 1 => rfl
  | 2 => rfl
  | 3 => rfl
  | 4 => rfl
  | 5 => rfl

/-- The keys' padding is zero. -/
theorem padK_zero (i : S_.Idx) : val_main_call0_v0 (F := Ideal) i = (0 : EReal) := by
  show (((0#32 : BitVec 32).toInt : ℝ) : EReal) = 0
  simp

/-- The values' padding is zero. -/
theorem padV_zero (i : S_.Idx) : val_main_call1_v0 (F := Ideal) i = (0 : EReal) := by
  show (((0#32 : BitVec 32).toInt : ℝ) : EReal) = 0
  simp

/-- The scale is an eighth. -/
theorem scale_eighth : Ideal.ofBits .f32 1040187392#32 = ((1 / 8 : ℝ) : EReal) := by
  simp [Ideal.ofBits, Ideal.ieee]
  rw [← EReal.coe_mul]
  norm_num

/-- Which rows lie in a query's window. -/
theorem inWindow (r : Fin 128) (κ : Fin 256) : val_main_v35 (F := Ideal) (ix2 r κ) = if r.val < κ.val ∧ κ.val ≤ r.val + 128 then 1#1 else 0#1 := by
  pointwise [val_main_v35, val_main_v34, val_main_v33, val_main_v32, val_main_v31, val_main_v30, val_main_v29, val_main_v28, val_main_v27,
    val_main_v26, val_main_v25, val_main_v24, val_main_v23, val_main_v22, val_main_c_8, val_main_c_9, val_main_c_10]
  revert r κ
  decide +kernel

/-- Which blocks have one before them. -/
theorem notFirst (n : Fin 64) : val_main_v39 (F := Ideal) (ix2 n (0 : Fin 1)) = if 0 < n.val then 1#1 else 0#1 := by
  pointwise [val_main_v39, val_main_v38, val_main_v37, val_main_v36, val_main_c_11]
  revert n
  decide +kernel

/-- Which rows are the block's own. -/
theorem ownRow (κ : Fin 256) : val_main_v41 (F := Ideal) (ix2 (0 : Fin 1) κ) = if 128 ≤ κ.val then 1#1 else 0#1 := by
  pointwise [val_main_v41, val_main_v40, val_main_v25, val_main_v24, val_main_c_12]
  revert κ
  decide +kernel

/-- The keys of a block, entry by entry. -/
theorem keys_eq (b : Fin 2) (n : Fin 64) (κ : Fin 256) (h : Fin 4) (e : Fin 64) :
    val_main_v13 (F := Ideal) k (ix5 b n κ h e) = padAt k b n κ h e := by
  pointwise [val_main_v13, val_main_v12, val_main_v11, val_main_v10]
  unfold padAt
  simp only [padK_zero]
  split_ifs <;> first | rfl | omega

/-- The values of a block, entry by entry. -/
theorem values_eq (b : Fin 2) (n : Fin 64) (κ : Fin 256) (h : Fin 4) (e : Fin 64) :
    val_main_v17 (F := Ideal) v (ix5 b n κ h e) = padAt v b n κ h e := by
  pointwise [val_main_v17, val_main_v16, val_main_v15, val_main_v14]
  unfold padAt
  simp only [padV_zero]
  split_ifs <;> first | rfl | omega

/-- The queries, entry by entry. -/
theorem queries_eq (b : Fin 2) (n : Fin 64) (r : Fin 128) (h : Fin 4) (g : Fin 8) (e : Fin 64) :
    val_main_v9 (F := Ideal) q (ix6 b n r h g e)
      = q (ix4 b (⟨n.val * 128 + r.val, by omega⟩ : Fin 8192) (⟨h.val * 8 + g.val, by omega⟩ : Fin 32) e) := by
  pointwise [val_main_v9]

/-- The scaled products before the mask. -/
theorem products_eq (b : Fin 2) (n : Fin 64) (h : Fin 4) (g : Fin 8) (r : Fin 128) (κ : Fin 256) :
    val_main_v21 (F := Ideal) q k (ix6 b n h g r κ)
      = (∑ e : Fin 64, padAt k b n κ h e * q (ix4 b (⟨n.val * 128 + r.val, by omega⟩ : Fin 8192) (⟨h.val * 8 + g.val, by omega⟩ : Fin 32) e))
        * ((1 / 8 : ℝ) : EReal) := by
  pointwise [val_main_v21, val_main_v19, val_main_v18, val_main_v20, val_main_cst]
  rw [scale_eighth]
  refine congrArg (· * ((1 / 8 : ℝ) : EReal)) (Finset.sum_congr rfl fun e _ => ?_)
  rw [keys_eq, queries_eq]

/-- A choice by the mask's three conditions. -/
theorem select_seen (A B C : Prop) [Decidable A] [Decidable B] [Decidable C] (x y : EReal) :
    Scalar.select (IntOp.andi (if A then 1#1 else 0#1) (IntOp.ori (if B then 1#1 else 0#1) (if C then 1#1 else 0#1))) x y
      = if A ∧ (B ∨ C) then x else y := by
  by_cases hA : A <;> by_cases hB : B <;> by_cases hC : C <;> simp only [hA, hB, hC, if_true, if_false, and_true, true_and, or_true, true_or, or_false, false_or, false_and, and_false, or_self, and_self] <;> rfl

/-- The masked scores. -/
theorem scores_eq (b : Fin 2) (n : Fin 64) (h : Fin 4) (g : Fin 8) (r : Fin 128) (κ : Fin 256) :
    val_main_v51 (F := Ideal) q k (ix6 b n h g r κ) = scoreAt q k b n h g r κ := by
  pointwise [val_main_v51, val_main_v50, val_main_call2_v0, val_main_call2_v1, val_main_call2_v2, val_main_v49, val_main_v48, val_main_v47,
    val_main_v46, val_main_v45, val_main_v44, val_main_v43, val_main_v42]
  rw [inWindow, notFirst, ownRow, products_eq, select_seen]
  rfl

end Cert.ReferenceIdeal.Attn
end
-- ==== Proof.Attn.Reference.lean ====
module
public import proofs.«01_k».proof.Proof.Attn.RefScores
@[expose] public section
set_option maxRecDepth 16384
/-! The reference's result, entry by entry. -/
noncomputable section
namespace Cert.ReferenceIdeal.Attn
open Cert.ReferenceIdeal Cert.ReferenceIdeal.Gen Idealize.ShloMosaic Idealize.ShloMosaic.TcCoe Idealize.SL.Sem Cert.Attn
variable (q : FVec Ideal S2x8192x32x64 .f32) (k v : FVec Ideal S2x8192x4x64 .f32) (σ : FVec Ideal S4x32 .f32) (l : IVec S1 32)

/-- A small layer index is its own start. -/
theorem start_word (w : BitVec 32) (hl : w.toNat < 4) : (Scalar.select (IntOp.cmpi .slt w 0#32) (IntOp.addi w 4#32) w).toInt = w.toNat := by
  have h : w.toInt = w.toNat := BitVec.toInt_eq_toNat_of_lt (by omega)
  have hs : IntOp.cmpi .slt w 0#32 = 0#1 := by
    unfold IntOp.cmpi
    simp only [BitVec.slt, h]
    rw [decide_eq_false (by simp)]
    rfl
  rw [hs]
  exact h

/-- A layer's slice of the sinks, at a start that is not clamped. -/
theorem slice_layer (st : Fin 2 → Int) (a : ℕ) (ha : a < 4) (h0 : st 0 = a) (h : Fin 32) :
    Host.dynamicSlice S1x32 σ st sliceFits_S4x32_S1x32 (ix2 (0 : Fin 1) h) = σ (ix2 (⟨a, ha⟩ : Fin 4) h) := by
  unfold Host.dynamicSlice
  refine congrArg σ (funext fun c => Fin.ext ?_)
  match c with
  | 0 =>
    show (min (max (st 0) 0) (3 : Int)).toNat + 0 = a
    rw [h0]
    omega
  | 1 =>
    show (min (max (st 1) 0) (0 : Int)).toNat + h.val = h.val
    omega

/-- The slice's start is the layer index. -/
theorem start_eq (hl : (l (ix1 0)).toNat < 4) : (val_main_v3 (F := Ideal) l (Shape.Idx.first h_S_)).toInt = (l (ix1 0)).toNat := by
  refine (congrArg BitVec.toInt ?_).trans (start_word (l (ix1 0)) hl)
  have hv : val_main_v0 (F := Ideal) l (Shape.Idx.first h_S_) = l (ix1 0) := congrArg l (funext fun a => by
    match a with
    | 0 => exact Subsingleton.elim (α := Fin 1) _ _)
  show Scalar.select (IntOp.cmpi .slt (val_main_v0 (F := Ideal) l (Shape.Idx.first h_S_)) 0#32)
    (IntOp.addi (val_main_v0 (F := Ideal) l (Shape.Idx.first h_S_)) 4#32) (val_main_v0 (F := Ideal) l (Shape.Idx.first h_S_)) = _
  rw [hv]

/-- The layer's sinks. -/
theorem sinks_eq (hl : (l (ix1 0)).toNat < 4) (h : Fin 32) :
    val_main_v7 (F := Ideal) σ l (ix2 (0 : Fin 1) h) = σ (ix2 (⟨(l (ix1 0)).toNat, hl⟩ : Fin 4) h) := by
  unfold val_main_v7
  exact slice_layer σ _ _ hl (start_eq l hl) h

/-- The softmax's inputs at a key. -/
theorem inputs_key (b : Fin 2) (n : Fin 64) (h : Fin 4) (g : Fin 8) (r : Fin 128) (κ : Fin 256) :
    val_main_v54 (F := Ideal) q k σ l (ix6 b n h g r κ.castSucc) = scoreAt q k b n h g r κ := by
  generalize hκ' : κ.castSucc = κ'
  pointwise [val_main_v54, val_main_v53, val_main_v52, val_main_v8]
  subst hκ'
  exact (dif_pos κ.isLt).trans (scores_eq q k b n h g r κ)

/-- The softmax's last input is the sink. -/
theorem inputs_sink (hl : (l (ix1 0)).toNat < 4) (b : Fin 2) (n : Fin 64) (h : Fin 4) (g : Fin 8) (r : Fin 128) :
    val_main_v54 (F := Ideal) q k σ l (ix6 b n h g r (Fin.last 256))
      = σ (ix2 (⟨(l (ix1 0)).toNat, hl⟩ : Fin 4) (⟨h.val * 8 + g.val, by omega⟩ : Fin 32)) := by
  generalize hκ' : Fin.last 256 = κ'
  pointwise [val_main_v54, val_main_v53, val_main_v52, val_main_v8]
  subst hκ'
  exact (dif_neg (lt_irrefl 256)).trans (sinks_eq σ l hl _)

/-- The maximum over the last axis. -/
theorem max_last (X : FVec Ideal S2x64x4x8x128x257 .f32) (b : Fin 2) (n : Fin 64) (h : Fin 4) (g : Fin 8) (r : Fin 128) :
    Host.reduce FloatOps.maximumf X (val_main_cst_14 (F := Ideal)) reducesTo_S2x64x4x8x128x257_S2x64x4x8x128_d5 h_S_ (ix5 b n h g r)
      = Finset.univ.sup fun κ : Fin 257 => X (ix6 b n h g r κ) := by
  refine (hostMax X (val_main_cst_14 (F := Ideal)) _ dropsLast _ _ rfl).trans (congrArg Finset.univ.sup (funext fun κ => ?_))
  exact congrArg X (lift_ix5 b n h g r κ dropsLast)

/-- The sum over the last axis. -/
theorem sum_last (X : FVec Ideal S2x64x4x8x128x257 .f32) (b : Fin 2) (n : Fin 64) (h : Fin 4) (g : Fin 8) (r : Fin 128) :
    Host.reduceAdd X (val_main_cst_16 (F := Ideal)) reducesTo_S2x64x4x8x128x257_S2x64x4x8x128_d5 h_S_ (ix5 b n h g r)
      = ∑ κ : Fin 257, (X (ix6 b n h g r κ) : EReal) := by
  refine (hostSum X (val_main_cst_16 (F := Ideal)) _ dropsLast _ _ Ideal.ofBits_zero_f32).trans (Finset.sum_congr rfl fun κ _ => ?_)
  exact congrArg X (lift_ix5 b n h g r κ dropsLast)

/-- The maximum's floor is `⊥`. -/
theorem floor_eq (b : Fin 2) (n : Fin 64) (h : Fin 4) (g : Fin 8) (r : Fin 128) :
    val_main_v56 (F := Ideal) (ix5 b n h g r) = (⊥ : EReal) := by
  pointwise [val_main_v56]
  rfl

/-- A maximum of two arrays at an index. -/
theorem max_at {s : Shape} (x y : FVec Ideal s .f32) (i : s.Idx) : maximumf x y i = max (x i : EReal) (y i) := rfl

/-- A supremum with the last one apart. -/
theorem sup_last (f : Fin 257 → EReal) : Finset.univ.sup f = max (Finset.univ.sup fun κ : Fin 256 => f κ.castSucc) (f (Fin.last 256)) := by
  rw [Fin.univ_castSuccEmb, Finset.sup_cons, Finset.sup_map, max_comm]
  rfl

/-- The softmax's maximum. -/
theorem maximum_eq (hl : (l (ix1 0)).toNat < 4) (b : Fin 2) (n : Fin 64) (h : Fin 4) (g : Fin 8) (r : Fin 128) :
    val_main_v57 (F := Ideal) q k σ l (ix5 b n h g r)
      = max (Finset.univ.sup (scoreAt q k b n h g r)) (σ (ix2 (⟨(l (ix1 0)).toNat, hl⟩ : Fin 4) (⟨h.val * 8 + g.val, by omega⟩ : Fin 32))) := by
  unfold val_main_v57
  rw [max_at, floor_eq, max_eq_right bot_le]
  unfold val_main_v55
  rw [max_last, sup_last, inputs_sink q k σ l hl]
  simp only [inputs_key]

/-- The exponentials. -/
theorem exps_eq (b : Fin 2) (n : Fin 64) (h : Fin 4) (g : Fin 8) (r : Fin 128) (κ : Fin 257) :
    val_main_v61 (F := Ideal) q k σ l (ix6 b n h g r κ)
      = Ideal.exp (val_main_v54 (F := Ideal) q k σ l (ix6 b n h g r κ) - val_main_v57 (F := Ideal) q k σ l (ix5 b n h g r)) := by
  pointwise [val_main_v61, val_main_v60, val_main_v59, val_main_v58]

/-- The softmax's denominator. -/
theorem total_eq (b : Fin 2) (n : Fin 64) (h : Fin 4) (g : Fin 8) (r : Fin 128) :
    val_main_v62 (F := Ideal) q k σ l (ix5 b n h g r) = ∑ κ : Fin 257, val_main_v61 (F := Ideal) q k σ l (ix6 b n h g r κ) := by
  unfold val_main_v62
  exact sum_last _ b n h g r

/-- A probability. -/
theorem prob_eq (b : Fin 2) (n : Fin 64) (h : Fin 4) (g : Fin 8) (r : Fin 128) (κ : Fin 257) :
    val_main_v65 (F := Ideal) q k σ l (ix6 b n h g r κ)
      = Ideal.div (val_main_v61 (F := Ideal) q k σ l (ix6 b n h g r κ)) (val_main_v62 (F := Ideal) q k σ l (ix5 b n h g r)) := by
  pointwise [val_main_v65, val_main_v64, val_main_v63]

/-- A probability from the masked scores and the sink. -/
theorem prob_key (hl : (l (ix1 0)).toNat < 4) (b : Fin 2) (n : Fin 64) (h : Fin 4) (g : Fin 8) (r : Fin 128) (κ : Fin 256)
    (s : EReal) (hs : s = σ (ix2 (⟨(l (ix1 0)).toNat, hl⟩ : Fin 4) (⟨h.val * 8 + g.val, by omega⟩ : Fin 32))) :
    val_main_v65 (F := Ideal) q k σ l (ix6 b n h g r κ.castSucc)
      = Ideal.div (Ideal.exp (scoreAt q k b n h g r κ - max (Finset.univ.sup (scoreAt q k b n h g r)) s))
          (∑ κ', Ideal.exp (scoreAt q k b n h g r κ' - max (Finset.univ.sup (scoreAt q k b n h g r)) s)
            + Ideal.exp (s - max (Finset.univ.sup (scoreAt q k b n h g r)) s)) := by
  subst hs
  rw [prob_eq, total_eq, Fin.sum_univ_castSucc]
  simp only [exps_eq, inputs_key, inputs_sink q k σ l hl, maximum_eq q k σ l hl]

/-- The weighted sum of a block's values. -/
theorem weighted_eq (i : Fin 16384) (j : Fin 2048) :
    val_main_v70 (F := Ideal) q k v σ l (ix2 i j)
      = ∑ κ : Fin 256,
        val_main_v17 (F := Ideal) v (ix5 (⟨i.val / 8192, by omega⟩ : Fin 2) (⟨i.val / 128 % 64, by omega⟩ : Fin 64) κ
          (⟨j.val / 512, by omega⟩ : Fin 4) (⟨j.val % 64, by omega⟩ : Fin 64))
        * val_main_v65 (F := Ideal) q k σ l (ix6 (⟨i.val / 8192, by omega⟩ : Fin 2) (⟨i.val / 128 % 64, by omega⟩ : Fin 64)
          (⟨j.val / 512, by omega⟩ : Fin 4) (⟨j.val / 64 % 8, by omega⟩ : Fin 8) (⟨i.val % 128, by omega⟩ : Fin 128) κ.castSucc) := by
  pointwise [val_main_v70, val_main_v69, val_main_v68, val_main_v67, val_main_v66]
  rfl

/-- The reference's result, entry by entry. -/
theorem result_eq (hl : (l (ix1 0)).toNat < 4) (i : Fin 16384) (j : Fin 2048) :
    val_main_v70 (F := Ideal) q k v σ l (ix2 i j)
      = attnAt q k v σ ⟨(l (ix1 0)).toNat, hl⟩ ⟨i.val / 8192, by omega⟩ ⟨i.val / 128 % 64, by omega⟩ ⟨i.val % 128, by omega⟩
          ⟨j.val / 512, by omega⟩ ⟨j.val / 64 % 8, by omega⟩ ⟨j.val % 64, by omega⟩ := by
  rw [weighted_eq]
  unfold attnAt windowOut
  refine Finset.sum_congr rfl fun κ _ => ?_
  rw [values_eq, prob_key q k σ l hl _ _ _ _ _ κ _ rfl]
  exact mul_comm _ _

end Cert.ReferenceIdeal.Attn
end
-- ==== Proof.Attn.Value.lean ====
module
public import proofs.«01_k».proof.Proof.Attn.ArrayAt
public import proofs.«01_k».proof.Proof.Attn.Finite
public import proofs.«01_k».proof.Proof.Attn.Link
public import proofs.«01_k».proof.Proof.Attn.Reference
@[expose] public section
set_option maxRecDepth 16384
/-! The kernel's result is the reference's. -/
noncomputable section
namespace Cert.KernelIdeal.Attn
open Cert.KernelIdeal Cert.KernelIdeal.Gen Idealize.ShloMosaic Idealize.ShloMosaic.TcCoe Idealize.SL.Sem
variable (m : (ℓ : Loc nD τ sig) → Buf (Elt Ideal) ℓ)

/-- A row of the previous or the own block is a row of the tables. -/
theorem row_kv (c : Dev nD) (t : Fin (cfgM m).N) (b : Fin 2) (n : Fin 64) (ht : t.val = 64 * b.val + n.val)
    (κ : Fin 256) (hκ : 0 < n.val ∨ 128 ≤ κ.val) (j : Fin 512) :
    kvOf (iblk m c 1 t) (iblk m c 2 t) κ j
      = V m c main_v6 (ix2 (seqRow b (if κ.val < 128 then (⟨(n.val - 1) * 128 + κ.val % 128, by omega⟩ : Fin 8192) else (⟨n.val * 128 + (κ.val - 128), by omega⟩ : Fin 8192)))
          (⟨2048 + j.val, by omega⟩ : Fin 2560)) := by
  unfold kvOf
  by_cases h : κ.val < 128
  · refine (dif_pos h).trans ((prev_apply m c t _ j).trans ?_)
    refine congrArg (fun i => V m c main_v6 (ix2 i (⟨2048 + j.val, by omega⟩ : Fin 2560))) (Fin.ext ?_)
    rw [if_pos h]
    show 128 * (t.val - 1) + κ.val = 8192 * b.val + ((n.val - 1) * 128 + κ.val % 128)
    omega
  · refine (dif_neg h).trans ((own_apply m c t _ j).trans ?_)
    refine congrArg (fun i => V m c main_v6 (ix2 i (⟨2048 + j.val, by omega⟩ : Fin 2560))) (Fin.ext ?_)
    rw [if_neg h]
    show 128 * t.val + (κ.val - 128) = 8192 * b.val + (n.val * 128 + (κ.val - 128))
    omega

/-- The keys a block holds are the reference's, where they are in reach. -/
theorem row_key (c : Dev nD) (t : Fin (cfgM m).N) (b : Fin 2) (n : Fin 64) (ht : t.val = 64 * b.val + n.val)
    (κ : Fin 256) (hκ : 0 < n.val ∨ 128 ≤ κ.val) (h : Fin 4) (e : Fin 64) (j : Fin 512) (hj : j.val = 64 * h.val + e.val) :
    kvOf (iblk m c 1 t) (iblk m c 2 t) κ j = Cert.Attn.padAt (m ((c : Thread nD τ).loc main_arg1)) b n κ h e := by
  have hj' : j = ⟨64 * h.val + e.val, by omega⟩ := Fin.ext hj
  rw [hj']
  refine (row_kv m c t b n ht κ hκ _).trans ((entry_k m c b _ h e).trans ?_)
  unfold Cert.Attn.padAt
  by_cases hlt : κ.val < 128
  · rw [if_pos hlt, dif_pos hlt, if_pos (by omega)]
    refine congrArg (fun s => m ((c : Thread nD τ).loc main_arg1) (ix4 b s h e)) (Fin.ext ?_)
    show (n.val - 1) * 128 + κ.val % 128 = (n.val - 1) * 128 + κ.val
    omega
  · rw [if_neg hlt, dif_neg hlt]

/-- The values a block holds are the reference's, where they are in reach. -/
theorem row_value (c : Dev nD) (t : Fin (cfgM m).N) (b : Fin 2) (n : Fin 64) (ht : t.val = 64 * b.val + n.val)
    (κ : Fin 256) (hκ : 0 < n.val ∨ 128 ≤ κ.val) (h : Fin 4) (e : Fin 64) (j : Fin 512) (hj : j.val = 256 + 64 * h.val + e.val) :
    kvOf (iblk m c 1 t) (iblk m c 2 t) κ j = Cert.Attn.padAt (m ((c : Thread nD τ).loc main_arg2)) b n κ h e := by
  have hj' : j = ⟨256 + 64 * h.val + e.val, by omega⟩ := Fin.ext hj
  rw [hj']
  refine (row_kv m c t b n ht κ hκ _).trans ((entry_v m c b _ h e).trans ?_)
  unfold Cert.Attn.padAt
  by_cases hlt : κ.val < 128
  · rw [if_pos hlt, dif_pos hlt, if_pos (by omega)]
    refine congrArg (fun s => m ((c : Thread nD τ).loc main_arg2) (ix4 b s h e)) (Fin.ext ?_)
    show (n.val - 1) * 128 + κ.val % 128 = (n.val - 1) * 128 + κ.val
    omega
  · rw [if_neg hlt, dif_neg hlt]

/-- The layer the body reads is the argument's. -/
theorem layer_eq (c : Dev nD) : layerWord c (tbl m 0) = m ((c : Thread nD τ).loc main_arg4) (ix1 0) := by
  obtain rfl : c = 0 := Subsingleton.elim _ _
  refine Eq.trans ?_ (congrFun (V_main_arg4 m 0) (ix1 0))
  refine congrArg (V m 0 main_arg4) (funext fun a => ?_)
  match a with
  | ⟨0, _⟩ => exact Subsingleton.elim (α := Fin 1) _ _

/-- A block's entry is the attention's. -/
theorem block_attn (h0 : Cert.Pre_KernelIdeal_finite_scores m) (hL : ∀ c, LayerOk c (tbl m 0)) (c : Dev nD) (t : Fin (cfgM m).N) (b : Fin 2) (n : Fin 64)
    (ht : t.val = 64 * b.val + n.val) (r : Fin 128) (h : Fin 4) (g : Fin 8) (e : Fin 64) (j : Fin 2048) (hj : j.val = 64 * (8 * h.val + g.val) + e.val)
    (hl : (m ((c : Thread nD τ).loc main_arg4) (ix1 0)).toNat < 4) :
    outsAt m hL c t (ix2 r j)
      = Cert.Attn.attnAt (m ((c : Thread nD τ).loc main_arg0)) (m ((c : Thread nD τ).loc main_arg1)) (m ((c : Thread nD τ).loc main_arg2))
          (m ((c : Thread nD τ).loc main_arg3)) ⟨_, hl⟩ b n r h g e := by
  have hc : c = 0 := Subsingleton.elim _ _
  obtain ⟨_, hq, hk, hσ⟩ := Cert.Attn.facts_of_pre _ _ _ _ _ (h0 c)
  have hsink : ∀ hh : Fin 32, sinkOf c (iblk m c 3 t) (tbl m 0) (hL c) hh = m ((c : Thread nD τ).loc main_arg3) (ix2 (⟨_, hl⟩ : Fin 4) hh) := by
    intro hh
    refine (sinks_apply m c t _ hh).trans (congrArg (fun l => m ((c : Thread nD τ).loc main_arg3) (ix2 l hh)) (Fin.ext ?_))
    exact congrArg BitVec.toNat (layer_eq m c)
  unfold outsAt
  refine (outBlk_apply _ _ _ _ _ _ _ _ _ _ _ _ _ _ _ _ _ _ _).trans ?_
  unfold blockAt Cert.Attn.attnAt
  rw [← hsink]
  have e1 : (⟨j.val % 64, Nat.mod_lt _ (by omega)⟩ : Fin 64) = e := Fin.ext (by show j.val % 64 = e.val; omega)
  have e2 : (⟨j.val / 64, by omega⟩ : Fin 32) = ⟨h.val * 8 + g.val, by omega⟩ := Fin.ext (by show j.val / 64 = h.val * 8 + g.val; omega)
  show headAt _ _ _ _ r (⟨j.val / 64, _⟩ : Fin 32) (⟨j.val % 64, _⟩ : Fin 64) = _
  rw [e1, e2]
  refine Cert.Attn.headAt_eq _ _ _ hq hk b n h g r e _ _ _ _ _ rfl ?_ ?_ ?_ ?_ ?_
  · rw [hsink]
    exact (hσ _).ne
  · rw [bias_eq, (ix_closed t).1]
    have e3 : t.val % 64 = n.val := by omega
    rw [e3]
  · intro d
    rw [X0_apply]
    refine Eq.trans ?_ (entry_q m c b _ _ d)
    refine congrArg (fun i => V m c main_v6 (ix2 i _)) (Fin.ext ?_)
    show 128 * t.val + r.val = 8192 * b.val + (n.val * 128 + r.val)
    omega
  · intro κ hκ d
    exact row_key m c t b n ht κ hκ h d _ (by show 64 * ((h.val * 8 + g.val) / 8) + d.val = _; omega)
  · intro κ hκ
    exact row_value m c t b n ht κ hκ h e _ (by show 256 + 64 * ((h.val * 8 + g.val) / 8) + e.val = _; omega)

/-- An entry of the kernel's result is the reference's. -/
theorem entry_attn (h0 : Cert.Pre_KernelIdeal_finite_scores m) (hL : ∀ c, LayerOk c (tbl m 0)) (c : Dev nD) (i : Fin 16384) (j : Fin 2048) :
    (dats m hL 0 c).arrAt 4 (cfgM m).N (ix2 i j)
      = Cert.ReferenceIdeal.Attn.val_main_v70 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 i j) := by
  have hl : (m ((c : Thread nD τ).loc main_arg4) (ix1 0)).toNat < 4 := (Cert.Attn.facts_of_pre _ _ _ _ _ (h0 c)).1 _
  have hN : (cfgM m).N = 128 := (by decide : grid0.N = 128)
  have hi : i = rowOf m ⟨i.val / 128, by rw [hN]; omega⟩ ⟨i.val % 128, by omega⟩ :=
    Fin.ext (by show i.val = 128 * (i.val / 128) + i.val % 128; omega)
  rw [Cert.ReferenceIdeal.Attn.result_eq _ _ _ _ _ hl]
  refine (congrArg (fun x => (dats m hL 0 c).arrAt 4 (cfgM m).N (ix2 x j)) hi).trans ?_
  refine (arr_apply m hL c _ _ j).trans ?_
  refine block_attn m h0 hL c _ _ _ ?_ _ _ _ _ j ?_ hl
  · show i.val / 128 = 64 * (i.val / 8192) + i.val / 128 % 64
    omega
  · show j.val = 64 * (8 * (j.val / 512) + j.val / 64 % 8) + j.val % 64
    omega

/-- The kernel's result is what the reference's holds. -/
theorem result_eq (h0 : Cert.Pre_KernelIdeal_finite_scores m) (hL : ∀ c, LayerOk c (tbl m 0)) (c : Dev nD) :
    (dats m hL 0 c).arrAt 4 (cfgM m).N
      = Cert.ReferenceIdeal.Attn.val_main_v70 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  have key : ∀ (i : Fin 16384) (j : Fin 2048), (dats m hL 0 c).arrAt 4 (cfgM m).N (ix2 i j)
      = Cert.ReferenceIdeal.Attn.val_main_v70 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 i j) := entry_attn m h0 hL c
  refine funext fun y : S16384x2048.Idx => ?_
  rw [eq_ix2 y]
  exact key (y 0) (y 1)

end Cert.KernelIdeal.Attn
end
-- ==== Proof.Down.Frame.lean ====
/- The frame of the second product with its layer norm (`Kernel2Ideal`): what each case of the body leaves in the output
   and in the accumulator, what they hold point by point, the launch, and the arguments unchanged, for any float values. -/
module

public import proofs.«01_k».proof.Proof.Gen.Kernel2Ideal.Frame.RunC
public import Idealize.ShloMosaic.Lib.Claim

@[expose] public section

set_option maxRecDepth 16384

noncomputable section

namespace Cert.Kernel2Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point. -/
def out0_A_5 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : cond0_0 i) (hc1 : ¬cond0_1 i) (hc2 : ¬cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) : Vec F S512x4096 .f32 :=
  VO0_5.read (Elt F) (VO0_5.writes (Elt F) VO0_5.junk (kernelRun0_A c i arg3 harg3 arg4 harg4 arg5 harg5 arg6 harg6 arg7 harg7 arg8 harg8 arg9 harg9 hc0 hc1 hc2 x0 x1 x2 x3 x4 xt0).1)

/-- Case A's pieces for scratch `arg9`, which the kernel carries between points, cover it: 8 pieces of `S1x512x512` tiling it. -/
theorem scover0_A_0 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : cond0_0 i) (hc1 : ¬cond0_1 i) (hc2 : ¬cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (y : S8x512x512.Idx) :
    ∃ pc ∈ (kernelRun0_A c i arg3 harg3 arg4 harg4 arg5 harg5 arg6 harg6 arg7 harg7 arg8 harg8 arg9 harg9 hc0 hc1 hc2 x0 x1 x2 x3 x4 xt0).2.1, y ∈ pc.1.set :=
  View.cover_of_tiledL (kernelRun0_A c i arg3 harg3 arg4 harg4 arg5 harg5 arg6 harg6 arg7 harg7 arg8 harg8 arg9 harg9 hc0 hc1 hc2 x0 x1 x2 x3 x4 xt0).2.1 S1x512x512.size (by sl_kernel_rfl) y

/-- What case A leaves in scratch `arg9`: its pieces read back over junk. -/
def sout0_A_0 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : cond0_0 i) (hc1 : ¬cond0_1 i) (hc2 : ¬cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) : Vec F S8x512x512 .f32 :=
  VS0_0.read (Elt F) (VS0_0.writes (Elt F) VS0_0.junk (kernelRun0_A c i arg3 harg3 arg4 harg4 arg5 harg5 arg6 harg6 arg7 harg7 arg8 harg8 arg9 harg9 hc0 hc1 hc2 x0 x1 x2 x3 x4 xt0).2.1)

/-- Case B stores nothing into output 5 (the window is idle at its points and not written back there):
    no pieces — a placeholder (junk read back) that nothing consults, since at these points the window is neither
    written back nor read at the next point. -/
def out0_B_5 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : ¬cond0_0 i) (hc1 : cond0_1 i) (hc2 : ¬cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (xs0 : Vec F S8x512x512 .f32) : Vec F S512x4096 .f32 :=
  VO0_5.read (Elt F) (VO0_5.writes (Elt F) VO0_5.junk (kernelRun0_B c i arg3 harg3 arg4 harg4 arg5 harg5 arg6 harg6 arg7 harg7 arg8 harg8 arg9 harg9 hc0 hc1 hc2 x0 x1 x2 x3 x4 xt0 xs0).1)

/-- Case B's pieces for scratch `arg9`, which the kernel carries between points, cover it: 8 pieces of `S1x512x512` tiling it. -/
theorem scover0_B_0 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : ¬cond0_0 i) (hc1 : cond0_1 i) (hc2 : ¬cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (xs0 : Vec F S8x512x512 .f32) (y : S8x512x512.Idx) :
    ∃ pc ∈ (kernelRun0_B c i arg3 harg3 arg4 harg4 arg5 harg5 arg6 harg6 arg7 harg7 arg8 harg8 arg9 harg9 hc0 hc1 hc2 x0 x1 x2 x3 x4 xt0 xs0).2.1, y ∈ pc.1.set :=
  View.cover_of_tiledL (kernelRun0_B c i arg3 harg3 arg4 harg4 arg5 harg5 arg6 harg6 arg7 harg7 arg8 harg8 arg9 harg9 hc0 hc1 hc2 x0 x1 x2 x3 x4 xt0 xs0).2.1 S1x512x512.size (by sl_kernel_rfl) y

/-- What case B leaves in scratch `arg9`: its pieces read back over junk. -/
def sout0_B_0 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : ¬cond0_0 i) (hc1 : cond0_1 i) (hc2 : ¬cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (xs0 : Vec F S8x512x512 .f32) : Vec F S8x512x512 .f32 :=
  VS0_0.read (Elt F) (VS0_0.writes (Elt F) VS0_0.junk (kernelRun0_B c i arg3 harg3 arg4 harg4 arg5 harg5 arg6 harg6 arg7 harg7 arg8 harg8 arg9 harg9 hc0 hc1 hc2 x0 x1 x2 x3 x4 xt0 xs0).2.1)

/-- Case C's pieces for output 5 tile its block (8 stores of `S512x512`), so they cover it. -/
theorem cover0_C_5 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : ¬cond0_0 i) (hc1 : ¬cond0_1 i) (hc2 : cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (xs0 : Vec F S8x512x512 .f32) (y : S512x4096.Idx) :
    ∃ pc ∈ (kernelRun0_C c i arg3 harg3 arg4 harg4 arg5 harg5 arg6 harg6 arg7 harg7 arg8 harg8 arg9 harg9 hc0 hc1 hc2 x0 x1 x2 x3 x4 xt0 xs0).1, y ∈ pc.1.set :=
  View.cover_of_tiledL (kernelRun0_C c i arg3 harg3 arg4 harg4 arg5 harg5 arg6 harg6 arg7 harg7 arg8 harg8 arg9 harg9 hc0 hc1 hc2 x0 x1 x2 x3 x4 xt0 xs0).1 S512x512.size (by sl_kernel_rfl) y

/-- What case C leaves in output 5's staging buffer: its pieces read back over junk. -/
def out0_C_5 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : ¬cond0_0 i) (hc1 : ¬cond0_1 i) (hc2 : cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (xs0 : Vec F S8x512x512 .f32) : Vec F S512x4096 .f32 :=
  VO0_5.read (Elt F) (VO0_5.writes (Elt F) VO0_5.junk (kernelRun0_C c i arg3 harg3 arg4 harg4 arg5 harg5 arg6 harg6 arg7 harg7 arg8 harg8 arg9 harg9 hc0 hc1 hc2 x0 x1 x2 x3 x4 xt0 xs0).1)

/-- Case C's pieces for scratch `arg9`, which the kernel carries between points, cover it: 8 pieces of `S1x512x512` tiling it. -/
theorem scover0_C_0 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : ¬cond0_0 i) (hc1 : ¬cond0_1 i) (hc2 : cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (xs0 : Vec F S8x512x512 .f32) (y : S8x512x512.Idx) :
    ∃ pc ∈ (kernelRun0_C c i arg3 harg3 arg4 harg4 arg5 harg5 arg6 harg6 arg7 harg7 arg8 harg8 arg9 harg9 hc0 hc1 hc2 x0 x1 x2 x3 x4 xt0 xs0).2.1, y ∈ pc.1.set :=
  View.cover_of_tiledL (kernelRun0_C c i arg3 harg3 arg4 harg4 arg5 harg5 arg6 harg6 arg7 harg7 arg8 harg8 arg9 harg9 hc0 hc1 hc2 x0 x1 x2 x3 x4 xt0 xs0).2.1 S1x512x512.size (by sl_kernel_rfl) y

/-- What case C leaves in scratch `arg9`: its pieces read back over junk. -/
def sout0_C_0 (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole) (hc0 : ¬cond0_0 i) (hc1 : ¬cond0_1 i) (hc2 : cond0_2 i)
    (x0 : Vec F S512x1024 .bf16) (x1 : Vec F S1024x4096 .bf16) (x2 : Vec F S512x4096 .bf16) (x3 : Vec F S1x1x4096 .f32) (x4 : Vec F S1x1x4096 .f32) (xt0 : TbBuf0 (F := F) c tbM0_0) (xs0 : Vec F S8x512x512 .f32) : Vec F S8x512x512 .f32 :=
  VS0_0.read (Elt F) (VS0_0.writes (Elt F) VS0_0.junk (kernelRun0_C c i arg3 harg3 arg4 harg4 arg5 harg5 arg6 harg6 arg7 harg7 arg8 harg8 arg9 harg9 hc0 hc1 hc2 x0 x1 x2 x3 x4 xt0 xs0).2.1)

/-! ## What the outputs hold after each point -/

/-- The accumulation: what the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (hO : Ok m) (c : Dev nD) : (n : ℕ) → n < (cfgM m hO).N → Vec F S512x4096 .f32 × Vec F S8x512x512 .f32
  | 0, hn => (out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0))
  | n + 1, hn =>
    if h0 : (n + 1) % 16 = 0 then
      if h1 : (1 ≤ (n + 1) % 16 ∧ (n + 1) % 16 ≤ 14) then
        False.elim (by have hN : n + 1 < 512 := lt_of_lt_of_eq hn (show (cfgM m hO).N = 512 from N_0); omega)
      else
        if h2 : (n + 1) % 16 = 15 then
          False.elim (by have hN : n + 1 < 512 := lt_of_lt_of_eq hn (show (cfgM m hO).N = 512 from N_0); omega)
        else
          (out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0))
    else
      if h1 : (1 ≤ (n + 1) % 16 ∧ (n + 1) % 16 ≤ 14) then
        if h2 : (n + 1) % 16 = 15 then
          False.elim (by have hN : n + 1 < 512 := lt_of_lt_of_eq hn (show (cfgM m hO).N = 512 from N_0); omega)
        else
          (out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2)
      else
        if h2 : (n + 1) % 16 = 15 then
          (out0_C_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2)
        else
          False.elim (by have hN : n + 1 < 512 := lt_of_lt_of_eq hn (show (cfgM m hO).N = 512 from N_0); omega)

set_option maxHeartbeats 4000000 in
/-- `outsAt0` at a point of case A: that case's contents. -/
theorem outsAt0_A (hO : Ok m) (c : Dev nD) (t : Fin (cfgM m hO).N) (h0 : t.val % 16 = 0) (h1 : ¬(1 ≤ t.val % 16 ∧ t.val % 16 ≤ 14)) (h2 : ¬t.val % 16 = 15) :
    outsAt0 m hO c t.val t.isLt = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (tbl m 0)) := by
  obtain ⟨n, hn⟩ := t
  cases n with
  | zero => exact rfl
  | succ n => exact (dif_pos h0).trans ((dif_neg h1).trans ((dif_neg h2).trans rfl))

set_option maxHeartbeats 4000000 in
/-- `outsAt0` at a point of case B: that case's contents, over what the point before left. -/
theorem outsAt0_B (hO : Ok m) (c : Dev nD) (t : Fin (cfgM m hO).N) (h0 : ¬t.val % 16 = 0) (h1 : (1 ≤ t.val % 16 ∧ t.val % 16 ≤ 14)) (h2 : ¬t.val % 16 = 15) :
    outsAt0 m hO c t.val t.isLt = (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

set_option maxHeartbeats 4000000 in
/-- `outsAt0` at a point of case C: that case's contents, over what the point before left. -/
theorem outsAt0_C (hO : Ok m) (c : Dev nD) (t : Fin (cfgM m hO).N) (h0 : ¬t.val % 16 = 0) (h1 : ¬(1 ≤ t.val % 16 ∧ t.val % 16 ≤ 14)) (h2 : t.val % 16 = 15) :
    outsAt0 m hO c t.val t.isLt = (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    class's (`ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 512 := lt_of_lt_of_eq t.isLt (show (cfgM m hO).N = 512 from N_0)
  by_cases h0 : t.val % 16 = 0
  · by_cases h1 : (1 ≤ t.val % 16 ∧ t.val % 16 ≤ 14)
    · exfalso; omega
    · by_cases h2 : t.val % 16 = 15
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [Dat.leavesExact_idle (dats m hO 0 c) 5 t (idleAt0_5_A m hO t ((hcond0_0 t).mpr h0) (fun h => h1 ((hcond0_1 t).mp h)) (fun h => h2 ((hcond0_2 t).mp h))) (noFlush0_5_A m hO t ((hcond0_0 t).mpr h0) (fun h => h1 ((hcond0_1 t).mp h)) (fun h => h2 ((hcond0_2 t).mp h)))]
        by_cases hz : t.val = 0
        · rw [PhiS_castSucc m hO c t, PhiS_zero m hO c _ _ hz, PhiT0_eq, PhiA0_eq]
          rw [outsAt0_A m hO c t h0 h1 h2]
          unfold sout0_A_0; (try dsimp only)
          iintro ⟨⟨⟨HS0, Hg⟩, HT0⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (tbl m 0)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HT0]; · iexact HT0
          iintro ⟨H0, H1, H2, H3, H4, H5, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS_castSucc m hO c t, PhiS_pos m hO c _ _ hz, PhiT0_eq]
          rw [outsAt0_A m hO c t h0 h1 h2]
          unfold sout0_A_0; (try dsimp only)
          iintro ⟨⟨⟨HS0, Hg⟩, HT0⟩, Ho, ⟨%d0, H0⟩, ⟨%d1, H1⟩, ⟨%d2, H2⟩, ⟨%d3, H3⟩, ⟨%d4, H4⟩, ⟨%d5, H5⟩⟩
          iapply ((kernelRun0_A c (grid0.coords t) _ _ _ _ _ _ _ _ _ _ _ _ _ _ ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (tbl m 0)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          isplitl [HT0]; · iexact HT0
          iintro ⟨H0, H1, H2, H3, H4, H5, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : (1 ≤ t.val % 16 ∧ t.val % 16 ≤ 14)
    · by_cases h2 : t.val % 16 = 15
      · exfalso; omega
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [Dat.leavesExact_idle (dats m hO 0 c) 5 t (idleAt0_5_B m hO t (fun h => h0 ((hcond0_0 t).mp h)) ((hcond0_1 t).mpr h1) (fun h => h2 ((hcond0_2 t).mp h))) (noFlush0_5_B m hO t (fun h => h0 ((hcond0_0 t).mp h)) ((hcond0_1 t).mpr h1) (fun h => h2 ((hcond0_2 t).mp h)))]
        by_cases hz : t.val = 0
        · exfalso; have hN : t.val < 512 := lt_of_lt_of_eq t.isLt (show (cfgM m hO).N = 512 from N_0); omega
        · rw [PhiS_castSucc m hO c t, PhiS_pos m hO c _ _ hz, PhiT0_eq]
          rw [outsAt0_B m hO c t h0 h1 h2]
          unfold sout0_B_0; (try dsimp only)
          iintro ⟨⟨⟨HS0, Hg⟩, HT0⟩, Ho, ⟨%d0, H0⟩, ⟨%d1, H1⟩, ⟨%d2, H2⟩, ⟨%d3, H3⟩, ⟨%d4, H4⟩, ⟨%d5, H5⟩⟩
          iapply ((kernelRun0_B c (grid0.coords t) _ _ _ _ _ _ _ _ _ _ _ _ _ _ (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (tbl m 0) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HT0]; · iexact HT0
          iintro ⟨H0, H1, H2, H3, H4, H5, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          iexists _; iexact H5
    · by_cases h2 : t.val % 16 = 15
      · rw [show (dats m hO 0 c).leavesExact 0 t = owns (c : Thread nD τ) (ms0_0 m hO t) fullShare ((dats m hO 0 c).after 0 t) from by
      unfold Dat.leavesExact; rw [liveAt0_0 m hO t]; try rfl, after0_0]
        rw [show (dats m hO 0 c).leavesExact 1 t = owns (c : Thread nD τ) (ms0_1 m hO t) fullShare ((dats m hO 0 c).after 1 t) from by
      unfold Dat.leavesExact; rw [liveAt0_1 m hO t]; try rfl, after0_1]
        rw [show (dats m hO 0 c).leavesExact 2 t = owns (c : Thread nD τ) (ms0_2 m hO t) fullShare ((dats m hO 0 c).after 2 t) from by
      unfold Dat.leavesExact; rw [liveAt0_2 m hO t]; try rfl, after0_2]
        rw [show (dats m hO 0 c).leavesExact 3 t = owns (c : Thread nD τ) (ms0_3 m hO t) fullShare ((dats m hO 0 c).after 3 t) from by
      unfold Dat.leavesExact; rw [liveAt0_3 m hO t]; try rfl, after0_3]
        rw [show (dats m hO 0 c).leavesExact 4 t = owns (c : Thread nD τ) (ms0_4 m hO t) fullShare ((dats m hO 0 c).after 4 t) from by
      unfold Dat.leavesExact; rw [liveAt0_4 m hO t]; try rfl, after0_4]
        rw [show (dats m hO 0 c).leavesExact 5 t = owns (c : Thread nD τ) (ms0_5 m hO t) fullShare ((dats m hO 0 c).after 5 t) from by
      unfold Dat.leavesExact; rw [liveAt0_5_C m hO t (fun h => h0 ((hcond0_0 t).mp h)) (fun h => h1 ((hcond0_1 t).mp h)) ((hcond0_2 t).mpr h2)]; try rfl, after0_5]
        by_cases hz : t.val = 0
        · exfalso; have hN : t.val < 512 := lt_of_lt_of_eq t.isLt (show (cfgM m hO).N = 512 from N_0); omega
        · rw [PhiS_castSucc m hO c t, PhiS_pos m hO c _ _ hz, PhiT0_eq]
          rw [outsAt0_C m hO c t h0 h1 h2]
          unfold out0_C_5 sout0_C_0; (try dsimp only)
          iintro ⟨⟨⟨HS0, Hg⟩, HT0⟩, Ho, ⟨%d0, H0⟩, ⟨%d1, H1⟩, ⟨%d2, H2⟩, ⟨%d3, H3⟩, ⟨%d4, H4⟩, ⟨%d5, H5⟩⟩
          iapply ((kernelRun0_C c (grid0.coords t) _ _ _ _ _ _ _ _ _ _ _ _ _ _ (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (tbl m 0) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          isplitl [HT0]; · iexact HT0
          iintro ⟨H0, H1, H2, H3, H4, ⟨%e5, H5⟩, ⟨%es0, HS0⟩, HT0⟩
          isplitl [HS0 Hg HT0]
          · isplitl [HS0 Hg]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _)
              iexact Hg
            iexact HT0
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover0_C_5 c _ _ _ _ _ _ _ _ _ _ _ _ _ _ _ _ _ _ _ _ _ _ _ _ _)
      · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 512 := N_0; omega)

/-! ## The run and the frame -/

set_option backward.isDefEq.respectTransparency.types false in
/-- The launch: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame, for any float values, where the windows stay in their arrays: every argument ends as it was and every counter is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.Kernel2Ideal.Down

end
-- ==== Proof.Down.Layer.lean ====
/- The layer index the down projection prefetches: under the precondition the word is below 4, so the rows of scales and
   shifts it names exist. -/
module

public import proofs.«01_k».proof.Defs
public import proofs.«01_k».proof.Proof.Attn.Layer
public import proofs.«01_k».proof.Proof.Down.Frame
public import proofs.«01_k».proof.Proof.Gen.Kernel2
public import proofs.«01_k».proof.Proof.Gen.Pre_layer_index2
public import Idealize.ShloMosaic.Lib.Pointwise

@[expose] public section

noncomputable section

namespace Cert.Down

open Idealize.ShloMosaic Idealize.SL.Sem

/-- The precondition bounds the array's one word. -/
theorem word_of_pre {F : FTy → Type} [FloatOps F] (x0 : FVec F Pre_layer_index2.S2x8192x4096 .f32) (x1 : FVec F Pre_layer_index2.S2x8192x16384 .f32)
    (x2 : FVec F Pre_layer_index2.S4x16384x4096 .f32) (x3 x4 : FVec F Pre_layer_index2.S4x4096 .f32) (x5 : IVec Pre_layer_index2.S1 32)
    (h : Pre_layer_index2.fn x0 x1 x2 x3 x4 x5 = fun _ => 1#1) (i : Pre_layer_index2.S1.Idx) : (x5 i).toNat < 4 := by
  have e := congrFun h (fun a => a.elim0)
  simp only [Pre_layer_index2.fn, andi, cmpi, constantI] at e
  have e' := Cert.Attn.word_lt e
  have : i = Shape.reshapeEquiv (Pre_layer_index2.Facts.shapeCasts_S1_S_) (fun a => a.elim0) := by
    funext a
    match a with
    | ⟨0, _⟩ => exact Subsingleton.elim (α := Fin 1) _ _
  rw [this]
  exact e'

end Cert.Down

namespace Cert.Kernel2Ideal.Down

open Cert.Kernel2Ideal Cert.Kernel2Ideal.Gen Idealize.ShloMosaic Idealize.ShloMosaic.TcCoe Idealize.SL.Sem

section
variable {F : FTy → Type} [FloatOps F]
variable (m : (ℓ : Loc nD τ sig) → Buf (Elt F) ℓ)

/-- The layer the windows of scales and shifts read is the argument's. -/
theorem layer_eq (c : Dev nD) : (tbl m).at 0 (Rect.unit (s := S1) ![0] S1.size inb_S1_S1_0) numel1_S1 = m ((c : Thread nD τ).loc main_arg5) (ix1 0) := by
  obtain rfl : c = 0 := Subsingleton.elim _ _
  refine Eq.trans ?_ (congrFun (V_main_arg5 m 0) (ix1 0))
  refine congrArg (V m 0 main_arg5) (funext fun a => ?_)
  match a with
  | ⟨0, _⟩ => exact Subsingleton.elim (α := Fin 1) _ _

/-- For a layer below 4 the windows stay in their arrays. -/
theorem ok_of_lt (h : (m (((0 : Dev nD) : Thread nD τ).loc main_arg5) (ix1 0)).toNat < 4) : Ok m := by
  rw [← layer_eq m 0] at h
  constructor
  · refine fun i => ⟨fun a => ?_, Or.inl rfl⟩
    match a with
    | ⟨0, _⟩ => exact (by omega : (((tbl m).at 0 (Rect.unit (s := S1) ![0] S1.size inb_S1_S1_0) numel1_S1).toNat + 1) * 1 ≤ 4)
    | ⟨1, _⟩ => exact (by omega : (0 + 1) * 1 ≤ 1)
    | ⟨2, _⟩ => exact (by omega : (0 + 1) * 4096 ≤ 4096)
  · refine fun i => ⟨fun a => ?_, Or.inl rfl⟩
    match a with
    | ⟨0, _⟩ => exact (by omega : (((tbl m).at 0 (Rect.unit (s := S1) ![0] S1.size inb_S1_S1_0) numel1_S1).toNat + 1) * 1 ≤ 4)
    | ⟨1, _⟩ => exact (by omega : (0 + 1) * 1 ≤ 1)
    | ⟨2, _⟩ => exact (by omega : (0 + 1) * 4096 ≤ 4096)

end

/-- The precondition gives the windows' condition, as the kernel runs … -/
theorem ok_bits {m : (ℓ : Loc nD τ sig) → Buf (Elt Bits) ℓ} (h : Cert.Pre_Kernel2 m) : Ok (F := Bits) m :=
  ok_of_lt m (Cert.Down.word_of_pre _ _ _ _ _ _ (h 0) _)

/-- … and over the extended reals. -/
theorem ok_ideal {m : (ℓ : Loc nD τ sig) → Buf (Elt Ideal) ℓ} (h : Cert.Pre_Kernel2Ideal m) : Ok (F := Ideal) m :=
  ok_of_lt m (Cert.Down.word_of_pre _ _ _ _ _ _ (h 0) _)

end Cert.Kernel2Ideal.Down

end
-- ==== Proof.Down.SameText.lean ====
/- The down projection as it runs and its idealization are one text: their procedures are equal, so that the frame of the
   one is the frame of the other. -/
module

public import proofs.«01_k».proof.Proof.Down.Layer

@[expose] public section

set_option maxRecDepth 65536

noncomputable section

namespace Cert.Down

open Idealize.ShloMosaic Idealize.SL.Sem

/-- The kernel bodies are equal … -/
theorem bodies_eq : Cert.Kernel2.defs₀ (F := Bits) = Cert.Kernel2Ideal.defs₀ (F := Bits) := by
  unfold Cert.Kernel2.defs₀ Cert.Kernel2Ideal.defs₀
  refine congrArg Defs.onTc (funext fun (l : Fin 1) => funext fun a => ?_)
  match l with
  | 0 =>
    obtain ⟨t, s⟩ := a
    rfl

/-- … with the pipeline around them … -/
theorem defs_eq : Cert.Kernel2.defs (F := Bits) = Cert.Kernel2Ideal.defs (F := Bits) :=
  congrArg (Pipeline.defs Cert.Kernel2.pcfgs) bodies_eq

set_option maxHeartbeats 8000000 in
/-- … and the host programs. -/
theorem main_eq : Cert.Kernel2.main (F := Bits) = Cert.Kernel2Ideal.main (F := Bits) := rfl

set_option maxHeartbeats 8000000 in
/-- The frame of the down projection as it runs. -/
theorem frame_bits : Cert.quiescent_Kernel2 := by
  intro m ρ h
  rw [defs_eq, main_eq]
  exact Cert.Kernel2Ideal.Down.frame (F := Bits) m ρ (Cert.Kernel2Ideal.Down.ok_bits h)

end Cert.Down

end
-- ==== Proof.Down.Norm.lean ====
/- The layer norm's algebra over the extended reals: the mean and the variance of a row put together from the means and
   the squared deviations of its eight chunks are the row's own, and where a row holds an infinity both deviations are
   infinite. -/
module

public import Idealize.ShloMosaic.PureOps.Ideal
public import Mathlib.Data.EReal.Operations
public import Mathlib.Data.EReal.Inv
public import Mathlib.Tactic.Ring
public import Mathlib.Tactic.FieldSimp
public import Mathlib.Tactic.Linarith

@[expose] public section

noncomputable section

namespace Cert.Down

open Idealize.ShloMosaic

/-- The mean of a family, as a sum scaled by `κ`. -/
def mean {n : ℕ} (κ : ℝ) (z : Fin n → EReal) : EReal := (∑ j, z j) * (κ : EReal)

/-- The sum of the squared deviations from a value. -/
def dev {n : ℕ} (z : Fin n → EReal) (μ : EReal) : EReal := ∑ j, (z j - μ) * (z j - μ)

/-- The mean of the chunks' means. -/
def chunkMean (y : Fin 8 → Fin 512 → EReal) : EReal := mean (1 / 8) fun c => mean (1 / 512) (y c)

/-- The squared deviations of the row: the chunks' own, and those of the chunks' means. -/
def chunkDev (y : Fin 8 → Fin 512 → EReal) : EReal :=
  (∑ c, dev (y c) (mean (1 / 512) (y c))) + ((512 : ℝ) : EReal) * dev (fun c => mean (1 / 512) (y c)) (chunkMean y)

/-- The row as one family. -/
def flat (y : Fin 8 → Fin 512 → EReal) (j : Fin 4096) : EReal := y ⟨j.val / 512, by omega⟩ ⟨j.val % 512, Nat.mod_lt _ (by omega)⟩

/-- A sum over the row is the sum over the chunks of their sums. -/
theorem sum_flat {M : Type} [AddCommMonoid M] (f : Fin 4096 → M) : ∑ j, f j = ∑ c : Fin 8, ∑ j : Fin 512, f ⟨512 * c.val + j.val, by omega⟩ := by
  rw [← Fintype.sum_prod_type']
  refine (Fintype.sum_equiv (finProdFinEquiv (m := 8) (n := 512)) _ _ fun p => ?_).symm
  refine congrArg f (Fin.ext ?_)
  show 512 * p.1.val + p.2.val = p.2.val + 512 * p.1.val
  omega

/-- The row at a chunk's element. -/
theorem flat_at (y : Fin 8 → Fin 512 → EReal) (c : Fin 8) (j : Fin 512) : flat y ⟨512 * c.val + j.val, by omega⟩ = y c j := by
  unfold flat
  exact congrArg₂ y (Fin.ext (by show (512 * c.val + j.val) / 512 = c.val; omega)) (Fin.ext (by show (512 * c.val + j.val) % 512 = j.val; omega))

/-- A square is at least zero. -/
theorem sq_nonneg (x : EReal) : 0 ≤ x * x := by
  induction x with
  | bot => simp
  | top => simp
  | coe r => exact_mod_cast mul_self_nonneg r

/-- Squared deviations are at least zero. -/
theorem dev_nonneg {n : ℕ} (z : Fin n → EReal) (μ : EReal) : 0 ≤ dev z μ := Finset.sum_nonneg fun _ _ => sq_nonneg _

/-- A sum of extended reals that is real has only real terms. -/
theorem real_of_sum {ι : Type} (s : Finset ι) (z : ι → EReal) (h : ∃ r : ℝ, ∑ j ∈ s, z j = r) : ∀ j ∈ s, ∃ r : ℝ, z j = r := by
  classical
  induction s using Finset.induction_on with
  | empty => simp
  | insert a s ha ih =>
    obtain ⟨r, hr⟩ := h
    rw [Finset.sum_insert ha] at hr
    have h1 : ∃ r : ℝ, z a = r := by
      induction hz : z a with
      | bot => rw [hz, EReal.bot_add] at hr; exact absurd hr (EReal.bot_ne_coe r)
      | coe x => exact ⟨x, rfl⟩
      | top =>
        rw [hz] at hr
        induction ht : ∑ j ∈ s, z j with
        | bot => rw [ht] at hr; simp at hr
        | coe x => rw [ht] at hr; simp at hr
        | top => rw [ht] at hr; simp at hr
    have h2 : ∃ r : ℝ, ∑ j ∈ s, z j = r := by
      obtain ⟨x, hx⟩ := h1
      rw [hx] at hr
      induction ht : ∑ j ∈ s, z j with
      | bot => rw [ht] at hr; simp at hr
      | coe x => exact ⟨x, rfl⟩
      | top => rw [ht] at hr; simp at hr
    intro j hj
    rcases Finset.mem_insert.mp hj with rfl | hj
    · exact h1
    · exact ih h2 j hj

/-- A family with an infinity has an infinite mean … -/
theorem mean_infinite {n : ℕ} {κ : ℝ} (hκ : 0 < κ) (z : Fin n → EReal) (h : ¬ ∀ j, ∃ r : ℝ, z j = r) : mean κ z = ⊤ ∨ mean κ z = ⊥ := by
  unfold mean
  induction hs : ∑ j, z j with
  | bot => exact Or.inr (EReal.bot_mul_coe_of_pos hκ)
  | top => exact Or.inl (EReal.top_mul_coe_of_pos hκ)
  | coe x => exact absurd (fun j => real_of_sum Finset.univ z ⟨x, hs⟩ j (Finset.mem_univ j)) h

/-- … and every squared deviation from an infinity is `⊤`. -/
theorem sq_infinite (x : EReal) {μ : EReal} (h : μ = ⊤ ∨ μ = ⊥) : (x - μ) * (x - μ) = ⊤ := by
  rcases h with rfl | rfl <;> induction x <;> simp [sub_eq_add_neg]

/-- So its squared deviations add up to `⊤`. -/
theorem dev_infinite {n : ℕ} {κ : ℝ} (hκ : 0 < κ) (z : Fin n → EReal) (h : ¬ ∀ j, ∃ r : ℝ, z j = r) : dev z (mean κ z) = ⊤ := by
  obtain ⟨j, -⟩ := not_forall.mp h
  refine top_le_iff.mp ?_
  refine le_trans (le_of_eq (sq_infinite (z j) (mean_infinite hκ z h)).symm) ?_
  exact Finset.single_le_sum (f := fun j => (z j - mean κ z) * (z j - mean κ z)) (fun _ _ => sq_nonneg _) (Finset.mem_univ j)

/-- A finite sum of reals, as extended reals. -/
theorem coe_sum {ι : Type} (s : Finset ι) (f : ι → ℝ) : ∑ j ∈ s, (f j : EReal) = ((∑ j ∈ s, f j : ℝ) : EReal) :=
  (map_sum (⟨⟨Real.toEReal, EReal.coe_zero⟩, EReal.coe_add⟩ : ℝ →+ EReal) f s).symm

/-- A mean of reals. -/
theorem mean_coe {n : ℕ} (κ : ℝ) (u : Fin n → ℝ) : mean κ (fun j => (u j : EReal)) = (((∑ j, u j) * κ : ℝ) : EReal) := by
  unfold mean
  rw [coe_sum, EReal.coe_mul]

/-- Squared deviations of reals. -/
theorem dev_coe {n : ℕ} (u : Fin n → ℝ) (μ : ℝ) : dev (fun j => (u j : EReal)) (μ : EReal) = ((∑ j, (u j - μ) * (u j - μ) : ℝ) : EReal) := by
  unfold dev
  rw [← coe_sum]
  refine Finset.sum_congr rfl fun j _ => ?_
  rw [EReal.coe_mul, EReal.coe_sub]

/-- The chunk means' mean is the row's mean. -/
theorem chunkMean_eq_coe (u : Fin 8 → Fin 512 → ℝ) :
    chunkMean (fun c j => (u c j : EReal)) = (((∑ c, ∑ j, u c j) * (1 / 4096) : ℝ) : EReal) := by
  unfold chunkMean
  simp only [mean_coe]
  rw [← Finset.sum_mul]
  congr 1
  ring

/-- Deviations about any value: those about the chunk's mean, and the mean's own. -/
theorem shift (v : Fin 512 → ℝ) (μ : ℝ) : ∑ j, (v j - μ) * (v j - μ)
    = ∑ j, (v j - (∑ i, v i) * (1 / 512)) * (v j - (∑ i, v i) * (1 / 512)) + 512 * (((∑ i, v i) * (1 / 512) - μ) * ((∑ i, v i) * (1 / 512) - μ)) := by
  generalize hs : ∑ i, v i = s
  have e (t : ℝ) : ∑ j, (v j - t) * (v j - t) = ∑ j, v j * v j - 2 * t * s + 512 * (t * t) := by
    rw [← hs, Finset.mul_sum]
    rw [← Finset.sum_sub_distrib]
    have : (512 : ℝ) * (t * t) = ∑ _j : Fin 512, t * t := by simp
    rw [this, ← Finset.sum_add_distrib]
    exact Finset.sum_congr rfl fun j _ => by ring
  rw [e, e]
  ring

/-- The squared deviations put together from the chunks are the row's. -/
theorem chunkDev_eq_coe (u : Fin 8 → Fin 512 → ℝ) :
    chunkDev (fun c j => (u c j : EReal))
      = ((∑ c, ∑ j, (u c j - (∑ c, ∑ j, u c j) * (1 / 4096)) * (u c j - (∑ c, ∑ j, u c j) * (1 / 4096)) : ℝ) : EReal) := by
  unfold chunkDev
  rw [chunkMean_eq_coe]
  simp only [mean_coe, dev_coe]
  rw [coe_sum, ← EReal.coe_mul, ← EReal.coe_add]
  congr 1
  generalize (∑ c, ∑ j, u c j) * (1 / 4096) = μ
  simp only [shift _ μ]
  rw [Finset.sum_add_distrib, Finset.mul_sum]

/-- A row's element, normalised with the chunks' mean and deviations, is the row's own layer norm. -/
theorem norm_eq (y : Fin 8 → Fin 512 → EReal) (c : Fin 8) (j : Fin 512) (ε : ℝ) :
    (y c j - chunkMean y) * Ideal.rsqrt (chunkDev y * ((1 / 4096 : ℝ) : EReal) + (ε : EReal))
      = (y c j - mean (1 / 4096) (flat y)) * Ideal.rsqrt (mean (1 / 4096) (fun i => (flat y i - mean (1 / 4096) (flat y)) * (flat y i - mean (1 / 4096) (flat y))) + (ε : EReal)) := by
  have hvar : mean (1 / 4096) (fun i => (flat y i - mean (1 / 4096) (flat y)) * (flat y i - mean (1 / 4096) (flat y)))
      = dev (flat y) (mean (1 / 4096) (flat y)) * ((1 / 4096 : ℝ) : EReal) := rfl
  rw [hvar]
  by_cases h : ∀ c j, ∃ r : ℝ, y c j = r
  · choose u hu using h
    have hy : y = fun c j => (u c j : EReal) := funext fun c => funext fun j => hu c j
    subst hy
    have hm : mean (1 / 4096) (flat fun c j => (u c j : EReal)) = chunkMean fun c j => (u c j : EReal) := by
      rw [chunkMean_eq_coe]
      unfold mean
      rw [sum_flat]
      simp only [flat_at, coe_sum]
      rw [EReal.coe_mul]
    have hd : dev (flat fun c j => (u c j : EReal)) (mean (1 / 4096) (flat fun c j => (u c j : EReal))) = chunkDev fun c j => (u c j : EReal) := by
      rw [hm, chunkDev_eq_coe, chunkMean_eq_coe]
      unfold dev
      rw [sum_flat]
      simp only [flat_at, ← EReal.coe_sub, ← EReal.coe_mul, coe_sum]
    rw [hd, hm]
  · obtain ⟨c₀, hc₀⟩ := not_forall.mp h
    have hflat : ¬ ∀ i, ∃ r : ℝ, flat y i = r := fun hf => hc₀ fun j => by
      obtain ⟨r, hr⟩ := hf ⟨512 * c₀.val + j.val, by omega⟩
      exact ⟨r, by rw [← hr, flat_at]⟩
    have hdev : chunkDev y = ⊤ := by
      have h1 : (∑ c, dev (y c) (mean (1 / 512) (y c))) = ⊤ := by
        refine top_le_iff.mp ?_
        refine le_trans (le_of_eq (dev_infinite (by norm_num : (0 : ℝ) < 1 / 512) (y c₀) hc₀).symm) ?_
        exact Finset.single_le_sum (f := fun c => dev (y c) (mean (1 / 512) (y c))) (fun _ _ => dev_nonneg _ _) (Finset.mem_univ c₀)
      unfold chunkDev
      rw [h1]
      refine EReal.top_add_of_ne_bot (ne_of_gt (lt_of_lt_of_le EReal.bot_lt_zero (mul_nonneg ?_ (dev_nonneg _ _))))
      exact_mod_cast (by norm_num : (0 : ℝ) ≤ 512)
    have hr (x : ℝ) (hx : 0 < x) : Ideal.rsqrt ((⊤ : EReal) * (x : EReal) + (ε : EReal)) = 0 := by
      rw [EReal.top_mul_coe_of_pos hx, EReal.top_add_coe]
      rfl
    rw [hdev, dev_infinite (by norm_num : (0 : ℝ) < 1 / 4096) (flat y) hflat, hr _ (by norm_num), mul_zero, mul_zero]

end Cert.Down

end
-- ==== Proof.Down.Body.lean ====
/- What one grid point of the down projection leaves in its accumulator, read at an index, at the ideal values. -/
module

public import proofs.«01_k».proof.Proof.Down.Frame
public import proofs.«01_k».proof.Proof.Down.Norm
public import Idealize.ShloMosaic.Lib.Pointwise

@[expose] public section

set_option maxRecDepth 16384

noncomputable section

namespace Cert.Kernel2Ideal.Down

open Cert.Kernel2Ideal Cert.Kernel2Ideal.Gen Idealize.ShloMosaic Idealize.ShloMosaic.TcCoe Idealize.SL.Sem

/-- Chunk `q` of the accumulator lies in it. -/
theorem acc_inb (q : Fin 8) : ∀ a, (![q.val, 0, 0] : Fin 3 → ℕ) a + S1x512x512.size a ≤ S8x512x512.size a := fun a => by
  match a with
  | ⟨0, _⟩ => show q.val + 1 ≤ 8; have := q.isLt; omega
  | ⟨1, _⟩ => exact le_refl _
  | ⟨2, _⟩ => exact le_refl _

/-- The chunk's columns lie in the block of the weights … -/
theorem weight_inb (q : Fin 8) : ∀ a, (![0, 512 * q.val] : Fin 2 → ℕ) a + S1024x512.size a ≤ S1024x4096.size a := fun a => by
  match a with
  | ⟨0, _⟩ => exact le_refl _
  | ⟨1, _⟩ => show 512 * q.val + 512 ≤ 4096; have := q.isLt; omega

/-- … and in the block of the residual. -/
theorem rows_inb (q : Fin 8) : ∀ a, (![0, 512 * q.val] : Fin 2 → ℕ) a + S512x512.size a ≤ S512x4096.size a := fun a => by
  match a with
  | ⟨0, _⟩ => exact le_refl _
  | ⟨1, _⟩ => show 512 * q.val + 512 ≤ 4096; have := q.isLt; omega

/-- Column `j` of chunk `q`. -/
abbrev col (q : Fin 8) (j : Fin 512) : Fin 4096 := ⟨512 * q.val + j.val, by omega⟩

/-- A chunk's accumulator plus its part of the product. -/
theorem addChunk_apply (h : Vec Ideal S512x1024 .bf16) (a : Vec Ideal S1x512x512 .f32) (w : Vec Ideal S1024x512 .bf16) (z : Fin 1) (r j : Fin 512) :
    k0_pay24 h a w (ix3 z r j) = a (ix3 0 r j) + ∑ e : Fin 1024, h (ix2 r e) * w (ix2 e j) := by
  pointwise [k0_pay24, k0_pay23]

/-- The first point's chunk: the scaled residual plus its part of the product. -/
theorem startChunk_apply (h : Vec Ideal S512x1024 .bf16) (x : Vec Ideal S512x512 .bf16) (w : Vec Ideal S1024x512 .bf16) (z : Fin 1) (r j : Fin 512) :
    k0_pay5 h x w (ix3 z r j) = Ideal.ofBits .f32 0x3FD744FD#32 * x (ix2 r j) + ∑ e : Fin 1024, h (ix2 r e) * w (ix2 e j) := by
  pointwise [k0_pay5, k0_pay4]

/-- The product of a block of hidden activations and a block of the weights. -/
def prodAt (x0 : S512x1024.Idx → EReal) (x1 : S1024x4096.Idx → EReal) (y : S8x512x512.Idx) : EReal :=
  ∑ e : Fin 1024, x0 (ix2 (y 1) e) * x1 (ix2 e (col (y 0) (y 2)))

/-- What the first point leaves in the accumulator … -/
def startAt (x0 : S512x1024.Idx → EReal) (x1 : S1024x4096.Idx → EReal) (x2 : S512x4096.Idx → EReal) (y : S8x512x512.Idx) : EReal :=
  Ideal.ofBits .f32 0x3FD744FD#32 * x2 (ix2 (y 1) (col (y 0) (y 2))) + prodAt x0 x1 y

/-- … and what a later point does, of what it found there. -/
def addAt (x0 : S512x1024.Idx → EReal) (x1 : S1024x4096.Idx → EReal) (xs : S8x512x512.Idx → EReal) (y : S8x512x512.Idx) : EReal :=
  xs y + prodAt x0 x1 y

section
variable (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole)
    (x0 : Vec Ideal S512x1024 .bf16) (x1 : Vec Ideal S1024x4096 .bf16) (x2 : Vec Ideal S512x4096 .bf16) (x3 x4 : Vec Ideal S1x1x4096 .f32) (xt : TbBuf0 (F := Ideal) c tbM0_0) (xs : Vec Ideal S8x512x512 .f32)

/-- The block of hidden activations as the body reads it. -/
abbrev hiddenRead : Vec Ideal S512x1024 .bf16 :=
  arg3.view.readAt (Elt Ideal) (Rect.unit (s := S512x1024) ![0, 0] S512x1024.size inb_S512x1024_S512x1024_0_0).toLoadRect (harg3.unread x0)

/-- Chunk `q` of the weights as the body reads it. -/
abbrev weightRead (q : Fin 8) : Vec Ideal S1024x512 .bf16 :=
  arg4.view.readAt (Elt Ideal) (Rect.unit (s := S1024x4096) ![0, 512 * q.val] S1024x512.size (weight_inb q)).toLoadRect (harg4.unread x1)

/-- Chunk `q` of the residual as the body reads it. -/
abbrev rowsRead (q : Fin 8) : Vec Ideal S512x512 .bf16 :=
  arg5.view.readAt (Elt Ideal) (Rect.unit (s := S512x4096) ![0, 512 * q.val] S512x512.size (rows_inb q)).toLoadRect (harg5.unread x2)

/-- Chunk `q` of the accumulator as the body finds it. -/
abbrev accRead (q : Fin 8) : Vec Ideal S1x512x512 .f32 :=
  arg9.view.readAt (Elt Ideal) (Rect.unit (s := S8x512x512) ![q.val, 0, 0] S1x512x512.size (acc_inb q)).toLoadRect (harg9.unread xs)

theorem hiddenRead_apply (r : Fin 512) (e : Fin 1024) : hiddenRead arg3 harg3 x0 (ix2 r e) = x0 (ix2 r e) := by
  simp only [hiddenRead, View.readAt_eq_ld, harg3.read_unread]
  pointwise

theorem weightRead_apply (q : Fin 8) (e : Fin 1024) (j : Fin 512) : weightRead arg4 harg4 x1 q (ix2 e j) = x1 (ix2 e (col q j)) := by
  simp only [weightRead, View.readAt_eq_ld, harg4.read_unread]
  pointwise

theorem rowsRead_apply (q : Fin 8) (r j : Fin 512) : rowsRead arg5 harg5 x2 q (ix2 r j) = x2 (ix2 r (col q j)) := by
  simp only [rowsRead, View.readAt_eq_ld, harg5.read_unread]
  pointwise

theorem accRead_apply (q : Fin 8) (r j : Fin 512) : accRead arg9 harg9 xs q (ix3 0 r j) = xs (ix3 q r j) := by
  simp only [accRead, View.readAt_eq_ld, harg9.read_unread]
  pointwise

/-- The first point's store of chunk `q` … -/
abbrev startStore (q : Fin 8) : View.Piece (Elt Ideal) S8x512x512 .f32 :=
  ⟨Rect.unit ![q.val, 0, 0] S1x512x512.size (acc_inb q), k0_pay5 (hiddenRead arg3 harg3 x0) (rowsRead arg5 harg5 x2 q) (weightRead arg4 harg4 x1 q)⟩

/-- … and a later point's. -/
abbrev addStore (q : Fin 8) : View.Piece (Elt Ideal) S8x512x512 .f32 :=
  ⟨Rect.unit ![q.val, 0, 0] S1x512x512.size (acc_inb q), k0_pay24 (hiddenRead arg3 harg3 x0) (accRead arg9 harg9 xs q) (weightRead arg4 harg4 x1 q)⟩

/-- An index of a chunk, in the accumulator. -/
theorem chunk_emb (q : Fin 8) (z : Fin 1) (r j : Fin 512) :
    (Rect.unit (s := S8x512x512) ![q.val, 0, 0] S1x512x512.size (acc_inb q)).emb (ix3 z r j) = ix3 q r j := by
  funext a
  match a with
  | ⟨0, _⟩ => exact Fin.ext (by show q.val + 1 * z.val = q.val; omega)
  | ⟨1, _⟩ => exact Fin.ext (by show 0 + 1 * r.val = r.val; omega)
  | ⟨2, _⟩ => exact Fin.ext (by show 0 + 1 * j.val = j.val; omega)

theorem startStore_value (q : Fin 8) (z : S1x512x512.Idx) :
    (startStore arg3 harg3 arg4 harg4 arg5 harg5 x0 x1 x2 q).2 z = startAt x0 x1 x2 ((startStore arg3 harg3 arg4 harg4 arg5 harg5 x0 x1 x2 q).1.emb z) := by
  obtain ⟨o, r, j, rfl⟩ : ∃ (o : Fin 1) (r j : Fin 512), z = ix3 o r j := ⟨z 0, z 1, z 2, eq_ix3 z⟩
  refine (startChunk_apply _ _ _ o r j).trans (Eq.trans ?_ (congrArg (startAt x0 x1 x2) (chunk_emb q o r j)).symm)
  rw [rowsRead_apply]
  refine congrArg (Ideal.ofBits .f32 0x3FD744FD#32 * x2 (ix2 r (col q j)) + ·) (Finset.sum_congr rfl fun e _ => ?_)
  rw [hiddenRead_apply, weightRead_apply]
  rfl

theorem addStore_value (q : Fin 8) (z : S1x512x512.Idx) :
    (addStore arg3 harg3 arg4 harg4 arg9 harg9 x0 x1 xs q).2 z = addAt x0 x1 xs ((addStore arg3 harg3 arg4 harg4 arg9 harg9 x0 x1 xs q).1.emb z) := by
  obtain ⟨o, r, j, rfl⟩ : ∃ (o : Fin 1) (r j : Fin 512), z = ix3 o r j := ⟨z 0, z 1, z 2, eq_ix3 z⟩
  refine (addChunk_apply _ _ _ o r j).trans (Eq.trans ?_ (congrArg (addAt x0 x1 xs) (chunk_emb q o r j)).symm)
  rw [accRead_apply]
  refine congrArg (xs (ix3 q r j) + ·) (Finset.sum_congr rfl fun e _ => ?_)
  rw [hiddenRead_apply, weightRead_apply]
  rfl

/-- The eight stores of the first point, last first … -/
abbrev startStores : List (View.Piece (Elt Ideal) S8x512x512 .f32) := [startStore arg3 harg3 arg4 harg4 arg5 harg5 x0 x1 x2 7, startStore arg3 harg3 arg4 harg4 arg5 harg5 x0 x1 x2 6, startStore arg3 harg3 arg4 harg4 arg5 harg5 x0 x1 x2 5, startStore arg3 harg3 arg4 harg4 arg5 harg5 x0 x1 x2 4, startStore arg3 harg3 arg4 harg4 arg5 harg5 x0 x1 x2 3, startStore arg3 harg3 arg4 harg4 arg5 harg5 x0 x1 x2 2, startStore arg3 harg3 arg4 harg4 arg5 harg5 x0 x1 x2 1, startStore arg3 harg3 arg4 harg4 arg5 harg5 x0 x1 x2 0]

/-- … and of a later one. -/
abbrev addStores : List (View.Piece (Elt Ideal) S8x512x512 .f32) := [addStore arg3 harg3 arg4 harg4 arg9 harg9 x0 x1 xs 7, addStore arg3 harg3 arg4 harg4 arg9 harg9 x0 x1 xs 6, addStore arg3 harg3 arg4 harg4 arg9 harg9 x0 x1 xs 5, addStore arg3 harg3 arg4 harg4 arg9 harg9 x0 x1 xs 4, addStore arg3 harg3 arg4 harg4 arg9 harg9 x0 x1 xs 3, addStore arg3 harg3 arg4 harg4 arg9 harg9 x0 x1 xs 2, addStore arg3 harg3 arg4 harg4 arg9 harg9 x0 x1 xs 1, addStore arg3 harg3 arg4 harg4 arg9 harg9 x0 x1 xs 0]

set_option maxHeartbeats 4000000 in
theorem stores_A (hc0 : cond0_0 i) (hc1 : ¬cond0_1 i) (hc2 : ¬cond0_2 i) :
    (kernelRun0_A c i arg3 harg3 arg4 harg4 arg5 harg5 arg6 harg6 arg7 harg7 arg8 harg8 arg9 harg9 hc0 hc1 hc2 x0 x1 x2 x3 x4 xt).2.1 = startStores arg3 harg3 arg4 harg4 arg5 harg5 x0 x1 x2 := by
  unfold kernelRun0_A
  dsimp only
  sl_unfold_words
  rfl

set_option maxHeartbeats 4000000 in
theorem stores_B (hc0 : ¬cond0_0 i) (hc1 : cond0_1 i) (hc2 : ¬cond0_2 i) :
    (kernelRun0_B c i arg3 harg3 arg4 harg4 arg5 harg5 arg6 harg6 arg7 harg7 arg8 harg8 arg9 harg9 hc0 hc1 hc2 x0 x1 x2 x3 x4 xt xs).2.1 = addStores arg3 harg3 arg4 harg4 arg9 harg9 x0 x1 xs := by
  unfold kernelRun0_B
  dsimp only
  sl_unfold_words
  rfl

/-- What the first point leaves in the accumulator. -/
theorem sout_A (hc0 : cond0_0 i) (hc1 : ¬cond0_1 i) (hc2 : ¬cond0_2 i) (y : S8x512x512.Idx) :
    sout0_A_0 c i arg3 harg3 arg4 harg4 arg5 harg5 arg6 harg6 arg7 harg7 arg8 harg8 arg9 harg9 hc0 hc1 hc2 x0 x1 x2 x3 x4 xt y = startAt x0 x1 x2 y := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4 xt)]
  refine View.canon_apply_of_pieces (startAt x0 x1 x2) _ ?_ y (scover0_A_0 c i arg3 harg3 arg4 harg4 arg5 harg5 arg6 harg6 arg7 harg7 arg8 harg8 arg9 harg9 hc0 hc1 hc2 x0 x1 x2 x3 x4 xt y)
  rw [stores_A]
  simp only [startStores, List.mem_cons, List.not_mem_nil, or_false, forall_eq_or_imp, forall_eq]
  exact ⟨startStore_value _ _ _ _ _ _ _ _ _ 7, startStore_value _ _ _ _ _ _ _ _ _ 6, startStore_value _ _ _ _ _ _ _ _ _ 5, startStore_value _ _ _ _ _ _ _ _ _ 4, startStore_value _ _ _ _ _ _ _ _ _ 3, startStore_value _ _ _ _ _ _ _ _ _ 2, startStore_value _ _ _ _ _ _ _ _ _ 1, startStore_value _ _ _ _ _ _ _ _ _ 0⟩

/-- What a point between the first and the last leaves there … -/
theorem sout_B (hc0 : ¬cond0_0 i) (hc1 : cond0_1 i) (hc2 : ¬cond0_2 i) (y : S8x512x512.Idx) :
    sout0_B_0 c i arg3 harg3 arg4 harg4 arg5 harg5 arg6 harg6 arg7 harg7 arg8 harg8 arg9 harg9 hc0 hc1 hc2 x0 x1 x2 x3 x4 xt xs y = addAt x0 x1 xs y := by
  unfold sout0_B_0
  rw [View.read_writes_eq_canon _ _ _ (scover0_B_0 c i arg3 harg3 arg4 harg4 arg5 harg5 arg6 harg6 arg7 harg7 arg8 harg8 arg9 harg9 hc0 hc1 hc2 x0 x1 x2 x3 x4 xt xs)]
  refine View.canon_apply_of_pieces (addAt x0 x1 xs) _ ?_ y (scover0_B_0 c i arg3 harg3 arg4 harg4 arg5 harg5 arg6 harg6 arg7 harg7 arg8 harg8 arg9 harg9 hc0 hc1 hc2 x0 x1 x2 x3 x4 xt xs y)
  rw [stores_B]
  simp only [addStores, List.mem_cons, List.not_mem_nil, or_false, forall_eq_or_imp, forall_eq]
  exact ⟨addStore_value _ _ _ _ _ _ _ _ _ 7, addStore_value _ _ _ _ _ _ _ _ _ 6, addStore_value _ _ _ _ _ _ _ _ _ 5, addStore_value _ _ _ _ _ _ _ _ _ 4, addStore_value _ _ _ _ _ _ _ _ _ 3, addStore_value _ _ _ _ _ _ _ _ _ 2, addStore_value _ _ _ _ _ _ _ _ _ 1, addStore_value _ _ _ _ _ _ _ _ _ 0⟩

/-- … and what the last point's normalization reads back. -/
theorem addStores_canon (y : S8x512x512.Idx) :
    View.canon (addStores arg3 harg3 arg4 harg4 arg9 harg9 x0 x1 xs) y = addAt x0 x1 xs y := by
  refine View.canon_apply_of_pieces (addAt x0 x1 xs) _ ?_ y (View.cover_of_tiledL (addStores arg3 harg3 arg4 harg4 arg9 harg9 x0 x1 xs) S1x512x512.size (by sl_kernel_rfl) y)
  simp only [addStores, List.mem_cons, List.not_mem_nil, or_false, forall_eq_or_imp, forall_eq]
  exact ⟨addStore_value _ _ _ _ _ _ _ _ _ 7, addStore_value _ _ _ _ _ _ _ _ _ 6, addStore_value _ _ _ _ _ _ _ _ _ 5, addStore_value _ _ _ _ _ _ _ _ _ 4, addStore_value _ _ _ _ _ _ _ _ _ 3, addStore_value _ _ _ _ _ _ _ _ _ 2, addStore_value _ _ _ _ _ _ _ _ _ 1, addStore_value _ _ _ _ _ _ _ _ _ 0⟩

end

end Cert.Kernel2Ideal.Down

end
-- ==== Proof.Down.Rows.lean ====
/- What the last grid point of a row block of the down projection stores: the layer norm of the accumulated rows, read at
an index, at the ideal values. -/
module

public import proofs.«01_k».proof.Proof.Down.Body

@[expose] public section

set_option maxRecDepth 16384

noncomputable section

namespace Cert.Down

open Idealize.ShloMosaic

/-- The literals of the layer norm. -/
theorem eighth : Ideal.ofBits .f32 0x3E000000#32 = ((1 / 8 : ℝ) : EReal) := by
  simp [Ideal.ofBits, Ideal.ieee]
  rw [← EReal.coe_mul]
  norm_num

theorem chunk_inv : Ideal.ofBits .f32 0x3B000000#32 = ((1 / 512 : ℝ) : EReal) := by
  simp [Ideal.ofBits, Ideal.ieee]
  rw [← EReal.coe_mul]
  norm_num

theorem chunk_size : Ideal.ofBits .f32 0x44000000#32 = ((512 : ℝ) : EReal) := by
  simp [Ideal.ofBits, Ideal.ieee]
  rw [← EReal.coe_mul]
  norm_num

theorem width_inv : Ideal.ofBits .f32 0x39800000#32 = ((1 / 4096 : ℝ) : EReal) := by
  simp [Ideal.ofBits, Ideal.ieee]
  rw [← EReal.coe_mul]
  norm_num

theorem width : Ideal.ofBits .f32 0x45800000#32 = ((4096 : ℝ) : EReal) := by
  simp [Ideal.ofBits, Ideal.ieee]
  rw [← EReal.coe_mul]
  norm_num

theorem eps_real : Ideal.ofBits .f32 0x3727C5AC#32 = ((10995116 * (1 / 1099511627776) : ℝ) : EReal) := by
  simp [Ideal.ofBits, Ideal.ieee]
  norm_num

/-- Column `d` of the layer norm of a row. -/
def lnAt (z γ β : Fin 4096 → EReal) (d : Fin 4096) : EReal :=
  (z d - mean (1 / 4096) z) * Ideal.rsqrt (mean (1 / 4096) (fun i => (z i - mean (1 / 4096) z) * (z i - mean (1 / 4096) z)) + Ideal.ofBits .f32 0x3727C5AC#32) * γ d + β d

end Cert.Down

namespace Cert.Kernel2Ideal.Down

open Cert.Kernel2Ideal Cert.Kernel2Ideal.Gen Idealize.ShloMosaic Idealize.ShloMosaic.TcCoe Idealize.SL.Sem Cert.Down

/-- A chunk's mean … -/
theorem mean_apply (v : Vec Ideal S1x512x512 .f32) (r : Fin 512) (z : Fin 1) : k0_pay33 v (ix2 r z) = mean (1 / 512) fun j => v (ix3 0 r j) := by
  refine Eq.trans (b := (∑ x : Fin 512, v (ix3 0 r x)) * Ideal.ofBits .f32 0x3B000000#32) ?_ (by rw [chunk_inv]; rfl)
  pointwise [k0_pay33, k0_pay32]

/-- … and its squared deviations from it. -/
theorem dev_apply (v : Vec Ideal S1x512x512 .f32) (r : Fin 512) (z : Fin 1) :
    k0_pay34 v (ix2 r z) = dev (fun j => v (ix3 0 r j)) (mean (1 / 512) fun j => v (ix3 0 r j)) := by
  rw [← mean_apply v r 0]
  unfold dev
  pointwise [k0_pay34, k0_pay32]

/-- The eight chunks' mean … -/
abbrev rowMean (L : Fin 8 → Vec Ideal S1x512x512 .f32) : FVec Ideal S512x1 .f32 :=
  k0_pay59 (k0_pay58 (k0_pay33 (L 0)) (k0_pay33 (L 1)) (k0_pay33 (L 2)) (k0_pay33 (L 3)) (k0_pay33 (L 4)) (L 5) (L 6) (L 7)) (FloatOps.ofBits .f32 0x3E000000#32)

/-- … and the factor that makes their squared deviations' mean one. -/
abbrev rowScale (L : Fin 8 → Vec Ideal S1x512x512 .f32) : FVec Ideal S512x1 .f32 :=
  k0_pay60 (k0_pay33 (L 0)) (k0_pay34 (L 0)) (k0_pay33 (L 1)) (k0_pay34 (L 1)) (k0_pay33 (L 2)) (k0_pay34 (L 2)) (k0_pay33 (L 3)) (k0_pay34 (L 3))
    (k0_pay33 (L 4)) (k0_pay34 (L 4)) (k0_pay33 (L 5)) (k0_pay34 (L 5)) (k0_pay33 (L 6)) (k0_pay34 (L 6)) (k0_pay33 (L 7)) (k0_pay34 (L 7))
    (k0_pay58 (k0_pay33 (L 0)) (k0_pay33 (L 1)) (k0_pay33 (L 2)) (k0_pay33 (L 3)) (k0_pay33 (L 4)) (L 5) (L 6) (L 7)) (FloatOps.ofBits .f32 0x3E000000#32)

/-- Row `r` of the chunks. -/
abbrev rowOf (L : Fin 8 → Vec Ideal S1x512x512 .f32) (r : Fin 512) (q : Fin 8) (j : Fin 512) : EReal := L q (ix3 0 r j)

/-- The sum of the chunks' means. -/
theorem meanSum_apply (L : Fin 8 → Vec Ideal S1x512x512 .f32) (r : Fin 512) (z : Fin 1) :
    k0_pay58 (k0_pay33 (L 0)) (k0_pay33 (L 1)) (k0_pay33 (L 2)) (k0_pay33 (L 3)) (k0_pay33 (L 4)) (L 5) (L 6) (L 7) (ix2 r z)
      = ∑ q, mean (1 / 512) (rowOf L r q) := by
  refine Eq.trans (b := k0_pay33 (L 0) (ix2 r z) + k0_pay33 (L 1) (ix2 r z) + k0_pay33 (L 2) (ix2 r z) + k0_pay33 (L 3) (ix2 r z) + k0_pay33 (L 4) (ix2 r z)
    + k0_pay50 (L 5) (ix2 r z) + k0_pay53 (L 6) (ix2 r z) + k0_pay56 (L 7) (ix2 r z)) (by pointwise [k0_pay58]) ?_
  rw [show k0_pay50 (L 5) = k0_pay33 (L 5) from rfl, show k0_pay53 (L 6) = k0_pay33 (L 6) from rfl, show k0_pay56 (L 7) = k0_pay33 (L 7) from rfl,
    Fin.sum_univ_eight]
  simp only [mean_apply]

theorem rowMean_apply (L : Fin 8 → Vec Ideal S1x512x512 .f32) (r : Fin 512) (z : Fin 1) : rowMean L (ix2 r z) = chunkMean (rowOf L r) := by
  refine Eq.trans (b := k0_pay58 (k0_pay33 (L 0)) (k0_pay33 (L 1)) (k0_pay33 (L 2)) (k0_pay33 (L 3)) (k0_pay33 (L 4)) (L 5) (L 6) (L 7) (ix2 r z) * Ideal.ofBits .f32 0x3E000000#32)
    (by pointwise [k0_pay59]) ?_
  rw [meanSum_apply, eighth]
  rfl

/-- The factor, of the chunks' means and squared deviations. -/
theorem scale_apply (m d : Fin 8 → Vec Ideal S512x1 .f32) (s : Vec Ideal S512x1 .f32) (κ : EReal) (r : Fin 512) (z : Fin 1) :
    k0_pay60 (F := Ideal) (m 0) (d 0) (m 1) (d 1) (m 2) (d 2) (m 3) (d 3) (m 4) (d 4) (m 5) (d 5) (m 6) (d 6) (m 7) (d 7) s κ (ix2 r z)
      = Ideal.rsqrt (((∑ q, d q (ix2 r z)) + Ideal.ofBits .f32 0x44000000#32 * ∑ q, (m q (ix2 r z) - s (ix2 r z) * κ) * (m q (ix2 r z) - s (ix2 r z) * κ))
          * Ideal.ofBits .f32 0x39800000#32 + Ideal.ofBits .f32 0x3727C5AC#32) := by
  simp only [Fin.sum_univ_eight]
  pointwise [k0_pay60, k0_pay59]

theorem rowScale_apply (L : Fin 8 → Vec Ideal S1x512x512 .f32) (r : Fin 512) (z : Fin 1) :
    rowScale L (ix2 r z) = Ideal.rsqrt (chunkDev (rowOf L r) * ((1 / 4096 : ℝ) : EReal) + Ideal.ofBits .f32 0x3727C5AC#32) := by
  refine (scale_apply (fun q => k0_pay33 (L q)) (fun q => k0_pay34 (L q)) _ _ r z).trans ?_
  rw [meanSum_apply, chunk_size, width_inv]
  simp only [mean_apply, dev_apply]
  rw [show (FloatOps.ofBits (F := Ideal) .f32 0x3E000000#32 : EReal) = ((1 / 8 : ℝ) : EReal) from eighth]
  rfl

/-- A chunk of the layer norm. -/
theorem normChunk_apply (μ ρ : Vec Ideal S512x1 .f32) (v : Vec Ideal S1x512x512 .f32) (g b : Vec Ideal S1x1x512 .f32) (r j : Fin 512) :
    k0_pay63 μ ρ v g b (ix2 r j) = (v (ix3 0 r j) - μ (ix2 r 0)) * ρ (ix2 r 0) * g (ix3 0 0 j) + b (ix3 0 0 j) := by
  pointwise [k0_pay63]

/-- The layer norm of the row, chunk by chunk. -/
theorem norm_apply (L : Fin 8 → Vec Ideal S1x512x512 .f32) (q : Fin 8) (g b : Vec Ideal S1x1x512 .f32) (γ β : Fin 4096 → EReal)
    (hg : ∀ j, g (ix3 0 0 j) = γ (col q j)) (hb : ∀ j, b (ix3 0 0 j) = β (col q j)) (r j : Fin 512) :
    k0_pay63 (rowMean L) (rowScale L) (L q) g b (ix2 r j) = lnAt (flat (rowOf L r)) γ β (col q j) := by
  rw [normChunk_apply, rowMean_apply, rowScale_apply, hg, hb, eps_real]
  unfold lnAt
  rw [eps_real]
  exact congrArg (· * γ (col q j) + β (col q j)) ((norm_eq (rowOf L r) q j _).trans (by rw [← flat_at (rowOf L r) q j]))

/-- The chunk's columns lie in the rows of scales and shifts. -/
theorem param_inb (q : Fin 8) : ∀ a, (![0, 0, 512 * q.val] : Fin 3 → ℕ) a + S1x1x512.size a ≤ S1x1x4096.size a := fun a => by
  match a with
  | ⟨0, _⟩ => exact le_refl _
  | ⟨1, _⟩ => exact le_refl _
  | ⟨2, _⟩ => show 512 * q.val + 512 ≤ 4096; have := q.isLt; omega

section
variable (c : Dev nD) (i : grid0.Coords) (arg3 : Memref sig .tc .vmem S512x1024 .bf16) (harg3 : arg3.IsWhole) (arg4 : Memref sig .tc .vmem S1024x4096 .bf16) (harg4 : arg4.IsWhole) (arg5 : Memref sig .tc .vmem S512x4096 .bf16) (harg5 : arg5.IsWhole) (arg6 : Memref sig .tc .vmem S1x1x4096 .f32) (harg6 : arg6.IsWhole) (arg7 : Memref sig .tc .vmem S1x1x4096 .f32) (harg7 : arg7.IsWhole) (arg8 : Memref sig .tc .vmem S512x4096 .f32) (harg8 : arg8.IsWhole) (arg9 : Memref sig .tc .vmem S8x512x512 .f32) (harg9 : arg9.IsWhole)
    (x0 : Vec Ideal S512x1024 .bf16) (x1 : Vec Ideal S1024x4096 .bf16) (x2 : Vec Ideal S512x4096 .bf16) (x3 x4 : Vec Ideal S1x1x4096 .f32) (xt : TbBuf0 (F := Ideal) c tbM0_0) (xs : Vec Ideal S8x512x512 .f32)

/-- A chunk of the scales as the body reads it … -/
abbrev scaleRead (q : Fin 8) : Vec Ideal S1x1x512 .f32 :=
  arg6.view.readAt (Elt Ideal) (Rect.unit (s := S1x1x4096) ![0, 0, 512 * q.val] S1x1x512.size (param_inb q)).toLoadRect (harg6.unread x3)

/-- … and of the shifts. -/
abbrev shiftRead (q : Fin 8) : Vec Ideal S1x1x512 .f32 :=
  arg7.view.readAt (Elt Ideal) (Rect.unit (s := S1x1x4096) ![0, 0, 512 * q.val] S1x1x512.size (param_inb q)).toLoadRect (harg7.unread x4)

theorem scaleRead_apply (q : Fin 8) (j : Fin 512) : scaleRead arg6 harg6 x3 q (ix3 0 0 j) = x3 (ix3 0 0 (col q j)) := by
  simp only [scaleRead, View.readAt_eq_ld, harg6.read_unread]
  pointwise

theorem shiftRead_apply (q : Fin 8) (j : Fin 512) : shiftRead arg7 harg7 x4 q (ix3 0 0 j) = x4 (ix3 0 0 (col q j)) := by
  simp only [shiftRead, View.readAt_eq_ld, harg7.read_unread]
  pointwise

/-- Chunk `q` of the accumulator as the body reads it back. -/
abbrev accBack (q : Fin 8) : Vec Ideal S1x512x512 .f32 :=
  arg9.view.readCov (addStores arg3 harg3 arg4 harg4 arg9 harg9 x0 x1 xs) (Rect.unit (s := S8x512x512) ![q.val, 0, 0] S1x512x512.size (acc_inb q)).toLoadRect

theorem accBack_apply (q : Fin 8) (r j : Fin 512) : accBack arg3 harg3 arg4 harg4 arg9 harg9 x0 x1 xs q (ix3 0 r j) = addAt x0 x1 xs (ix3 q r j) := by
  unfold accBack
  rw [View.readCov_eq_canon']
  refine (addStores_canon arg3 harg3 arg4 harg4 arg9 harg9 x0 x1 xs _).trans (congrArg (addAt x0 x1 xs) (chunk_emb q 0 r j))

/-- The store of chunk `q` of the result. -/
abbrev normStore (q : Fin 8) : View.Piece (Elt Ideal) S512x4096 .f32 :=
  ⟨Rect.unit ![0, 512 * q.val] S512x512.size (rows_inb q),
    k0_pay63 (rowMean (accBack arg3 harg3 arg4 harg4 arg9 harg9 x0 x1 xs)) (rowScale (accBack arg3 harg3 arg4 harg4 arg9 harg9 x0 x1 xs))
      (accBack arg3 harg3 arg4 harg4 arg9 harg9 x0 x1 xs q) (scaleRead arg6 harg6 x3 q) (shiftRead arg7 harg7 x4 q)⟩

/-- The eight stores, last first. -/
abbrev normStores : List (View.Piece (Elt Ideal) S512x4096 .f32) := [normStore arg3 harg3 arg4 harg4 arg6 harg6 arg7 harg7 arg9 harg9 x0 x1 x3 x4 xs 7, normStore arg3 harg3 arg4 harg4 arg6 harg6 arg7 harg7 arg9 harg9 x0 x1 x3 x4 xs 6, normStore arg3 harg3 arg4 harg4 arg6 harg6 arg7 harg7 arg9 harg9 x0 x1 x3 x4 xs 5, normStore arg3 harg3 arg4 harg4 arg6 harg6 arg7 harg7 arg9 harg9 x0 x1 x3 x4 xs 4, normStore arg3 harg3 arg4 harg4 arg6 harg6 arg7 harg7 arg9 harg9 x0 x1 x3 x4 xs 3, normStore arg3 harg3 arg4 harg4 arg6 harg6 arg7 harg7 arg9 harg9 x0 x1 x3 x4 xs 2, normStore arg3 harg3 arg4 harg4 arg6 harg6 arg7 harg7 arg9 harg9 x0 x1 x3 x4 xs 1, normStore arg3 harg3 arg4 harg4 arg6 harg6 arg7 harg7 arg9 harg9 x0 x1 x3 x4 xs 0]

set_option maxHeartbeats 4000000 in
theorem stores_C (hc0 : ¬cond0_0 i) (hc1 : ¬cond0_1 i) (hc2 : cond0_2 i) :
    (kernelRun0_C c i arg3 harg3 arg4 harg4 arg5 harg5 arg6 harg6 arg7 harg7 arg8 harg8 arg9 harg9 hc0 hc1 hc2 x0 x1 x2 x3 x4 xt xs).1 = normStores arg3 harg3 arg4 harg4 arg6 harg6 arg7 harg7 arg9 harg9 x0 x1 x3 x4 xs := by
  unfold kernelRun0_C
  dsimp only
  sl_unfold_words
  rfl

/-- The accumulated row. -/
def accRow (x0 : S512x1024.Idx → EReal) (x1 : S1024x4096.Idx → EReal) (xs : S8x512x512.Idx → EReal) (r : Fin 512) (d : Fin 4096) : EReal :=
  addAt x0 x1 xs (ix3 ⟨d.val / 512, by omega⟩ r ⟨d.val % 512, Nat.mod_lt _ (by omega)⟩)

/-- What the last point stores. -/
def normAt (x0 : S512x1024.Idx → EReal) (x1 : S1024x4096.Idx → EReal) (x3 x4 : S1x1x4096.Idx → EReal) (xs : S8x512x512.Idx → EReal) (y : S512x4096.Idx) : EReal :=
  lnAt (accRow x0 x1 xs (y 0)) (fun d => x3 (ix3 0 0 d)) (fun d => x4 (ix3 0 0 d)) (y 1)

theorem normStore_value (q : Fin 8) (z : S512x512.Idx) :
    (normStore arg3 harg3 arg4 harg4 arg6 harg6 arg7 harg7 arg9 harg9 x0 x1 x3 x4 xs q).2 z
      = normAt x0 x1 x3 x4 xs ((normStore arg3 harg3 arg4 harg4 arg6 harg6 arg7 harg7 arg9 harg9 x0 x1 x3 x4 xs q).1.emb z) := by
  obtain ⟨r, j, rfl⟩ : ∃ r j : Fin 512, z = ix2 r j := ⟨z 0, z 1, eq_ix2 z⟩
  have hemb : (Rect.unit (s := S512x4096) ![0, 512 * q.val] S512x512.size (rows_inb q)).emb (ix2 r j) = ix2 r (col q j) := by
    funext a
    match a with
    | ⟨0, _⟩ => exact Fin.ext (by show 0 + 1 * r.val = r.val; omega)
    | ⟨1, _⟩ => exact Fin.ext (by show 512 * q.val + 1 * j.val = 512 * q.val + j.val; omega)
  refine (norm_apply _ q _ _ (fun d => x3 (ix3 0 0 d)) (fun d => x4 (ix3 0 0 d)) (scaleRead_apply arg6 harg6 x3 q) (shiftRead_apply arg7 harg7 x4 q) r j).trans
    (Eq.trans ?_ (congrArg (normAt x0 x1 x3 x4 xs) hemb).symm)
  refine congrArg (fun z => lnAt z (fun d => x3 (ix3 0 0 d)) (fun d => x4 (ix3 0 0 d)) (col q j)) (funext fun d => ?_)
  exact accBack_apply arg3 harg3 arg4 harg4 arg9 harg9 x0 x1 xs _ r _

/-- What the last point leaves in the result's block. -/
theorem out_C (hc0 : ¬cond0_0 i) (hc1 : ¬cond0_1 i) (hc2 : cond0_2 i) (y : S512x4096.Idx) :
    out0_C_5 c i arg3 harg3 arg4 harg4 arg5 harg5 arg6 harg6 arg7 harg7 arg8 harg8 arg9 harg9 hc0 hc1 hc2 x0 x1 x2 x3 x4 xt xs y = normAt x0 x1 x3 x4 xs y := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 xt xs)]
  refine View.canon_apply_of_pieces (normAt x0 x1 x3 x4 xs) _ ?_ y (cover0_C_5 c i arg3 harg3 arg4 harg4 arg5 harg5 arg6 harg6 arg7 harg7 arg8 harg8 arg9 harg9 hc0 hc1 hc2 x0 x1 x2 x3 x4 xt xs y)
  rw [stores_C]
  simp only [normStores, List.mem_cons, List.not_mem_nil, or_false, forall_eq_or_imp, forall_eq]
  exact ⟨normStore_value _ _ _ _ _ _ _ _ _ _ _ _ _ _ _ 7, normStore_value _ _ _ _ _ _ _ _ _ _ _ _ _ _ _ 6, normStore_value _ _ _ _ _ _ _ _ _ _ _ _ _ _ _ 5, normStore_value _ _ _ _ _ _ _ _ _ _ _ _ _ _ _ 4, normStore_value _ _ _ _ _ _ _ _ _ _ _ _ _ _ _ 3, normStore_value _ _ _ _ _ _ _ _ _ _ _ _ _ _ _ 2, normStore_value _ _ _ _ _ _ _ _ _ _ _ _ _ _ _ 1, normStore_value _ _ _ _ _ _ _ _ _ _ _ _ _ _ _ 0⟩

end

end Cert.Kernel2Ideal.Down

end
-- ==== Proof.Down.Accum.lean ====
/- The down projection's result array, read at an index, over the arrays the windows read: the accumulation over a row
block's sixteen grid points, then the layer norm. -/
module

public import proofs.«01_k».proof.Proof.Down.Rows

@[expose] public section

set_option maxRecDepth 16384

noncomputable section

namespace Cert.Kernel2Ideal.Down

open Cert.Kernel2Ideal Cert.Kernel2Ideal.Gen Idealize.ShloMosaic Idealize.ShloMosaic.TcCoe Idealize.SL.Sem Cert.Down
open Idealize.ShloMosaic.Pipeline (Dat)

/-- The index maps in closed form. -/
theorem ix_closed : ∀ t : Fin grid0.N, cc0_transform_0 (grid0.coords t) = ![t.val / 16, t.val % 16] ∧ cc0_transform_1 (grid0.coords t) = ![t.val % 16, 0]
    ∧ cc0_transform_2 (grid0.coords t) = ![t.val / 16, 0] ∧ cc0_transform_5 (grid0.coords t) = ![t.val / 16, 0] := by decide +kernel

/-- A row block is written back after its last point. -/
theorem flush_iff : ∀ t : Fin grid0.N, Pipeline.Window.flushOf grid0 true cc0_transform_5 t = decide (t.val % 16 = 15) := by decide +kernel

variable (m : (ℓ : Loc nD τ sig) → Buf (Elt Ideal) ℓ) (hO : Ok m) (c : Dev nD)

/-- The arrays the windows read: the hidden activations, the layer's weights, the residual, and the scales and shifts. -/
abbrev hiddenArr : S16384x16384.Idx → EReal := V m c main_v3
abbrev weightArr : S16384x4096.Idx → EReal := V m c main_v16
abbrev residualArr : S16384x4096.Idx → EReal := V m c main_v18
abbrev scaleArr : S4x1x4096.Idx → EReal := V m c main_v0
abbrev shiftArr : S4x1x4096.Idx → EReal := V m c main_v1

/-- There are 512 grid points. -/
theorem point_lt (t : Fin (cfgM m hO).N) : t.val < 512 := lt_of_lt_of_eq t.isLt (by decide : grid0.N = 512)

/-- The layer the windows of scales and shifts read. -/
abbrev layerAt (m : (ℓ : Loc nD τ sig) → Buf (Elt Ideal) ℓ) : BitVec 32 :=
  (tbl m).at 0 (Rect.unit (s := S1) ![0] S1.size inb_S1_S1_0) numel1_S1

/-- It is one of the four. -/
theorem layerAt_lt (hO : Ok m) : (layerAt m).toNat < 4 := by
  obtain ⟨h, -⟩ := hO.1 (grid0.coords ⟨0, by decide⟩)
  have h0 : ((layerAt m).toNat + 1) * 1 ≤ 4 := h 0
  omega

/-- Row `r` of point `t`'s row block, in the array. -/
abbrev rowAt (t : Fin (cfgM m hO).N) (r : Fin 512) : Fin 16384 := ⟨512 * (t.val / 16) + r.val, by have := point_lt m hO t; omega⟩

/-- Hidden feature `e` of step `n`. -/
abbrev featAt (n : ℕ) (e : Fin 1024) : Fin 16384 := ⟨(1024 * n + e.val) % 16384, Nat.mod_lt _ (by omega)⟩

/-- The block of hidden activations. -/
theorem hidden_block (t : Fin (cfgM m hO).N) (r : Fin 512) (e : Fin 1024) :
    iblk m hO c 0 t (ix2 r e) = V m c main_v3 (ix2 (rowAt m hO t r) (featAt (t.val % 16) e)) := by
  have h := (ix_closed t).1
  refine congrArg (V m c main_v3) (funext fun a => ?_)
  match a with
  | ⟨0, _⟩ => exact Fin.ext ((Pipeline.Window.rect_emb_val ((cfgM m hO).win 0) t (ix2 r e) (0 : Fin 2)).trans (by
      show cc0_transform_0 (grid0.coords t) 0 * 512 + r.val = 512 * (t.val / 16) + r.val
      rw [h]; show t.val / 16 * 512 + r.val = _; omega))
  | ⟨1, _⟩ => exact Fin.ext ((Pipeline.Window.rect_emb_val ((cfgM m hO).win 0) t (ix2 r e) (1 : Fin 2)).trans (by
      show cc0_transform_0 (grid0.coords t) 1 * 1024 + e.val = (1024 * (t.val % 16) + e.val) % 16384
      rw [h]; show t.val % 16 * 1024 + e.val = _; omega))

/-- The block of weights. -/
theorem weight_block (t : Fin (cfgM m hO).N) (e : Fin 1024) (d : Fin 4096) :
    iblk m hO c 1 t (ix2 e d) = V m c main_v16 (ix2 (featAt (t.val % 16) e) d) := by
  have h := (ix_closed t).2.1
  refine congrArg (V m c main_v16) (funext fun a => ?_)
  match a with
  | ⟨0, _⟩ => exact Fin.ext ((Pipeline.Window.rect_emb_val ((cfgM m hO).win 1) t (ix2 e d) (0 : Fin 2)).trans (by
      show cc0_transform_1 (grid0.coords t) 0 * 1024 + e.val = (1024 * (t.val % 16) + e.val) % 16384
      rw [h]; show t.val % 16 * 1024 + e.val = _; omega))
  | ⟨1, _⟩ => exact Fin.ext ((Pipeline.Window.rect_emb_val ((cfgM m hO).win 1) t (ix2 e d) (1 : Fin 2)).trans (by
      show cc0_transform_1 (grid0.coords t) 1 * 4096 + d.val = d.val
      rw [h]; show 0 * 4096 + d.val = _; omega))

/-- The block of the residual. -/
theorem residual_block (t : Fin (cfgM m hO).N) (r : Fin 512) (d : Fin 4096) :
    iblk m hO c 2 t (ix2 r d) = V m c main_v18 (ix2 (rowAt m hO t r) d) := by
  have h := (ix_closed t).2.2.1
  refine congrArg (V m c main_v18) (funext fun a => ?_)
  match a with
  | ⟨0, _⟩ => exact Fin.ext ((Pipeline.Window.rect_emb_val ((cfgM m hO).win 2) t (ix2 r d) (0 : Fin 2)).trans (by
      show cc0_transform_2 (grid0.coords t) 0 * 512 + r.val = 512 * (t.val / 16) + r.val
      rw [h]; show t.val / 16 * 512 + r.val = _; omega))
  | ⟨1, _⟩ => exact Fin.ext ((Pipeline.Window.rect_emb_val ((cfgM m hO).win 2) t (ix2 r d) (1 : Fin 2)).trans (by
      show cc0_transform_2 (grid0.coords t) 1 * 4096 + d.val = d.val
      rw [h]; show 0 * 4096 + d.val = _; omega))

/-- The block of scales … -/
theorem scale_block (t : Fin (cfgM m hO).N) (d : Fin 4096) :
    iblk m hO c 3 t (ix3 0 0 d) = V m c main_v0 (ix3 (⟨(layerAt m).toNat, layerAt_lt m hO⟩ : Fin 4) 0 d) := by
  refine congrArg (V m c main_v0) (funext fun a => ?_)
  match a with
  | ⟨0, _⟩ => exact Fin.ext ((Pipeline.Window.rect_emb_val ((cfgM m hO).win 3) t (ix3 0 0 d) (0 : Fin 3)).trans (by
      show (layerAt m).toNat * 1 + 0 = (layerAt m).toNat
      omega))
  | ⟨1, _⟩ => exact Fin.ext ((Pipeline.Window.rect_emb_val ((cfgM m hO).win 3) t (ix3 0 0 d) (1 : Fin 3)).trans (by
      show 0 * 1 + 0 = 0
      omega))
  | ⟨2, _⟩ => exact Fin.ext ((Pipeline.Window.rect_emb_val ((cfgM m hO).win 3) t (ix3 0 0 d) (2 : Fin 3)).trans (by
      show 0 * 4096 + d.val = d.val
      omega))

/-- … and of shifts. -/
theorem shift_block (t : Fin (cfgM m hO).N) (d : Fin 4096) :
    iblk m hO c 4 t (ix3 0 0 d) = V m c main_v1 (ix3 (⟨(layerAt m).toNat, layerAt_lt m hO⟩ : Fin 4) 0 d) := by
  refine congrArg (V m c main_v1) (funext fun a => ?_)
  match a with
  | ⟨0, _⟩ => exact Fin.ext ((Pipeline.Window.rect_emb_val ((cfgM m hO).win 4) t (ix3 0 0 d) (0 : Fin 3)).trans (by
      show (layerAt m).toNat * 1 + 0 = (layerAt m).toNat
      omega))
  | ⟨1, _⟩ => exact Fin.ext ((Pipeline.Window.rect_emb_val ((cfgM m hO).win 4) t (ix3 0 0 d) (1 : Fin 3)).trans (by
      show 0 * 1 + 0 = 0
      omega))
  | ⟨2, _⟩ => exact Fin.ext ((Pipeline.Window.rect_emb_val ((cfgM m hO).win 4) t (ix3 0 0 d) (2 : Fin 3)).trans (by
      show 0 * 4096 + d.val = d.val
      omega))

/-- Step `n`'s part of the product, at row `i` and column `d`. -/
def part (i : Fin 16384) (d : Fin 4096) (n : ℕ) : EReal :=
  ∑ e : Fin 1024, hiddenArr m c (ix2 i (featAt n e)) * weightArr m c (ix2 (featAt n e) d)

/-- A point's product is its step's part. -/
theorem prod_part (t : Fin (cfgM m hO).N) (q : Fin 8) (r j : Fin 512) :
    prodAt (iblk m hO c 0 t) (iblk m hO c 1 t) (ix3 q r j) = part m c (rowAt m hO t r) (col q j) (t.val % 16) :=
  Finset.sum_congr rfl fun e _ => congrArg₂ (fun a b : EReal => a * b) (hidden_block m hO c t r e) (weight_block m hO c t e (col q j))

/-- What the accumulator holds after `n` steps. -/
def accAfter (i : Fin 16384) (d : Fin 4096) (n : ℕ) : EReal :=
  Ideal.ofBits .f32 0x3FD744FD#32 * residualArr m c (ix2 i d) + ∑ k ∈ Finset.range n, part m c i d k

theorem accAfter_succ (i : Fin 16384) (d : Fin 4096) (n : ℕ) : accAfter m c i d (n + 1) = accAfter m c i d n + part m c i d n := by
  unfold accAfter
  rw [Finset.sum_range_succ, add_assoc]

set_option maxHeartbeats 4000000 in
/-- What the first point of a row block leaves in the accumulator. -/
theorem left_A (t : Fin (cfgM m hO).N) (h0 : t.val % 16 = 0) (h1 : ¬(1 ≤ t.val % 16 ∧ t.val % 16 ≤ 14)) (h2 : ¬t.val % 16 = 15) :
    (outsAt0 m hO c t.val t.isLt).2 = sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h1 ((hcond0_1 t).mp h)) (fun h => h2 ((hcond0_2 t).mp h)) (iblk m hO c 0 t) (iblk m hO c 1 t) (iblk m hO c 2 t) (iblk m hO c 3 t) (iblk m hO c 4 t) (tbl m 0) := by
  rw [outsAt0_A m hO c t h0 h1 h2]

set_option maxHeartbeats 4000000 in
/-- What that is, at an index. -/
theorem at_A (t : Fin (cfgM m hO).N) (h0 : t.val % 16 = 0) (h1 : ¬(1 ≤ t.val % 16 ∧ t.val % 16 ≤ 14)) (h2 : ¬t.val % 16 = 15) (y) :
    (outsAt0 m hO c t.val t.isLt).2 y = startAt (iblk m hO c 0 t) (iblk m hO c 1 t) (iblk m hO c 2 t) y :=
  (congrFun (left_A m hO c t h0 h1 h2) y).trans (sout_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) ((hcond0_0 t).mpr h0) (fun h => h1 ((hcond0_1 t).mp h)) (fun h => h2 ((hcond0_2 t).mp h)) y)

set_option maxHeartbeats 4000000 in
/-- What a later point leaves in it. -/
theorem left_B (t : Fin (cfgM m hO).N) (h0 : ¬t.val % 16 = 0) (h1 : (1 ≤ t.val % 16 ∧ t.val % 16 ≤ 14)) (h2 : ¬t.val % 16 = 15) :
    (outsAt0 m hO c t.val t.isLt).2 = sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_1 t).mpr h1) (fun h => h2 ((hcond0_2 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2 := by
  rw [outsAt0_B m hO c t h0 h1 h2]

set_option maxHeartbeats 4000000 in
/-- What that is, at an index. -/
theorem at_B (t : Fin (cfgM m hO).N) (h0 : ¬t.val % 16 = 0) (h1 : (1 ≤ t.val % 16 ∧ t.val % 16 ≤ 14)) (h2 : ¬t.val % 16 = 15) (y) :
    (outsAt0 m hO c t.val t.isLt).2 y = addAt (iblk m hO c 0 t) (iblk m hO c 1 t) (outsAt0 m hO c (t.val - 1) (Nat.lt_of_le_of_lt (Nat.sub_le _ _) t.isLt)).2 y :=
  (congrFun (left_B m hO c t h0 h1 h2) y).trans (sout_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2 (fun h => h0 ((hcond0_0 t).mp h)) ((hcond0_1 t).mpr h1) (fun h => h2 ((hcond0_2 t).mp h)) y)

set_option maxHeartbeats 4000000 in
/-- What the last point leaves in the result block. -/
theorem left_C (t : Fin (cfgM m hO).N) (h0 : ¬t.val % 16 = 0) (h1 : ¬(1 ≤ t.val % 16 ∧ t.val % 16 ≤ 14)) (h2 : t.val % 16 = 15) :
    (outsAt0 m hO c t.val t.isLt).1 = out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) (fun h => h1 ((hcond0_1 t).mp h)) ((hcond0_2 t).mpr h2) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2 := by
  rw [outsAt0_C m hO c t h0 h1 h2]

set_option maxHeartbeats 4000000 in
/-- What that is, at an index. -/
theorem at_C (t : Fin (cfgM m hO).N) (h0 : ¬t.val % 16 = 0) (h1 : ¬(1 ≤ t.val % 16 ∧ t.val % 16 ≤ 14)) (h2 : t.val % 16 = 15) (y) :
    (outsAt0 m hO c t.val t.isLt).1 y = normAt (iblk m hO c 0 t) (iblk m hO c 1 t) (iblk m hO c 3 t) (iblk m hO c 4 t) (outsAt0 m hO c (t.val - 1) (Nat.lt_of_le_of_lt (Nat.sub_le _ _) t.isLt)).2 y :=
  (congrFun (left_C m hO c t h0 h1 h2) y).trans (out_C c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2 (fun h => h0 ((hcond0_0 t).mp h)) (fun h => h1 ((hcond0_1 t).mp h)) ((hcond0_2 t).mpr h2) y)

/-- The accumulator after the first point of a row block … -/
theorem acc_first (t : Fin (cfgM m hO).N) (h : t.val % 16 = 0) (q : Fin 8) (r j : Fin 512) :
    (outsAt0 m hO c t.val t.isLt).2 (ix3 q r j) = accAfter m c (rowAt m hO t r) (col q j) 1 := by
  rw [at_A m hO c t h (by omega) (by omega)]
  unfold startAt accAfter
  rw [prod_part, h, Finset.sum_range_one]
  exact congrArg (Ideal.ofBits .f32 0x3FD744FD#32 * · + part m c (rowAt m hO t r) (col q j) 0) (residual_block m hO c t r (col q j))

/-- … after a point between … -/
theorem acc_step (t : Fin (cfgM m hO).N) (h0 : t.val % 16 ≠ 0) (h1 : t.val % 16 ≠ 15) (q : Fin 8) (r j : Fin 512) :
    (outsAt0 m hO c t.val t.isLt).2 (ix3 q r j)
      = (outsAt0 m hO c (t.val - 1) (Nat.lt_of_le_of_lt (Nat.sub_le _ _) t.isLt)).2 (ix3 q r j) + part m c (rowAt m hO t r) (col q j) (t.val % 16) := by
  rw [at_B m hO c t h0 (by omega) h1]
  exact congrArg (_ + ·) (prod_part m hO c t q r j)

/-- … so after each but the last. -/
theorem acc_eq (b : Fin 32) (q : Fin 8) (r j : Fin 512) : ∀ (k : ℕ) (hk : k < 15) (hn : 16 * b.val + k < (cfgM m hO).N),
    (outsAt0 m hO c (16 * b.val + k) hn).2 (ix3 q r j) = accAfter m c ⟨512 * b.val + r.val, by omega⟩ (col q j) (k + 1)
  | 0, _, hn => (acc_first m hO c ⟨16 * b.val, hn⟩ (by show 16 * b.val % 16 = 0; omega) q r j).trans
      (congrArg (fun i => accAfter m c i (col q j) 1) (Fin.ext (by show 512 * (16 * b.val / 16) + r.val = 512 * b.val + r.val; omega)))
  | k + 1, hk, hn => by
    refine (acc_step m hO c ⟨16 * b.val + (k + 1), hn⟩ (by show (16 * b.val + (k + 1)) % 16 ≠ 0; omega) (by show (16 * b.val + (k + 1)) % 16 ≠ 15; omega) q r j).trans ?_
    rw [accAfter_succ]
    refine congrArg₂ (· + ·) (acc_eq b q r j k (by omega) (by omega)) ?_
    exact congrArg₂ (fun i n => part m c i (col q j) n) (Fin.ext (by show 512 * ((16 * b.val + (k + 1)) / 16) + r.val = 512 * b.val + r.val; omega))
      (by show (16 * b.val + (k + 1)) % 16 = k + 1; omega)

/-- The last point of row block `b`. -/
abbrev lastOf (b : Fin 32) : Fin (cfgM m hO).N := ⟨16 * b.val + 15, by rw [show (cfgM m hO).N = 512 from N_0]; omega⟩

/-- The row the last point normalizes. -/
theorem accRow_eq (b : Fin 32) (r : Fin 512) (d : Fin 4096) :
    accRow (iblk m hO c 0 (lastOf m hO b)) (iblk m hO c 1 (lastOf m hO b)) (outsAt0 m hO c (16 * b.val + 14) (by rw [show (cfgM m hO).N = 512 from N_0]; omega)).2 r d
      = accAfter m c ⟨512 * b.val + r.val, by omega⟩ d 16 := by
  unfold accRow addAt
  rw [acc_eq m hO c b _ r _ 14 (by omega), prod_part, accAfter_succ m c _ d 15]
  have hd : col ⟨d.val / 512, by omega⟩ ⟨d.val % 512, Nat.mod_lt _ (by omega)⟩ = d := Fin.ext (by show 512 * (d.val / 512) + d.val % 512 = d.val; omega)
  rw [hd]
  exact congrArg₂ (fun i n => accAfter m c ⟨512 * b.val + r.val, by omega⟩ d 15 + part m c i d n)
    (Fin.ext (by show 512 * ((16 * b.val + 15) / 16) + r.val = 512 * b.val + r.val; omega)) (show (16 * b.val + 15) % 16 = 15 by omega)

/-- Row block `b` of the result, when it is written back. -/
theorem out_eq (b : Fin 32) (r : Fin 512) (d : Fin 4096) :
    (outsAt0 m hO c (lastOf m hO b).val (lastOf m hO b).isLt).1 (ix2 r d)
      = lnAt (fun d => accAfter m c ⟨512 * b.val + r.val, by omega⟩ d 16) (fun d => scaleArr m c (ix3 (⟨(layerAt m).toNat, layerAt_lt m hO⟩ : Fin 4) 0 d))
          (fun d => shiftArr m c (ix3 (⟨(layerAt m).toNat, layerAt_lt m hO⟩ : Fin 4) 0 d)) d := by
  have h15 : (lastOf m hO b).val % 16 = 15 := by show (16 * b.val + 15) % 16 = 15; omega
  rw [at_C m hO c (lastOf m hO b) (by omega) (by omega) h15]
  unfold normAt
  have e1 : accRow (iblk m hO c 0 (lastOf m hO b)) (iblk m hO c 1 (lastOf m hO b)) (outsAt0 m hO c ((lastOf m hO b).val - 1) (Nat.lt_of_le_of_lt (Nat.sub_le _ _) (lastOf m hO b).isLt)).2 r
      = fun d => accAfter m c ⟨512 * b.val + r.val, by omega⟩ d 16 := funext fun d => accRow_eq m hO c b r d
  have e2 : (fun d => iblk m hO c 3 (lastOf m hO b) (ix3 0 0 d)) = fun d => scaleArr m c (ix3 (⟨(layerAt m).toNat, layerAt_lt m hO⟩ : Fin 4) 0 d) :=
    funext fun d => scale_block m hO c (lastOf m hO b) d
  have e3 : (fun d => iblk m hO c 4 (lastOf m hO b) (ix3 0 0 d)) = fun d => shiftArr m c (ix3 (⟨(layerAt m).toNat, layerAt_lt m hO⟩ : Fin 4) 0 d) :=
    funext fun d => shift_block m hO c (lastOf m hO b) d
  exact congr (congr (congrArg lnAt e1) e2) e3 |> fun h => congrFun h d

/-- Distinct row blocks are disjoint. -/
theorem disjoint5 : ∀ t t' : Fin (cfgM m hO).N, ((cfgM m hO).win 5).flush t = true → ((cfgM m hO).win 5).flush t' = true → t ≠ t' →
    Disjoint (((cfgM m hO).win 5).blk t).view.set (((cfgM m hO).win 5).blk t').view.set :=
  fun t t' ht ht' hne => ((cfgM m hO).win 5).disjoint_blk fun h => hne (Fin.ext (by
    have e : cc0_transform_5 (grid0.coords t) = cc0_transform_5 (grid0.coords t') := h
    rw [(ix_closed t).2.2.2, (ix_closed t').2.2.2] at e
    have e0 : t.val / 16 = t'.val / 16 := congrFun e 0
    have e1 : t.val % 16 = 15 := of_decide_eq_true ((flush_iff t).symm.trans ht)
    have e2 : t'.val % 16 = 15 := of_decide_eq_true ((flush_iff t').symm.trans ht')
    omega))

/-- The last point of a row block writes it back. -/
theorem flush5 (b : Fin 32) : ((cfgM m hO).win 5).flush (lastOf m hO b) = true :=
  (flush_iff (lastOf m hO b)).trans (decide_eq_true (by show (16 * b.val + 15) % 16 = 15; omega))

/-- What it writes back. -/
theorem flushed5 (t : Fin (cfgM m hO).N) (y) : (dats m hO 0 c).flushed 5 t y = (outsAt0 m hO c t.val t.isLt).1 y := by
  show ((cfgM m hO).win 5).cut ((cfgM m hO).grid.coords t) ((dats m hO 0 c).after 5 t) y = _
  rw [after0_5]

/-- An element of the result is its row block's. -/
theorem arr_apply (b : Fin 32) (r : Fin 512) (d : Fin 4096) :
    (dats m hO 0 c).arrAt 5 (cfgM m hO).N (ix2 (⟨512 * b.val + r.val, by omega⟩ : Fin 16384) d) = (outsAt0 m hO c (lastOf m hO b).val (lastOf m hO b).isLt).1 (ix2 r d) := by
  have hidx : (((cfgM m hO).win 5).blk (lastOf m hO b)).view.emb (ix2 r d) = (ix2 (⟨512 * b.val + r.val, by omega⟩ : Fin 16384) d : S16384x4096.Idx) := by
    have h := (ix_closed (lastOf m hO b)).2.2.2
    funext a
    match a with
    | ⟨0, _⟩ => exact Fin.ext ((Pipeline.Window.rect_emb_val ((cfgM m hO).win 5) (lastOf m hO b) (ix2 r d) (0 : Fin 2)).trans (by
        show cc0_transform_5 (grid0.coords (lastOf m hO b)) 0 * 512 + r.val = 512 * b.val + r.val
        rw [h]; show (16 * b.val + 15) / 16 * 512 + r.val = _; omega))
    | ⟨1, _⟩ => exact Fin.ext ((Pipeline.Window.rect_emb_val ((cfgM m hO).win 5) (lastOf m hO b) (ix2 r d) (1 : Fin 2)).trans (by
        show cc0_transform_5 (grid0.coords (lastOf m hO b)) 1 * 4096 + d.val = d.val
        rw [h]; show 0 * 4096 + d.val = _; omega))
  have h := (dats m hO 0 c).arrAt_emb_eq_flushed 5 (disjoint5 m hO) (lastOf m hO b) (flush5 m hO b) (ix2 r d)
  refine (congrArg ((dats m hO 0 c).arrAt 5 (cfgM m hO).N) hidx.symm).trans (h.trans ?_)
  exact flushed5 m hO c _ _

/-- The steps' parts are the whole product. -/
theorem parts_eq (i : Fin 16384) (d : Fin 4096) :
    ∑ k ∈ Finset.range 16, part m c i d k = ∑ f : Fin 16384, hiddenArr m c (ix2 i f) * weightArr m c (ix2 f d) := by
  rw [Finset.sum_range]
  unfold part
  rw [← Fintype.sum_prod_type']
  refine Fintype.sum_equiv (finProdFinEquiv (m := 16) (n := 1024)) _ _ fun p => ?_
  have e : featAt p.1.val p.2 = finProdFinEquiv p := Fin.ext (by
    show (1024 * p.1.val + p.2.val) % 16384 = p.2.val + 1024 * p.1.val
    omega)
  rw [e]

/-- The result array, read at an index. -/
theorem arr_eq (i : Fin 16384) (d : Fin 4096) :
    (dats m hO 0 c).arrAt 5 (cfgM m hO).N (ix2 i d)
      = lnAt (fun d => Ideal.ofBits .f32 0x3FD744FD#32 * residualArr m c (ix2 i d) + ∑ f : Fin 16384, hiddenArr m c (ix2 i f) * weightArr m c (ix2 f d))
          (fun d => scaleArr m c (ix3 (⟨(layerAt m).toNat, layerAt_lt m hO⟩ : Fin 4) 0 d))
          (fun d => shiftArr m c (ix3 (⟨(layerAt m).toNat, layerAt_lt m hO⟩ : Fin 4) 0 d)) d := by
  have hi : i = ⟨512 * (i.val / 512) + i.val % 512, by omega⟩ := Fin.ext (by show i.val = 512 * (i.val / 512) + i.val % 512; omega)
  have h := (arr_apply m hO c ⟨i.val / 512, by omega⟩ ⟨i.val % 512, Nat.mod_lt _ (by omega)⟩ d).trans (out_eq m hO c _ _ d)
  simp only [← hi] at h
  refine h.trans ?_
  unfold accAfter
  simp only [parts_eq]
  rfl

end Cert.Kernel2Ideal.Down

end
-- ==== Proof.Down.Entry.lean ====
/- The arrays the down projection's windows read, entry by entry, over the arguments. -/
module

public import proofs.«01_k».proof.Proof.Down.Accum
public import proofs.«01_k».proof.Proof.Attn.Reference
public import Idealize.ShloMosaic.Lib.StableHlo.RunClose

@[expose] public section

set_option maxRecDepth 16384

noncomputable section

namespace Cert.Kernel2Ideal.Down

open Cert.Kernel2Ideal Cert.Kernel2Ideal.Gen Idealize.ShloMosaic Idealize.ShloMosaic.TcCoe Idealize.SL.Sem Cert.Down

/-- The rows of the two sequences. -/
abbrev seqOf (i : Fin 16384) : Fin 2 := ⟨i.val / 8192, by omega⟩
abbrev posOf (i : Fin 16384) : Fin 8192 := ⟨i.val % 8192, Nat.mod_lt _ (by omega)⟩

/-- The hidden activations as one array of rows … -/
theorem hidden_rows (x : FVec Ideal S2x8192x16384 .f32) (i f : Fin 16384) :
    (truncf .bf16 (shapeCast S16384x16384 x shapeCasts_S2x8192x16384_S16384x16384) bitsLt_bf16_f32 : FVec Ideal S16384x16384 .bf16) (ix2 i f) = x (ix3 (seqOf i) (posOf i) f) := by
  pointwise []

/-- … the residual … -/
theorem residual_rows (x : FVec Ideal S2x8192x4096 .f32) (i : Fin 16384) (d : Fin 4096) :
    (truncf .bf16 (shapeCast S16384x4096 x shapeCasts_S2x8192x4096_S16384x4096) bitsLt_bf16_f32 : FVec Ideal S16384x4096 .bf16) (ix2 i d) = x (ix3 (seqOf i) (posOf i) d) := by
  pointwise []

/-- … the scales or shifts … -/
theorem scale_rows (x : FVec Ideal S4x4096 .f32) (l : Fin 4) (d : Fin 4096) :
    shapeCast S4x1x4096 x shapeCasts_S4x4096_S4x1x4096 (ix3 l 0 d) = x (ix2 l d) := by
  generalize (0 : Fin 1) = z
  pointwise []

/-- … and one layer's weights. -/
theorem weight_rows (x : FVec Ideal S1x16384x4096 .f32) (f : Fin 16384) (d : Fin 4096) :
    (truncf .bf16 (shapeCast S16384x4096 x shapeCasts_S1x16384x4096_S16384x4096) bitsLt_bf16_f32 : FVec Ideal S16384x4096 .bf16) (ix2 f d) = x (ix3 0 f d) := by
  refine Eq.trans (b := x (ix3 ⟨0, by omega⟩ f d)) ?_ rfl
  pointwise []

/-- A layer's slice of the weights, at a start that is not clamped. -/
theorem slice_layer (w : FVec Ideal S4x16384x4096 .f32) (st : Fin 3 → Int) (a : ℕ) (ha : a < 4) (h0 : st 0 = a) (f : Fin 16384) (d : Fin 4096) :
    Host.dynamicSlice S1x16384x4096 w st sliceFits_S4x16384x4096_S1x16384x4096 (ix3 (0 : Fin 1) f d) = w (ix3 (⟨a, ha⟩ : Fin 4) f d) := by
  unfold Host.dynamicSlice
  refine congrArg w (funext fun c => Fin.ext ?_)
  match c with
  | 0 =>
    show (min (max (st 0) 0) (3 : Int)).toNat + 0 = a
    rw [h0]
    omega
  | 1 =>
    show (min (max (st 1) 0) (0 : Int)).toNat + f.val = f.val
    omega
  | 2 =>
    show (min (max (st 2) 0) (0 : Int)).toNat + d.val = d.val
    omega

/-- The start of a slice at the layer. -/
def layerStart (l : IVec S1 32) : IVec S_ 32 :=
  select (cmpi .slt (shapeCast S_ l shapeCasts_S1_S_) (constantI S_ 32 0#32)) (addi (shapeCast S_ l shapeCasts_S1_S_) (constantI S_ 32 4#32)) (shapeCast S_ l shapeCasts_S1_S_)

/-- The start along an axis taken whole, of `n` elements. -/
def wholeStart (n : BitVec 32) : IVec S_ 32 :=
  select (cmpi .slt (constantI S_ 32 0#32) (constantI S_ 32 0#32)) (addi (constantI S_ 32 0#32) (constantI S_ 32 n)) (constantI S_ 32 0#32)

/-- The start at the layer is the layer. -/
theorem layerStart_eq (l : IVec S1 32) (hl : (l (ix1 0)).toNat < 4) : (layerStart l (Shape.Idx.first h_S_)).toInt = (l (ix1 0)).toNat := by
  refine (congrArg BitVec.toInt ?_).trans (Cert.ReferenceIdeal.Attn.start_word (l (ix1 0)) hl)
  have hv : shapeCast S_ l shapeCasts_S1_S_ (Shape.Idx.first h_S_) = l (ix1 0) := congrArg l (funext fun a => by
    match a with
    | 0 => exact Subsingleton.elim (α := Fin 1) _ _)
  show Scalar.select (IntOp.cmpi .slt (shapeCast S_ l shapeCasts_S1_S_ (Shape.Idx.first h_S_)) 0#32)
    (IntOp.addi (shapeCast S_ l shapeCasts_S1_S_ (Shape.Idx.first h_S_)) 4#32) (shapeCast S_ l shapeCasts_S1_S_ (Shape.Idx.first h_S_)) = _
  rw [hv]

variable (m : (ℓ : Loc nD τ sig) → Buf (Elt Ideal) ℓ) (c : Dev nD)

/-- The hidden activations the windows read. -/
theorem hidden_entry (i f : Fin 16384) : hiddenArr m c (ix2 i f) = m ((c : Thread nD τ).loc main_arg1) (ix3 (seqOf i) (posOf i) f) := by
  have e : V m c main_v3 = (truncf .bf16 (shapeCast S16384x16384 (m ((c : Thread nD τ).loc main_arg1)) shapeCasts_S2x8192x16384_S16384x16384) bitsLt_bf16_f32 : FVec Ideal S16384x16384 .bf16) := by
    unfold V hostOps0
    after_results_simp
    rfl
  exact (congrFun e (ix2 i f)).trans (hidden_rows _ i f)

/-- The residual they read. -/
theorem residual_entry (i : Fin 16384) (d : Fin 4096) : residualArr m c (ix2 i d) = m ((c : Thread nD τ).loc main_arg0) (ix3 (seqOf i) (posOf i) d) := by
  have e : V m c main_v18 = (truncf .bf16 (shapeCast S16384x4096 (m ((c : Thread nD τ).loc main_arg0)) shapeCasts_S2x8192x4096_S16384x4096) bitsLt_bf16_f32 : FVec Ideal S16384x4096 .bf16) := by
    unfold V hostOps0
    after_results_simp
    rfl
  exact (congrFun e (ix2 i d)).trans (residual_rows _ i d)

/-- The scales they read … -/
theorem scale_entry (l : Fin 4) (d : Fin 4096) : scaleArr m c (ix3 l 0 d) = m ((c : Thread nD τ).loc main_arg3) (ix2 l d) := by
  have e : V m c main_v0 = (shapeCast S4x1x4096 (m ((c : Thread nD τ).loc main_arg3)) shapeCasts_S4x4096_S4x1x4096 : FVec Ideal S4x1x4096 .f32) := by
    unfold V hostOps0
    after_results_simp
    rfl
  exact (congrFun e (ix3 l 0 d)).trans (scale_rows _ l d)

/-- … and the shifts. -/
theorem shift_entry (l : Fin 4) (d : Fin 4096) : shiftArr m c (ix3 l 0 d) = m ((c : Thread nD τ).loc main_arg4) (ix2 l d) := by
  have e : V m c main_v1 = (shapeCast S4x1x4096 (m ((c : Thread nD τ).loc main_arg4)) shapeCasts_S4x4096_S4x1x4096 : FVec Ideal S4x1x4096 .f32) := by
    unfold V hostOps0
    after_results_simp
    rfl
  exact (congrFun e (ix3 l 0 d)).trans (scale_rows _ l d)

/-- The weights they read are the layer's. -/
theorem weight_entry (hl : (m ((c : Thread nD τ).loc main_arg5) (ix1 0)).toNat < 4) (f : Fin 16384) (d : Fin 4096) :
    weightArr m c (ix2 f d) = m ((c : Thread nD τ).loc main_arg2) (ix3 (⟨_, hl⟩ : Fin 4) f d) := by
  have e : ∃ st : Fin 3 → Int, st 0 = (layerStart (m ((c : Thread nD τ).loc main_arg5)) (Shape.Idx.first h_S_)).toInt ∧
      V m c main_v16 = (truncf .bf16 (shapeCast S16384x4096 (Host.dynamicSlice S1x16384x4096 (m ((c : Thread nD τ).loc main_arg2)) st sliceFits_S4x16384x4096_S1x16384x4096)
        shapeCasts_S1x16384x4096_S16384x4096) bitsLt_bf16_f32 : FVec Ideal S16384x4096 .bf16) := by
    refine ⟨fun k => (((![layerStart (m ((c : Thread nD τ).loc main_arg5)), wholeStart 16384#32, wholeStart 4096#32] : Fin 3 → IVec S_ 32)) k (Shape.Idx.first h_S_)).toInt, rfl, ?_⟩
    unfold V hostOps0
    after_results_simp_entrywise
    rfl
  obtain ⟨st, h0, e⟩ := e
  exact (congrFun e (ix2 f d)).trans ((weight_rows _ f d).trans (slice_layer _ st _ hl (h0.trans (layerStart_eq _ hl)) f d))

end Cert.Kernel2Ideal.Down

end
-- ==== Proof.Down.RefRun.lean ====
/- The second reference's run, in ten stretches of its operations, each giving a named step of the computation. The
   operations are those of the printed program. -/
module

public import proofs.«01_k».proof.Proof.Gen.Reference2Ideal
public import Idealize.ShloMosaic.Lib.StableHlo.Run
public import Idealize.ShloMosaic.Lib.StableHlo.RunClose
public import Idealize.ShloMosaic.Lib.Pipeline.Frame
public import Idealize.ShloMosaic.PureOps.Ideal

@[expose] public section

noncomputable section

namespace Cert.Reference2Ideal.Down

open Cert.Reference2Ideal Cert.Reference2Ideal.Gen Idealize.ShloMosaic Idealize.ShloMosaic.TcCoe Idealize.SL.Sem Idealize.ShloMosaic.StableHlo

/-! ## The steps -/

section
variable (x : FVec Ideal S2x8192x4096 .f32) (h : FVec Ideal S2x8192x16384 .f32) (w : FVec Ideal S4x16384x4096 .f32) (γ β : FVec Ideal S4x4096 .f32) (l : IVec S1 32)

/-- The start of a slice at the layer. -/
def layerStart : IVec S_ 32 :=
  select (cmpi .slt (shapeCast S_ l shapeCasts_S1_S_) (constantI S_ 32 0#32)) (addi (shapeCast S_ l shapeCasts_S1_S_) (constantI S_ 32 4#32)) (shapeCast S_ l shapeCasts_S1_S_)

/-- The start along an axis taken whole, of `n` elements. -/
def wholeStart (n : BitVec 32) : IVec S_ 32 :=
  select (cmpi .slt (constantI S_ 32 0#32) (constantI S_ 32 0#32)) (addi (constantI S_ 32 0#32) (constantI S_ 32 n)) (constantI S_ 32 0#32)

/-- One layer's weights, sliced at the starts. -/
def weightsAt (s a b : IVec S_ 32) : FVec Ideal S1x16384x4096 .f32 :=
  Host.dynamicSlice S1x16384x4096 w (fun k => (((![s, a, b] : Fin 3 → IVec S_ 32)) k (Shape.Idx.first h_S_)).toInt) sliceFits_S4x16384x4096_S1x16384x4096

/-- The layer's weights. -/
def weights : FVec Ideal S1x16384x4096 .f32 := weightsAt w (layerStart l) (wholeStart 16384#32) (wholeStart 4096#32)

/-- The layer's scales or shifts. -/
def params : FVec Ideal S1x4096 .f32 :=
  Host.dynamicSlice S1x4096 γ (fun k => (((![layerStart l, wholeStart 4096#32] : Fin 2 → IVec S_ 32)) k (Shape.Idx.first h_S_)).toInt) sliceFits_S4x4096_S1x4096

/-- The scaled residual. -/
def scaled : FVec Ideal S2x8192x4096 .f32 := mulf (broadcastInDim S2x8192x4096 ![] bcast_S_S2x8192x4096 (constant S_ .f32 0x3FD744FD#32)) x

/-- The down projection. -/
def product (W : FVec Ideal S1x16384x4096 .f32) : FVec Ideal S2x8192x4096 .f32 :=
  Host.dotGeneral dot_S2x8192x16384_S16384x4096_S2x8192x4096_2_0_01_1_n_n none h (shapeCast S16384x4096 W shapeCasts_S1x16384x4096_S16384x4096)

/-- The scaled residual plus the down projection. -/
def rows : FVec Ideal S2x8192x4096 .f32 := addf (scaled x) (product h (weights w l))

/-- The mean over a row. -/
def means (z : FVec Ideal S2x8192x4096 .f32) : FVec Ideal S2x8192x1 .f32 :=
  Host.divf (broadcastInDim S2x8192x1 ![0, 1] bcast_S2x8192_S2x8192x1_0_1 (Host.reduceAdd z (constant S_ .f32 0x00000000#32) reducesTo_S2x8192x4096_S2x8192_d2 h_S_))
    (broadcastInDim S2x8192x1 ![] bcast_S_S2x8192x1 (constant S_ .f32 0x45800000#32))

/-- One number a row, along the row. -/
def wide (v : FVec Ideal S2x8192x1 .f32) : FVec Ideal S2x8192x4096 .f32 := broadcastInDim S2x8192x4096 ![0, 1, 2] bcast_S2x8192x1_S2x8192x4096_0_1_2 v

/-- The rows less one number each. -/
def less (z : FVec Ideal S2x8192x4096 .f32) (μ : FVec Ideal S2x8192x1 .f32) : FVec Ideal S2x8192x4096 .f32 := subf z (wide μ)

/-- The rows less their means. -/
def centred (z : FVec Ideal S2x8192x4096 .f32) : FVec Ideal S2x8192x4096 .f32 := less z (means z)

/-- The reciprocal square roots of the variances. -/
def rsqrts (v : FVec Ideal S2x8192x1 .f32) : FVec Ideal S2x8192x1 .f32 :=
  Host.rsqrt (addf v (broadcastInDim S2x8192x1 ![] bcast_S_S2x8192x1 (constant S_ .f32 0x3727C5AC#32)))

/-- The reciprocal standard deviations. -/
def rstds (z : FVec Ideal S2x8192x4096 .f32) : FVec Ideal S2x8192x1 .f32 := rsqrts (means (mulf (centred z) (centred z)))

/-- One row, at every row. -/
def everyRow (g : FVec Ideal S4096 .f32) : FVec Ideal S2x8192x4096 .f32 :=
  broadcastInDim S2x8192x4096 ![0, 1, 2] bcast_S1x1x4096_S2x8192x4096_0_1_2 (broadcastInDim S1x1x4096 ![2] bcast_S4096_S1x1x4096_2 g)

/-- A layer's scales or shifts, at every row. -/
def along : FVec Ideal S2x8192x4096 .f32 := everyRow (shapeCast S4096 (params γ l) shapeCasts_S1x4096_S4096)

/-- The layer norm. -/
def normed (z : FVec Ideal S2x8192x4096 .f32) : FVec Ideal S2x8192x4096 .f32 :=
  addf (mulf (mulf (centred z) (wide (rstds z))) (along γ l)) (along β l)

/-- The result. -/
def result : FVec Ideal S16384x4096 .f32 := shapeCast S16384x4096 (normed γ β l (rows x h w l)) shapeCasts_S2x8192x4096_S16384x4096

end

variable {F : FTy → Type} [FloatOps F]

/-! ## The operations -/

/-- Stretch 0 of the operations. -/
abbrev ops0 : List (HloOp τ sig (Elt F)) :=
  [ nullary main_cst (constant S_ .f32 0x3FD744FD#32),
    unary main_cst main_v0 (broadcastInDim S2x8192x4096 ![] bcast_S_S2x8192x4096 : (⟨S_, .f32⟩ : BufTy).Contents (Elt F) → (⟨S2x8192x4096, .f32⟩ : BufTy).Contents (Elt F)),
    binary main_v0 main_arg0 main_v1 (mulf : (⟨S2x8192x4096, .f32⟩ : BufTy).Contents (Elt F) → (⟨S2x8192x4096, .f32⟩ : BufTy).Contents (Elt F) → (⟨S2x8192x4096, .f32⟩ : BufTy).Contents (Elt F)),
    reshape main_arg5 main_v2 (rfl : (.i32 : EltTy) = .i32) shapeCasts_S1_S_,
    nullary main_c (constantI S_ 32 0#32),
    binary main_v2 main_c main_v3 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_v2 main_c_0 main_v4 (addi : (⟨S_, .i32⟩ : BufTy).Contents (Elt F) → (⟨S_, .i32⟩ : BufTy).Contents (Elt F) → (⟨S_, .i32⟩ : BufTy).Contents (Elt F)),
    ternary main_v3 main_v4 main_v2 main_v5 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v6 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 16384#32),
    binary main_c_3 main_c_4 main_v7 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v6 main_v7 main_c_5 main_v8 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v9 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 4096#32),
    binary main_c_8 main_c_9 main_v10 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v9 main_v10 main_c_10 main_v11 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- Stretch 1 of the operations. -/
abbrev ops1 : List (HloOp τ sig (Elt F)) :=
  [ unaryIndexed main_arg2 ![main_v5, main_v8, main_v11] ⟨S_, .i32⟩ main_v12 ((fun x i => Host.dynamicSlice S1x16384x4096 x (fun k => (i k (Shape.Idx.first h_S_)).toInt) sliceFits_S4x16384x4096_S1x16384x4096) : (⟨S4x16384x4096, .f32⟩ : BufTy).Contents (Elt F) → (Fin 3 → (⟨S_, .i32⟩ : BufTy).Contents (Elt F)) → (⟨S1x16384x4096, .f32⟩ : BufTy).Contents (Elt F)),
    reshape main_v12 main_v13 (rfl : (.f32 : EltTy) = .f32) shapeCasts_S1x16384x4096_S16384x4096,
    binary main_arg1 main_v13 main_v14 ((fun l r => Host.dotGeneral dot_S2x8192x16384_S16384x4096_S2x8192x4096_2_0_01_1_n_n none l r) : (⟨S2x8192x16384, .f32⟩ : BufTy).Contents (Elt F) → (⟨S16384x4096, .f32⟩ : BufTy).Contents (Elt F) → (⟨S2x8192x4096, .f32⟩ : BufTy).Contents (Elt F)),
    binary main_v1 main_v14 main_v15 (addf : (⟨S2x8192x4096, .f32⟩ : BufTy).Contents (Elt F) → (⟨S2x8192x4096, .f32⟩ : BufTy).Contents (Elt F) → (⟨S2x8192x4096, .f32⟩ : BufTy).Contents (Elt F)) ]

/-- Stretch 2 of the operations. -/
abbrev ops2 : List (HloOp τ sig (Elt F)) :=
  [ reshape main_arg5 main_v16 (rfl : (.i32 : EltTy) = .i32) shapeCasts_S1_S_,
    nullary main_c_11 (constantI S_ 32 0#32),
    binary main_v16 main_c_11 main_v17 (cmpi .slt : (⟨S_, .i32⟩ : BufTy).Contents (Elt F) → (⟨S_, .i32⟩ : BufTy).Contents (Elt F) → (⟨S_, .i1⟩ : BufTy).Contents (Elt F)),
    nullary main_c_12 (constantI S_ 32 4#32),
    binary main_v16 main_c_12 main_v18 (addi : (⟨S_, .i32⟩ : BufTy).Contents (Elt F) → (⟨S_, .i32⟩ : BufTy).Contents (Elt F) → (⟨S_, .i32⟩ : BufTy).Contents (Elt F)),
    ternary main_v17 main_v18 main_v16 main_v19 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_13 (constantI S_ 32 0#32),
    nullary main_c_14 (constantI S_ 32 0#32),
    binary main_c_13 main_c_14 main_v20 (cmpi .slt : (⟨S_, .i32⟩ : BufTy).Contents (Elt F) → (⟨S_, .i32⟩ : BufTy).Contents (Elt F) → (⟨S_, .i1⟩ : BufTy).Contents (Elt F)),
    nullary main_c_15 (constantI S_ 32 0#32),
    nullary main_c_16 (constantI S_ 32 4096#32),
    binary main_c_15 main_c_16 main_v21 (addi : (⟨S_, .i32⟩ : BufTy).Contents (Elt F) → (⟨S_, .i32⟩ : BufTy).Contents (Elt F) → (⟨S_, .i32⟩ : BufTy).Contents (Elt F)),
    nullary main_c_17 (constantI S_ 32 0#32),
    ternary main_v20 main_v21 main_c_17 main_v22 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg3 ![main_v19, main_v22] ⟨S_, .i32⟩ main_v23 ((fun x i => Host.dynamicSlice S1x4096 x (fun k => (i k (Shape.Idx.first h_S_)).toInt) sliceFits_S4x4096_S1x4096) : (⟨S4x4096, .f32⟩ : BufTy).Contents (Elt F) → (Fin 2 → (⟨S_, .i32⟩ : BufTy).Contents (Elt F)) → (⟨S1x4096, .f32⟩ : BufTy).Contents (Elt F)),
    reshape main_v23 main_v24 (rfl : (.f32 : EltTy) = .f32) shapeCasts_S1x4096_S4096 ]

/-- Stretch 3 of the operations. -/
abbrev ops3 : List (HloOp τ sig (Elt F)) :=
  [ reshape main_arg5 main_v25 (rfl : (.i32 : EltTy) = .i32) shapeCasts_S1_S_,
    nullary main_c_18 (constantI S_ 32 0#32),
    binary main_v25 main_c_18 main_v26 (cmpi .slt : (⟨S_, .i32⟩ : BufTy).Contents (Elt F) → (⟨S_, .i32⟩ : BufTy).Contents (Elt F) → (⟨S_, .i1⟩ : BufTy).Contents (Elt F)),
    nullary main_c_19 (constantI S_ 32 4#32),
    binary main_v25 main_c_19 main_v27 (addi : (⟨S_, .i32⟩ : BufTy).Contents (Elt F) → (⟨S_, .i32⟩ : BufTy).Contents (Elt F) → (⟨S_, .i32⟩ : BufTy).Contents (Elt F)),
    ternary main_v26 main_v27 main_v25 main_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_20 (constantI S_ 32 0#32),
    nullary main_c_21 (constantI S_ 32 0#32),
    binary main_c_20 main_c_21 main_v29 (cmpi .slt : (⟨S_, .i32⟩ : BufTy).Contents (Elt F) → (⟨S_, .i32⟩ : BufTy).Contents (Elt F) → (⟨S_, .i1⟩ : BufTy).Contents (Elt F)),
    nullary main_c_22 (constantI S_ 32 0#32),
    nullary main_c_23 (constantI S_ 32 4096#32),
    binary main_c_22 main_c_23 main_v30 (addi : (⟨S_, .i32⟩ : BufTy).Contents (Elt F) → (⟨S_, .i32⟩ : BufTy).Contents (Elt F) → (⟨S_, .i32⟩ : BufTy).Contents (Elt F)),
    nullary main_c_24 (constantI S_ 32 0#32),
    ternary main_v29 main_v30 main_c_24 main_v31 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg4 ![main_v28, main_v31] ⟨S_, .i32⟩ main_v32 ((fun x i => Host.dynamicSlice S1x4096 x (fun k => (i k (Shape.Idx.first h_S_)).toInt) sliceFits_S4x4096_S1x4096) : (⟨S4x4096, .f32⟩ : BufTy).Contents (Elt F) → (Fin 2 → (⟨S_, .i32⟩ : BufTy).Contents (Elt F)) → (⟨S1x4096, .f32⟩ : BufTy).Contents (Elt F)),
    reshape main_v32 main_v33 (rfl : (.f32 : EltTy) = .f32) shapeCasts_S1x4096_S4096 ]

/-- Stretch 4 of the operations. -/
abbrev ops4 : List (HloOp τ sig (Elt F)) :=
  [ nullary main_cst_25 (constant S_ .f32 0x00000000#32),
    binary main_v15 main_cst_25 main_v34 ((fun x v => Host.reduceAdd x v reducesTo_S2x8192x4096_S2x8192_d2 h_S_) : (⟨S2x8192x4096, .f32⟩ : BufTy).Contents (Elt F) → (⟨S_, .f32⟩ : BufTy).Contents (Elt F) → (⟨S2x8192, .f32⟩ : BufTy).Contents (Elt F)),
    unary main_v34 main_v35 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_26 (constant S_ .f32 0x45800000#32),
    unary main_cst_26 main_v36 (broadcastInDim S2x8192x1 ![] bcast_S_S2x8192x1 : (⟨S_, .f32⟩ : BufTy).Contents (Elt F) → (⟨S2x8192x1, .f32⟩ : BufTy).Contents (Elt F)),
    binary main_v35 main_v36 main_v37 (Host.divf : (⟨S2x8192x1, .f32⟩ : BufTy).Contents (Elt F) → (⟨S2x8192x1, .f32⟩ : BufTy).Contents (Elt F) → (⟨S2x8192x1, .f32⟩ : BufTy).Contents (Elt F)) ]

/-- Stretch 5 of the operations. -/
abbrev ops5 : List (HloOp τ sig (Elt F)) :=
  [ unary main_v37 main_v38 (broadcastInDim S2x8192x4096 ![0, 1, 2] bcast_S2x8192x1_S2x8192x4096_0_1_2 : (⟨S2x8192x1, .f32⟩ : BufTy).Contents (Elt F) → (⟨S2x8192x4096, .f32⟩ : BufTy).Contents (Elt F)),
    binary main_v15 main_v38 main_v39 (subf : (⟨S2x8192x4096, .f32⟩ : BufTy).Contents (Elt F) → (⟨S2x8192x4096, .f32⟩ : BufTy).Contents (Elt F) → (⟨S2x8192x4096, .f32⟩ : BufTy).Contents (Elt F)),
    binary main_v39 main_v39 main_v40 (mulf : (⟨S2x8192x4096, .f32⟩ : BufTy).Contents (Elt F) → (⟨S2x8192x4096, .f32⟩ : BufTy).Contents (Elt F) → (⟨S2x8192x4096, .f32⟩ : BufTy).Contents (Elt F)) ]

/-- Stretch 6 of the operations. -/
abbrev ops6 : List (HloOp τ sig (Elt F)) :=
  [ nullary main_cst_27 (constant S_ .f32 0x00000000#32),
    binary main_v40 main_cst_27 main_v41 ((fun x v => Host.reduceAdd x v reducesTo_S2x8192x4096_S2x8192_d2 h_S_) : (⟨S2x8192x4096, .f32⟩ : BufTy).Contents (Elt F) → (⟨S_, .f32⟩ : BufTy).Contents (Elt F) → (⟨S2x8192, .f32⟩ : BufTy).Contents (Elt F)),
    unary main_v41 main_v42 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_28 (constant S_ .f32 0x45800000#32),
    unary main_cst_28 main_v43 (broadcastInDim S2x8192x1 ![] bcast_S_S2x8192x1 : (⟨S_, .f32⟩ : BufTy).Contents (Elt F) → (⟨S2x8192x1, .f32⟩ : BufTy).Contents (Elt F)),
    binary main_v42 main_v43 main_v44 (Host.divf : (⟨S2x8192x1, .f32⟩ : BufTy).Contents (Elt F) → (⟨S2x8192x1, .f32⟩ : BufTy).Contents (Elt F) → (⟨S2x8192x1, .f32⟩ : BufTy).Contents (Elt F)) ]

/-- Stretch 7 of the operations. -/
abbrev ops7 : List (HloOp τ sig (Elt F)) :=
  [ unary main_v37 main_v45 (broadcastInDim S2x8192x4096 ![0, 1, 2] bcast_S2x8192x1_S2x8192x4096_0_1_2 : (⟨S2x8192x1, .f32⟩ : BufTy).Contents (Elt F) → (⟨S2x8192x4096, .f32⟩ : BufTy).Contents (Elt F)),
    binary main_v15 main_v45 main_v46 (subf : (⟨S2x8192x4096, .f32⟩ : BufTy).Contents (Elt F) → (⟨S2x8192x4096, .f32⟩ : BufTy).Contents (Elt F) → (⟨S2x8192x4096, .f32⟩ : BufTy).Contents (Elt F)) ]

/-- Stretch 8 of the operations. -/
abbrev ops8 : List (HloOp τ sig (Elt F)) :=
  [ nullary main_cst_29 (constant S_ .f32 0x3727C5AC#32),
    unary main_cst_29 main_v47 (broadcastInDim S2x8192x1 ![] bcast_S_S2x8192x1 : (⟨S_, .f32⟩ : BufTy).Contents (Elt F) → (⟨S2x8192x1, .f32⟩ : BufTy).Contents (Elt F)),
    binary main_v44 main_v47 main_v48 (addf : (⟨S2x8192x1, .f32⟩ : BufTy).Contents (Elt F) → (⟨S2x8192x1, .f32⟩ : BufTy).Contents (Elt F) → (⟨S2x8192x1, .f32⟩ : BufTy).Contents (Elt F)),
    unary main_v48 main_v49 (Host.rsqrt : (⟨S2x8192x1, .f32⟩ : BufTy).Contents (Elt F) → (⟨S2x8192x1, .f32⟩ : BufTy).Contents (Elt F)),
    unary main_v49 main_v50 (broadcastInDim S2x8192x4096 ![0, 1, 2] bcast_S2x8192x1_S2x8192x4096_0_1_2 : (⟨S2x8192x1, .f32⟩ : BufTy).Contents (Elt F) → (⟨S2x8192x4096, .f32⟩ : BufTy).Contents (Elt F)),
    binary main_v46 main_v50 main_v51 (mulf : (⟨S2x8192x4096, .f32⟩ : BufTy).Contents (Elt F) → (⟨S2x8192x4096, .f32⟩ : BufTy).Contents (Elt F) → (⟨S2x8192x4096, .f32⟩ : BufTy).Contents (Elt F)) ]

/-- Stretch 9 of the operations. -/
abbrev ops9 : List (HloOp τ sig (Elt F)) :=
  [ unary main_v24 main_v52 (broadcastInDim S1x1x4096 ![2] bcast_S4096_S1x1x4096_2 : (⟨S4096, .f32⟩ : BufTy).Contents (Elt F) → (⟨S1x1x4096, .f32⟩ : BufTy).Contents (Elt F)),
    unary main_v52 main_v53 (broadcastInDim S2x8192x4096 ![0, 1, 2] bcast_S1x1x4096_S2x8192x4096_0_1_2 : (⟨S1x1x4096, .f32⟩ : BufTy).Contents (Elt F) → (⟨S2x8192x4096, .f32⟩ : BufTy).Contents (Elt F)),
    binary main_v51 main_v53 main_v54 (mulf : (⟨S2x8192x4096, .f32⟩ : BufTy).Contents (Elt F) → (⟨S2x8192x4096, .f32⟩ : BufTy).Contents (Elt F) → (⟨S2x8192x4096, .f32⟩ : BufTy).Contents (Elt F)),
    unary main_v33 main_v55 (broadcastInDim S1x1x4096 ![2] bcast_S4096_S1x1x4096_2 : (⟨S4096, .f32⟩ : BufTy).Contents (Elt F) → (⟨S1x1x4096, .f32⟩ : BufTy).Contents (Elt F)),
    unary main_v55 main_v56 (broadcastInDim S2x8192x4096 ![0, 1, 2] bcast_S1x1x4096_S2x8192x4096_0_1_2 : (⟨S1x1x4096, .f32⟩ : BufTy).Contents (Elt F) → (⟨S2x8192x4096, .f32⟩ : BufTy).Contents (Elt F)),
    binary main_v54 main_v56 main_v57 (addf : (⟨S2x8192x4096, .f32⟩ : BufTy).Contents (Elt F) → (⟨S2x8192x4096, .f32⟩ : BufTy).Contents (Elt F) → (⟨S2x8192x4096, .f32⟩ : BufTy).Contents (Elt F)),
    reshape main_v57 main_v58 (rfl : (.f32 : EltTy) = .f32) shapeCasts_S2x8192x4096_S16384x4096 ]

/-- All the operations. -/
abbrev ops : List (HloOp τ sig (Elt F)) := ops0 ++ (ops1 ++ (ops2 ++ (ops3 ++ (ops4 ++ (ops5 ++ (ops6 ++ (ops7 ++ (ops8 ++ (ops9)))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., binary_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., binary_bufs_sub .., binary_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub ..⟩

/-! ## Each stretch -/

section
variable (V : Valuation τ sig (Elt Ideal))

set_option maxRecDepth 8192 in
/-- Stretch 0 computes `main_v1`. -/
theorem st0_main_v1 (x : FVec Ideal S2x8192x4096 .f32) (h_main_arg0 : V (Proc.devRef .tc main_arg0) = x) : after ops0 V (Proc.devRef .tc main_v1) = scaled x := by
  simp only [ops0]
  after_results_simp_entrywise
  simp only [h_main_arg0]
  rfl

set_option maxRecDepth 8192 in
/-- Stretch 0 computes `main_v5`. -/
theorem st0_main_v5 (l : IVec S1 32) (h_main_arg5 : V (Proc.devRef .tc main_arg5) = l) : after ops0 V (Proc.devRef .tc main_v5) = layerStart l := by
  simp only [ops0]
  after_results_simp_entrywise
  simp only [h_main_arg5]
  rfl

set_option maxRecDepth 8192 in
/-- Stretch 0 computes `main_v8`. -/
theorem st0_main_v8   : after ops0 V (Proc.devRef .tc main_v8) = wholeStart 16384#32 := by
  simp only [ops0]
  after_results_simp_entrywise
  rfl

set_option maxRecDepth 8192 in
/-- Stretch 0 computes `main_v11`. -/
theorem st0_main_v11   : after ops0 V (Proc.devRef .tc main_v11) = wholeStart 4096#32 := by
  simp only [ops0]
  after_results_simp_entrywise
  rfl

/-- Stretch 0 leaves `main_arg0`. -/
theorem keep0_main_arg0 : after ops0 V (Proc.devRef .tc main_arg0) = V (Proc.devRef .tc main_arg0) := by
  simp only [ops0]
  after_results_simp

/-- Stretch 0 leaves `main_arg1`. -/
theorem keep0_main_arg1 : after ops0 V (Proc.devRef .tc main_arg1) = V (Proc.devRef .tc main_arg1) := by
  simp only [ops0]
  after_results_simp

/-- Stretch 0 leaves `main_arg2`. -/
theorem keep0_main_arg2 : after ops0 V (Proc.devRef .tc main_arg2) = V (Proc.devRef .tc main_arg2) := by
  simp only [ops0]
  after_results_simp

/-- Stretch 0 leaves `main_arg3`. -/
theorem keep0_main_arg3 : after ops0 V (Proc.devRef .tc main_arg3) = V (Proc.devRef .tc main_arg3) := by
  simp only [ops0]
  after_results_simp

/-- Stretch 0 leaves `main_arg4`. -/
theorem keep0_main_arg4 : after ops0 V (Proc.devRef .tc main_arg4) = V (Proc.devRef .tc main_arg4) := by
  simp only [ops0]
  after_results_simp

/-- Stretch 0 leaves `main_arg5`. -/
theorem keep0_main_arg5 : after ops0 V (Proc.devRef .tc main_arg5) = V (Proc.devRef .tc main_arg5) := by
  simp only [ops0]
  after_results_simp

set_option maxRecDepth 8192 in
/-- Stretch 1 computes `main_v15`. -/
theorem st1_main_v15 (w : FVec Ideal S4x16384x4096 .f32) (s : IVec S_ 32) (a : IVec S_ 32) (b : IVec S_ 32) (h : FVec Ideal S2x8192x16384 .f32) (r : FVec Ideal S2x8192x4096 .f32) (h_main_arg2 : V (Proc.devRef .tc main_arg2) = w) (h_main_v5 : V (Proc.devRef .tc main_v5) = s) (h_main_v8 : V (Proc.devRef .tc main_v8) = a) (h_main_v11 : V (Proc.devRef .tc main_v11) = b) (h_main_arg1 : V (Proc.devRef .tc main_arg1) = h) (h_main_v1 : V (Proc.devRef .tc main_v1) = r) : after ops1 V (Proc.devRef .tc main_v15) = addf r (product h (weightsAt w s a b)) := by
  simp only [ops1]
  after_results_simp_entrywise
  simp only [h_main_arg2, h_main_v5, h_main_v8, h_main_v11, h_main_arg1, h_main_v1]
  rfl

/-- Stretch 1 leaves `main_arg0`. -/
theorem keep1_main_arg0 : after ops1 V (Proc.devRef .tc main_arg0) = V (Proc.devRef .tc main_arg0) := by
  simp only [ops1]
  after_results_simp

/-- Stretch 1 leaves `main_arg1`. -/
theorem keep1_main_arg1 : after ops1 V (Proc.devRef .tc main_arg1) = V (Proc.devRef .tc main_arg1) := by
  simp only [ops1]
  after_results_simp

/-- Stretch 1 leaves `main_arg2`. -/
theorem keep1_main_arg2 : after ops1 V (Proc.devRef .tc main_arg2) = V (Proc.devRef .tc main_arg2) := by
  simp only [ops1]
  after_results_simp

/-- Stretch 1 leaves `main_arg3`. -/
theorem keep1_main_arg3 : after ops1 V (Proc.devRef .tc main_arg3) = V (Proc.devRef .tc main_arg3) := by
  simp only [ops1]
  after_results_simp

/-- Stretch 1 leaves `main_arg4`. -/
theorem keep1_main_arg4 : after ops1 V (Proc.devRef .tc main_arg4) = V (Proc.devRef .tc main_arg4) := by
  simp only [ops1]
  after_results_simp

/-- Stretch 1 leaves `main_arg5`. -/
theorem keep1_main_arg5 : after ops1 V (Proc.devRef .tc main_arg5) = V (Proc.devRef .tc main_arg5) := by
  simp only [ops1]
  after_results_simp

set_option maxRecDepth 8192 in
/-- Stretch 2 computes `main_v24`. -/
theorem st2_main_v24 (l : IVec S1 32) (γ : FVec Ideal S4x4096 .f32) (h_main_arg5 : V (Proc.devRef .tc main_arg5) = l) (h_main_arg3 : V (Proc.devRef .tc main_arg3) = γ) : after ops2 V (Proc.devRef .tc main_v24) = shapeCast S4096 (params γ l) shapeCasts_S1x4096_S4096 := by
  simp only [ops2]
  after_results_simp_entrywise
  simp only [h_main_arg5, h_main_arg3]
  rfl

/-- Stretch 2 leaves `main_arg0`. -/
theorem keep2_main_arg0 : after ops2 V (Proc.devRef .tc main_arg0) = V (Proc.devRef .tc main_arg0) := by
  simp only [ops2]
  after_results_simp

/-- Stretch 2 leaves `main_arg1`. -/
theorem keep2_main_arg1 : after ops2 V (Proc.devRef .tc main_arg1) = V (Proc.devRef .tc main_arg1) := by
  simp only [ops2]
  after_results_simp

/-- Stretch 2 leaves `main_arg2`. -/
theorem keep2_main_arg2 : after ops2 V (Proc.devRef .tc main_arg2) = V (Proc.devRef .tc main_arg2) := by
  simp only [ops2]
  after_results_simp

/-- Stretch 2 leaves `main_arg3`. -/
theorem keep2_main_arg3 : after ops2 V (Proc.devRef .tc main_arg3) = V (Proc.devRef .tc main_arg3) := by
  simp only [ops2]
  after_results_simp

/-- Stretch 2 leaves `main_arg4`. -/
theorem keep2_main_arg4 : after ops2 V (Proc.devRef .tc main_arg4) = V (Proc.devRef .tc main_arg4) := by
  simp only [ops2]
  after_results_simp

/-- Stretch 2 leaves `main_arg5`. -/
theorem keep2_main_arg5 : after ops2 V (Proc.devRef .tc main_arg5) = V (Proc.devRef .tc main_arg5) := by
  simp only [ops2]
  after_results_simp

/-- Stretch 2 leaves `main_v15`. -/
theorem keep2_main_v15 : after ops2 V (Proc.devRef .tc main_v15) = V (Proc.devRef .tc main_v15) := by
  simp only [ops2]
  after_results_simp

set_option maxRecDepth 8192 in
/-- Stretch 3 computes `main_v33`. -/
theorem st3_main_v33 (l : IVec S1 32) (β : FVec Ideal S4x4096 .f32) (h_main_arg5 : V (Proc.devRef .tc main_arg5) = l) (h_main_arg4 : V (Proc.devRef .tc main_arg4) = β) : after ops3 V (Proc.devRef .tc main_v33) = shapeCast S4096 (params β l) shapeCasts_S1x4096_S4096 := by
  simp only [ops3]
  after_results_simp_entrywise
  simp only [h_main_arg5, h_main_arg4]
  rfl

/-- Stretch 3 leaves `main_arg0`. -/
theorem keep3_main_arg0 : after ops3 V (Proc.devRef .tc main_arg0) = V (Proc.devRef .tc main_arg0) := by
  simp only [ops3]
  after_results_simp

/-- Stretch 3 leaves `main_arg1`. -/
theorem keep3_main_arg1 : after ops3 V (Proc.devRef .tc main_arg1) = V (Proc.devRef .tc main_arg1) := by
  simp only [ops3]
  after_results_simp

/-- Stretch 3 leaves `main_arg2`. -/
theorem keep3_main_arg2 : after ops3 V (Proc.devRef .tc main_arg2) = V (Proc.devRef .tc main_arg2) := by
  simp only [ops3]
  after_results_simp

/-- Stretch 3 leaves `main_arg3`. -/
theorem keep3_main_arg3 : after ops3 V (Proc.devRef .tc main_arg3) = V (Proc.devRef .tc main_arg3) := by
  simp only [ops3]
  after_results_simp

/-- Stretch 3 leaves `main_arg4`. -/
theorem keep3_main_arg4 : after ops3 V (Proc.devRef .tc main_arg4) = V (Proc.devRef .tc main_arg4) := by
  simp only [ops3]
  after_results_simp

/-- Stretch 3 leaves `main_arg5`. -/
theorem keep3_main_arg5 : after ops3 V (Proc.devRef .tc main_arg5) = V (Proc.devRef .tc main_arg5) := by
  simp only [ops3]
  after_results_simp

/-- Stretch 3 leaves `main_v15`. -/
theorem keep3_main_v15 : after ops3 V (Proc.devRef .tc main_v15) = V (Proc.devRef .tc main_v15) := by
  simp only [ops3]
  after_results_simp

/-- Stretch 3 leaves `main_v24`. -/
theorem keep3_main_v24 : after ops3 V (Proc.devRef .tc main_v24) = V (Proc.devRef .tc main_v24) := by
  simp only [ops3]
  after_results_simp

set_option maxRecDepth 8192 in
/-- Stretch 4 computes `main_v37`. -/
theorem st4_main_v37 (z : FVec Ideal S2x8192x4096 .f32) (h_main_v15 : V (Proc.devRef .tc main_v15) = z) : after ops4 V (Proc.devRef .tc main_v37) = means z := by
  simp only [ops4]
  after_results_simp_entrywise
  simp only [h_main_v15]
  rfl

/-- Stretch 4 leaves `main_arg0`. -/
theorem keep4_main_arg0 : after ops4 V (Proc.devRef .tc main_arg0) = V (Proc.devRef .tc main_arg0) := by
  simp only [ops4]
  after_results_simp

/-- Stretch 4 leaves `main_arg1`. -/
theorem keep4_main_arg1 : after ops4 V (Proc.devRef .tc main_arg1) = V (Proc.devRef .tc main_arg1) := by
  simp only [ops4]
  after_results_simp

/-- Stretch 4 leaves `main_arg2`. -/
theorem keep4_main_arg2 : after ops4 V (Proc.devRef .tc main_arg2) = V (Proc.devRef .tc main_arg2) := by
  simp only [ops4]
  after_results_simp

/-- Stretch 4 leaves `main_arg3`. -/
theorem keep4_main_arg3 : after ops4 V (Proc.devRef .tc main_arg3) = V (Proc.devRef .tc main_arg3) := by
  simp only [ops4]
  after_results_simp

/-- Stretch 4 leaves `main_arg4`. -/
theorem keep4_main_arg4 : after ops4 V (Proc.devRef .tc main_arg4) = V (Proc.devRef .tc main_arg4) := by
  simp only [ops4]
  after_results_simp

/-- Stretch 4 leaves `main_arg5`. -/
theorem keep4_main_arg5 : after ops4 V (Proc.devRef .tc main_arg5) = V (Proc.devRef .tc main_arg5) := by
  simp only [ops4]
  after_results_simp

/-- Stretch 4 leaves `main_v15`. -/
theorem keep4_main_v15 : after ops4 V (Proc.devRef .tc main_v15) = V (Proc.devRef .tc main_v15) := by
  simp only [ops4]
  after_results_simp

/-- Stretch 4 leaves `main_v24`. -/
theorem keep4_main_v24 : after ops4 V (Proc.devRef .tc main_v24) = V (Proc.devRef .tc main_v24) := by
  simp only [ops4]
  after_results_simp

/-- Stretch 4 leaves `main_v33`. -/
theorem keep4_main_v33 : after ops4 V (Proc.devRef .tc main_v33) = V (Proc.devRef .tc main_v33) := by
  simp only [ops4]
  after_results_simp

set_option maxRecDepth 8192 in
/-- Stretch 5 computes `main_v40`. -/
theorem st5_main_v40 (μ : FVec Ideal S2x8192x1 .f32) (z : FVec Ideal S2x8192x4096 .f32) (h_main_v37 : V (Proc.devRef .tc main_v37) = μ) (h_main_v15 : V (Proc.devRef .tc main_v15) = z) : after ops5 V (Proc.devRef .tc main_v40) = mulf (less z μ) (less z μ) := by
  simp only [ops5]
  after_results_simp_entrywise
  simp only [h_main_v37, h_main_v15]
  rfl

/-- Stretch 5 leaves `main_arg0`. -/
theorem keep5_main_arg0 : after ops5 V (Proc.devRef .tc main_arg0) = V (Proc.devRef .tc main_arg0) := by
  simp only [ops5]
  after_results_simp

/-- Stretch 5 leaves `main_arg1`. -/
theorem keep5_main_arg1 : after ops5 V (Proc.devRef .tc main_arg1) = V (Proc.devRef .tc main_arg1) := by
  simp only [ops5]
  after_results_simp

/-- Stretch 5 leaves `main_arg2`. -/
theorem keep5_main_arg2 : after ops5 V (Proc.devRef .tc main_arg2) = V (Proc.devRef .tc main_arg2) := by
  simp only [ops5]
  after_results_simp

/-- Stretch 5 leaves `main_arg3`. -/
theorem keep5_main_arg3 : after ops5 V (Proc.devRef .tc main_arg3) = V (Proc.devRef .tc main_arg3) := by
  simp only [ops5]
  after_results_simp

/-- Stretch 5 leaves `main_arg4`. -/
theorem keep5_main_arg4 : after ops5 V (Proc.devRef .tc main_arg4) = V (Proc.devRef .tc main_arg4) := by
  simp only [ops5]
  after_results_simp

/-- Stretch 5 leaves `main_arg5`. -/
theorem keep5_main_arg5 : after ops5 V (Proc.devRef .tc main_arg5) = V (Proc.devRef .tc main_arg5) := by
  simp only [ops5]
  after_results_simp

/-- Stretch 5 leaves `main_v15`. -/
theorem keep5_main_v15 : after ops5 V (Proc.devRef .tc main_v15) = V (Proc.devRef .tc main_v15) := by
  simp only [ops5]
  after_results_simp

/-- Stretch 5 leaves `main_v24`. -/
theorem keep5_main_v24 : after ops5 V (Proc.devRef .tc main_v24) = V (Proc.devRef .tc main_v24) := by
  simp only [ops5]
  after_results_simp

/-- Stretch 5 leaves `main_v33`. -/
theorem keep5_main_v33 : after ops5 V (Proc.devRef .tc main_v33) = V (Proc.devRef .tc main_v33) := by
  simp only [ops5]
  after_results_simp

/-- Stretch 5 leaves `main_v37`. -/
theorem keep5_main_v37 : after ops5 V (Proc.devRef .tc main_v37) = V (Proc.devRef .tc main_v37) := by
  simp only [ops5]
  after_results_simp

set_option maxRecDepth 8192 in
/-- Stretch 6 computes `main_v44`. -/
theorem st6_main_v44 (q : FVec Ideal S2x8192x4096 .f32) (h_main_v40 : V (Proc.devRef .tc main_v40) = q) : after ops6 V (Proc.devRef .tc main_v44) = means q := by
  simp only [ops6]
  after_results_simp_entrywise
  simp only [h_main_v40]
  rfl

/-- Stretch 6 leaves `main_arg0`. -/
theorem keep6_main_arg0 : after ops6 V (Proc.devRef .tc main_arg0) = V (Proc.devRef .tc main_arg0) := by
  simp only [ops6]
  after_results_simp

/-- Stretch 6 leaves `main_arg1`. -/
theorem keep6_main_arg1 : after ops6 V (Proc.devRef .tc main_arg1) = V (Proc.devRef .tc main_arg1) := by
  simp only [ops6]
  after_results_simp

/-- Stretch 6 leaves `main_arg2`. -/
theorem keep6_main_arg2 : after ops6 V (Proc.devRef .tc main_arg2) = V (Proc.devRef .tc main_arg2) := by
  simp only [ops6]
  after_results_simp

/-- Stretch 6 leaves `main_arg3`. -/
theorem keep6_main_arg3 : after ops6 V (Proc.devRef .tc main_arg3) = V (Proc.devRef .tc main_arg3) := by
  simp only [ops6]
  after_results_simp

/-- Stretch 6 leaves `main_arg4`. -/
theorem keep6_main_arg4 : after ops6 V (Proc.devRef .tc main_arg4) = V (Proc.devRef .tc main_arg4) := by
  simp only [ops6]
  after_results_simp

/-- Stretch 6 leaves `main_arg5`. -/
theorem keep6_main_arg5 : after ops6 V (Proc.devRef .tc main_arg5) = V (Proc.devRef .tc main_arg5) := by
  simp only [ops6]
  after_results_simp

/-- Stretch 6 leaves `main_v15`. -/
theorem keep6_main_v15 : after ops6 V (Proc.devRef .tc main_v15) = V (Proc.devRef .tc main_v15) := by
  simp only [ops6]
  after_results_simp

/-- Stretch 6 leaves `main_v24`. -/
theorem keep6_main_v24 : after ops6 V (Proc.devRef .tc main_v24) = V (Proc.devRef .tc main_v24) := by
  simp only [ops6]
  after_results_simp

/-- Stretch 6 leaves `main_v33`. -/
theorem keep6_main_v33 : after ops6 V (Proc.devRef .tc main_v33) = V (Proc.devRef .tc main_v33) := by
  simp only [ops6]
  after_results_simp

/-- Stretch 6 leaves `main_v37`. -/
theorem keep6_main_v37 : after ops6 V (Proc.devRef .tc main_v37) = V (Proc.devRef .tc main_v37) := by
  simp only [ops6]
  after_results_simp

set_option maxRecDepth 8192 in
/-- Stretch 7 computes `main_v46`. -/
theorem st7_main_v46 (μ : FVec Ideal S2x8192x1 .f32) (z : FVec Ideal S2x8192x4096 .f32) (h_main_v37 : V (Proc.devRef .tc main_v37) = μ) (h_main_v15 : V (Proc.devRef .tc main_v15) = z) : after ops7 V (Proc.devRef .tc main_v46) = less z μ := by
  simp only [ops7]
  after_results_simp_entrywise
  simp only [h_main_v37, h_main_v15]
  rfl

/-- Stretch 7 leaves `main_arg0`. -/
theorem keep7_main_arg0 : after ops7 V (Proc.devRef .tc main_arg0) = V (Proc.devRef .tc main_arg0) := by
  simp only [ops7]
  after_results_simp

/-- Stretch 7 leaves `main_arg1`. -/
theorem keep7_main_arg1 : after ops7 V (Proc.devRef .tc main_arg1) = V (Proc.devRef .tc main_arg1) := by
  simp only [ops7]
  after_results_simp

/-- Stretch 7 leaves `main_arg2`. -/
theorem keep7_main_arg2 : after ops7 V (Proc.devRef .tc main_arg2) = V (Proc.devRef .tc main_arg2) := by
  simp only [ops7]
  after_results_simp

/-- Stretch 7 leaves `main_arg3`. -/
theorem keep7_main_arg3 : after ops7 V (Proc.devRef .tc main_arg3) = V (Proc.devRef .tc main_arg3) := by
  simp only [ops7]
  after_results_simp

/-- Stretch 7 leaves `main_arg4`. -/
theorem keep7_main_arg4 : after ops7 V (Proc.devRef .tc main_arg4) = V (Proc.devRef .tc main_arg4) := by
  simp only [ops7]
  after_results_simp

/-- Stretch 7 leaves `main_arg5`. -/
theorem keep7_main_arg5 : after ops7 V (Proc.devRef .tc main_arg5) = V (Proc.devRef .tc main_arg5) := by
  simp only [ops7]
  after_results_simp

/-- Stretch 7 leaves `main_v24`. -/
theorem keep7_main_v24 : after ops7 V (Proc.devRef .tc main_v24) = V (Proc.devRef .tc main_v24) := by
  simp only [ops7]
  after_results_simp

/-- Stretch 7 leaves `main_v33`. -/
theorem keep7_main_v33 : after ops7 V (Proc.devRef .tc main_v33) = V (Proc.devRef .tc main_v33) := by
  simp only [ops7]
  after_results_simp

/-- Stretch 7 leaves `main_v44`. -/
theorem keep7_main_v44 : after ops7 V (Proc.devRef .tc main_v44) = V (Proc.devRef .tc main_v44) := by
  simp only [ops7]
  after_results_simp

set_option maxRecDepth 8192 in
/-- Stretch 8 computes `main_v51`. -/
theorem st8_main_v51 (v : FVec Ideal S2x8192x1 .f32) (y : FVec Ideal S2x8192x4096 .f32) (h_main_v44 : V (Proc.devRef .tc main_v44) = v) (h_main_v46 : V (Proc.devRef .tc main_v46) = y) : after ops8 V (Proc.devRef .tc main_v51) = mulf y (wide (rsqrts v)) := by
  simp only [ops8]
  after_results_simp_entrywise
  simp only [h_main_v44, h_main_v46]
  rfl

/-- Stretch 8 leaves `main_arg0`. -/
theorem keep8_main_arg0 : after ops8 V (Proc.devRef .tc main_arg0) = V (Proc.devRef .tc main_arg0) := by
  simp only [ops8]
  after_results_simp

/-- Stretch 8 leaves `main_arg1`. -/
theorem keep8_main_arg1 : after ops8 V (Proc.devRef .tc main_arg1) = V (Proc.devRef .tc main_arg1) := by
  simp only [ops8]
  after_results_simp

/-- Stretch 8 leaves `main_arg2`. -/
theorem keep8_main_arg2 : after ops8 V (Proc.devRef .tc main_arg2) = V (Proc.devRef .tc main_arg2) := by
  simp only [ops8]
  after_results_simp

/-- Stretch 8 leaves `main_arg3`. -/
theorem keep8_main_arg3 : after ops8 V (Proc.devRef .tc main_arg3) = V (Proc.devRef .tc main_arg3) := by
  simp only [ops8]
  after_results_simp

/-- Stretch 8 leaves `main_arg4`. -/
theorem keep8_main_arg4 : after ops8 V (Proc.devRef .tc main_arg4) = V (Proc.devRef .tc main_arg4) := by
  simp only [ops8]
  after_results_simp

/-- Stretch 8 leaves `main_arg5`. -/
theorem keep8_main_arg5 : after ops8 V (Proc.devRef .tc main_arg5) = V (Proc.devRef .tc main_arg5) := by
  simp only [ops8]
  after_results_simp

/-- Stretch 8 leaves `main_v24`. -/
theorem keep8_main_v24 : after ops8 V (Proc.devRef .tc main_v24) = V (Proc.devRef .tc main_v24) := by
  simp only [ops8]
  after_results_simp

/-- Stretch 8 leaves `main_v33`. -/
theorem keep8_main_v33 : after ops8 V (Proc.devRef .tc main_v33) = V (Proc.devRef .tc main_v33) := by
  simp only [ops8]
  after_results_simp

set_option maxRecDepth 8192 in
/-- Stretch 9 computes `main_v58`. -/
theorem st9_main_v58 (g : FVec Ideal S4096 .f32) (u : FVec Ideal S2x8192x4096 .f32) (t : FVec Ideal S4096 .f32) (h_main_v24 : V (Proc.devRef .tc main_v24) = g) (h_main_v51 : V (Proc.devRef .tc main_v51) = u) (h_main_v33 : V (Proc.devRef .tc main_v33) = t) : after ops9 V (Proc.devRef .tc main_v58) = shapeCast S16384x4096 (addf (mulf u (everyRow g)) (everyRow t)) shapeCasts_S2x8192x4096_S16384x4096 := by
  simp only [ops9]
  after_results_simp_entrywise
  simp only [h_main_v24, h_main_v51, h_main_v33]
  rfl

/-- Stretch 9 leaves `main_arg0`. -/
theorem keep9_main_arg0 : after ops9 V (Proc.devRef .tc main_arg0) = V (Proc.devRef .tc main_arg0) := by
  simp only [ops9]
  after_results_simp

/-- Stretch 9 leaves `main_arg1`. -/
theorem keep9_main_arg1 : after ops9 V (Proc.devRef .tc main_arg1) = V (Proc.devRef .tc main_arg1) := by
  simp only [ops9]
  after_results_simp

/-- Stretch 9 leaves `main_arg2`. -/
theorem keep9_main_arg2 : after ops9 V (Proc.devRef .tc main_arg2) = V (Proc.devRef .tc main_arg2) := by
  simp only [ops9]
  after_results_simp

/-- Stretch 9 leaves `main_arg3`. -/
theorem keep9_main_arg3 : after ops9 V (Proc.devRef .tc main_arg3) = V (Proc.devRef .tc main_arg3) := by
  simp only [ops9]
  after_results_simp

/-- Stretch 9 leaves `main_arg4`. -/
theorem keep9_main_arg4 : after ops9 V (Proc.devRef .tc main_arg4) = V (Proc.devRef .tc main_arg4) := by
  simp only [ops9]
  after_results_simp

/-- Stretch 9 leaves `main_arg5`. -/
theorem keep9_main_arg5 : after ops9 V (Proc.devRef .tc main_arg5) = V (Proc.devRef .tc main_arg5) := by
  simp only [ops9]
  after_results_simp

end

section
variable (V : Valuation τ sig (Elt Ideal))

/-- The contents after stretch 0. -/
def V0 : Valuation τ sig (Elt Ideal) := after ops0 V
/-- The contents after stretch 1. -/
def V1 : Valuation τ sig (Elt Ideal) := after ops1 (V0 V)
/-- The contents after stretch 2. -/
def V2 : Valuation τ sig (Elt Ideal) := after ops2 (V1 V)
/-- The contents after stretch 3. -/
def V3 : Valuation τ sig (Elt Ideal) := after ops3 (V2 V)
/-- The contents after stretch 4. -/
def V4 : Valuation τ sig (Elt Ideal) := after ops4 (V3 V)
/-- The contents after stretch 5. -/
def V5 : Valuation τ sig (Elt Ideal) := after ops5 (V4 V)
/-- The contents after stretch 6. -/
def V6 : Valuation τ sig (Elt Ideal) := after ops6 (V5 V)
/-- The contents after stretch 7. -/
def V7 : Valuation τ sig (Elt Ideal) := after ops7 (V6 V)
/-- The contents after stretch 8. -/
def V8 : Valuation τ sig (Elt Ideal) := after ops8 (V7 V)
/-- The contents after stretch 9. -/
def V9 : Valuation τ sig (Elt Ideal) := after ops9 (V8 V)
theorem V0_main_arg0 : V0 V (Proc.devRef .tc main_arg0) = (V (Proc.devRef .tc main_arg0)) := keep0_main_arg0 V
theorem V0_main_arg1 : V0 V (Proc.devRef .tc main_arg1) = (V (Proc.devRef .tc main_arg1)) := keep0_main_arg1 V
theorem V0_main_arg2 : V0 V (Proc.devRef .tc main_arg2) = (V (Proc.devRef .tc main_arg2)) := keep0_main_arg2 V
theorem V0_main_arg3 : V0 V (Proc.devRef .tc main_arg3) = (V (Proc.devRef .tc main_arg3)) := keep0_main_arg3 V
theorem V0_main_arg4 : V0 V (Proc.devRef .tc main_arg4) = (V (Proc.devRef .tc main_arg4)) := keep0_main_arg4 V
theorem V0_main_arg5 : V0 V (Proc.devRef .tc main_arg5) = (V (Proc.devRef .tc main_arg5)) := keep0_main_arg5 V
theorem V0_main_v1 : V0 V (Proc.devRef .tc main_v1) = (scaled (V (Proc.devRef .tc main_arg0))) := st0_main_v1 V (V (Proc.devRef .tc main_arg0)) rfl
theorem V0_main_v5 : V0 V (Proc.devRef .tc main_v5) = (layerStart (V (Proc.devRef .tc main_arg5))) := st0_main_v5 V (V (Proc.devRef .tc main_arg5)) rfl
theorem V0_main_v8 : V0 V (Proc.devRef .tc main_v8) = (wholeStart 16384#32) := st0_main_v8 V
theorem V0_main_v11 : V0 V (Proc.devRef .tc main_v11) = (wholeStart 4096#32) := st0_main_v11 V
theorem V1_main_arg0 : V1 V (Proc.devRef .tc main_arg0) = (V (Proc.devRef .tc main_arg0)) := (keep1_main_arg0 (V0 V)).trans (V0_main_arg0 V)
theorem V1_main_arg1 : V1 V (Proc.devRef .tc main_arg1) = (V (Proc.devRef .tc main_arg1)) := (keep1_main_arg1 (V0 V)).trans (V0_main_arg1 V)
theorem V1_main_arg2 : V1 V (Proc.devRef .tc main_arg2) = (V (Proc.devRef .tc main_arg2)) := (keep1_main_arg2 (V0 V)).trans (V0_main_arg2 V)
theorem V1_main_arg3 : V1 V (Proc.devRef .tc main_arg3) = (V (Proc.devRef .tc main_arg3)) := (keep1_main_arg3 (V0 V)).trans (V0_main_arg3 V)
theorem V1_main_arg4 : V1 V (Proc.devRef .tc main_arg4) = (V (Proc.devRef .tc main_arg4)) := (keep1_main_arg4 (V0 V)).trans (V0_main_arg4 V)
theorem V1_main_arg5 : V1 V (Proc.devRef .tc main_arg5) = (V (Proc.devRef .tc main_arg5)) := (keep1_main_arg5 (V0 V)).trans (V0_main_arg5 V)
theorem V1_main_v15 : V1 V (Proc.devRef .tc main_v15) = (rows (V (Proc.devRef .tc main_arg0)) (V (Proc.devRef .tc main_arg1)) (V (Proc.devRef .tc main_arg2)) (V (Proc.devRef .tc main_arg5))) := st1_main_v15 (V0 V) (V (Proc.devRef .tc main_arg2)) (layerStart (V (Proc.devRef .tc main_arg5))) (wholeStart 16384#32) (wholeStart 4096#32) (V (Proc.devRef .tc main_arg1)) (scaled (V (Proc.devRef .tc main_arg0))) (V0_main_arg2 V) (V0_main_v5 V) (V0_main_v8 V) (V0_main_v11 V) (V0_main_arg1 V) (V0_main_v1 V)
theorem V2_main_arg0 : V2 V (Proc.devRef .tc main_arg0) = (V (Proc.devRef .tc main_arg0)) := (keep2_main_arg0 (V1 V)).trans (V1_main_arg0 V)
theorem V2_main_arg1 : V2 V (Proc.devRef .tc main_arg1) = (V (Proc.devRef .tc main_arg1)) := (keep2_main_arg1 (V1 V)).trans (V1_main_arg1 V)
theorem V2_main_arg2 : V2 V (Proc.devRef .tc main_arg2) = (V (Proc.devRef .tc main_arg2)) := (keep2_main_arg2 (V1 V)).trans (V1_main_arg2 V)
theorem V2_main_arg3 : V2 V (Proc.devRef .tc main_arg3) = (V (Proc.devRef .tc main_arg3)) := (keep2_main_arg3 (V1 V)).trans (V1_main_arg3 V)
theorem V2_main_arg4 : V2 V (Proc.devRef .tc main_arg4) = (V (Proc.devRef .tc main_arg4)) := (keep2_main_arg4 (V1 V)).trans (V1_main_arg4 V)
theorem V2_main_arg5 : V2 V (Proc.devRef .tc main_arg5) = (V (Proc.devRef .tc main_arg5)) := (keep2_main_arg5 (V1 V)).trans (V1_main_arg5 V)
theorem V2_main_v15 : V2 V (Proc.devRef .tc main_v15) = (rows (V (Proc.devRef .tc main_arg0)) (V (Proc.devRef .tc main_arg1)) (V (Proc.devRef .tc main_arg2)) (V (Proc.devRef .tc main_arg5))) := (keep2_main_v15 (V1 V)).trans (V1_main_v15 V)
theorem V2_main_v24 : V2 V (Proc.devRef .tc main_v24) = (shapeCast S4096 (params (V (Proc.devRef .tc main_arg3)) (V (Proc.devRef .tc main_arg5))) shapeCasts_S1x4096_S4096) := st2_main_v24 (V1 V) (V (Proc.devRef .tc main_arg5)) (V (Proc.devRef .tc main_arg3)) (V1_main_arg5 V) (V1_main_arg3 V)
theorem V3_main_arg0 : V3 V (Proc.devRef .tc main_arg0) = (V (Proc.devRef .tc main_arg0)) := (keep3_main_arg0 (V2 V)).trans (V2_main_arg0 V)
theorem V3_main_arg1 : V3 V (Proc.devRef .tc main_arg1) = (V (Proc.devRef .tc main_arg1)) := (keep3_main_arg1 (V2 V)).trans (V2_main_arg1 V)
theorem V3_main_arg2 : V3 V (Proc.devRef .tc main_arg2) = (V (Proc.devRef .tc main_arg2)) := (keep3_main_arg2 (V2 V)).trans (V2_main_arg2 V)
theorem V3_main_arg3 : V3 V (Proc.devRef .tc main_arg3) = (V (Proc.devRef .tc main_arg3)) := (keep3_main_arg3 (V2 V)).trans (V2_main_arg3 V)
theorem V3_main_arg4 : V3 V (Proc.devRef .tc main_arg4) = (V (Proc.devRef .tc main_arg4)) := (keep3_main_arg4 (V2 V)).trans (V2_main_arg4 V)
theorem V3_main_arg5 : V3 V (Proc.devRef .tc main_arg5) = (V (Proc.devRef .tc main_arg5)) := (keep3_main_arg5 (V2 V)).trans (V2_main_arg5 V)
theorem V3_main_v15 : V3 V (Proc.devRef .tc main_v15) = (rows (V (Proc.devRef .tc main_arg0)) (V (Proc.devRef .tc main_arg1)) (V (Proc.devRef .tc main_arg2)) (V (Proc.devRef .tc main_arg5))) := (keep3_main_v15 (V2 V)).trans (V2_main_v15 V)
theorem V3_main_v24 : V3 V (Proc.devRef .tc main_v24) = (shapeCast S4096 (params (V (Proc.devRef .tc main_arg3)) (V (Proc.devRef .tc main_arg5))) shapeCasts_S1x4096_S4096) := (keep3_main_v24 (V2 V)).trans (V2_main_v24 V)
theorem V3_main_v33 : V3 V (Proc.devRef .tc main_v33) = (shapeCast S4096 (params (V (Proc.devRef .tc main_arg4)) (V (Proc.devRef .tc main_arg5))) shapeCasts_S1x4096_S4096) := st3_main_v33 (V2 V) (V (Proc.devRef .tc main_arg5)) (V (Proc.devRef .tc main_arg4)) (V2_main_arg5 V) (V2_main_arg4 V)
theorem V4_main_arg0 : V4 V (Proc.devRef .tc main_arg0) = (V (Proc.devRef .tc main_arg0)) := (keep4_main_arg0 (V3 V)).trans (V3_main_arg0 V)
theorem V4_main_arg1 : V4 V (Proc.devRef .tc main_arg1) = (V (Proc.devRef .tc main_arg1)) := (keep4_main_arg1 (V3 V)).trans (V3_main_arg1 V)
theorem V4_main_arg2 : V4 V (Proc.devRef .tc main_arg2) = (V (Proc.devRef .tc main_arg2)) := (keep4_main_arg2 (V3 V)).trans (V3_main_arg2 V)
theorem V4_main_arg3 : V4 V (Proc.devRef .tc main_arg3) = (V (Proc.devRef .tc main_arg3)) := (keep4_main_arg3 (V3 V)).trans (V3_main_arg3 V)
theorem V4_main_arg4 : V4 V (Proc.devRef .tc main_arg4) = (V (Proc.devRef .tc main_arg4)) := (keep4_main_arg4 (V3 V)).trans (V3_main_arg4 V)
theorem V4_main_arg5 : V4 V (Proc.devRef .tc main_arg5) = (V (Proc.devRef .tc main_arg5)) := (keep4_main_arg5 (V3 V)).trans (V3_main_arg5 V)
theorem V4_main_v15 : V4 V (Proc.devRef .tc main_v15) = (rows (V (Proc.devRef .tc main_arg0)) (V (Proc.devRef .tc main_arg1)) (V (Proc.devRef .tc main_arg2)) (V (Proc.devRef .tc main_arg5))) := (keep4_main_v15 (V3 V)).trans (V3_main_v15 V)
theorem V4_main_v24 : V4 V (Proc.devRef .tc main_v24) = (shapeCast S4096 (params (V (Proc.devRef .tc main_arg3)) (V (Proc.devRef .tc main_arg5))) shapeCasts_S1x4096_S4096) := (keep4_main_v24 (V3 V)).trans (V3_main_v24 V)
theorem V4_main_v33 : V4 V (Proc.devRef .tc main_v33) = (shapeCast S4096 (params (V (Proc.devRef .tc main_arg4)) (V (Proc.devRef .tc main_arg5))) shapeCasts_S1x4096_S4096) := (keep4_main_v33 (V3 V)).trans (V3_main_v33 V)
theorem V4_main_v37 : V4 V (Proc.devRef .tc main_v37) = (means (rows (V (Proc.devRef .tc main_arg0)) (V (Proc.devRef .tc main_arg1)) (V (Proc.devRef .tc main_arg2)) (V (Proc.devRef .tc main_arg5)))) := st4_main_v37 (V3 V) (rows (V (Proc.devRef .tc main_arg0)) (V (Proc.devRef .tc main_arg1)) (V (Proc.devRef .tc main_arg2)) (V (Proc.devRef .tc main_arg5))) (V3_main_v15 V)
theorem V5_main_arg0 : V5 V (Proc.devRef .tc main_arg0) = (V (Proc.devRef .tc main_arg0)) := (keep5_main_arg0 (V4 V)).trans (V4_main_arg0 V)
theorem V5_main_arg1 : V5 V (Proc.devRef .tc main_arg1) = (V (Proc.devRef .tc main_arg1)) := (keep5_main_arg1 (V4 V)).trans (V4_main_arg1 V)
theorem V5_main_arg2 : V5 V (Proc.devRef .tc main_arg2) = (V (Proc.devRef .tc main_arg2)) := (keep5_main_arg2 (V4 V)).trans (V4_main_arg2 V)
theorem V5_main_arg3 : V5 V (Proc.devRef .tc main_arg3) = (V (Proc.devRef .tc main_arg3)) := (keep5_main_arg3 (V4 V)).trans (V4_main_arg3 V)
theorem V5_main_arg4 : V5 V (Proc.devRef .tc main_arg4) = (V (Proc.devRef .tc main_arg4)) := (keep5_main_arg4 (V4 V)).trans (V4_main_arg4 V)
theorem V5_main_arg5 : V5 V (Proc.devRef .tc main_arg5) = (V (Proc.devRef .tc main_arg5)) := (keep5_main_arg5 (V4 V)).trans (V4_main_arg5 V)
theorem V5_main_v15 : V5 V (Proc.devRef .tc main_v15) = (rows (V (Proc.devRef .tc main_arg0)) (V (Proc.devRef .tc main_arg1)) (V (Proc.devRef .tc main_arg2)) (V (Proc.devRef .tc main_arg5))) := (keep5_main_v15 (V4 V)).trans (V4_main_v15 V)
theorem V5_main_v24 : V5 V (Proc.devRef .tc main_v24) = (shapeCast S4096 (params (V (Proc.devRef .tc main_arg3)) (V (Proc.devRef .tc main_arg5))) shapeCasts_S1x4096_S4096) := (keep5_main_v24 (V4 V)).trans (V4_main_v24 V)
theorem V5_main_v33 : V5 V (Proc.devRef .tc main_v33) = (shapeCast S4096 (params (V (Proc.devRef .tc main_arg4)) (V (Proc.devRef .tc main_arg5))) shapeCasts_S1x4096_S4096) := (keep5_main_v33 (V4 V)).trans (V4_main_v33 V)
theorem V5_main_v37 : V5 V (Proc.devRef .tc main_v37) = (means (rows (V (Proc.devRef .tc main_arg0)) (V (Proc.devRef .tc main_arg1)) (V (Proc.devRef .tc main_arg2)) (V (Proc.devRef .tc main_arg5)))) := (keep5_main_v37 (V4 V)).trans (V4_main_v37 V)
theorem V5_main_v40 : V5 V (Proc.devRef .tc main_v40) = (mulf (centred (rows (V (Proc.devRef .tc main_arg0)) (V (Proc.devRef .tc main_arg1)) (V (Proc.devRef .tc main_arg2)) (V (Proc.devRef .tc main_arg5)))) (centred (rows (V (Proc.devRef .tc main_arg0)) (V (Proc.devRef .tc main_arg1)) (V (Proc.devRef .tc main_arg2)) (V (Proc.devRef .tc main_arg5))))) := st5_main_v40 (V4 V) (means (rows (V (Proc.devRef .tc main_arg0)) (V (Proc.devRef .tc main_arg1)) (V (Proc.devRef .tc main_arg2)) (V (Proc.devRef .tc main_arg5)))) (rows (V (Proc.devRef .tc main_arg0)) (V (Proc.devRef .tc main_arg1)) (V (Proc.devRef .tc main_arg2)) (V (Proc.devRef .tc main_arg5))) (V4_main_v37 V) (V4_main_v15 V)
theorem V6_main_arg0 : V6 V (Proc.devRef .tc main_arg0) = (V (Proc.devRef .tc main_arg0)) := (keep6_main_arg0 (V5 V)).trans (V5_main_arg0 V)
theorem V6_main_arg1 : V6 V (Proc.devRef .tc main_arg1) = (V (Proc.devRef .tc main_arg1)) := (keep6_main_arg1 (V5 V)).trans (V5_main_arg1 V)
theorem V6_main_arg2 : V6 V (Proc.devRef .tc main_arg2) = (V (Proc.devRef .tc main_arg2)) := (keep6_main_arg2 (V5 V)).trans (V5_main_arg2 V)
theorem V6_main_arg3 : V6 V (Proc.devRef .tc main_arg3) = (V (Proc.devRef .tc main_arg3)) := (keep6_main_arg3 (V5 V)).trans (V5_main_arg3 V)
theorem V6_main_arg4 : V6 V (Proc.devRef .tc main_arg4) = (V (Proc.devRef .tc main_arg4)) := (keep6_main_arg4 (V5 V)).trans (V5_main_arg4 V)
theorem V6_main_arg5 : V6 V (Proc.devRef .tc main_arg5) = (V (Proc.devRef .tc main_arg5)) := (keep6_main_arg5 (V5 V)).trans (V5_main_arg5 V)
theorem V6_main_v15 : V6 V (Proc.devRef .tc main_v15) = (rows (V (Proc.devRef .tc main_arg0)) (V (Proc.devRef .tc main_arg1)) (V (Proc.devRef .tc main_arg2)) (V (Proc.devRef .tc main_arg5))) := (keep6_main_v15 (V5 V)).trans (V5_main_v15 V)
theorem V6_main_v24 : V6 V (Proc.devRef .tc main_v24) = (shapeCast S4096 (params (V (Proc.devRef .tc main_arg3)) (V (Proc.devRef .tc main_arg5))) shapeCasts_S1x4096_S4096) := (keep6_main_v24 (V5 V)).trans (V5_main_v24 V)
theorem V6_main_v33 : V6 V (Proc.devRef .tc main_v33) = (shapeCast S4096 (params (V (Proc.devRef .tc main_arg4)) (V (Proc.devRef .tc main_arg5))) shapeCasts_S1x4096_S4096) := (keep6_main_v33 (V5 V)).trans (V5_main_v33 V)
theorem V6_main_v37 : V6 V (Proc.devRef .tc main_v37) = (means (rows (V (Proc.devRef .tc main_arg0)) (V (Proc.devRef .tc main_arg1)) (V (Proc.devRef .tc main_arg2)) (V (Proc.devRef .tc main_arg5)))) := (keep6_main_v37 (V5 V)).trans (V5_main_v37 V)
theorem V6_main_v44 : V6 V (Proc.devRef .tc main_v44) = (means (mulf (centred (rows (V (Proc.devRef .tc main_arg0)) (V (Proc.devRef .tc main_arg1)) (V (Proc.devRef .tc main_arg2)) (V (Proc.devRef .tc main_arg5)))) (centred (rows (V (Proc.devRef .tc main_arg0)) (V (Proc.devRef .tc main_arg1)) (V (Proc.devRef .tc main_arg2)) (V (Proc.devRef .tc main_arg5)))))) := st6_main_v44 (V5 V) (mulf (centred (rows (V (Proc.devRef .tc main_arg0)) (V (Proc.devRef .tc main_arg1)) (V (Proc.devRef .tc main_arg2)) (V (Proc.devRef .tc main_arg5)))) (centred (rows (V (Proc.devRef .tc main_arg0)) (V (Proc.devRef .tc main_arg1)) (V (Proc.devRef .tc main_arg2)) (V (Proc.devRef .tc main_arg5))))) (V5_main_v40 V)
theorem V7_main_arg0 : V7 V (Proc.devRef .tc main_arg0) = (V (Proc.devRef .tc main_arg0)) := (keep7_main_arg0 (V6 V)).trans (V6_main_arg0 V)
theorem V7_main_arg1 : V7 V (Proc.devRef .tc main_arg1) = (V (Proc.devRef .tc main_arg1)) := (keep7_main_arg1 (V6 V)).trans (V6_main_arg1 V)
theorem V7_main_arg2 : V7 V (Proc.devRef .tc main_arg2) = (V (Proc.devRef .tc main_arg2)) := (keep7_main_arg2 (V6 V)).trans (V6_main_arg2 V)
theorem V7_main_arg3 : V7 V (Proc.devRef .tc main_arg3) = (V (Proc.devRef .tc main_arg3)) := (keep7_main_arg3 (V6 V)).trans (V6_main_arg3 V)
theorem V7_main_arg4 : V7 V (Proc.devRef .tc main_arg4) = (V (Proc.devRef .tc main_arg4)) := (keep7_main_arg4 (V6 V)).trans (V6_main_arg4 V)
theorem V7_main_arg5 : V7 V (Proc.devRef .tc main_arg5) = (V (Proc.devRef .tc main_arg5)) := (keep7_main_arg5 (V6 V)).trans (V6_main_arg5 V)
theorem V7_main_v24 : V7 V (Proc.devRef .tc main_v24) = (shapeCast S4096 (params (V (Proc.devRef .tc main_arg3)) (V (Proc.devRef .tc main_arg5))) shapeCasts_S1x4096_S4096) := (keep7_main_v24 (V6 V)).trans (V6_main_v24 V)
theorem V7_main_v33 : V7 V (Proc.devRef .tc main_v33) = (shapeCast S4096 (params (V (Proc.devRef .tc main_arg4)) (V (Proc.devRef .tc main_arg5))) shapeCasts_S1x4096_S4096) := (keep7_main_v33 (V6 V)).trans (V6_main_v33 V)
theorem V7_main_v44 : V7 V (Proc.devRef .tc main_v44) = (means (mulf (centred (rows (V (Proc.devRef .tc main_arg0)) (V (Proc.devRef .tc main_arg1)) (V (Proc.devRef .tc main_arg2)) (V (Proc.devRef .tc main_arg5)))) (centred (rows (V (Proc.devRef .tc main_arg0)) (V (Proc.devRef .tc main_arg1)) (V (Proc.devRef .tc main_arg2)) (V (Proc.devRef .tc main_arg5)))))) := (keep7_main_v44 (V6 V)).trans (V6_main_v44 V)
theorem V7_main_v46 : V7 V (Proc.devRef .tc main_v46) = (centred (rows (V (Proc.devRef .tc main_arg0)) (V (Proc.devRef .tc main_arg1)) (V (Proc.devRef .tc main_arg2)) (V (Proc.devRef .tc main_arg5)))) := st7_main_v46 (V6 V) (means (rows (V (Proc.devRef .tc main_arg0)) (V (Proc.devRef .tc main_arg1)) (V (Proc.devRef .tc main_arg2)) (V (Proc.devRef .tc main_arg5)))) (rows (V (Proc.devRef .tc main_arg0)) (V (Proc.devRef .tc main_arg1)) (V (Proc.devRef .tc main_arg2)) (V (Proc.devRef .tc main_arg5))) (V6_main_v37 V) (V6_main_v15 V)
theorem V8_main_arg0 : V8 V (Proc.devRef .tc main_arg0) = (V (Proc.devRef .tc main_arg0)) := (keep8_main_arg0 (V7 V)).trans (V7_main_arg0 V)
theorem V8_main_arg1 : V8 V (Proc.devRef .tc main_arg1) = (V (Proc.devRef .tc main_arg1)) := (keep8_main_arg1 (V7 V)).trans (V7_main_arg1 V)
theorem V8_main_arg2 : V8 V (Proc.devRef .tc main_arg2) = (V (Proc.devRef .tc main_arg2)) := (keep8_main_arg2 (V7 V)).trans (V7_main_arg2 V)
theorem V8_main_arg3 : V8 V (Proc.devRef .tc main_arg3) = (V (Proc.devRef .tc main_arg3)) := (keep8_main_arg3 (V7 V)).trans (V7_main_arg3 V)
theorem V8_main_arg4 : V8 V (Proc.devRef .tc main_arg4) = (V (Proc.devRef .tc main_arg4)) := (keep8_main_arg4 (V7 V)).trans (V7_main_arg4 V)
theorem V8_main_arg5 : V8 V (Proc.devRef .tc main_arg5) = (V (Proc.devRef .tc main_arg5)) := (keep8_main_arg5 (V7 V)).trans (V7_main_arg5 V)
theorem V8_main_v24 : V8 V (Proc.devRef .tc main_v24) = (shapeCast S4096 (params (V (Proc.devRef .tc main_arg3)) (V (Proc.devRef .tc main_arg5))) shapeCasts_S1x4096_S4096) := (keep8_main_v24 (V7 V)).trans (V7_main_v24 V)
theorem V8_main_v33 : V8 V (Proc.devRef .tc main_v33) = (shapeCast S4096 (params (V (Proc.devRef .tc main_arg4)) (V (Proc.devRef .tc main_arg5))) shapeCasts_S1x4096_S4096) := (keep8_main_v33 (V7 V)).trans (V7_main_v33 V)
theorem V8_main_v51 : V8 V (Proc.devRef .tc main_v51) = (mulf (centred (rows (V (Proc.devRef .tc main_arg0)) (V (Proc.devRef .tc main_arg1)) (V (Proc.devRef .tc main_arg2)) (V (Proc.devRef .tc main_arg5)))) (wide (rstds (rows (V (Proc.devRef .tc main_arg0)) (V (Proc.devRef .tc main_arg1)) (V (Proc.devRef .tc main_arg2)) (V (Proc.devRef .tc main_arg5)))))) := st8_main_v51 (V7 V) (means (mulf (centred (rows (V (Proc.devRef .tc main_arg0)) (V (Proc.devRef .tc main_arg1)) (V (Proc.devRef .tc main_arg2)) (V (Proc.devRef .tc main_arg5)))) (centred (rows (V (Proc.devRef .tc main_arg0)) (V (Proc.devRef .tc main_arg1)) (V (Proc.devRef .tc main_arg2)) (V (Proc.devRef .tc main_arg5)))))) (centred (rows (V (Proc.devRef .tc main_arg0)) (V (Proc.devRef .tc main_arg1)) (V (Proc.devRef .tc main_arg2)) (V (Proc.devRef .tc main_arg5)))) (V7_main_v44 V) (V7_main_v46 V)
theorem V9_main_arg0 : V9 V (Proc.devRef .tc main_arg0) = (V (Proc.devRef .tc main_arg0)) := (keep9_main_arg0 (V8 V)).trans (V8_main_arg0 V)
theorem V9_main_arg1 : V9 V (Proc.devRef .tc main_arg1) = (V (Proc.devRef .tc main_arg1)) := (keep9_main_arg1 (V8 V)).trans (V8_main_arg1 V)
theorem V9_main_arg2 : V9 V (Proc.devRef .tc main_arg2) = (V (Proc.devRef .tc main_arg2)) := (keep9_main_arg2 (V8 V)).trans (V8_main_arg2 V)
theorem V9_main_arg3 : V9 V (Proc.devRef .tc main_arg3) = (V (Proc.devRef .tc main_arg3)) := (keep9_main_arg3 (V8 V)).trans (V8_main_arg3 V)
theorem V9_main_arg4 : V9 V (Proc.devRef .tc main_arg4) = (V (Proc.devRef .tc main_arg4)) := (keep9_main_arg4 (V8 V)).trans (V8_main_arg4 V)
theorem V9_main_arg5 : V9 V (Proc.devRef .tc main_arg5) = (V (Proc.devRef .tc main_arg5)) := (keep9_main_arg5 (V8 V)).trans (V8_main_arg5 V)
theorem V9_main_v58 : V9 V (Proc.devRef .tc main_v58) = (result (V (Proc.devRef .tc main_arg0)) (V (Proc.devRef .tc main_arg1)) (V (Proc.devRef .tc main_arg2)) (V (Proc.devRef .tc main_arg3)) (V (Proc.devRef .tc main_arg4)) (V (Proc.devRef .tc main_arg5))) := st9_main_v58 (V8 V) (shapeCast S4096 (params (V (Proc.devRef .tc main_arg3)) (V (Proc.devRef .tc main_arg5))) shapeCasts_S1x4096_S4096) (mulf (centred (rows (V (Proc.devRef .tc main_arg0)) (V (Proc.devRef .tc main_arg1)) (V (Proc.devRef .tc main_arg2)) (V (Proc.devRef .tc main_arg5)))) (wide (rstds (rows (V (Proc.devRef .tc main_arg0)) (V (Proc.devRef .tc main_arg1)) (V (Proc.devRef .tc main_arg2)) (V (Proc.devRef .tc main_arg5)))))) (shapeCast S4096 (params (V (Proc.devRef .tc main_arg4)) (V (Proc.devRef .tc main_arg5))) shapeCasts_S1x4096_S4096) (V8_main_v24 V) (V8_main_v51 V) (V8_main_v33 V)

theorem after_ops : after ops V = V9 V := by
  simp only [StableHlo.after_append]
  rfl

end

/-- The reference's run: the result named, every argument kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v58).trans ((congrFun (after_ops _) _).trans (V9_main_v58 _)),
      (h c main_arg0).trans ((congrFun (after_ops _) _).trans (V9_main_arg0 _)), (h c main_arg1).trans ((congrFun (after_ops _) _).trans (V9_main_arg1 _)), (h c main_arg2).trans ((congrFun (after_ops _) _).trans (V9_main_arg2 _)), (h c main_arg3).trans ((congrFun (after_ops _) _).trans (V9_main_arg3 _)), (h c main_arg4).trans ((congrFun (after_ops _) _).trans (V9_main_arg4 _)), (h c main_arg5).trans ((congrFun (after_ops _) _).trans (V9_main_arg5 _))⟩)
    (run_seq scopedRefs_eq scopedSems_eq defs main (fun _ => ops) main_eq (fun _ => ops_sub) m ρ)

end Cert.Reference2Ideal.Down

end
-- ==== Proof.Down.Reference.lean ====
/- The second reference's result, entry by entry: the layer norm of the scaled residual plus the down projection. -/
module

public import proofs.«01_k».proof.Proof.Down.Rows
public import proofs.«01_k».proof.Proof.Attn.Reference
public import proofs.«01_k».proof.Proof.Down.RefRun

@[expose] public section

set_option maxRecDepth 16384

noncomputable section

namespace Cert.Reference2Ideal.Down

open Cert.Reference2Ideal Cert.Reference2Ideal.Gen Idealize.ShloMosaic Idealize.ShloMosaic.TcCoe Idealize.SL.Sem Cert.Down

variable (x : FVec Ideal S2x8192x4096 .f32) (h : FVec Ideal S2x8192x16384 .f32) (w : FVec Ideal S4x16384x4096 .f32) (γ β : FVec Ideal S4x4096 .f32) (l : IVec S1 32)

/-- The start of a slice at the layer is the layer. -/
theorem layerStart_eq (hl : (l (ix1 0)).toNat < 4) : (layerStart l (Shape.Idx.first h_S_)).toInt = (l (ix1 0)).toNat := by
  refine (congrArg BitVec.toInt ?_).trans (Cert.ReferenceIdeal.Attn.start_word (l (ix1 0)) hl)
  have hv : shapeCast S_ l shapeCasts_S1_S_ (Shape.Idx.first h_S_) = l (ix1 0) := congrArg l (funext fun a => by
    match a with
    | 0 => exact Subsingleton.elim (α := Fin 1) _ _)
  show Scalar.select (IntOp.cmpi .slt (shapeCast S_ l shapeCasts_S1_S_ (Shape.Idx.first h_S_)) 0#32)
    (IntOp.addi (shapeCast S_ l shapeCasts_S1_S_ (Shape.Idx.first h_S_)) 4#32) (shapeCast S_ l shapeCasts_S1_S_ (Shape.Idx.first h_S_)) = _
  rw [hv]

/-- A slice of the weights at a layer. -/
theorem slice_weights (st : Fin 3 → Int) (a : ℕ) (ha : a < 4) (h0 : st 0 = a) (f : Fin 16384) (d : Fin 4096) :
    Host.dynamicSlice S1x16384x4096 w st sliceFits_S4x16384x4096_S1x16384x4096 (ix3 (0 : Fin 1) f d) = w (ix3 (⟨a, ha⟩ : Fin 4) f d) := by
  unfold Host.dynamicSlice
  refine congrArg w (funext fun c => Fin.ext ?_)
  match c with
  | 0 =>
    show (min (max (st 0) 0) (3 : Int)).toNat + 0 = a
    rw [h0]
    omega
  | 1 =>
    show (min (max (st 1) 0) (0 : Int)).toNat + f.val = f.val
    omega
  | 2 =>
    show (min (max (st 2) 0) (0 : Int)).toNat + d.val = d.val
    omega

/-- A slice of the scales or shifts at a layer. -/
theorem slice_params (st : Fin 2 → Int) (a : ℕ) (ha : a < 4) (h0 : st 0 = a) (d : Fin 4096) :
    Host.dynamicSlice S1x4096 γ st sliceFits_S4x4096_S1x4096 (ix2 (0 : Fin 1) d) = γ (ix2 (⟨a, ha⟩ : Fin 4) d) := by
  unfold Host.dynamicSlice
  refine congrArg γ (funext fun c => Fin.ext ?_)
  match c with
  | 0 =>
    show (min (max (st 0) 0) (3 : Int)).toNat + 0 = a
    rw [h0]
    omega
  | 1 =>
    show (min (max (st 1) 0) (0 : Int)).toNat + d.val = d.val
    omega

/-- The layer's weights, entry by entry. -/
theorem weights_eq (hl : (l (ix1 0)).toNat < 4) (f : Fin 16384) (d : Fin 4096) : weights w l (ix3 (0 : Fin 1) f d) = w (ix3 (⟨_, hl⟩ : Fin 4) f d) := by
  unfold weights weightsAt
  exact slice_weights w _ _ hl (layerStart_eq l hl) f d

/-- The layer's scales or shifts, entry by entry. -/
theorem params_eq (hl : (l (ix1 0)).toNat < 4) (d : Fin 4096) : params γ l (ix2 (0 : Fin 1) d) = γ (ix2 (⟨_, hl⟩ : Fin 4) d) := by
  unfold params
  exact slice_params γ _ _ hl (layerStart_eq l hl) d

/-- … along every row. -/
theorem along_eq (hl : (l (ix1 0)).toNat < 4) (b : Fin 2) (s : Fin 8192) (d : Fin 4096) : along γ l (ix3 b s d) = γ (ix2 (⟨_, hl⟩ : Fin 4) d) := by
  refine Eq.trans (b := params γ l (ix2 (⟨0, by omega⟩ : Fin 1) d)) ?_ (params_eq γ l hl d)
  unfold along everyRow
  generalize params γ l = p
  pointwise []

/-- A row's entry. -/
theorem rows_eq (hl : (l (ix1 0)).toNat < 4) (b : Fin 2) (s : Fin 8192) (d : Fin 4096) :
    rows x h w l (ix3 b s d) = Ideal.ofBits .f32 0x3FD744FD#32 * x (ix3 b s d) + ∑ f : Fin 16384, (h (ix3 b s f) : EReal) * w (ix3 (⟨_, hl⟩ : Fin 4) f d) := by
  simp only [← weights_eq w l hl]
  unfold rows scaled product
  generalize weights w l = v
  pointwise []

/-- The rows' axis is dropped. -/
theorem dropsLast : S2x8192x4096.Reduces [2] S2x8192 := by decide

/-- Putting the dropped coordinate back. -/
theorem lift_row (b : Fin 2) (s : Fin 8192) (d : Fin 4096) (H : S2x8192x4096.Reduces [2] S2x8192) : H.lift (ix2 b s) d = ix3 b s d := by
  funext a
  match a with
  | 0 => rfl
  | 1 => rfl
  | 2 => rfl

/-- A row's mean. -/
theorem means_eq (z : FVec Ideal S2x8192x4096 .f32) (b : Fin 2) (s : Fin 8192) (o : Fin 1) : means z (ix3 b s o) = mean (1 / 4096) fun d => z (ix3 b s d) := by
  have hs : Host.reduceAdd z (constant S_ .f32 0x00000000#32) reducesTo_S2x8192x4096_S2x8192_d2 h_S_ (ix2 b s) = ∑ d : Fin 4096, (z (ix3 b s d) : EReal) := by
    refine (Cert.ReferenceIdeal.Attn.hostSum z (constant S_ .f32 0x00000000#32) _ dropsLast _ _ Ideal.ofBits_zero_f32).trans (Finset.sum_congr rfl fun κ _ => ?_)
    exact congrArg z (lift_row b s κ dropsLast)
  have hd (y : EReal) : Ideal.div y (Ideal.ofBits .f32 0x45800000#32) = y * ((1 / 4096 : ℝ) : EReal) := by
    rw [width]
    exact Ideal.div_coe (by norm_num) y
  unfold mean
  rw [← hs, ← hd]
  unfold means
  generalize Host.reduceAdd z (constant S_ .f32 0x00000000#32) reducesTo_S2x8192x4096_S2x8192_d2 h_S_ = q
  pointwise []

/-- A centred entry. -/
theorem centred_eq (z : FVec Ideal S2x8192x4096 .f32) (b : Fin 2) (s : Fin 8192) (d : Fin 4096) :
    centred z (ix3 b s d) = z (ix3 b s d) - mean (1 / 4096) fun d => z (ix3 b s d) := by
  rw [← means_eq z b s ⟨0, by omega⟩]
  unfold centred less wide
  generalize means z = q
  pointwise []

/-- A row's reciprocal standard deviation. -/
theorem rstds_eq (z : FVec Ideal S2x8192x4096 .f32) (b : Fin 2) (s : Fin 8192) (o : Fin 1) :
    rstds z (ix3 b s o) = Ideal.rsqrt (mean (1 / 4096) (fun i => (z (ix3 b s i) - mean (1 / 4096) fun d => z (ix3 b s d)) * (z (ix3 b s i) - mean (1 / 4096) fun d => z (ix3 b s d)))
      + Ideal.ofBits .f32 0x3727C5AC#32) := by
  simp only [← centred_eq z b s]
  refine Eq.trans (b := Ideal.rsqrt (means (mulf (centred z) (centred z)) (ix3 b s o) + Ideal.ofBits .f32 0x3727C5AC#32)) ?_ ?_
  · unfold rstds rsqrts
    generalize means (mulf (centred z) (centred z)) = q
    pointwise []
  · rw [means_eq]
    rfl

/-- The layer norm, entry by entry. -/
theorem normed_eq (hl : (l (ix1 0)).toNat < 4) (z : FVec Ideal S2x8192x4096 .f32) (b : Fin 2) (s : Fin 8192) (d : Fin 4096) :
    normed γ β l z (ix3 b s d) = lnAt (fun d => z (ix3 b s d)) (fun d => γ (ix2 (⟨_, hl⟩ : Fin 4) d)) (fun d => β (ix2 (⟨_, hl⟩ : Fin 4) d)) d := by
  unfold lnAt
  rw [← centred_eq z b s d, ← rstds_eq z b s ⟨0, by omega⟩]
  beta_reduce
  rw [← along_eq γ l hl b s d, ← along_eq β l hl b s d]
  unfold normed wide
  generalize centred z = p, rstds z = q, along γ l = g, along β l = t
  pointwise []

/-- The result, entry by entry. -/
theorem result_eq (hl : (l (ix1 0)).toNat < 4) (i : Fin 16384) (d : Fin 4096) :
    result x h w γ β l (ix2 i d)
      = lnAt (fun d => Ideal.ofBits .f32 0x3FD744FD#32 * x (ix3 (⟨i.val / 8192, by omega⟩ : Fin 2) (⟨i.val % 8192, Nat.mod_lt _ (by omega)⟩ : Fin 8192) d)
            + ∑ f : Fin 16384, (h (ix3 (⟨i.val / 8192, by omega⟩ : Fin 2) (⟨i.val % 8192, Nat.mod_lt _ (by omega)⟩ : Fin 8192) f) : EReal) * w (ix3 (⟨_, hl⟩ : Fin 4) f d))
          (fun d => γ (ix2 (⟨_, hl⟩ : Fin 4) d)) (fun d => β (ix2 (⟨_, hl⟩ : Fin 4) d)) d := by
  simp only [← rows_eq x h w l hl]
  rw [← normed_eq γ β l hl]
  unfold result
  generalize normed γ β l (rows x h w l) = q
  pointwise []

end Cert.Reference2Ideal.Down

end
-- ==== Proof.Down.Value.lean ====
/- The down projection's value: the kernel's array is the reference's result. -/
module

public import proofs.«01_k».proof.Proof.Down.Entry
public import proofs.«01_k».proof.Proof.Down.Layer
public import proofs.«01_k».proof.Proof.Down.Reference

@[expose] public section

noncomputable section

namespace Cert.Kernel2Ideal.Down

open Cert.Kernel2Ideal Cert.Kernel2Ideal.Gen Idealize.ShloMosaic Idealize.ShloMosaic.TcCoe Idealize.SL.Sem Cert.Down

variable (m : (ℓ : Loc nD τ sig) → Buf (Elt Ideal) ℓ) (hO : Ok m) (c : Dev nD)

include hO in
/-- The argument's layer is below 4. -/
theorem arg_lt : (m ((c : Thread nD τ).loc main_arg5) (ix1 0)).toNat < 4 := layer_eq m c ▸ layerAt_lt m hO

/-- The layer of the windows is the argument's. -/
theorem layer_fin : (⟨(layerAt m).toNat, layerAt_lt m hO⟩ : Fin 4) = ⟨_, arg_lt m hO c⟩ := Fin.ext (congrArg BitVec.toNat (layer_eq m c))

/-- The kernel's result is the reference's, entry by entry … -/
theorem entry_eq (i : Fin 16384) (d : Fin 4096) :
    (dats m hO 0 c).arrAt 5 (cfgM m hO).N (ix2 i d)
      = Cert.Reference2Ideal.Down.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 i d) := by
  refine (arr_eq m hO c i d).trans (Eq.trans ?_ (Cert.Reference2Ideal.Down.result_eq _ _ _ _ _ _ (arg_lt m hO c) i d).symm)
  refine congrFun (congr (congr (congrArg lnAt (funext fun d => congrArg₂ (· + ·) (congrArg (_ * ·) (residual_entry m c i d)) (Finset.sum_congr rfl fun f _ =>
    congrArg₂ (· * ·) (hidden_entry m c i f) (weight_entry m c (arg_lt m hO c) f d)))) (funext fun d => (scale_entry m c _ d).trans ?_)) (funext fun d => (shift_entry m c _ d).trans ?_)) d
  · rw [layer_fin m hO c]
  · rw [layer_fin m hO c]

/-- … and whole. -/
theorem result_eq :
    (dats m hO 0 c).arrAt 5 (cfgM m hO).N
      = Cert.Reference2Ideal.Down.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have key (k : S16384x4096.Idx) : k = ix2 (k 0 : Fin 16384) (k 1 : Fin 4096) := funext fun a => by
    match a with
    | 0 => rfl
    | 1 => rfl
  exact funext fun (k : S16384x4096.Idx) => by rw [key k]; exact entry_eq m hO c _ _

end Cert.Kernel2Ideal.Down

end
-- ==== Proof.Up.SameText.lean ====
/- The up projection as it runs and its idealization are one text, as the down projection's are. -/
module

public import proofs.«01_k».proof.Defs
public import proofs.«01_k».proof.Proof.Gen.Kernel3
public import proofs.«01_k».proof.Proof.Gen.Kernel3Ideal.Frame

@[expose] public section

set_option maxRecDepth 65536

noncomputable section

namespace Cert.Up

open Idealize.ShloMosaic Idealize.SL.Sem

/-- The kernel bodies are equal … -/
theorem bodies_eq : Cert.Kernel3.defs₀ (F := Bits) = Cert.Kernel3Ideal.defs₀ (F := Bits) := by
  unfold Cert.Kernel3.defs₀ Cert.Kernel3Ideal.defs₀
  refine congrArg Defs.onTc (funext fun (l : Fin 1) => funext fun a => ?_)
  match l with
  | 0 =>
    obtain ⟨t, s⟩ := a
    rfl

/-- … with the pipeline around them … -/
theorem defs_eq : Cert.Kernel3.defs (F := Bits) = Cert.Kernel3Ideal.defs (F := Bits) :=
  congrArg (Pipeline.defs Cert.Kernel3.pcfgs) bodies_eq

set_option maxHeartbeats 8000000 in
/-- … and the host programs. -/
theorem main_eq : Cert.Kernel3.main (F := Bits) = Cert.Kernel3Ideal.main (F := Bits) := rfl

set_option maxHeartbeats 8000000 in
/-- The frame of the up projection as it runs: no index map reads the layer, so that no condition on it is needed. -/
theorem frame_bits : Cert.quiescent_Kernel3 := by
  intro m ρ h
  rw [defs_eq, main_eq]
  exact Cert.Kernel3Ideal.Gen.frame (F := Bits) m ρ trivial

end Cert.Up

end
-- ==== Proof.Up.Block.lean ====
/- What one grid point of the up projection leaves in its block of the result, read at an index, at the ideal values. -/
module

public import proofs.«01_k».proof.Proof.Gen.Kernel3Ideal.Frame
public import Idealize.ShloMosaic.Lib.Pointwise

@[expose] public section

set_option maxRecDepth 16384

noncomputable section

namespace Cert.Kernel3Ideal.Up

open Cert.Kernel3Ideal Cert.Kernel3Ideal.Gen Idealize.ShloMosaic Idealize.ShloMosaic.TcCoe Idealize.SL.Sem

/-- The square of the positive part. -/
def reluSq (s : EReal) : EReal := max s (Ideal.ofBits .f32 0x00000000#32) * max s (Ideal.ofBits .f32 0x00000000#32)

/-- Half `q` of the columns lies in the block of the result … -/
theorem out_inb (q : Fin 2) : ∀ a, (![0, 512 * q.val] : Fin 2 → ℕ) a + S1024x512.size a ≤ S1024x1024.size a := fun a => by
  match a with
  | ⟨0, _⟩ => exact le_refl _
  | ⟨1, _⟩ => show 512 * q.val + 512 ≤ 1024; have := q.isLt; omega

/-- … and in the block of the weights. -/
theorem weight_inb (q : Fin 2) : ∀ a, (![0, 512 * q.val] : Fin 2 → ℕ) a + S4096x512.size a ≤ S4096x1024.size a := fun a => by
  match a with
  | ⟨0, _⟩ => exact le_refl _
  | ⟨1, _⟩ => show 512 * q.val + 512 ≤ 1024; have := q.isLt; omega

/-- Column `j` of half `q`. -/
abbrev col (q : Fin 2) (j : Fin 512) : Fin 1024 := ⟨512 * q.val + j.val, by omega⟩

/-- What the body computes of its rows and half of its weights. -/
theorem half_apply (x : Vec Ideal S1024x4096 .bf16) (w : Vec Ideal S4096x512 .bf16) (r : Fin 1024) (j : Fin 512) :
    k0_pay2 x w (ix2 r j) = reluSq (∑ e : Fin 4096, (x (ix2 r e) : EReal) * w (ix2 e j)) := by
  unfold reluSq
  pointwise [k0_pay2, k0_pay1]

/-- What a block of the result holds, of a block of rows and a block of weights. -/
def actAt (x0 : S1024x4096.Idx → EReal) (x1 : S4096x1024.Idx → EReal) (y : S1024x1024.Idx) : EReal :=
  reluSq (∑ e : Fin 4096, x0 (ix2 (y 0) e) * x1 (ix2 e (y 1)))

section
variable (c : Dev nD) (i : grid0.Coords) (arg3 : Memref sig .tc .vmem S1024x4096 .bf16) (harg3 : arg3.IsWhole) (arg4 : Memref sig .tc .vmem S4096x1024 .bf16) (harg4 : arg4.IsWhole) (arg5 : Memref sig .tc .vmem S1024x1024 .bf16) (harg5 : arg5.IsWhole)
    (x0 : Vec Ideal S1024x4096 .bf16) (x1 : Vec Ideal S4096x1024 .bf16) (xt : TbBuf0 (F := Ideal) c tbM0_0)

/-- The block of rows as the body reads it. -/
abbrev rowsRead : Vec Ideal S1024x4096 .bf16 :=
  arg3.view.readAt (Elt Ideal) (Rect.unit (s := S1024x4096) ![0, 0] S1024x4096.size inb_S1024x4096_S1024x4096_0_0).toLoadRect (harg3.unread x0)

/-- Half `q` of the weights as the body reads it. -/
abbrev weightRead (q : Fin 2) : Vec Ideal S4096x512 .bf16 :=
  arg4.view.readAt (Elt Ideal) (Rect.unit (s := S4096x1024) ![0, 512 * q.val] S4096x512.size (weight_inb q)).toLoadRect (harg4.unread x1)

theorem rowsRead_apply (r : Fin 1024) (e : Fin 4096) : rowsRead arg3 harg3 x0 (ix2 r e) = x0 (ix2 r e) := by
  simp only [rowsRead, View.readAt_eq_ld, harg3.read_unread]
  pointwise

theorem weightRead_apply (q : Fin 2) (e : Fin 4096) (j : Fin 512) : weightRead arg4 harg4 x1 q (ix2 e j) = x1 (ix2 e (col q j)) := by
  simp only [weightRead, View.readAt_eq_ld, harg4.read_unread]
  pointwise

/-- The body's store of half `q`. -/
abbrev halfStore (q : Fin 2) : View.Piece (Elt Ideal) S1024x1024 .bf16 :=
  ⟨Rect.unit ![0, 512 * q.val] S1024x512.size (out_inb q), k0_pay2 (rowsRead arg3 harg3 x0) (weightRead arg4 harg4 x1 q)⟩

/-- An index of a half, in the block. -/
theorem half_emb (q : Fin 2) (r : Fin 1024) (j : Fin 512) :
    (Rect.unit (s := S1024x1024) ![0, 512 * q.val] S1024x512.size (out_inb q)).emb (ix2 r j) = ix2 r (col q j) := by
  funext a
  match a with
  | ⟨0, _⟩ => exact Fin.ext (by show 0 + 1 * r.val = r.val; omega)
  | ⟨1, _⟩ => exact Fin.ext (by show 512 * q.val + 1 * j.val = 512 * q.val + j.val; omega)

theorem halfStore_value (q : Fin 2) (z : S1024x512.Idx) :
    (halfStore arg3 harg3 arg4 harg4 x0 x1 q).2 z = actAt x0 x1 ((halfStore arg3 harg3 arg4 harg4 x0 x1 q).1.emb z) := by
  obtain ⟨r, j, rfl⟩ : ∃ (r : Fin 1024) (j : Fin 512), z = ix2 r j := ⟨z 0, z 1, eq_ix2 z⟩
  refine (half_apply _ _ r j).trans (Eq.trans ?_ (congrArg (actAt x0 x1) (half_emb q r j)).symm)
  refine congrArg reluSq (Finset.sum_congr rfl fun e _ => ?_)
  rw [rowsRead_apply, weightRead_apply]
  rfl

set_option maxHeartbeats 4000000 in
/-- The body's two stores, last first. -/
theorem stores_A :
    (kernelRun0_A c i arg3 harg3 arg4 harg4 arg5 harg5 x0 x1 xt).1 = [halfStore arg3 harg3 arg4 harg4 x0 x1 1, halfStore arg3 harg3 arg4 harg4 x0 x1 0] := by
  unfold kernelRun0_A
  dsimp only
  sl_unfold_words
  rfl

/-- What a grid point leaves in its block. -/
theorem out_A (y : S1024x1024.Idx) : out0_A_2 c i arg3 harg3 arg4 harg4 arg5 harg5 x0 x1 xt y = actAt x0 x1 y := by
  unfold out0_A_2
  rw [View.read_writes_eq_canon _ _ _ (cover0_A_2 c i arg3 harg3 arg4 harg4 arg5 harg5 x0 x1 xt)]
  refine View.canon_apply_of_pieces (actAt x0 x1) _ ?_ y (cover0_A_2 c i arg3 harg3 arg4 harg4 arg5 harg5 x0 x1 xt y)
  rw [stores_A]
  simp only [List.mem_cons, List.not_mem_nil, or_false, forall_eq_or_imp, forall_eq]
  exact ⟨halfStore_value _ _ _ _ _ _ 1, halfStore_value _ _ _ _ _ _ 0⟩

end

end Cert.Kernel3Ideal.Up

end
-- ==== Proof.Up.Array.lean ====
/- The up projection's result array, read at an index, over the arrays the windows read. -/
module

public import proofs.«01_k».proof.Proof.Up.Block
public import Idealize.ShloMosaic.Lib.Claim

@[expose] public section

set_option maxRecDepth 16384

noncomputable section

namespace Cert.Kernel3Ideal.Up

open Cert.Kernel3Ideal Cert.Kernel3Ideal.Gen Idealize.ShloMosaic Idealize.ShloMosaic.TcCoe Idealize.SL.Sem
open Idealize.ShloMosaic.Pipeline (Dat)

/-- The index maps in closed form. -/
theorem ix_closed : ∀ t : Fin grid0.N, cc0_transform_0 (grid0.coords t) = ![t.val / 16, 0] ∧ cc0_transform_1 (grid0.coords t) = ![0, t.val % 16]
    ∧ cc0_transform_2 (grid0.coords t) = ![t.val / 16, t.val % 16] := by decide +kernel

variable (m : (ℓ : Loc nD τ sig) → Buf (Elt Ideal) ℓ) (hO : Ok m) (c : Dev nD)

/-- The arrays the windows read: the rows and the layer's weights. -/
abbrev rowsArr : S16384x4096.Idx → EReal := V m c main_v1
abbrev weightArr : S4096x16384.Idx → EReal := V m c main_v14

/-- There are 256 grid points. -/
theorem point_lt (t : Fin (cfgM m hO).N) : t.val < 256 := lt_of_lt_of_eq t.isLt (by decide : grid0.N = 256)

/-- Row `r` of point `t`'s block, in the array … -/
abbrev rowAt (t : Fin (cfgM m hO).N) (r : Fin 1024) : Fin 16384 := ⟨1024 * (t.val / 16) + r.val, by have := point_lt m hO t; omega⟩
/-- … and column `j`. -/
abbrev colAt (t : Fin (cfgM m hO).N) (j : Fin 1024) : Fin 16384 := ⟨1024 * (t.val % 16) + j.val, by omega⟩

/-- The block of rows. -/
theorem rows_block (t : Fin (cfgM m hO).N) (r : Fin 1024) (e : Fin 4096) :
    iblk m hO c 0 t (ix2 r e) = V m c main_v1 (ix2 (rowAt m hO t r) e) := by
  have h := (ix_closed t).1
  refine congrArg (V m c main_v1) (funext fun a => ?_)
  match a with
  | ⟨0, _⟩ => exact Fin.ext ((Pipeline.Window.rect_emb_val ((cfgM m hO).win 0) t (ix2 r e) (0 : Fin 2)).trans (by
      show cc0_transform_0 (grid0.coords t) 0 * 1024 + r.val = 1024 * (t.val / 16) + r.val
      rw [h]; show t.val / 16 * 1024 + r.val = _; omega))
  | ⟨1, _⟩ => exact Fin.ext ((Pipeline.Window.rect_emb_val ((cfgM m hO).win 0) t (ix2 r e) (1 : Fin 2)).trans (by
      show cc0_transform_0 (grid0.coords t) 1 * 4096 + e.val = e.val
      rw [h]; show 0 * 4096 + e.val = _; omega))

/-- The block of weights. -/
theorem weight_block (t : Fin (cfgM m hO).N) (e : Fin 4096) (j : Fin 1024) :
    iblk m hO c 1 t (ix2 e j) = V m c main_v14 (ix2 e (colAt m hO t j)) := by
  have h := (ix_closed t).2.1
  refine congrArg (V m c main_v14) (funext fun a => ?_)
  match a with
  | ⟨0, _⟩ => exact Fin.ext ((Pipeline.Window.rect_emb_val ((cfgM m hO).win 1) t (ix2 e j) (0 : Fin 2)).trans (by
      show cc0_transform_1 (grid0.coords t) 0 * 4096 + e.val = e.val
      rw [h]; show 0 * 4096 + e.val = _; omega))
  | ⟨1, _⟩ => exact Fin.ext ((Pipeline.Window.rect_emb_val ((cfgM m hO).win 1) t (ix2 e j) (1 : Fin 2)).trans (by
      show cc0_transform_1 (grid0.coords t) 1 * 1024 + j.val = 1024 * (t.val % 16) + j.val
      rw [h]; show t.val % 16 * 1024 + j.val = _; omega))

/-- Distinct points write distinct blocks. -/
theorem disjoint2 : ∀ t t' : Fin (cfgM m hO).N, ((cfgM m hO).win 2).flush t = true → ((cfgM m hO).win 2).flush t' = true → t ≠ t' →
    Disjoint (((cfgM m hO).win 2).blk t).view.set (((cfgM m hO).win 2).blk t').view.set :=
  fun t t' _ _ hne => ((cfgM m hO).win 2).disjoint_blk fun h => hne (Fin.ext (by
    have e : cc0_transform_2 (grid0.coords t) = cc0_transform_2 (grid0.coords t') := h
    rw [(ix_closed t).2.2, (ix_closed t').2.2] at e
    have e0 : t.val / 16 = t'.val / 16 := congrFun e 0
    have e1 : t.val % 16 = t'.val % 16 := congrFun e 1
    omega))

/-- Every point writes its block back. -/
theorem flush2 (t : Fin (cfgM m hO).N) : ((cfgM m hO).win 2).flush t = true :=
  (by decide +kernel : ∀ t : Fin grid0.N, Pipeline.Window.flushOf grid0 true cc0_transform_2 t = true) t

/-- What point `t` writes back. -/
theorem flushed2 (t : Fin (cfgM m hO).N) (y) : (dats m hO 0 c).flushed 2 t y = actAt (iblk m hO c 0 t) (iblk m hO c 1 t) y := by
  show ((cfgM m hO).win 2).cut ((cfgM m hO).grid.coords t) ((dats m hO 0 c).after 2 t) y = _
  rw [after0_2]
  exact out_A c (grid0.coords t) (ms0_0 m hO t) (hs0_0 m hO t) (ms0_1 m hO t) (hs0_1 m hO t) (ms0_2 m hO t) (hs0_2 m hO t) (iblk m hO c 0 t) (iblk m hO c 1 t) (tbl m 0) y

/-- An element of the result is its block's. -/
theorem arr_apply (t : Fin (cfgM m hO).N) (r j : Fin 1024) :
    (dats m hO 0 c).arrAt 2 (cfgM m hO).N (ix2 (rowAt m hO t r) (colAt m hO t j)) = actAt (iblk m hO c 0 t) (iblk m hO c 1 t) (ix2 r j) := by
  have hidx : (((cfgM m hO).win 2).blk t).view.emb (ix2 r j) = (ix2 (rowAt m hO t r) (colAt m hO t j) : S16384x16384.Idx) := by
    have h := (ix_closed t).2.2
    funext a
    match a with
    | ⟨0, _⟩ => exact Fin.ext ((Pipeline.Window.rect_emb_val ((cfgM m hO).win 2) t (ix2 r j) (0 : Fin 2)).trans (by
        show cc0_transform_2 (grid0.coords t) 0 * 1024 + r.val = 1024 * (t.val / 16) + r.val
        rw [h]; show t.val / 16 * 1024 + r.val = _; omega))
    | ⟨1, _⟩ => exact Fin.ext ((Pipeline.Window.rect_emb_val ((cfgM m hO).win 2) t (ix2 r j) (1 : Fin 2)).trans (by
        show cc0_transform_2 (grid0.coords t) 1 * 1024 + j.val = 1024 * (t.val % 16) + j.val
        rw [h]; show t.val % 16 * 1024 + j.val = _; omega))
  have h := (dats m hO 0 c).arrAt_emb_eq_flushed 2 (disjoint2 m hO) t (flush2 m hO t) (ix2 r j)
  refine (congrArg ((dats m hO 0 c).arrAt 2 (cfgM m hO).N) hidx.symm).trans (h.trans ?_)
  exact flushed2 m hO c t _

/-- The result array, read at an index. -/
theorem arr_eq (i f : Fin 16384) :
    (dats m hO 0 c).arrAt 2 (cfgM m hO).N (ix2 i f) = reluSq (∑ e : Fin 4096, rowsArr m c (ix2 i e) * weightArr m c (ix2 e f)) := by
  obtain ⟨t, ht⟩ : ∃ t : Fin (cfgM m hO).N, t.val = 16 * (i.val / 1024) + f.val / 1024 :=
    ⟨⟨16 * (i.val / 1024) + f.val / 1024, lt_of_lt_of_eq (by omega : _ < 256) (by decide : 256 = grid0.N)⟩, rfl⟩
  have hi : rowAt m hO t ⟨i.val % 1024, Nat.mod_lt _ (by omega)⟩ = i := Fin.ext (by show 1024 * (t.val / 16) + i.val % 1024 = i.val; omega)
  have hf : colAt m hO t ⟨f.val % 1024, Nat.mod_lt _ (by omega)⟩ = f := Fin.ext (by show 1024 * (t.val % 16) + f.val % 1024 = f.val; omega)
  have h := arr_apply m hO c t ⟨i.val % 1024, Nat.mod_lt _ (by omega)⟩ ⟨f.val % 1024, Nat.mod_lt _ (by omega)⟩
  rw [hi, hf] at h
  refine h.trans (congrArg reluSq (Finset.sum_congr rfl fun e _ => congrArg₂ (fun a b : EReal => a * b) ?_ ?_))
  · exact (rows_block m hO c t _ e).trans (congrArg (fun i => V m c main_v1 (ix2 i e)) hi)
  · exact (weight_block m hO c t e _).trans (congrArg (fun f => V m c main_v14 (ix2 e f)) hf)

end Cert.Kernel3Ideal.Up

end
-- ==== Proof.Up.RefRun.lean ====
/- The third reference's run, in four stretches of its operations, each giving a named step of the computation. The
   operations are those of the printed program. -/
module

public import proofs.«01_k».proof.Proof.Gen.Reference3Ideal
public import Idealize.ShloMosaic.Lib.StableHlo.Run
public import Idealize.ShloMosaic.Lib.StableHlo.RunClose
public import Idealize.ShloMosaic.Lib.Pipeline.Frame
public import Idealize.ShloMosaic.PureOps.Ideal

@[expose] public section

noncomputable section

namespace Cert.Reference3Ideal.Up

open Cert.Reference3Ideal Cert.Reference3Ideal.Gen Idealize.ShloMosaic Idealize.ShloMosaic.TcCoe Idealize.SL.Sem Idealize.ShloMosaic.StableHlo

/-! ## The steps -/

section
variable (x : FVec Ideal S2x8192x4096 .f32) (w : FVec Ideal S4x4096x16384 .f32) (l : IVec S1 32)

/-- The start of a slice at the layer. -/
def layerStart : IVec S_ 32 :=
  select (cmpi .slt (shapeCast S_ l shapeCasts_S1_S_) (constantI S_ 32 0#32)) (addi (shapeCast S_ l shapeCasts_S1_S_) (constantI S_ 32 4#32)) (shapeCast S_ l shapeCasts_S1_S_)

/-- The start along an axis taken whole, of `n` elements. -/
def wholeStart (n : BitVec 32) : IVec S_ 32 :=
  select (cmpi .slt (constantI S_ 32 0#32) (constantI S_ 32 0#32)) (addi (constantI S_ 32 0#32) (constantI S_ 32 n)) (constantI S_ 32 0#32)

/-- One layer's weights, sliced at the starts. -/
def weightsAt (s a b : IVec S_ 32) : FVec Ideal S1x4096x16384 .f32 :=
  Host.dynamicSlice S1x4096x16384 w (fun k => (((![s, a, b] : Fin 3 → IVec S_ 32)) k (Shape.Idx.first h_S_)).toInt) sliceFits_S4x4096x16384_S1x4096x16384

/-- The layer's weights. -/
def weights : FVec Ideal S1x4096x16384 .f32 := weightsAt w (layerStart l) (wholeStart 4096#32) (wholeStart 16384#32)

/-- The up projection. -/
def product (W : FVec Ideal S1x4096x16384 .f32) : FVec Ideal S2x8192x16384 .f32 :=
  Host.dotGeneral dot_S2x8192x4096_S4096x16384_S2x8192x16384_2_0_01_1_n_n none x (shapeCast S4096x16384 W shapeCasts_S1x4096x16384_S4096x16384)

/-- The positive part. -/
def positive (p : FVec Ideal S2x8192x16384 .f32) : FVec Ideal S2x8192x16384 .f32 :=
  maximumf p (broadcastInDim S2x8192x16384 ![] bcast_S_S2x8192x16384 (constant S_ .f32 0x00000000#32))

/-- One array of rows. -/
def flat (z : FVec Ideal S2x8192x16384 .f32) : FVec Ideal S16384x16384 .bf16 :=
  truncf .bf16 (shapeCast S16384x16384 z shapeCasts_S2x8192x16384_S16384x16384) bitsLt_bf16_f32

/-- The result. -/
def result : FVec Ideal S16384x16384 .bf16 := flat (mulf (positive (product x (weights w l))) (positive (product x (weights w l))))

end

variable {F : FTy → Type} [FloatOps F]

/-! ## The operations -/

/-- Stretch 0 of the operations. -/
abbrev ops0 : List (HloOp τ sig (Elt F)) :=
  [ reshape main_arg2 main_v0 (rfl : (.i32 : EltTy) = .i32) shapeCasts_S1_S_,
    nullary main_c (constantI S_ 32 0#32),
    binary main_v0 main_c main_v1 (cmpi .slt : (⟨S_, .i32⟩ : BufTy).Contents (Elt F) → (⟨S_, .i32⟩ : BufTy).Contents (Elt F) → (⟨S_, .i1⟩ : BufTy).Contents (Elt F)),
    nullary main_c_0 (constantI S_ 32 4#32),
    binary main_v0 main_c_0 main_v2 (addi : (⟨S_, .i32⟩ : BufTy).Contents (Elt F) → (⟨S_, .i32⟩ : BufTy).Contents (Elt F) → (⟨S_, .i32⟩ : BufTy).Contents (Elt F)),
    ternary main_v1 main_v2 main_v0 main_v3 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1 (constantI S_ 32 0#32),
    nullary main_c_2 (constantI S_ 32 0#32),
    binary main_c_1 main_c_2 main_v4 (cmpi .slt : (⟨S_, .i32⟩ : BufTy).Contents (Elt F) → (⟨S_, .i32⟩ : BufTy).Contents (Elt F) → (⟨S_, .i1⟩ : BufTy).Contents (Elt F)),
    nullary main_c_3 (constantI S_ 32 0#32),
    nullary main_c_4 (constantI S_ 32 4096#32),
    binary main_c_3 main_c_4 main_v5 (addi : (⟨S_, .i32⟩ : BufTy).Contents (Elt F) → (⟨S_, .i32⟩ : BufTy).Contents (Elt F) → (⟨S_, .i32⟩ : BufTy).Contents (Elt F)),
    nullary main_c_5 (constantI S_ 32 0#32),
    ternary main_v4 main_v5 main_c_5 main_v6 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v7 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 16384#32),
    binary main_c_8 main_c_9 main_v8 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v7 main_v8 main_c_10 main_v9 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

/-- Stretch 1 of the operations. -/
abbrev ops1 : List (HloOp τ sig (Elt F)) :=
  [ unaryIndexed main_arg1 ![main_v3, main_v6, main_v9] ⟨S_, .i32⟩ main_v10 ((fun x i => Host.dynamicSlice S1x4096x16384 x (fun k => (i k (Shape.Idx.first h_S_)).toInt) sliceFits_S4x4096x16384_S1x4096x16384) : (⟨S4x4096x16384, .f32⟩ : BufTy).Contents (Elt F) → (Fin 3 → (⟨S_, .i32⟩ : BufTy).Contents (Elt F)) → (⟨S1x4096x16384, .f32⟩ : BufTy).Contents (Elt F)),
    reshape main_v10 main_v11 (rfl : (.f32 : EltTy) = .f32) shapeCasts_S1x4096x16384_S4096x16384,
    binary main_arg0 main_v11 main_v12 ((fun l r => Host.dotGeneral dot_S2x8192x4096_S4096x16384_S2x8192x16384_2_0_01_1_n_n none l r) : (⟨S2x8192x4096, .f32⟩ : BufTy).Contents (Elt F) → (⟨S4096x16384, .f32⟩ : BufTy).Contents (Elt F) → (⟨S2x8192x16384, .f32⟩ : BufTy).Contents (Elt F)) ]

/-- Stretch 2 of the operations. -/
abbrev ops2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S2x8192x16384, .f32⟩) main_call0_v0) (broadcastInDim S2x8192x16384 ![] bcast_S_S2x8192x16384),
    TRef.binary (TRef.of (T := ⟨S2x8192x16384, .f32⟩) main_v12) (TRef.of (T := ⟨S2x8192x16384, .f32⟩) main_call0_v0) (TRef.of (T := ⟨S2x8192x16384, .f32⟩) main_v13) maximumf ]

/-- Stretch 3 of the operations. -/
abbrev ops3 : List (HloOp τ sig (Elt F)) :=
  [ binary main_v13 main_v13 main_v14 (mulf : (⟨S2x8192x16384, .f32⟩ : BufTy).Contents (Elt F) → (⟨S2x8192x16384, .f32⟩ : BufTy).Contents (Elt F) → (⟨S2x8192x16384, .f32⟩ : BufTy).Contents (Elt F)),
    reshape main_v14 main_v15 (rfl : (.f32 : EltTy) = .f32) shapeCasts_S2x8192x16384_S16384x16384,
    unary main_v15 main_v16 ((truncf .bf16 · bitsLt_bf16_f32) : (⟨S16384x16384, .f32⟩ : BufTy).Contents (Elt F) → (⟨S16384x16384, .bf16⟩ : BufTy).Contents (Elt F)) ]

/-- All the operations. -/
abbrev ops : List (HloOp τ sig (Elt F)) := ops0 ++ (ops1 ++ (ops2 ++ (ops3)))

set_option maxRecDepth 8192 in
set_option maxHeartbeats 4000000 in
theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., binary_bufs_sub .., nullary_bufs_sub .., unary_bufs_sub .., binary_bufs_sub .., binary_bufs_sub .., reshape_bufs_sub .., unary_bufs_sub ..⟩

/-! ## Each stretch -/

section
variable (V : Valuation τ sig (Elt Ideal))

set_option maxRecDepth 8192 in
/-- Stretch 0 computes `main_v3`. -/
theorem st0_main_v3 (l : IVec S1 32) (h_main_arg2 : V (Proc.devRef .tc main_arg2) = l) : after ops0 V (Proc.devRef .tc main_v3) = layerStart l := by
  simp only [ops0]
  after_results_simp_entrywise
  simp only [h_main_arg2]
  rfl

set_option maxRecDepth 8192 in
/-- Stretch 0 computes `main_v6`. -/
theorem st0_main_v6   : after ops0 V (Proc.devRef .tc main_v6) = wholeStart 4096#32 := by
  simp only [ops0]
  after_results_simp_entrywise
  rfl

set_option maxRecDepth 8192 in
/-- Stretch 0 computes `main_v9`. -/
theorem st0_main_v9   : after ops0 V (Proc.devRef .tc main_v9) = wholeStart 16384#32 := by
  simp only [ops0]
  after_results_simp_entrywise
  rfl

/-- Stretch 0 leaves `main_arg0`. -/
theorem keep0_main_arg0 : after ops0 V (Proc.devRef .tc main_arg0) = V (Proc.devRef .tc main_arg0) := by
  simp only [ops0]
  after_results_simp

/-- Stretch 0 leaves `main_arg1`. -/
theorem keep0_main_arg1 : after ops0 V (Proc.devRef .tc main_arg1) = V (Proc.devRef .tc main_arg1) := by
  simp only [ops0]
  after_results_simp

/-- Stretch 0 leaves `main_arg2`. -/
theorem keep0_main_arg2 : after ops0 V (Proc.devRef .tc main_arg2) = V (Proc.devRef .tc main_arg2) := by
  simp only [ops0]
  after_results_simp

set_option maxRecDepth 8192 in
/-- Stretch 1 computes `main_v12`. -/
theorem st1_main_v12 (w : FVec Ideal S4x4096x16384 .f32) (s : IVec S_ 32) (a : IVec S_ 32) (b : IVec S_ 32) (x : FVec Ideal S2x8192x4096 .f32) (h_main_arg1 : V (Proc.devRef .tc main_arg1) = w) (h_main_v3 : V (Proc.devRef .tc main_v3) = s) (h_main_v6 : V (Proc.devRef .tc main_v6) = a) (h_main_v9 : V (Proc.devRef .tc main_v9) = b) (h_main_arg0 : V (Proc.devRef .tc main_arg0) = x) : after ops1 V (Proc.devRef .tc main_v12) = product x (weightsAt w s a b) := by
  simp only [ops1]
  after_results_simp_entrywise
  simp only [h_main_arg1, h_main_v3, h_main_v6, h_main_v9, h_main_arg0]
  rfl

/-- Stretch 1 leaves `main_arg0`. -/
theorem keep1_main_arg0 : after ops1 V (Proc.devRef .tc main_arg0) = V (Proc.devRef .tc main_arg0) := by
  simp only [ops1]
  after_results_simp

/-- Stretch 1 leaves `main_arg1`. -/
theorem keep1_main_arg1 : after ops1 V (Proc.devRef .tc main_arg1) = V (Proc.devRef .tc main_arg1) := by
  simp only [ops1]
  after_results_simp

/-- Stretch 1 leaves `main_arg2`. -/
theorem keep1_main_arg2 : after ops1 V (Proc.devRef .tc main_arg2) = V (Proc.devRef .tc main_arg2) := by
  simp only [ops1]
  after_results_simp

set_option maxRecDepth 8192 in
/-- Stretch 2 computes `main_v13`. -/
theorem st2_main_v13 (p : FVec Ideal S2x8192x16384 .f32) (h_main_v12 : V (Proc.devRef .tc main_v12) = p) : after ops2 V (Proc.devRef .tc main_v13) = positive p := by
  simp only [ops2, TRef.binary, TRef.nullary, TRef.unary, TRef.toBuf, TRef.ofBuf, cast_eq]
  after_results_simp_entrywise
  simp only [h_main_v12]
  rfl

/-- Stretch 2 leaves `main_arg0`. -/
theorem keep2_main_arg0 : after ops2 V (Proc.devRef .tc main_arg0) = V (Proc.devRef .tc main_arg0) := by
  simp only [ops2, TRef.binary, TRef.nullary, TRef.unary, TRef.toBuf, TRef.ofBuf, cast_eq]
  after_results_simp

/-- Stretch 2 leaves `main_arg1`. -/
theorem keep2_main_arg1 : after ops2 V (Proc.devRef .tc main_arg1) = V (Proc.devRef .tc main_arg1) := by
  simp only [ops2, TRef.binary, TRef.nullary, TRef.unary, TRef.toBuf, TRef.ofBuf, cast_eq]
  after_results_simp

/-- Stretch 2 leaves `main_arg2`. -/
theorem keep2_main_arg2 : after ops2 V (Proc.devRef .tc main_arg2) = V (Proc.devRef .tc main_arg2) := by
  simp only [ops2, TRef.binary, TRef.nullary, TRef.unary, TRef.toBuf, TRef.ofBuf, cast_eq]
  after_results_simp

set_option maxRecDepth 8192 in
/-- Stretch 3 computes `main_v16`. -/
theorem st3_main_v16 (q : FVec Ideal S2x8192x16384 .f32) (h_main_v13 : V (Proc.devRef .tc main_v13) = q) : after ops3 V (Proc.devRef .tc main_v16) = flat (mulf q q) := by
  simp only [ops3]
  after_results_simp_entrywise
  simp only [h_main_v13]
  rfl

/-- Stretch 3 leaves `main_arg0`. -/
theorem keep3_main_arg0 : after ops3 V (Proc.devRef .tc main_arg0) = V (Proc.devRef .tc main_arg0) := by
  simp only [ops3]
  after_results_simp

/-- Stretch 3 leaves `main_arg1`. -/
theorem keep3_main_arg1 : after ops3 V (Proc.devRef .tc main_arg1) = V (Proc.devRef .tc main_arg1) := by
  simp only [ops3]
  after_results_simp

/-- Stretch 3 leaves `main_arg2`. -/
theorem keep3_main_arg2 : after ops3 V (Proc.devRef .tc main_arg2) = V (Proc.devRef .tc main_arg2) := by
  simp only [ops3]
  after_results_simp

end

section
variable (V : Valuation τ sig (Elt Ideal))

/-- The contents after stretch 0. -/
def V0 : Valuation τ sig (Elt Ideal) := after ops0 V
/-- The contents after stretch 1. -/
def V1 : Valuation τ sig (Elt Ideal) := after ops1 (V0 V)
/-- The contents after stretch 2. -/
def V2 : Valuation τ sig (Elt Ideal) := after ops2 (V1 V)
/-- The contents after stretch 3. -/
def V3 : Valuation τ sig (Elt Ideal) := after ops3 (V2 V)
theorem V0_main_arg0 : V0 V (Proc.devRef .tc main_arg0) = (V (Proc.devRef .tc main_arg0)) := keep0_main_arg0 V
theorem V0_main_arg1 : V0 V (Proc.devRef .tc main_arg1) = (V (Proc.devRef .tc main_arg1)) := keep0_main_arg1 V
theorem V0_main_arg2 : V0 V (Proc.devRef .tc main_arg2) = (V (Proc.devRef .tc main_arg2)) := keep0_main_arg2 V
theorem V0_main_v3 : V0 V (Proc.devRef .tc main_v3) = (layerStart (V (Proc.devRef .tc main_arg2))) := st0_main_v3 V (V (Proc.devRef .tc main_arg2)) rfl
theorem V0_main_v6 : V0 V (Proc.devRef .tc main_v6) = (wholeStart 4096#32) := st0_main_v6 V
theorem V0_main_v9 : V0 V (Proc.devRef .tc main_v9) = (wholeStart 16384#32) := st0_main_v9 V
theorem V1_main_arg0 : V1 V (Proc.devRef .tc main_arg0) = (V (Proc.devRef .tc main_arg0)) := (keep1_main_arg0 (V0 V)).trans (V0_main_arg0 V)
theorem V1_main_arg1 : V1 V (Proc.devRef .tc main_arg1) = (V (Proc.devRef .tc main_arg1)) := (keep1_main_arg1 (V0 V)).trans (V0_main_arg1 V)
theorem V1_main_arg2 : V1 V (Proc.devRef .tc main_arg2) = (V (Proc.devRef .tc main_arg2)) := (keep1_main_arg2 (V0 V)).trans (V0_main_arg2 V)
theorem V1_main_v12 : V1 V (Proc.devRef .tc main_v12) = (product (V (Proc.devRef .tc main_arg0)) (weights (V (Proc.devRef .tc main_arg1)) (V (Proc.devRef .tc main_arg2)))) := st1_main_v12 (V0 V) (V (Proc.devRef .tc main_arg1)) (layerStart (V (Proc.devRef .tc main_arg2))) (wholeStart 4096#32) (wholeStart 16384#32) (V (Proc.devRef .tc main_arg0)) (V0_main_arg1 V) (V0_main_v3 V) (V0_main_v6 V) (V0_main_v9 V) (V0_main_arg0 V)
theorem V2_main_arg0 : V2 V (Proc.devRef .tc main_arg0) = (V (Proc.devRef .tc main_arg0)) := (keep2_main_arg0 (V1 V)).trans (V1_main_arg0 V)
theorem V2_main_arg1 : V2 V (Proc.devRef .tc main_arg1) = (V (Proc.devRef .tc main_arg1)) := (keep2_main_arg1 (V1 V)).trans (V1_main_arg1 V)
theorem V2_main_arg2 : V2 V (Proc.devRef .tc main_arg2) = (V (Proc.devRef .tc main_arg2)) := (keep2_main_arg2 (V1 V)).trans (V1_main_arg2 V)
theorem V2_main_v13 : V2 V (Proc.devRef .tc main_v13) = (positive (product (V (Proc.devRef .tc main_arg0)) (weights (V (Proc.devRef .tc main_arg1)) (V (Proc.devRef .tc main_arg2))))) := st2_main_v13 (V1 V) (product (V (Proc.devRef .tc main_arg0)) (weights (V (Proc.devRef .tc main_arg1)) (V (Proc.devRef .tc main_arg2)))) (V1_main_v12 V)
theorem V3_main_arg0 : V3 V (Proc.devRef .tc main_arg0) = (V (Proc.devRef .tc main_arg0)) := (keep3_main_arg0 (V2 V)).trans (V2_main_arg0 V)
theorem V3_main_arg1 : V3 V (Proc.devRef .tc main_arg1) = (V (Proc.devRef .tc main_arg1)) := (keep3_main_arg1 (V2 V)).trans (V2_main_arg1 V)
theorem V3_main_arg2 : V3 V (Proc.devRef .tc main_arg2) = (V (Proc.devRef .tc main_arg2)) := (keep3_main_arg2 (V2 V)).trans (V2_main_arg2 V)
theorem V3_main_v16 : V3 V (Proc.devRef .tc main_v16) = (result (V (Proc.devRef .tc main_arg0)) (V (Proc.devRef .tc main_arg1)) (V (Proc.devRef .tc main_arg2))) := st3_main_v16 (V2 V) (positive (product (V (Proc.devRef .tc main_arg0)) (weights (V (Proc.devRef .tc main_arg1)) (V (Proc.devRef .tc main_arg2))))) (V2_main_v13 V)

theorem after_ops : after ops V = V3 V := by
  simp only [StableHlo.after_append]
  rfl

end

/-- The reference's run: the result named, every argument kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans ((congrFun (after_ops _) _).trans (V3_main_v16 _)),
      (h c main_arg0).trans ((congrFun (after_ops _) _).trans (V3_main_arg0 _)), (h c main_arg1).trans ((congrFun (after_ops _) _).trans (V3_main_arg1 _)), (h c main_arg2).trans ((congrFun (after_ops _) _).trans (V3_main_arg2 _))⟩)
    (run_seq scopedRefs_eq scopedSems_eq defs main (fun _ => ops) main_eq (fun _ => ops_sub) m ρ)

end Cert.Reference3Ideal.Up

end
-- ==== Proof.Up.Value.lean ====
/- The up projection's value: the kernel's array is the reference's result. -/
module

public import proofs.«01_k».proof.Proof.Up.Array
public import proofs.«01_k».proof.Proof.Up.RefRun

@[expose] public section

set_option maxRecDepth 16384

noncomputable section

/-! ## The reference, entry by entry -/

namespace Cert.Reference3Ideal.Up

open Cert.Reference3Ideal Cert.Reference3Ideal.Gen Idealize.ShloMosaic Idealize.ShloMosaic.TcCoe Idealize.SL.Sem
open Cert.Kernel3Ideal.Up (reluSq)

/-- The product's entries. -/
theorem product_eq (x : FVec Ideal S2x8192x4096 .f32) (W : FVec Ideal S1x4096x16384 .f32) (b : Fin 2) (s : Fin 8192) (f : Fin 16384) :
    product x W (ix3 b s f) = ∑ e : Fin 4096, (x (ix3 b s e) : EReal) * W (ix3 0 e f) := by
  refine Eq.trans (b := ∑ e : Fin 4096, (x (ix3 b s e) : EReal) * W (ix3 ⟨0, by omega⟩ e f)) ?_ rfl
  unfold product
  pointwise []

/-- The squares of the positive parts, as one array of rows. -/
theorem flat_eq (p : FVec Ideal S2x8192x16384 .f32) (i f : Fin 16384) :
    flat (mulf (positive p) (positive p)) (ix2 i f) = reluSq (p (ix3 (⟨i.val / 8192, by omega⟩ : Fin 2) (⟨i.val % 8192, Nat.mod_lt _ (by omega)⟩ : Fin 8192) f)) := by
  unfold flat positive reluSq
  pointwise []

/-- The result's entries. -/
theorem result_eq (x : FVec Ideal S2x8192x4096 .f32) (w : FVec Ideal S4x4096x16384 .f32) (l : IVec S1 32) (i f : Fin 16384) :
    result x w l (ix2 i f)
      = reluSq (∑ e : Fin 4096, (x (ix3 (⟨i.val / 8192, by omega⟩ : Fin 2) (⟨i.val % 8192, Nat.mod_lt _ (by omega)⟩ : Fin 8192) e) : EReal) * weights w l (ix3 0 e f)) := by
  rw [← product_eq, ← flat_eq]
  rfl

end Cert.Reference3Ideal.Up

/-! ## The kernel -/

namespace Cert.Kernel3Ideal.Up

open Cert.Kernel3Ideal Cert.Kernel3Ideal.Gen Idealize.ShloMosaic Idealize.ShloMosaic.TcCoe Idealize.SL.Sem

/-- The input as one array of rows … -/
theorem input_rows (x : FVec Ideal S2x8192x4096 .f32) (i : Fin 16384) (e : Fin 4096) :
    (truncf .bf16 (shapeCast S16384x4096 x shapeCasts_S2x8192x4096_S16384x4096) bitsLt_bf16_f32 : FVec Ideal S16384x4096 .bf16) (ix2 i e)
      = x (ix3 (⟨i.val / 8192, by omega⟩ : Fin 2) (⟨i.val % 8192, Nat.mod_lt _ (by omega)⟩ : Fin 8192) e) := by
  pointwise []

/-- … and one layer's weights. -/
theorem weight_rows (W : FVec Ideal S1x4096x16384 .f32) (e : Fin 4096) (f : Fin 16384) :
    (truncf .bf16 (shapeCast S4096x16384 W shapeCasts_S1x4096x16384_S4096x16384) bitsLt_bf16_f32 : FVec Ideal S4096x16384 .bf16) (ix2 e f) = W (ix3 0 e f) := by
  refine Eq.trans (b := W (ix3 ⟨0, by omega⟩ e f)) ?_ rfl
  pointwise []

variable (m : (ℓ : Loc nD τ sig) → Buf (Elt Ideal) ℓ) (hO : Ok m) (c : Dev nD)

/-- The rows the windows read. -/
theorem rows_entry (i : Fin 16384) (e : Fin 4096) :
    rowsArr m c (ix2 i e) = m ((c : Thread nD τ).loc main_arg0) (ix3 (⟨i.val / 8192, by omega⟩ : Fin 2) (⟨i.val % 8192, Nat.mod_lt _ (by omega)⟩ : Fin 8192) e) := by
  have h : V m c main_v1 = (truncf .bf16 (shapeCast S16384x4096 (m ((c : Thread nD τ).loc main_arg0)) shapeCasts_S2x8192x4096_S16384x4096) bitsLt_bf16_f32 : FVec Ideal S16384x4096 .bf16) := by
    unfold V hostOps0
    after_results_simp
    rfl
  exact (congrFun h (ix2 i e)).trans (input_rows _ i e)

/-- The weights they read: the slice the reference takes. -/
theorem weight_entry (e : Fin 4096) (f : Fin 16384) :
    weightArr m c (ix2 e f) = Cert.Reference3Ideal.Up.weights (m ((c : Thread nD τ).loc main_arg1)) (m ((c : Thread nD τ).loc main_arg2)) (ix3 0 e f) := by
  have h : V m c main_v14 = (truncf .bf16 (shapeCast S4096x16384 (Cert.Reference3Ideal.Up.weights (m ((c : Thread nD τ).loc main_arg1)) (m ((c : Thread nD τ).loc main_arg2)))
      shapeCasts_S1x4096x16384_S4096x16384) bitsLt_bf16_f32 : FVec Ideal S4096x16384 .bf16) := by
    unfold V hostOps0
    after_results_simp_entrywise
    rfl
  exact (congrFun h (ix2 e f)).trans (weight_rows _ e f)

/-- The kernel's result is the reference's, entry by entry … -/
theorem entry_eq (i f : Fin 16384) :
    (dats m hO 0 c).arrAt 2 (cfgM m hO).N (ix2 i f)
      = Cert.Reference3Ideal.Up.result (m ((c : Thread nD τ).loc main_arg0)) (m ((c : Thread nD τ).loc main_arg1)) (m ((c : Thread nD τ).loc main_arg2)) (ix2 i f) := by
  refine (arr_eq m hO c i f).trans (Eq.trans ?_ (Cert.Reference3Ideal.Up.result_eq _ _ _ i f).symm)
  exact congrArg reluSq (Finset.sum_congr rfl fun e _ => congrArg₂ (fun a b : EReal => a * b) (rows_entry m c i e) (weight_entry m c e f))

/-- … and whole. -/
theorem result_eq :
    (dats m hO 0 c).arrAt 2 (cfgM m hO).N
      = Cert.Reference3Ideal.Up.result (m ((c : Thread nD τ).loc main_arg0)) (m ((c : Thread nD τ).loc main_arg1)) (m ((c : Thread nD τ).loc main_arg2)) := by
  have key (k : S16384x16384.Idx) : k = ix2 (k 0 : Fin 16384) (k 1 : Fin 16384) := funext fun a => by
    match a with
    | 0 => rfl
    | 1 => rfl
  exact funext fun (k : S16384x16384.Idx) => by rw [key k]; exact entry_eq m hO c _ _

end Cert.Kernel3Ideal.Up

end
-- ==== Proof.lean ====
module

public import proofs.«01_k».proof.Defs
public import proofs.«01_k».proof.Proof.Attn.KernelFrame
public import proofs.«01_k».proof.Proof.Attn.KernelIdealFrame
public import proofs.«01_k».proof.Proof.Attn.Layer
public import proofs.«01_k».proof.Proof.Attn.Value
public import proofs.«01_k».proof.Proof.Down.SameText
public import proofs.«01_k».proof.Proof.Down.Value
public import proofs.«01_k».proof.Proof.Up.SameText
public import proofs.«01_k».proof.Proof.Up.Value
public import Idealize.ShloMosaic.Lib.Quiescent

@[expose] public section

noncomputable section

namespace Cert.Proof

open Idealize.ShloMosaic Idealize.SL.Sem

/-- The attention's frame, as the kernel runs. -/
theorem frame_kernel : Cert.quiescent_Kernel := fun m ρ h => Cert.Kernel.Attn.frame m ρ (Cert.Kernel.Attn.layer_ok h)

/-- The attention's frame over the extended reals, for a layer index in range. -/
theorem frame_ideal : Cert.quiescent_KernelIdeal := fun m ρ h => Cert.KernelIdeal.Attn.frame m ρ (Cert.KernelIdeal.Attn.layer_ok h)

/-- … and for finite queries and keys. -/
theorem frame_ideal_finite : Cert.quiescent_KernelIdeal_pre_finite_scores := fun m ρ h =>
  Cert.KernelIdeal.Attn.frame m ρ (Cert.KernelIdeal.Attn.layer_ok_finite h)

/-- The reference's run, for any memory: the arguments are kept and no semaphore is used. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Attn.run (F := Ideal) m ρ)

/-- The named constants are the values their words stand for. -/
theorem names : Cert.preserves_Kernel_KernelIdeal :=
  ⟨IdealRules.named_const.statement Cert.KernelIdeal.κ "mask" .f32 0xF149F2CA#32 ⊥ rfl,
    IdealRules.named_const.statement Cert.KernelIdeal.κ "q_scale" .f32 0x3E38AA3B#32 (((1 / 8) * (Real.log 2)⁻¹ : ℝ) : EReal) rfl,
    IdealRules.named_const.statement Cert.KernelIdeal.κ "log2e" .f32 0x3FB8AA3B#32 (((Real.log 2)⁻¹ : ℝ) : EReal) rfl⟩

/-- Over the extended reals the kernel's result is the reference's. -/
theorem value : Cert.algebraic_KernelIdeal_ReferenceIdeal_pre_finite_scores := by
  intro m g m' g' h0 hm
  have hL := Cert.KernelIdeal.Attn.layer_ok_finite h0
  refine ⟨fun c => (Cert.KernelIdeal.Attn.dats m hL 0 c).arrAt 4 (Cert.KernelIdeal.Attn.cfgM m).N, ?_, ?_⟩
  · exact (θ_run Cert.KernelIdeal.defs _ _).mono (fun r h c => ⟨(h c).1 4, Cert.KernelIdeal.Attn.kept m hL r h c⟩)
      ((θ_run Cert.KernelIdeal.defs _ _).mono (fun _ h => h.1) (Cert.KernelIdeal.Attn.run_main_quiescent m g hL))
  · refine (θ_run Cert.ReferenceIdeal.defs _ _).mono (fun r h c => ⟨(h c).1.trans ?_, (h c).2⟩)
      (Cert.ReferenceIdeal.Attn.run (F := Ideal) m' g')
    obtain ⟨e0, e1, e2, e3, e4⟩ := hm c
    rw [e0, e1, e2, e3, e4]
    exact (Cert.KernelIdeal.Attn.result_eq m h0 hL c).symm

/-- The down projection's frame, as the kernel runs. -/
theorem frame_down : Cert.quiescent_Kernel2 := Cert.Down.frame_bits

/-- … and over the extended reals. -/
theorem frame_down_ideal : Cert.quiescent_Kernel2Ideal := fun m ρ h => Cert.Kernel2Ideal.Down.frame m ρ (Cert.Kernel2Ideal.Down.ok_ideal h)

/-- Its reference's run, for any memory. -/
theorem frame_down_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Down.run m ρ)

/-- Over the extended reals the down projection's result is its reference's. -/
theorem value_down : Cert.algebraic_Kernel2Ideal_Reference2Ideal := by
  intro m g m' g' h0 hm
  have hO := Cert.Kernel2Ideal.Down.ok_ideal h0
  refine ⟨fun c => (Cert.Kernel2Ideal.Down.dats m hO 0 c).arrAt 5 (Cert.Kernel2Ideal.Gen.cfgM m hO).N, ?_, ?_⟩
  · exact (θ_run Cert.Kernel2Ideal.defs _ _).mono (fun r h c => ⟨(h.1 c).1 5, h.2 c⟩)
      (θ_run_and (Cert.Kernel2Ideal.Down.run_main m g hO) (Cert.Kernel2Ideal.Down.unchanged m g hO))
  · refine (θ_run Cert.Reference2Ideal.defs _ _).mono (fun r h c => ⟨(h c).1.trans ?_, (h c).2⟩)
      (Cert.Reference2Ideal.Down.run m' g')
    obtain ⟨e0, e1, e2, e3, e4, e5⟩ := hm c
    rw [e0, e1, e2, e3, e4, e5]
    exact (Cert.Kernel2Ideal.Down.result_eq m hO c).symm

/-- The up projection's frame, as the kernel runs. -/
theorem frame_up : Cert.quiescent_Kernel3 := Cert.Up.frame_bits

/-- … and over the extended reals. -/
theorem frame_up_ideal : Cert.quiescent_Kernel3Ideal := fun m ρ _ => Cert.Kernel3Ideal.Gen.frame m ρ trivial

/-- Its reference's run, for any memory. -/
theorem frame_up_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Up.run m ρ)

/-- Over the extended reals the up projection's result is its reference's. -/
theorem value_up : Cert.algebraic_Kernel3Ideal_Reference3Ideal := by
  intro m g m' g' _ hm
  have hO : Cert.Kernel3Ideal.Gen.Ok m := trivial
  refine ⟨fun c => (Cert.Kernel3Ideal.Gen.dats m hO 0 c).arrAt 2 (Cert.Kernel3Ideal.Gen.cfgM m hO).N, ?_, ?_⟩
  · exact (θ_run Cert.Kernel3Ideal.defs _ _).mono (fun r h c => ⟨(h.1 c).1 2, h.2 c⟩)
      (θ_run_and (Cert.Kernel3Ideal.Gen.run_main m g hO) (Cert.Kernel3Ideal.Gen.unchanged m g hO))
  · refine (θ_run Cert.Reference3Ideal.defs _ _).mono (fun r h c => ⟨(h c).1.trans ?_, (h c).2⟩)
      (Cert.Reference3Ideal.Up.run m' g')
    obtain ⟨e0, e1, e2⟩ := hm c
    rw [e0, e1, e2]
    exact (Cert.Kernel3Ideal.Up.result_eq m hO c).symm

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_layer_index.Gen.facts, Cert.Pre_finite_scores.Attn.facts, Cert.Pre_layer_index2.Gen.facts,
    frame_kernel, frame_ideal, frame_ideal_finite, frame_reference, fun m ρ _ => frame_reference m ρ trivial,
    frame_down, frame_down_ideal, frame_down_reference, fun m ρ _ => frame_down_reference m ρ trivial,
    frame_up, frame_up_ideal, frame_up_reference, names, value, trivial, value_down, trivial, value_up⟩

end Cert.Proof

end
